-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_AttnWeight (m : (ℓ : Loc Cert.AttnWeight.nD Cert.AttnWeight.τ Cert.AttnWeight.sig) → Buf (Elt Bits) ℓ) : Prop :=
  True

def Pre_AttnWeightIdeal (m : (ℓ : Loc Cert.AttnWeightIdeal.nD Cert.AttnWeightIdeal.τ Cert.AttnWeightIdeal.sig) → Buf (Elt Ideal) ℓ) : Prop :=
  True

def Pre_AttnWeightReferenceIdeal (m : (ℓ : Loc Cert.AttnWeightReferenceIdeal.nD Cert.AttnWeightReferenceIdeal.τ Cert.AttnWeightReferenceIdeal.sig) → Buf (Elt Ideal) ℓ) : Prop :=
  True

def Pre_AttnInput (m : (ℓ : Loc Cert.AttnInput.nD Cert.AttnInput.τ Cert.AttnInput.sig) → Buf (Elt Bits) ℓ) : Prop :=
  True

def Pre_AttnInputIdeal (m : (ℓ : Loc Cert.AttnInputIdeal.nD Cert.AttnInputIdeal.τ Cert.AttnInputIdeal.sig) → Buf (Elt Ideal) ℓ) : Prop :=
  True

def Pre_AttnInputReferenceIdeal (m : (ℓ : Loc Cert.AttnInputReferenceIdeal.nD Cert.AttnInputReferenceIdeal.τ Cert.AttnInputReferenceIdeal.sig) → Buf (Elt Ideal) ℓ) : Prop :=
  True

def Pre_ScanWeight (m : (ℓ : Loc Cert.ScanWeight.nD Cert.ScanWeight.τ Cert.ScanWeight.sig) → Buf (Elt Bits) ℓ) : Prop :=
  True

def Pre_ScanWeightIdeal (m : (ℓ : Loc Cert.ScanWeightIdeal.nD Cert.ScanWeightIdeal.τ Cert.ScanWeightIdeal.sig) → Buf (Elt Ideal) ℓ) : Prop :=
  True

def Pre_ScanWeightReferenceIdeal (m : (ℓ : Loc Cert.ScanWeightReferenceIdeal.nD Cert.ScanWeightReferenceIdeal.τ Cert.ScanWeightReferenceIdeal.sig) → Buf (Elt Ideal) ℓ) : Prop :=
  True

def Pre_ScanOut (m : (ℓ : Loc Cert.ScanOut.nD Cert.ScanOut.τ Cert.ScanOut.sig) → Buf (Elt Bits) ℓ) : Prop :=
  True

def Pre_ScanOutIdeal (m : (ℓ : Loc Cert.ScanOutIdeal.nD Cert.ScanOutIdeal.τ Cert.ScanOutIdeal.sig) → Buf (Elt Ideal) ℓ) : Prop :=
  True

def Pre_ScanOutReferenceIdeal (m : (ℓ : Loc Cert.ScanOutReferenceIdeal.nD Cert.ScanOutReferenceIdeal.τ Cert.ScanOutReferenceIdeal.sig) → Buf (Elt Ideal) ℓ) : Prop :=
  True

def Pre_ScanProj (m : (ℓ : Loc Cert.ScanProj.nD Cert.ScanProj.τ Cert.ScanProj.sig) → Buf (Elt Bits) ℓ) : Prop :=
  True

def Pre_ScanProjIdeal (m : (ℓ : Loc Cert.ScanProjIdeal.nD Cert.ScanProjIdeal.τ Cert.ScanProjIdeal.sig) → Buf (Elt Ideal) ℓ) : Prop :=
  True

def Pre_ScanProjReferenceIdeal (m : (ℓ : Loc Cert.ScanProjReferenceIdeal.nD Cert.ScanProjReferenceIdeal.τ Cert.ScanProjReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_AttnWeight [hAttnWeight : Cert.AttnWeight.Facts] : Prop :=
  ∀ (m : (ℓ : Loc Cert.AttnWeight.nD Cert.AttnWeight.τ Cert.AttnWeight.sig) → Buf (Elt Bits) ℓ) (g : Dev Cert.AttnWeight.nD → PrngReg), Pre_AttnWeight m →
    θ_run (Cert.AttnWeight.defs (F := Bits)) (onTc (τ := Cert.AttnWeight.τ) (Cert.AttnWeight.main (F := Bits))) ⟨m, fun _ => 0, g⟩ (fun r => (∀ c : Dev Cert.AttnWeight.nD,
      r.2.mem ((c.tc : Thread Cert.AttnWeight.nD Cert.AttnWeight.τ).loc Cert.AttnWeight.main_arg0) = m ((c.tc : Thread Cert.AttnWeight.nD Cert.AttnWeight.τ).loc Cert.AttnWeight.main_arg0)
      ∧ r.2.mem ((c.tc : Thread Cert.AttnWeight.nD Cert.AttnWeight.τ).loc Cert.AttnWeight.main_arg1) = m ((c.tc : Thread Cert.AttnWeight.nD Cert.AttnWeight.τ).loc Cert.AttnWeight.main_arg1)
      ∧ r.2.mem ((c.tc : Thread Cert.AttnWeight.nD Cert.AttnWeight.τ).loc Cert.AttnWeight.main_arg2) = m ((c.tc : Thread Cert.AttnWeight.nD Cert.AttnWeight.τ).loc Cert.AttnWeight.main_arg2))
      ∧ r.2.sem = fun _ => 0)

def quiescent_AttnWeightIdeal [hAttnWeightIdeal : Cert.AttnWeightIdeal.Facts] : Prop :=
  ∀ (m : (ℓ : Loc Cert.AttnWeightIdeal.nD Cert.AttnWeightIdeal.τ Cert.AttnWeightIdeal.sig) → Buf (Elt Ideal) ℓ) (g : Dev Cert.AttnWeightIdeal.nD → PrngReg), Pre_AttnWeightIdeal m →
    θ_run (Cert.AttnWeightIdeal.defs (F := Ideal)) (onTc (τ := Cert.AttnWeightIdeal.τ) (Cert.AttnWeightIdeal.main (F := Ideal))) ⟨m, fun _ => 0, g⟩ (fun r => (∀ c : Dev Cert.AttnWeightIdeal.nD,
      r.2.mem ((c.tc : Thread Cert.AttnWeightIdeal.nD Cert.AttnWeightIdeal.τ).loc Cert.AttnWeightIdeal.main_arg0) = m ((c.tc : Thread Cert.AttnWeightIdeal.nD Cert.AttnWeightIdeal.τ).loc Cert.AttnWeightIdeal.main_arg0)
      ∧ r.2.mem ((c.tc : Thread Cert.AttnWeightIdeal.nD Cert.AttnWeightIdeal.τ).loc Cert.AttnWeightIdeal.main_arg1) = m ((c.tc : Thread Cert.AttnWeightIdeal.nD Cert.AttnWeightIdeal.τ).loc Cert.AttnWeightIdeal.main_arg1)
      ∧ r.2.mem ((c.tc : Thread Cert.AttnWeightIdeal.nD Cert.AttnWeightIdeal.τ).loc Cert.AttnWeightIdeal.main_arg2) = m ((c.tc : Thread Cert.AttnWeightIdeal.nD Cert.AttnWeightIdeal.τ).loc Cert.AttnWeightIdeal.main_arg2))
      ∧ r.2.sem = fun _ => 0)

def quiescent_AttnWeightReferenceIdeal [hAttnWeightReferenceIdeal : Cert.AttnWeightReferenceIdeal.Facts] : Prop :=
  ∀ (m : (ℓ : Loc Cert.AttnWeightReferenceIdeal.nD Cert.AttnWeightReferenceIdeal.τ Cert.AttnWeightReferenceIdeal.sig) → Buf (Elt Ideal) ℓ) (g : Dev Cert.AttnWeightReferenceIdeal.nD → PrngReg), Pre_AttnWeightReferenceIdeal m →
    θ_run (Cert.AttnWeightReferenceIdeal.defs (F := Ideal)) (onTc (τ := Cert.AttnWeightReferenceIdeal.τ) (Cert.AttnWeightReferenceIdeal.main (F := Ideal))) ⟨m, fun _ => 0, g⟩ (fun r => (∀ c : Dev Cert.AttnWeightReferenceIdeal.nD,
      r.2.mem ((c.tc : Thread Cert.AttnWeightReferenceIdeal.nD Cert.AttnWeightReferenceIdeal.τ).loc Cert.AttnWeightReferenceIdeal.main_arg0) = m ((c.tc : Thread Cert.AttnWeightReferenceIdeal.nD Cert.AttnWeightReferenceIdeal.τ).loc Cert.AttnWeightReferenceIdeal.main_arg0)
      ∧ r.2.mem ((c.tc : Thread Cert.AttnWeightReferenceIdeal.nD Cert.AttnWeightReferenceIdeal.τ).loc Cert.AttnWeightReferenceIdeal.main_arg1) = m ((c.tc : Thread Cert.AttnWeightReferenceIdeal.nD Cert.AttnWeightReferenceIdeal.τ).loc Cert.AttnWeightReferenceIdeal.main_arg1)
      ∧ r.2.mem ((c.tc : Thread Cert.AttnWeightReferenceIdeal.nD Cert.AttnWeightReferenceIdeal.τ).loc Cert.AttnWeightReferenceIdeal.main_arg2) = m ((c.tc : Thread Cert.AttnWeightReferenceIdeal.nD Cert.AttnWeightReferenceIdeal.τ).loc Cert.AttnWeightReferenceIdeal.main_arg2))
      ∧ r.2.sem = fun _ => 0)

def quiescent_AttnInput [hAttnInput : Cert.AttnInput.Facts] : Prop :=
  ∀ (m : (ℓ : Loc Cert.AttnInput.nD Cert.AttnInput.τ Cert.AttnInput.sig) → Buf (Elt Bits) ℓ) (g : Dev Cert.AttnInput.nD → PrngReg), Pre_AttnInput m →
    θ_run (Cert.AttnInput.defs (F := Bits)) (onTc (τ := Cert.AttnInput.τ) (Cert.AttnInput.main (F := Bits))) ⟨m, fun _ => 0, g⟩ (fun r => (∀ c : Dev Cert.AttnInput.nD,
      r.2.mem ((c.tc : Thread Cert.AttnInput.nD Cert.AttnInput.τ).loc Cert.AttnInput.main_arg0) = m ((c.tc : Thread Cert.AttnInput.nD Cert.AttnInput.τ).loc Cert.AttnInput.main_arg0)
      ∧ r.2.mem ((c.tc : Thread Cert.AttnInput.nD Cert.AttnInput.τ).loc Cert.AttnInput.main_arg1) = m ((c.tc : Thread Cert.AttnInput.nD Cert.AttnInput.τ).loc Cert.AttnInput.main_arg1)
      ∧ r.2.mem ((c.tc : Thread Cert.AttnInput.nD Cert.AttnInput.τ).loc Cert.AttnInput.main_arg2) = m ((c.tc : Thread Cert.AttnInput.nD Cert.AttnInput.τ).loc Cert.AttnInput.main_arg2))
      ∧ r.2.sem = fun _ => 0)

def quiescent_AttnInputIdeal [hAttnInputIdeal : Cert.AttnInputIdeal.Facts] : Prop :=
  ∀ (m : (ℓ : Loc Cert.AttnInputIdeal.nD Cert.AttnInputIdeal.τ Cert.AttnInputIdeal.sig) → Buf (Elt Ideal) ℓ) (g : Dev Cert.AttnInputIdeal.nD → PrngReg), Pre_AttnInputIdeal m →
    θ_run (Cert.AttnInputIdeal.defs (F := Ideal)) (onTc (τ := Cert.AttnInputIdeal.τ) (Cert.AttnInputIdeal.main (F := Ideal))) ⟨m, fun _ => 0, g⟩ (fun r => (∀ c : Dev Cert.AttnInputIdeal.nD,
      r.2.mem ((c.tc : Thread Cert.AttnInputIdeal.nD Cert.AttnInputIdeal.τ).loc Cert.AttnInputIdeal.main_arg0) = m ((c.tc : Thread Cert.AttnInputIdeal.nD Cert.AttnInputIdeal.τ).loc Cert.AttnInputIdeal.main_arg0)
      ∧ r.2.mem ((c.tc : Thread Cert.AttnInputIdeal.nD Cert.AttnInputIdeal.τ).loc Cert.AttnInputIdeal.main_arg1) = m ((c.tc : Thread Cert.AttnInputIdeal.nD Cert.AttnInputIdeal.τ).loc Cert.AttnInputIdeal.main_arg1)
      ∧ r.2.mem ((c.tc : Thread Cert.AttnInputIdeal.nD Cert.AttnInputIdeal.τ).loc Cert.AttnInputIdeal.main_arg2) = m ((c.tc : Thread Cert.AttnInputIdeal.nD Cert.AttnInputIdeal.τ).loc Cert.AttnInputIdeal.main_arg2))
      ∧ r.2.sem = fun _ => 0)

def quiescent_AttnInputReferenceIdeal [hAttnInputReferenceIdeal : Cert.AttnInputReferenceIdeal.Facts] : Prop :=
  ∀ (m : (ℓ : Loc Cert.AttnInputReferenceIdeal.nD Cert.AttnInputReferenceIdeal.τ Cert.AttnInputReferenceIdeal.sig) → Buf (Elt Ideal) ℓ) (g : Dev Cert.AttnInputReferenceIdeal.nD → PrngReg), Pre_AttnInputReferenceIdeal m →
    θ_run (Cert.AttnInputReferenceIdeal.defs (F := Ideal)) (onTc (τ := Cert.AttnInputReferenceIdeal.τ) (Cert.AttnInputReferenceIdeal.main (F := Ideal))) ⟨m, fun _ => 0, g⟩ (fun r => (∀ c : Dev Cert.AttnInputReferenceIdeal.nD,
      r.2.mem ((c.tc : Thread Cert.AttnInputReferenceIdeal.nD Cert.AttnInputReferenceIdeal.τ).loc Cert.AttnInputReferenceIdeal.main_arg0) = m ((c.tc : Thread Cert.AttnInputReferenceIdeal.nD Cert.AttnInputReferenceIdeal.τ).loc Cert.AttnInputReferenceIdeal.main_arg0)
      ∧ r.2.mem ((c.tc : Thread Cert.AttnInputReferenceIdeal.nD Cert.AttnInputReferenceIdeal.τ).loc Cert.AttnInputReferenceIdeal.main_arg1) = m ((c.tc : Thread Cert.AttnInputReferenceIdeal.nD Cert.AttnInputReferenceIdeal.τ).loc Cert.AttnInputReferenceIdeal.main_arg1)
      ∧ r.2.mem ((c.tc : Thread Cert.AttnInputReferenceIdeal.nD Cert.AttnInputReferenceIdeal.τ).loc Cert.AttnInputReferenceIdeal.main_arg2) = m ((c.tc : Thread Cert.AttnInputReferenceIdeal.nD Cert.AttnInputReferenceIdeal.τ).loc Cert.AttnInputReferenceIdeal.main_arg2))
      ∧ r.2.sem = fun _ => 0)

def quiescent_ScanWeight [hScanWeight : Cert.ScanWeight.Facts] : Prop :=
  ∀ (m : (ℓ : Loc Cert.ScanWeight.nD Cert.ScanWeight.τ Cert.ScanWeight.sig) → Buf (Elt Bits) ℓ) (g : Dev Cert.ScanWeight.nD → PrngReg), Pre_ScanWeight m →
    θ_run (Cert.ScanWeight.defs (F := Bits)) (onTc (τ := Cert.ScanWeight.τ) (Cert.ScanWeight.main (F := Bits))) ⟨m, fun _ => 0, g⟩ (fun r => (∀ c : Dev Cert.ScanWeight.nD,
      r.2.mem ((c.tc : Thread Cert.ScanWeight.nD Cert.ScanWeight.τ).loc Cert.ScanWeight.main_arg0) = m ((c.tc : Thread Cert.ScanWeight.nD Cert.ScanWeight.τ).loc Cert.ScanWeight.main_arg0)
      ∧ r.2.mem ((c.tc : Thread Cert.ScanWeight.nD Cert.ScanWeight.τ).loc Cert.ScanWeight.main_arg1) = m ((c.tc : Thread Cert.ScanWeight.nD Cert.ScanWeight.τ).loc Cert.ScanWeight.main_arg1)
      ∧ r.2.mem ((c.tc : Thread Cert.ScanWeight.nD Cert.ScanWeight.τ).loc Cert.ScanWeight.main_arg2) = m ((c.tc : Thread Cert.ScanWeight.nD Cert.ScanWeight.τ).loc Cert.ScanWeight.main_arg2))
      ∧ r.2.sem = fun _ => 0)

def quiescent_ScanWeightIdeal [hScanWeightIdeal : Cert.ScanWeightIdeal.Facts] : Prop :=
  ∀ (m : (ℓ : Loc Cert.ScanWeightIdeal.nD Cert.ScanWeightIdeal.τ Cert.ScanWeightIdeal.sig) → Buf (Elt Ideal) ℓ) (g : Dev Cert.ScanWeightIdeal.nD → PrngReg), Pre_ScanWeightIdeal m →
    θ_run (Cert.ScanWeightIdeal.defs (F := Ideal)) (onTc (τ := Cert.ScanWeightIdeal.τ) (Cert.ScanWeightIdeal.main (F := Ideal))) ⟨m, fun _ => 0, g⟩ (fun r => (∀ c : Dev Cert.ScanWeightIdeal.nD,
      r.2.mem ((c.tc : Thread Cert.ScanWeightIdeal.nD Cert.ScanWeightIdeal.τ).loc Cert.ScanWeightIdeal.main_arg0) = m ((c.tc : Thread Cert.ScanWeightIdeal.nD Cert.ScanWeightIdeal.τ).loc Cert.ScanWeightIdeal.main_arg0)
      ∧ r.2.mem ((c.tc : Thread Cert.ScanWeightIdeal.nD Cert.ScanWeightIdeal.τ).loc Cert.ScanWeightIdeal.main_arg1) = m ((c.tc : Thread Cert.ScanWeightIdeal.nD Cert.ScanWeightIdeal.τ).loc Cert.ScanWeightIdeal.main_arg1)
      ∧ r.2.mem ((c.tc : Thread Cert.ScanWeightIdeal.nD Cert.ScanWeightIdeal.τ).loc Cert.ScanWeightIdeal.main_arg2) = m ((c.tc : Thread Cert.ScanWeightIdeal.nD Cert.ScanWeightIdeal.τ).loc Cert.ScanWeightIdeal.main_arg2))
      ∧ r.2.sem = fun _ => 0)

def quiescent_ScanWeightReferenceIdeal [hScanWeightReferenceIdeal : Cert.ScanWeightReferenceIdeal.Facts] : Prop :=
  ∀ (m : (ℓ : Loc Cert.ScanWeightReferenceIdeal.nD Cert.ScanWeightReferenceIdeal.τ Cert.ScanWeightReferenceIdeal.sig) → Buf (Elt Ideal) ℓ) (g : Dev Cert.ScanWeightReferenceIdeal.nD → PrngReg), Pre_ScanWeightReferenceIdeal m →
    θ_run (Cert.ScanWeightReferenceIdeal.defs (F := Ideal)) (onTc (τ := Cert.ScanWeightReferenceIdeal.τ) (Cert.ScanWeightReferenceIdeal.main (F := Ideal))) ⟨m, fun _ => 0, g⟩ (fun r => (∀ c : Dev Cert.ScanWeightReferenceIdeal.nD,
      r.2.mem ((c.tc : Thread Cert.ScanWeightReferenceIdeal.nD Cert.ScanWeightReferenceIdeal.τ).loc Cert.ScanWeightReferenceIdeal.main_arg0) = m ((c.tc : Thread Cert.ScanWeightReferenceIdeal.nD Cert.ScanWeightReferenceIdeal.τ).loc Cert.ScanWeightReferenceIdeal.main_arg0)
      ∧ r.2.mem ((c.tc : Thread Cert.ScanWeightReferenceIdeal.nD Cert.ScanWeightReferenceIdeal.τ).loc Cert.ScanWeightReferenceIdeal.main_arg1) = m ((c.tc : Thread Cert.ScanWeightReferenceIdeal.nD Cert.ScanWeightReferenceIdeal.τ).loc Cert.ScanWeightReferenceIdeal.main_arg1)
      ∧ r.2.mem ((c.tc : Thread Cert.ScanWeightReferenceIdeal.nD Cert.ScanWeightReferenceIdeal.τ).loc Cert.ScanWeightReferenceIdeal.main_arg2) = m ((c.tc : Thread Cert.ScanWeightReferenceIdeal.nD Cert.ScanWeightReferenceIdeal.τ).loc Cert.ScanWeightReferenceIdeal.main_arg2))
      ∧ r.2.sem = fun _ => 0)

def quiescent_ScanOut [hScanOut : Cert.ScanOut.Facts] : Prop :=
  ∀ (m : (ℓ : Loc Cert.ScanOut.nD Cert.ScanOut.τ Cert.ScanOut.sig) → Buf (Elt Bits) ℓ) (g : Dev Cert.ScanOut.nD → PrngReg), Pre_ScanOut m →
    θ_run (Cert.ScanOut.defs (F := Bits)) (onTc (τ := Cert.ScanOut.τ) (Cert.ScanOut.main (F := Bits))) ⟨m, fun _ => 0, g⟩ (fun r => (∀ c : Dev Cert.ScanOut.nD,
      r.2.mem ((c.tc : Thread Cert.ScanOut.nD Cert.ScanOut.τ).loc Cert.ScanOut.main_arg0) = m ((c.tc : Thread Cert.ScanOut.nD Cert.ScanOut.τ).loc Cert.ScanOut.main_arg0)
      ∧ r.2.mem ((c.tc : Thread Cert.ScanOut.nD Cert.ScanOut.τ).loc Cert.ScanOut.main_arg1) = m ((c.tc : Thread Cert.ScanOut.nD Cert.ScanOut.τ).loc Cert.ScanOut.main_arg1)
      ∧ r.2.mem ((c.tc : Thread Cert.ScanOut.nD Cert.ScanOut.τ).loc Cert.ScanOut.main_arg2) = m ((c.tc : Thread Cert.ScanOut.nD Cert.ScanOut.τ).loc Cert.ScanOut.main_arg2))
      ∧ r.2.sem = fun _ => 0)

def quiescent_ScanOutIdeal [hScanOutIdeal : Cert.ScanOutIdeal.Facts] : Prop :=
  ∀ (m : (ℓ : Loc Cert.ScanOutIdeal.nD Cert.ScanOutIdeal.τ Cert.ScanOutIdeal.sig) → Buf (Elt Ideal) ℓ) (g : Dev Cert.ScanOutIdeal.nD → PrngReg), Pre_ScanOutIdeal m →
    θ_run (Cert.ScanOutIdeal.defs (F := Ideal)) (onTc (τ := Cert.ScanOutIdeal.τ) (Cert.ScanOutIdeal.main (F := Ideal))) ⟨m, fun _ => 0, g⟩ (fun r => (∀ c : Dev Cert.ScanOutIdeal.nD,
      r.2.mem ((c.tc : Thread Cert.ScanOutIdeal.nD Cert.ScanOutIdeal.τ).loc Cert.ScanOutIdeal.main_arg0) = m ((c.tc : Thread Cert.ScanOutIdeal.nD Cert.ScanOutIdeal.τ).loc Cert.ScanOutIdeal.main_arg0)
      ∧ r.2.mem ((c.tc : Thread Cert.ScanOutIdeal.nD Cert.ScanOutIdeal.τ).loc Cert.ScanOutIdeal.main_arg1) = m ((c.tc : Thread Cert.ScanOutIdeal.nD Cert.ScanOutIdeal.τ).loc Cert.ScanOutIdeal.main_arg1)
      ∧ r.2.mem ((c.tc : Thread Cert.ScanOutIdeal.nD Cert.ScanOutIdeal.τ).loc Cert.ScanOutIdeal.main_arg2) = m ((c.tc : Thread Cert.ScanOutIdeal.nD Cert.ScanOutIdeal.τ).loc Cert.ScanOutIdeal.main_arg2))
      ∧ r.2.sem = fun _ => 0)

def quiescent_ScanOutReferenceIdeal [hScanOutReferenceIdeal : Cert.ScanOutReferenceIdeal.Facts] : Prop :=
  ∀ (m : (ℓ : Loc Cert.ScanOutReferenceIdeal.nD Cert.ScanOutReferenceIdeal.τ Cert.ScanOutReferenceIdeal.sig) → Buf (Elt Ideal) ℓ) (g : Dev Cert.ScanOutReferenceIdeal.nD → PrngReg), Pre_ScanOutReferenceIdeal m →
    θ_run (Cert.ScanOutReferenceIdeal.defs (F := Ideal)) (onTc (τ := Cert.ScanOutReferenceIdeal.τ) (Cert.ScanOutReferenceIdeal.main (F := Ideal))) ⟨m, fun _ => 0, g⟩ (fun r => (∀ c : Dev Cert.ScanOutReferenceIdeal.nD,
      r.2.mem ((c.tc : Thread Cert.ScanOutReferenceIdeal.nD Cert.ScanOutReferenceIdeal.τ).loc Cert.ScanOutReferenceIdeal.main_arg0) = m ((c.tc : Thread Cert.ScanOutReferenceIdeal.nD Cert.ScanOutReferenceIdeal.τ).loc Cert.ScanOutReferenceIdeal.main_arg0)
      ∧ r.2.mem ((c.tc : Thread Cert.ScanOutReferenceIdeal.nD Cert.ScanOutReferenceIdeal.τ).loc Cert.ScanOutReferenceIdeal.main_arg1) = m ((c.tc : Thread Cert.ScanOutReferenceIdeal.nD Cert.ScanOutReferenceIdeal.τ).loc Cert.ScanOutReferenceIdeal.main_arg1)
      ∧ r.2.mem ((c.tc : Thread Cert.ScanOutReferenceIdeal.nD Cert.ScanOutReferenceIdeal.τ).loc Cert.ScanOutReferenceIdeal.main_arg2) = m ((c.tc : Thread Cert.ScanOutReferenceIdeal.nD Cert.ScanOutReferenceIdeal.τ).loc Cert.ScanOutReferenceIdeal.main_arg2))
      ∧ r.2.sem = fun _ => 0)

def quiescent_ScanProj [hScanProj : Cert.ScanProj.Facts] : Prop :=
  ∀ (m : (ℓ : Loc Cert.ScanProj.nD Cert.ScanProj.τ Cert.ScanProj.sig) → Buf (Elt Bits) ℓ) (g : Dev Cert.ScanProj.nD → PrngReg), Pre_ScanProj m →
    θ_run (Cert.ScanProj.defs (F := Bits)) (onTc (τ := Cert.ScanProj.τ) (Cert.ScanProj.main (F := Bits))) ⟨m, fun _ => 0, g⟩ (fun r => (∀ c : Dev Cert.ScanProj.nD,
      r.2.mem ((c.tc : Thread Cert.ScanProj.nD Cert.ScanProj.τ).loc Cert.ScanProj.main_arg0) = m ((c.tc : Thread Cert.ScanProj.nD Cert.ScanProj.τ).loc Cert.ScanProj.main_arg0)
      ∧ r.2.mem ((c.tc : Thread Cert.ScanProj.nD Cert.ScanProj.τ).loc Cert.ScanProj.main_arg1) = m ((c.tc : Thread Cert.ScanProj.nD Cert.ScanProj.τ).loc Cert.ScanProj.main_arg1)
      ∧ r.2.mem ((c.tc : Thread Cert.ScanProj.nD Cert.ScanProj.τ).loc Cert.ScanProj.main_arg2) = m ((c.tc : Thread Cert.ScanProj.nD Cert.ScanProj.τ).loc Cert.ScanProj.main_arg2))
      ∧ r.2.sem = fun _ => 0)

def quiescent_ScanProjIdeal [hScanProjIdeal : Cert.ScanProjIdeal.Facts] : Prop :=
  ∀ (m : (ℓ : Loc Cert.ScanProjIdeal.nD Cert.ScanProjIdeal.τ Cert.ScanProjIdeal.sig) → Buf (Elt Ideal) ℓ) (g : Dev Cert.ScanProjIdeal.nD → PrngReg), Pre_ScanProjIdeal m →
    θ_run (Cert.ScanProjIdeal.defs (F := Ideal)) (onTc (τ := Cert.ScanProjIdeal.τ) (Cert.ScanProjIdeal.main (F := Ideal))) ⟨m, fun _ => 0, g⟩ (fun r => (∀ c : Dev Cert.ScanProjIdeal.nD,
      r.2.mem ((c.tc : Thread Cert.ScanProjIdeal.nD Cert.ScanProjIdeal.τ).loc Cert.ScanProjIdeal.main_arg0) = m ((c.tc : Thread Cert.ScanProjIdeal.nD Cert.ScanProjIdeal.τ).loc Cert.ScanProjIdeal.main_arg0)
      ∧ r.2.mem ((c.tc : Thread Cert.ScanProjIdeal.nD Cert.ScanProjIdeal.τ).loc Cert.ScanProjIdeal.main_arg1) = m ((c.tc : Thread Cert.ScanProjIdeal.nD Cert.ScanProjIdeal.τ).loc Cert.ScanProjIdeal.main_arg1)
      ∧ r.2.mem ((c.tc : Thread Cert.ScanProjIdeal.nD Cert.ScanProjIdeal.τ).loc Cert.ScanProjIdeal.main_arg2) = m ((c.tc : Thread Cert.ScanProjIdeal.nD Cert.ScanProjIdeal.τ).loc Cert.ScanProjIdeal.main_arg2))
      ∧ r.2.sem = fun _ => 0)

def quiescent_ScanProjReferenceIdeal [hScanProjReferenceIdeal : Cert.ScanProjReferenceIdeal.Facts] : Prop :=
  ∀ (m : (ℓ : Loc Cert.ScanProjReferenceIdeal.nD Cert.ScanProjReferenceIdeal.τ Cert.ScanProjReferenceIdeal.sig) → Buf (Elt Ideal) ℓ) (g : Dev Cert.ScanProjReferenceIdeal.nD → PrngReg), Pre_ScanProjReferenceIdeal m →
    θ_run (Cert.ScanProjReferenceIdeal.defs (F := Ideal)) (onTc (τ := Cert.ScanProjReferenceIdeal.τ) (Cert.ScanProjReferenceIdeal.main (F := Ideal))) ⟨m, fun _ => 0, g⟩ (fun r => (∀ c : Dev Cert.ScanProjReferenceIdeal.nD,
      r.2.mem ((c.tc : Thread Cert.ScanProjReferenceIdeal.nD Cert.ScanProjReferenceIdeal.τ).loc Cert.ScanProjReferenceIdeal.main_arg0) = m ((c.tc : Thread Cert.ScanProjReferenceIdeal.nD Cert.ScanProjReferenceIdeal.τ).loc Cert.ScanProjReferenceIdeal.main_arg0)
      ∧ r.2.mem ((c.tc : Thread Cert.ScanProjReferenceIdeal.nD Cert.ScanProjReferenceIdeal.τ).loc Cert.ScanProjReferenceIdeal.main_arg1) = m ((c.tc : Thread Cert.ScanProjReferenceIdeal.nD Cert.ScanProjReferenceIdeal.τ).loc Cert.ScanProjReferenceIdeal.main_arg1)
      ∧ r.2.mem ((c.tc : Thread Cert.ScanProjReferenceIdeal.nD Cert.ScanProjReferenceIdeal.τ).loc Cert.ScanProjReferenceIdeal.main_arg2) = m ((c.tc : Thread Cert.ScanProjReferenceIdeal.nD Cert.ScanProjReferenceIdeal.τ).loc Cert.ScanProjReferenceIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1)
      ∧ r.2.mem ((c.tc : Thread Cert.OutWeightReferenceIdeal.nD Cert.OutWeightReferenceIdeal.τ).loc Cert.OutWeightReferenceIdeal.main_arg2) = m ((c.tc : Thread Cert.OutWeightReferenceIdeal.nD Cert.OutWeightReferenceIdeal.τ).loc Cert.OutWeightReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v290)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v290) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v6)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v6) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v13) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v15)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v15) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v15) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Act_ActIdeal : Prop :=
  True

def algebraic_ActIdeal_ActReferenceIdeal [hActIdeal : Cert.ActIdeal.Facts] [hActReferenceIdeal : Cert.ActReferenceIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v2) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v3) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_AttnWeight_AttnWeightIdeal : Prop :=
  True

def algebraic_AttnWeightIdeal_AttnWeightReferenceIdeal [hAttnWeightIdeal : Cert.AttnWeightIdeal.Facts] [hAttnWeightReferenceIdeal : Cert.AttnWeightReferenceIdeal.Facts] : Prop :=
  ∀ (m : (ℓ : Loc Cert.AttnWeightIdeal.nD Cert.AttnWeightIdeal.τ Cert.AttnWeightIdeal.sig) → Buf (Elt Ideal) ℓ) (g : Dev Cert.AttnWeightIdeal.nD → PrngReg)
    (m' : (ℓ : Loc Cert.AttnWeightReferenceIdeal.nD Cert.AttnWeightReferenceIdeal.τ Cert.AttnWeightReferenceIdeal.sig) → Buf (Elt Ideal) ℓ) (g' : Dev Cert.AttnWeightReferenceIdeal.nD → PrngReg), Pre_AttnWeightIdeal m →
    (∀ c : Dev Cert.AttnWeightIdeal.nD,
      m' ((c.tc : Thread Cert.AttnWeightReferenceIdeal.nD Cert.AttnWeightReferenceIdeal.τ).loc Cert.AttnWeightReferenceIdeal.main_arg0) = m ((c.tc : Thread Cert.AttnWeightIdeal.nD Cert.AttnWeightIdeal.τ).loc Cert.AttnWeightIdeal.main_arg0)
      ∧ m' ((c.tc : Thread Cert.AttnWeightReferenceIdeal.nD Cert.AttnWeightReferenceIdeal.τ).loc Cert.AttnWeightReferenceIdeal.main_arg1) = m ((c.tc : Thread Cert.AttnWeightIdeal.nD Cert.AttnWeightIdeal.τ).loc Cert.AttnWeightIdeal.main_arg1)
      ∧ m' ((c.tc : Thread Cert.AttnWeightReferenceIdeal.nD Cert.AttnWeightReferenceIdeal.τ).loc Cert.AttnWeightReferenceIdeal.main_arg2) = m ((c.tc : Thread Cert.AttnWeightIdeal.nD Cert.AttnWeightIdeal.τ).loc Cert.AttnWeightIdeal.main_arg2)) →
    ∃ (v0 : (c : Dev Cert.AttnWeightIdeal.nD) → Buf (Elt Ideal) ((c.tc : Thread Cert.AttnWeightIdeal.nD Cert.AttnWeightIdeal.τ).loc Cert.AttnWeightIdeal.main_v37)),
      θ_run (Cert.AttnWeightIdeal.defs (F := Ideal)) (onTc (τ := Cert.AttnWeightIdeal.τ) (Cert.AttnWeightIdeal.main (F := Ideal))) ⟨m, fun _ => 0, g⟩ (fun r => ∀ c : Dev Cert.AttnWeightIdeal.nD,
          r.2.mem ((c.tc : Thread Cert.AttnWeightIdeal.nD Cert.AttnWeightIdeal.τ).loc Cert.AttnWeightIdeal.main_v37) = v0 c
          ∧ r.2.mem ((c.tc : Thread Cert.AttnWeightIdeal.nD Cert.AttnWeightIdeal.τ).loc Cert.AttnWeightIdeal.main_arg0) = m ((c.tc : Thread Cert.AttnWeightIdeal.nD Cert.AttnWeightIdeal.τ).loc Cert.AttnWeightIdeal.main_arg0)
          ∧ r.2.mem ((c.tc : Thread Cert.AttnWeightIdeal.nD Cert.AttnWeightIdeal.τ).loc Cert.AttnWeightIdeal.main_arg1) = m ((c.tc : Thread Cert.AttnWeightIdeal.nD Cert.AttnWeightIdeal.τ).loc Cert.AttnWeightIdeal.main_arg1)
          ∧ r.2.mem ((c.tc : Thread Cert.AttnWeightIdeal.nD Cert.AttnWeightIdeal.τ).loc Cert.AttnWeightIdeal.main_arg2) = m ((c.tc : Thread Cert.AttnWeightIdeal.nD Cert.AttnWeightIdeal.τ).loc Cert.AttnWeightIdeal.main_arg2))
      ∧ θ_run (Cert.AttnWeightReferenceIdeal.defs (F := Ideal)) (onTc (τ := Cert.AttnWeightReferenceIdeal.τ) (Cert.AttnWeightReferenceIdeal.main (F := Ideal))) ⟨m', fun _ => 0, g'⟩ (fun r => ∀ c : Dev Cert.AttnWeightReferenceIdeal.nD,
          r.2.mem ((c.tc : Thread Cert.AttnWeightReferenceIdeal.nD Cert.AttnWeightReferenceIdeal.τ).loc Cert.AttnWeightReferenceIdeal.main_v3) = v0 c
          ∧ r.2.mem ((c.tc : Thread Cert.AttnWeightReferenceIdeal.nD Cert.AttnWeightReferenceIdeal.τ).loc Cert.AttnWeightReferenceIdeal.main_arg0) = m' ((c.tc : Thread Cert.AttnWeightReferenceIdeal.nD Cert.AttnWeightReferenceIdeal.τ).loc Cert.AttnWeightReferenceIdeal.main_arg0)
          ∧ r.2.mem ((c.tc : Thread Cert.AttnWeightReferenceIdeal.nD Cert.AttnWeightReferenceIdeal.τ).loc Cert.AttnWeightReferenceIdeal.main_arg1) = m' ((c.tc : Thread Cert.AttnWeightReferenceIdeal.nD Cert.AttnWeightReferenceIdeal.τ).loc Cert.AttnWeightReferenceIdeal.main_arg1)
          ∧ r.2.mem ((c.tc : Thread Cert.AttnWeightReferenceIdeal.nD Cert.AttnWeightReferenceIdeal.τ).loc Cert.AttnWeightReferenceIdeal.main_arg2) = m' ((c.tc : Thread Cert.AttnWeightReferenceIdeal.nD Cert.AttnWeightReferenceIdeal.τ).loc Cert.AttnWeightReferenceIdeal.main_arg2))

def preserves_AttnInput_AttnInputIdeal : Prop :=
  True

def algebraic_AttnInputIdeal_AttnInputReferenceIdeal [hAttnInputIdeal : Cert.AttnInputIdeal.Facts] [hAttnInputReferenceIdeal : Cert.AttnInputReferenceIdeal.Facts] : Prop :=
  ∀ (m : (ℓ : Loc Cert.AttnInputIdeal.nD Cert.AttnInputIdeal.τ Cert.AttnInputIdeal.sig) → Buf (Elt Ideal) ℓ) (g : Dev Cert.AttnInputIdeal.nD → PrngReg)
    (m' : (ℓ : Loc Cert.AttnInputReferenceIdeal.nD Cert.AttnInputReferenceIdeal.τ Cert.AttnInputReferenceIdeal.sig) → Buf (Elt Ideal) ℓ) (g' : Dev Cert.AttnInputReferenceIdeal.nD → PrngReg), Pre_AttnInputIdeal m →
    (∀ c : Dev Cert.AttnInputIdeal.nD,
      m' ((c.tc : Thread Cert.AttnInputReferenceIdeal.nD Cert.AttnInputReferenceIdeal.τ).loc Cert.AttnInputReferenceIdeal.main_arg0) = m ((c.tc : Thread Cert.AttnInputIdeal.nD Cert.AttnInputIdeal.τ).loc Cert.AttnInputIdeal.main_arg0)
      ∧ m' ((c.tc : Thread Cert.AttnInputReferenceIdeal.nD Cert.AttnInputReferenceIdeal.τ).loc Cert.AttnInputReferenceIdeal.main_arg1) = m ((c.tc : Thread Cert.AttnInputIdeal.nD Cert.AttnInputIdeal.τ).loc Cert.AttnInputIdeal.main_arg1)
      ∧ m' ((c.tc : Thread Cert.AttnInputReferenceIdeal.nD Cert.AttnInputReferenceIdeal.τ).loc Cert.AttnInputReferenceIdeal.main_arg2) = m ((c.tc : Thread Cert.AttnInputIdeal.nD Cert.AttnInputIdeal.τ).loc Cert.AttnInputIdeal.main_arg2)) →
    ∃ (v0 : (c : Dev Cert.AttnInputIdeal.nD) → Buf (Elt Ideal) ((c.tc : Thread Cert.AttnInputIdeal.nD Cert.AttnInputIdeal.τ).loc Cert.AttnInputIdeal.main_v19)),
      θ_run (Cert.AttnInputIdeal.defs (F := Ideal)) (onTc (τ := Cert.AttnInputIdeal.τ) (Cert.AttnInputIdeal.main (F := Ideal))) ⟨m, fun _ => 0, g⟩ (fun r => ∀ c : Dev Cert.AttnInputIdeal.nD,
          r.2.mem ((c.tc : Thread Cert.AttnInputIdeal.nD Cert.AttnInputIdeal.τ).loc Cert.AttnInputIdeal.main_v19) = v0 c
          ∧ r.2.mem ((c.tc : Thread Cert.AttnInputIdeal.nD Cert.AttnInputIdeal.τ).loc Cert.AttnInputIdeal.main_arg0) = m ((c.tc : Thread Cert.AttnInputIdeal.nD Cert.AttnInputIdeal.τ).loc Cert.AttnInputIdeal.main_arg0)
          ∧ r.2.mem ((c.tc : Thread Cert.AttnInputIdeal.nD Cert.AttnInputIdeal.τ).loc Cert.AttnInputIdeal.main_arg1) = m ((c.tc : Thread Cert.AttnInputIdeal.nD Cert.AttnInputIdeal.τ).loc Cert.AttnInputIdeal.main_arg1)
          ∧ r.2.mem ((c.tc : Thread Cert.AttnInputIdeal.nD Cert.AttnInputIdeal.τ).loc Cert.AttnInputIdeal.main_arg2) = m ((c.tc : Thread Cert.AttnInputIdeal.nD Cert.AttnInputIdeal.τ).loc Cert.AttnInputIdeal.main_arg2))
      ∧ θ_run (Cert.AttnInputReferenceIdeal.defs (F := Ideal)) (onTc (τ := Cert.AttnInputReferenceIdeal.τ) (Cert.AttnInputReferenceIdeal.main (F := Ideal))) ⟨m', fun _ => 0, g'⟩ (fun r => ∀ c : Dev Cert.AttnInputReferenceIdeal.nD,
          r.2.mem ((c.tc : Thread Cert.AttnInputReferenceIdeal.nD Cert.AttnInputReferenceIdeal.τ).loc Cert.AttnInputReferenceIdeal.main_v41) = v0 c
          ∧ r.2.mem ((c.tc : Thread Cert.AttnInputReferenceIdeal.nD Cert.AttnInputReferenceIdeal.τ).loc Cert.AttnInputReferenceIdeal.main_arg0) = m' ((c.tc : Thread Cert.AttnInputReferenceIdeal.nD Cert.AttnInputReferenceIdeal.τ).loc Cert.AttnInputReferenceIdeal.main_arg0)
          ∧ r.2.mem ((c.tc : Thread Cert.AttnInputReferenceIdeal.nD Cert.AttnInputReferenceIdeal.τ).loc Cert.AttnInputReferenceIdeal.main_arg1) = m' ((c.tc : Thread Cert.AttnInputReferenceIdeal.nD Cert.AttnInputReferenceIdeal.τ).loc Cert.AttnInputReferenceIdeal.main_arg1)
          ∧ r.2.mem ((c.tc : Thread Cert.AttnInputReferenceIdeal.nD Cert.AttnInputReferenceIdeal.τ).loc Cert.AttnInputReferenceIdeal.main_arg2) = m' ((c.tc : Thread Cert.AttnInputReferenceIdeal.nD Cert.AttnInputReferenceIdeal.τ).loc Cert.AttnInputReferenceIdeal.main_arg2))

def preserves_ScanWeight_ScanWeightIdeal : Prop :=
  True

def algebraic_ScanWeightIdeal_ScanWeightReferenceIdeal [hScanWeightIdeal : Cert.ScanWeightIdeal.Facts] [hScanWeightReferenceIdeal : Cert.ScanWeightReferenceIdeal.Facts] : Prop :=
  ∀ (m : (ℓ : Loc Cert.ScanWeightIdeal.nD Cert.ScanWeightIdeal.τ Cert.ScanWeightIdeal.sig) → Buf (Elt Ideal) ℓ) (g : Dev Cert.ScanWeightIdeal.nD → PrngReg)
    (m' : (ℓ : Loc Cert.ScanWeightReferenceIdeal.nD Cert.ScanWeightReferenceIdeal.τ Cert.ScanWeightReferenceIdeal.sig) → Buf (Elt Ideal) ℓ) (g' : Dev Cert.ScanWeightReferenceIdeal.nD → PrngReg), Pre_ScanWeightIdeal m →
    (∀ c : Dev Cert.ScanWeightIdeal.nD,
      m' ((c.tc : Thread Cert.ScanWeightReferenceIdeal.nD Cert.ScanWeightReferenceIdeal.τ).loc Cert.ScanWeightReferenceIdeal.main_arg0) = m ((c.tc : Thread Cert.ScanWeightIdeal.nD Cert.ScanWeightIdeal.τ).loc Cert.ScanWeightIdeal.main_arg0)
      ∧ m' ((c.tc : Thread Cert.ScanWeightReferenceIdeal.nD Cert.ScanWeightReferenceIdeal.τ).loc Cert.ScanWeightReferenceIdeal.main_arg1) = m ((c.tc : Thread Cert.ScanWeightIdeal.nD Cert.ScanWeightIdeal.τ).loc Cert.ScanWeightIdeal.main_arg1)
      ∧ m' ((c.tc : Thread Cert.ScanWeightReferenceIdeal.nD Cert.ScanWeightReferenceIdeal.τ).loc Cert.ScanWeightReferenceIdeal.main_arg2) = m ((c.tc : Thread Cert.ScanWeightIdeal.nD Cert.ScanWeightIdeal.τ).loc Cert.ScanWeightIdeal.main_arg2)) →
    ∃ (v0 : (c : Dev Cert.ScanWeightIdeal.nD) → Buf (Elt Ideal) ((c.tc : Thread Cert.ScanWeightIdeal.nD Cert.ScanWeightIdeal.τ).loc Cert.ScanWeightIdeal.main_v2)),
      θ_run (Cert.ScanWeightIdeal.defs (F := Ideal)) (onTc (τ := Cert.ScanWeightIdeal.τ) (Cert.ScanWeightIdeal.main (F := Ideal))) ⟨m, fun _ => 0, g⟩ (fun r => ∀ c : Dev Cert.ScanWeightIdeal.nD,
          r.2.mem ((c.tc : Thread Cert.ScanWeightIdeal.nD Cert.ScanWeightIdeal.τ).loc Cert.ScanWeightIdeal.main_v2) = v0 c
          ∧ r.2.mem ((c.tc : Thread Cert.ScanWeightIdeal.nD Cert.ScanWeightIdeal.τ).loc Cert.ScanWeightIdeal.main_arg0) = m ((c.tc : Thread Cert.ScanWeightIdeal.nD Cert.ScanWeightIdeal.τ).loc Cert.ScanWeightIdeal.main_arg0)
          ∧ r.2.mem ((c.tc : Thread Cert.ScanWeightIdeal.nD Cert.ScanWeightIdeal.τ).loc Cert.ScanWeightIdeal.main_arg1) = m ((c.tc : Thread Cert.ScanWeightIdeal.nD Cert.ScanWeightIdeal.τ).loc Cert.ScanWeightIdeal.main_arg1)
          ∧ r.2.mem ((c.tc : Thread Cert.ScanWeightIdeal.nD Cert.ScanWeightIdeal.τ).loc Cert.ScanWeightIdeal.main_arg2) = m ((c.tc : Thread Cert.ScanWeightIdeal.nD Cert.ScanWeightIdeal.τ).loc Cert.ScanWeightIdeal.main_arg2))
      ∧ θ_run (Cert.ScanWeightReferenceIdeal.defs (F := Ideal)) (onTc (τ := Cert.ScanWeightReferenceIdeal.τ) (Cert.ScanWeightReferenceIdeal.main (F := Ideal))) ⟨m', fun _ => 0, g'⟩ (fun r => ∀ c : Dev Cert.ScanWeightReferenceIdeal.nD,
          r.2.mem ((c.tc : Thread Cert.ScanWeightReferenceIdeal.nD Cert.ScanWeightReferenceIdeal.τ).loc Cert.ScanWeightReferenceIdeal.main_v3) = v0 c
          ∧ r.2.mem ((c.tc : Thread Cert.ScanWeightReferenceIdeal.nD Cert.ScanWeightReferenceIdeal.τ).loc Cert.ScanWeightReferenceIdeal.main_arg0) = m' ((c.tc : Thread Cert.ScanWeightReferenceIdeal.nD Cert.ScanWeightReferenceIdeal.τ).loc Cert.ScanWeightReferenceIdeal.main_arg0)
          ∧ r.2.mem ((c.tc : Thread Cert.ScanWeightReferenceIdeal.nD Cert.ScanWeightReferenceIdeal.τ).loc Cert.ScanWeightReferenceIdeal.main_arg1) = m' ((c.tc : Thread Cert.ScanWeightReferenceIdeal.nD Cert.ScanWeightReferenceIdeal.τ).loc Cert.ScanWeightReferenceIdeal.main_arg1)
          ∧ r.2.mem ((c.tc : Thread Cert.ScanWeightReferenceIdeal.nD Cert.ScanWeightReferenceIdeal.τ).loc Cert.ScanWeightReferenceIdeal.main_arg2) = m' ((c.tc : Thread Cert.ScanWeightReferenceIdeal.nD Cert.ScanWeightReferenceIdeal.τ).loc Cert.ScanWeightReferenceIdeal.main_arg2))

def preserves_ScanOut_ScanOutIdeal : Prop :=
  True

def algebraic_ScanOutIdeal_ScanOutReferenceIdeal [hScanOutIdeal : Cert.ScanOutIdeal.Facts] [hScanOutReferenceIdeal : Cert.ScanOutReferenceIdeal.Facts] : Prop :=
  ∀ (m : (ℓ : Loc Cert.ScanOutIdeal.nD Cert.ScanOutIdeal.τ Cert.ScanOutIdeal.sig) → Buf (Elt Ideal) ℓ) (g : Dev Cert.ScanOutIdeal.nD → PrngReg)
    (m' : (ℓ : Loc Cert.ScanOutReferenceIdeal.nD Cert.ScanOutReferenceIdeal.τ Cert.ScanOutReferenceIdeal.sig) → Buf (Elt Ideal) ℓ) (g' : Dev Cert.ScanOutReferenceIdeal.nD → PrngReg), Pre_ScanOutIdeal m →
    (∀ c : Dev Cert.ScanOutIdeal.nD,
      m' ((c.tc : Thread Cert.ScanOutReferenceIdeal.nD Cert.ScanOutReferenceIdeal.τ).loc Cert.ScanOutReferenceIdeal.main_arg0) = m ((c.tc : Thread Cert.ScanOutIdeal.nD Cert.ScanOutIdeal.τ).loc Cert.ScanOutIdeal.main_arg0)
      ∧ m' ((c.tc : Thread Cert.ScanOutReferenceIdeal.nD Cert.ScanOutReferenceIdeal.τ).loc Cert.ScanOutReferenceIdeal.main_arg1) = m ((c.tc : Thread Cert.ScanOutIdeal.nD Cert.ScanOutIdeal.τ).loc Cert.ScanOutIdeal.main_arg1)
      ∧ m' ((c.tc : Thread Cert.ScanOutReferenceIdeal.nD Cert.ScanOutReferenceIdeal.τ).loc Cert.ScanOutReferenceIdeal.main_arg2) = m ((c.tc : Thread Cert.ScanOutIdeal.nD Cert.ScanOutIdeal.τ).loc Cert.ScanOutIdeal.main_arg2)) →
    ∃ (v0 : (c : Dev Cert.ScanOutIdeal.nD) → Buf (Elt Ideal) ((c.tc : Thread Cert.ScanOutIdeal.nD Cert.ScanOutIdeal.τ).loc Cert.ScanOutIdeal.main_v2)),
      θ_run (Cert.ScanOutIdeal.defs (F := Ideal)) (onTc (τ := Cert.ScanOutIdeal.τ) (Cert.ScanOutIdeal.main (F := Ideal))) ⟨m, fun _ => 0, g⟩ (fun r => ∀ c : Dev Cert.ScanOutIdeal.nD,
          r.2.mem ((c.tc : Thread Cert.ScanOutIdeal.nD Cert.ScanOutIdeal.τ).loc Cert.ScanOutIdeal.main_v2) = v0 c
          ∧ r.2.mem ((c.tc : Thread Cert.ScanOutIdeal.nD Cert.ScanOutIdeal.τ).loc Cert.ScanOutIdeal.main_arg0) = m ((c.tc : Thread Cert.ScanOutIdeal.nD Cert.ScanOutIdeal.τ).loc Cert.ScanOutIdeal.main_arg0)
          ∧ r.2.mem ((c.tc : Thread Cert.ScanOutIdeal.nD Cert.ScanOutIdeal.τ).loc Cert.ScanOutIdeal.main_arg1) = m ((c.tc : Thread Cert.ScanOutIdeal.nD Cert.ScanOutIdeal.τ).loc Cert.ScanOutIdeal.main_arg1)
          ∧ r.2.mem ((c.tc : Thread Cert.ScanOutIdeal.nD Cert.ScanOutIdeal.τ).loc Cert.ScanOutIdeal.main_arg2) = m ((c.tc : Thread Cert.ScanOutIdeal.nD Cert.ScanOutIdeal.τ).loc Cert.ScanOutIdeal.main_arg2))
      ∧ θ_run (Cert.ScanOutReferenceIdeal.defs (F := Ideal)) (onTc (τ := Cert.ScanOutReferenceIdeal.τ) (Cert.ScanOutReferenceIdeal.main (F := Ideal))) ⟨m', fun _ => 0, g'⟩ (fun r => ∀ c : Dev Cert.ScanOutReferenceIdeal.nD,
          r.2.mem ((c.tc : Thread Cert.ScanOutReferenceIdeal.nD Cert.ScanOutReferenceIdeal.τ).loc Cert.ScanOutReferenceIdeal.main_v1) = v0 c
          ∧ r.2.mem ((c.tc : Thread Cert.ScanOutReferenceIdeal.nD Cert.ScanOutReferenceIdeal.τ).loc Cert.ScanOutReferenceIdeal.main_arg0) = m' ((c.tc : Thread Cert.ScanOutReferenceIdeal.nD Cert.ScanOutReferenceIdeal.τ).loc Cert.ScanOutReferenceIdeal.main_arg0)
          ∧ r.2.mem ((c.tc : Thread Cert.ScanOutReferenceIdeal.nD Cert.ScanOutReferenceIdeal.τ).loc Cert.ScanOutReferenceIdeal.main_arg1) = m' ((c.tc : Thread Cert.ScanOutReferenceIdeal.nD Cert.ScanOutReferenceIdeal.τ).loc Cert.ScanOutReferenceIdeal.main_arg1)
          ∧ r.2.mem ((c.tc : Thread Cert.ScanOutReferenceIdeal.nD Cert.ScanOutReferenceIdeal.τ).loc Cert.ScanOutReferenceIdeal.main_arg2) = m' ((c.tc : Thread Cert.ScanOutReferenceIdeal.nD Cert.ScanOutReferenceIdeal.τ).loc Cert.ScanOutReferenceIdeal.main_arg2))

def preserves_ScanProj_ScanProjIdeal : Prop :=
  True

def algebraic_ScanProjIdeal_ScanProjReferenceIdeal [hScanProjIdeal : Cert.ScanProjIdeal.Facts] [hScanProjReferenceIdeal : Cert.ScanProjReferenceIdeal.Facts] : Prop :=
  ∀ (m : (ℓ : Loc Cert.ScanProjIdeal.nD Cert.ScanProjIdeal.τ Cert.ScanProjIdeal.sig) → Buf (Elt Ideal) ℓ) (g : Dev Cert.ScanProjIdeal.nD → PrngReg)
    (m' : (ℓ : Loc Cert.ScanProjReferenceIdeal.nD Cert.ScanProjReferenceIdeal.τ Cert.ScanProjReferenceIdeal.sig) → Buf (Elt Ideal) ℓ) (g' : Dev Cert.ScanProjReferenceIdeal.nD → PrngReg), Pre_ScanProjIdeal m →
    (∀ c : Dev Cert.ScanProjIdeal.nD,
      m' ((c.tc : Thread Cert.ScanProjReferenceIdeal.nD Cert.ScanProjReferenceIdeal.τ).loc Cert.ScanProjReferenceIdeal.main_arg0) = m ((c.tc : Thread Cert.ScanProjIdeal.nD Cert.ScanProjIdeal.τ).loc Cert.ScanProjIdeal.main_arg0)
      ∧ m' ((c.tc : Thread Cert.ScanProjReferenceIdeal.nD Cert.ScanProjReferenceIdeal.τ).loc Cert.ScanProjReferenceIdeal.main_arg1) = m ((c.tc : Thread Cert.ScanProjIdeal.nD Cert.ScanProjIdeal.τ).loc Cert.ScanProjIdeal.main_arg1)
      ∧ m' ((c.tc : Thread Cert.ScanProjReferenceIdeal.nD Cert.ScanProjReferenceIdeal.τ).loc Cert.ScanProjReferenceIdeal.main_arg2) = m ((c.tc : Thread Cert.ScanProjIdeal.nD Cert.ScanProjIdeal.τ).loc Cert.ScanProjIdeal.main_arg2)) →
    ∃ (v0 : (c : Dev Cert.ScanProjIdeal.nD) → Buf (Elt Ideal) ((c.tc : Thread Cert.ScanProjIdeal.nD Cert.ScanProjIdeal.τ).loc Cert.ScanProjIdeal.main_v2)),
      θ_run (Cert.ScanProjIdeal.defs (F := Ideal)) (onTc (τ := Cert.ScanProjIdeal.τ) (Cert.ScanProjIdeal.main (F := Ideal))) ⟨m, fun _ => 0, g⟩ (fun r => ∀ c : Dev Cert.ScanProjIdeal.nD,
          r.2.mem ((c.tc : Thread Cert.ScanProjIdeal.nD Cert.ScanProjIdeal.τ).loc Cert.ScanProjIdeal.main_v2) = v0 c
          ∧ r.2.mem ((c.tc : Thread Cert.ScanProjIdeal.nD Cert.ScanProjIdeal.τ).loc Cert.ScanProjIdeal.main_arg0) = m ((c.tc : Thread Cert.ScanProjIdeal.nD Cert.ScanProjIdeal.τ).loc Cert.ScanProjIdeal.main_arg0)
          ∧ r.2.mem ((c.tc : Thread Cert.ScanProjIdeal.nD Cert.ScanProjIdeal.τ).loc Cert.ScanProjIdeal.main_arg1) = m ((c.tc : Thread Cert.ScanProjIdeal.nD Cert.ScanProjIdeal.τ).loc Cert.ScanProjIdeal.main_arg1)
          ∧ r.2.mem ((c.tc : Thread Cert.ScanProjIdeal.nD Cert.ScanProjIdeal.τ).loc Cert.ScanProjIdeal.main_arg2) = m ((c.tc : Thread Cert.ScanProjIdeal.nD Cert.ScanProjIdeal.τ).loc Cert.ScanProjIdeal.main_arg2))
      ∧ θ_run (Cert.ScanProjReferenceIdeal.defs (F := Ideal)) (onTc (τ := Cert.ScanProjReferenceIdeal.τ) (Cert.ScanProjReferenceIdeal.main (F := Ideal))) ⟨m', fun _ => 0, g'⟩ (fun r => ∀ c : Dev Cert.ScanProjReferenceIdeal.nD,
          r.2.mem ((c.tc : Thread Cert.ScanProjReferenceIdeal.nD Cert.ScanProjReferenceIdeal.τ).loc Cert.ScanProjReferenceIdeal.main_v0) = v0 c
          ∧ r.2.mem ((c.tc : Thread Cert.ScanProjReferenceIdeal.nD Cert.ScanProjReferenceIdeal.τ).loc Cert.ScanProjReferenceIdeal.main_arg0) = m' ((c.tc : Thread Cert.ScanProjReferenceIdeal.nD Cert.ScanProjReferenceIdeal.τ).loc Cert.ScanProjReferenceIdeal.main_arg0)
          ∧ r.2.mem ((c.tc : Thread Cert.ScanProjReferenceIdeal.nD Cert.ScanProjReferenceIdeal.τ).loc Cert.ScanProjReferenceIdeal.main_arg1) = m' ((c.tc : Thread Cert.ScanProjReferenceIdeal.nD Cert.ScanProjReferenceIdeal.τ).loc Cert.ScanProjReferenceIdeal.main_arg1)
          ∧ r.2.mem ((c.tc : Thread Cert.ScanProjReferenceIdeal.nD Cert.ScanProjReferenceIdeal.τ).loc Cert.ScanProjReferenceIdeal.main_arg2) = m' ((c.tc : Thread Cert.ScanProjReferenceIdeal.nD Cert.ScanProjReferenceIdeal.τ).loc Cert.ScanProjReferenceIdeal.main_arg2))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)
      ∧ m' ((c.tc : Thread Cert.OutWeightReferenceIdeal.nD Cert.OutWeightReferenceIdeal.τ).loc Cert.OutWeightReferenceIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v2)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v2) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v3) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1)
          ∧ r.2.mem ((c.tc : Thread Cert.OutWeightReferenceIdeal.nD Cert.OutWeightReferenceIdeal.τ).loc Cert.OutWeightReferenceIdeal.main_arg2) = m' ((c.tc : Thread Cert.OutWeightReferenceIdeal.nD Cert.OutWeightReferenceIdeal.τ).loc Cert.OutWeightReferenceIdeal.main_arg2))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hAct : Cert.Act.Facts) (hActIdeal : Cert.ActIdeal.Facts) (hActReferenceIdeal : Cert.ActReferenceIdeal.Facts) (hAttnWeight : Cert.AttnWeight.Facts) (hAttnWeightIdeal : Cert.AttnWeightIdeal.Facts) (hAttnWeightReferenceIdeal : Cert.AttnWeightReferenceIdeal.Facts) (hAttnInput : Cert.AttnInput.Facts) (hAttnInputIdeal : Cert.AttnInputIdeal.Facts) (hAttnInputReferenceIdeal : Cert.AttnInputReferenceIdeal.Facts) (hScanWeight : Cert.ScanWeight.Facts) (hScanWeightIdeal : Cert.ScanWeightIdeal.Facts) (hScanWeightReferenceIdeal : Cert.ScanWeightReferenceIdeal.Facts) (hScanOut : Cert.ScanOut.Facts) (hScanOutIdeal : Cert.ScanOutIdeal.Facts) (hScanOutReferenceIdeal : Cert.ScanOutReferenceIdeal.Facts) (hScanProj : Cert.ScanProj.Facts) (hScanProjIdeal : Cert.ScanProjIdeal.Facts) (hScanProjReferenceIdeal : Cert.ScanProjReferenceIdeal.Facts) (hOutWeight : Cert.OutWeight.Facts) (hOutWeightIdeal : Cert.OutWeightIdeal.Facts) (hOutWeightReferenceIdeal : Cert.OutWeightReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Act (hAct := hAct)
    ∧ quiescent_ActIdeal (hActIdeal := hActIdeal)
    ∧ quiescent_ActReferenceIdeal (hActReferenceIdeal := hActReferenceIdeal)
    ∧ quiescent_AttnWeight (hAttnWeight := hAttnWeight)
    ∧ quiescent_AttnWeightIdeal (hAttnWeightIdeal := hAttnWeightIdeal)
    ∧ quiescent_AttnWeightReferenceIdeal (hAttnWeightReferenceIdeal := hAttnWeightReferenceIdeal)
    ∧ quiescent_AttnInput (hAttnInput := hAttnInput)
    ∧ quiescent_AttnInputIdeal (hAttnInputIdeal := hAttnInputIdeal)
    ∧ quiescent_AttnInputReferenceIdeal (hAttnInputReferenceIdeal := hAttnInputReferenceIdeal)
    ∧ quiescent_ScanWeight (hScanWeight := hScanWeight)
    ∧ quiescent_ScanWeightIdeal (hScanWeightIdeal := hScanWeightIdeal)
    ∧ quiescent_ScanWeightReferenceIdeal (hScanWeightReferenceIdeal := hScanWeightReferenceIdeal)
    ∧ quiescent_ScanOut (hScanOut := hScanOut)
    ∧ quiescent_ScanOutIdeal (hScanOutIdeal := hScanOutIdeal)
    ∧ quiescent_ScanOutReferenceIdeal (hScanOutReferenceIdeal := hScanOutReferenceIdeal)
    ∧ quiescent_ScanProj (hScanProj := hScanProj)
    ∧ quiescent_ScanProjIdeal (hScanProjIdeal := hScanProjIdeal)
    ∧ quiescent_ScanProjReferenceIdeal (hScanProjReferenceIdeal := hScanProjReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenReferenceIdeal (hHiddenIdeal := hHiddenIdeal) (hHiddenReferenceIdeal := hHiddenReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Act_ActIdeal
    ∧ algebraic_ActIdeal_ActReferenceIdeal (hActIdeal := hActIdeal) (hActReferenceIdeal := hActReferenceIdeal)
    ∧ preserves_AttnWeight_AttnWeightIdeal
    ∧ algebraic_AttnWeightIdeal_AttnWeightReferenceIdeal (hAttnWeightIdeal := hAttnWeightIdeal) (hAttnWeightReferenceIdeal := hAttnWeightReferenceIdeal)
    ∧ preserves_AttnInput_AttnInputIdeal
    ∧ algebraic_AttnInputIdeal_AttnInputReferenceIdeal (hAttnInputIdeal := hAttnInputIdeal) (hAttnInputReferenceIdeal := hAttnInputReferenceIdeal)
    ∧ preserves_ScanWeight_ScanWeightIdeal
    ∧ algebraic_ScanWeightIdeal_ScanWeightReferenceIdeal (hScanWeightIdeal := hScanWeightIdeal) (hScanWeightReferenceIdeal := hScanWeightReferenceIdeal)
    ∧ preserves_ScanOut_ScanOutIdeal
    ∧ algebraic_ScanOutIdeal_ScanOutReferenceIdeal (hScanOutIdeal := hScanOutIdeal) (hScanOutReferenceIdeal := hScanOutReferenceIdeal)
    ∧ preserves_ScanProj_ScanProjIdeal
    ∧ algebraic_ScanProjIdeal_ScanProjReferenceIdeal (hScanProjIdeal := hScanProjIdeal) (hScanProjReferenceIdeal := hScanProjReferenceIdeal)
    ∧ preserves_OutWeight_OutWeightIdeal
    ∧ algebraic_OutWeightIdeal_OutWeightReferenceIdeal (hOutWeightIdeal := hOutWeightIdeal) (hOutWeightReferenceIdeal := hOutWeightReferenceIdeal)
-- ==== Pre_finite.lean ====
abbrev S4096x9216 : Shape := ⟨2, ![4096, 9216]⟩
abbrev S4096x1024 : Shape := ⟨2, ![4096, 1024]⟩
abbrev S_ : Shape := ⟨0, ![]⟩

class Facts : Prop where
  bcast_S_S4096x9216 : S_.BroadcastsInDim S4096x9216 (![] : Fin 0 → Fin S4096x9216.rank)
  bcast_S_S4096x1024 : S_.BroadcastsInDim S4096x1024 (![] : Fin 0 → Fin S4096x1024.rank)

variable [Facts]

def fn {F : FTy → Type} [FloatOps F] (main_arg0 : FVec F S4096x9216 .f32) (main_arg1 : FVec F S4096x1024 .f32) : IVec S4096x9216 1 × IVec S4096x1024 1 :=
  let main_v0 : FVec F S4096x9216 .f32 := Host.absf main_arg0
  let main_cst : FVec F S_ .f32 := constant S_ .f32 0x7F800000#32
  let main_v1 : FVec F S4096x9216 .f32 := broadcastInDim S4096x9216 ![] bcast_S_S4096x9216 main_cst
  let main_v2 : IVec S4096x9216 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Kernel.lean ====
abbrev S4096x9216 : Shape := ⟨2, ![4096, 9216]⟩
abbrev S4096x1024 : Shape := ⟨2, ![4096, 1024]⟩
abbrev S4096x3x3x16x64 : Shape := ⟨5, ![4096, 3, 3, 16, 64]⟩
abbrev S4096x3x1x16x64 : Shape := ⟨5, ![4096, 3, 1, 16, 64]⟩
abbrev S4096x3x16x64 : Shape := ⟨4, ![4096, 3, 16, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x1x32 : Shape := ⟨4, ![4096, 1, 1, 32]⟩
abbrev S4096x3x16x32 : Shape := ⟨4, ![4096, 3, 16, 32]⟩
abbrev S1x4096 : Shape := ⟨2, ![1, 4096]⟩
abbrev S4096x4096 : Shape := ⟨2, ![4096, 4096]⟩
abbrev S1x4096x4096 : Shape := ⟨3, ![1, 4096, 4096]⟩
abbrev S3x4096x4096 : Shape := ⟨3, ![3, 4096, 4096]⟩
abbrev S3x16x4096x4096 : Shape := ⟨4, ![3, 16, 4096, 4096]⟩
abbrev S3x1x4096x4096 : Shape := ⟨4, ![3, 1, 4096, 4096]⟩
abbrev S3x16x4096 : Shape := ⟨3, ![3, 16, 4096]⟩
abbrev S3x16x4096x1 : Shape := ⟨4, ![3, 16, 4096, 1]⟩
abbrev S3x16x4096x64 : Shape := ⟨4, ![3, 16, 4096, 64]⟩
abbrev S1x16x4096 : Shape := ⟨3, ![1, 16, 4096]⟩
abbrev S1x16x4096x1 : Shape := ⟨4, ![1, 16, 4096, 1]⟩
abbrev S1x16x4096x64 : Shape := ⟨4, ![1, 16, 4096, 64]⟩
abbrev S4096x16x64 : Shape := ⟨3, ![4096, 16, 64]⟩
abbrev S16x4096x64 : Shape := ⟨3, ![16, 4096, 64]⟩
abbrev S16x4096 : Shape := ⟨2, ![16, 4096]⟩
abbrev S4096x16 : Shape := ⟨2, ![4096, 16]⟩
abbrev S4096x3x3072 : Shape := ⟨3, ![4096, 3, 3072]⟩
abbrev S4096x1x3072 : Shape := ⟨3, ![4096, 1, 3072]⟩
abbrev S4096x3072 : Shape := ⟨2, ![4096, 3072]⟩
abbrev S1x4096x3072 : Shape := ⟨3, ![1, 4096, 3072]⟩
abbrev S1024x4x3072 : Shape := ⟨3, ![1024, 4, 3072]⟩
abbrev S4x1024x3072 : Shape := ⟨3, ![4, 1024, 3072]⟩
abbrev S256x16x3072 : Shape := ⟨3, ![256, 16, 3072]⟩
abbrev S16x256x3072 : Shape := ⟨3, ![16, 256, 3072]⟩
abbrev S12288x3072 : Shape := ⟨2, ![12288, 3072]⟩
abbrev S4x32 : Shape := ⟨2, ![4, 32]⟩
abbrev S128 : Shape := ⟨1, ![128]⟩
abbrev S12288 : Shape := ⟨1, ![12288]⟩
abbrev S12288x1 : Shape := ⟨2, ![12288, 1]⟩
abbrev S1x128 : Shape := ⟨2, ![1, 128]⟩
abbrev S12288x128 : Shape := ⟨2, ![12288, 128]⟩
abbrev S4096x1x1024 : Shape := ⟨3, ![4096, 1, 1024]⟩
abbrev S4096x3x1024 : Shape := ⟨3, ![4096, 3, 1024]⟩
abbrev S1x4096x1024 : Shape := ⟨3, ![1, 4096, 1024]⟩
abbrev S1024x4x1024 : Shape := ⟨3, ![1024, 4, 1024]⟩
abbrev S4x1024x1024 : Shape := ⟨3, ![4, 1024, 1024]⟩
abbrev S256x16x1024 : Shape := ⟨3, ![256, 16, 1024]⟩
abbrev S16x256x1024 : Shape := ⟨3, ![16, 256, 1024]⟩
abbrev S12288x1024 : Shape := ⟨2, ![12288, 1024]⟩
abbrev S4096x128 : Shape := ⟨2, ![4096, 128]⟩
abbrev S4096x1x128 : Shape := ⟨3, ![4096, 1, 128]⟩
abbrev S4096x3x128 : Shape := ⟨3, ![4096, 3, 128]⟩
abbrev S1x4096x128 : Shape := ⟨3, ![1, 4096, 128]⟩
abbrev S1024x4x128 : Shape := ⟨3, ![1024, 4, 128]⟩
abbrev S4x1024x128 : Shape := ⟨3, ![4, 1024, 128]⟩
abbrev S256x16x128 : Shape := ⟨3, ![256, 16, 128]⟩
abbrev S16x256x128 : Shape := ⟨3, ![16, 256, 128]⟩
abbrev S8x128 : Shape := ⟨2, ![8, 128]⟩
abbrev S128x3072 : Shape := ⟨2, ![128, 3072]⟩
abbrev S128x1024 : Shape := ⟨2, ![128, 1024]⟩
abbrev S128x128 : Shape := ⟨2, ![128, 128]⟩
abbrev S256x256 : Shape := ⟨2, ![256, 256]⟩
abbrev S256x128 : Shape := ⟨2, ![256, 128]⟩
abbrev S128x1 : Shape := ⟨2, ![128, 1]⟩
abbrev S256x1 : Shape := ⟨2, ![256, 1]⟩
abbrev S512x128 : Shape := ⟨2, ![512, 128]⟩

abbrev nBuf : Space → Nat
  | .hbm => 524
  | .vmem => 26
  | .smem => 0
  | _ => 0

abbrev hbmTy0_0 (i : Nat) : BufTy := match i % 128 with
  | 0 => ⟨S4096x9216, .f32⟩
  | 1 => ⟨S4096x1024, .f32⟩
  | 2 => ⟨S4096x3x3x16x64, .f32⟩
  | 3 => ⟨S4096x3x1x16x64, .f32⟩
  | 4 => ⟨S4096x3x16x64, .f32⟩
  | 5 => ⟨S4096x3x1x16x64, .f32⟩
  | 6 => ⟨S4096x3x16x64, .f32⟩
  | 7 => ⟨S4096x3x1x16x64, .f32⟩
  | 8 => ⟨S4096x3x16x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S4096, .i32⟩
  | 18 => ⟨S4096, .f32⟩
  | 19 => ⟨S4096x1, .f32⟩
  | 20 => ⟨S1x32, .f32⟩
  | 21 => ⟨S4096x32, .f32⟩
  | 22 => ⟨S4096x32, .f32⟩
  | 23 => ⟨S4096x32, .f32⟩
  | 24 => ⟨S4096x32, .f32⟩
  | 25 => ⟨S4096x1x1x32, .f32⟩
  | 26 => ⟨S4096x32, .f32⟩
  | 27 => ⟨S4096x1x1x32, .f32⟩
  | 28 => ⟨S4096x3x16x32, .f32⟩
  | 29 => ⟨S4096x3x16x32, .f32⟩
  | 30 => ⟨S4096x3x16x32, .f32⟩
  | 31 => ⟨S4096x3x16x32, .f32⟩
  | 32 => ⟨S4096x3x16x32, .f32⟩
  | 33 => ⟨S4096x3x16x32, .f32⟩
  | 34 => ⟨S4096x3x16x32, .f32⟩
  | 35 => ⟨S4096x3x16x32, .f32⟩
  | 36 => ⟨S4096x3x16x32, .f32⟩
  | 37 => ⟨S4096x3x16x32, .f32⟩
  | 38 => ⟨S4096x3x16x32, .f32⟩
  | 39 => ⟨S4096x3x16x32, .f32⟩
  | 40 => ⟨S4096x3x16x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096, .i32⟩
  | 50 => ⟨S4096, .f32⟩
  | 51 => ⟨S4096x1, .f32⟩
  | 52 => ⟨S1x32, .f32⟩
  | 53 => ⟨S4096x32, .f32⟩
  | 54 => ⟨S4096x32, .f32⟩
  | 55 => ⟨S4096x32, .f32⟩
  | 56 => ⟨S4096x32, .f32⟩
  | 57 => ⟨S4096x1x1x32, .f32⟩
  | 58 => ⟨S4096x32, .f32⟩
  | 59 => ⟨S4096x1x1x32, .f32⟩
  | 60 => ⟨S4096x3x16x32, .f32⟩
  | 61 => ⟨S4096x3x16x32, .f32⟩
  | 62 => ⟨S4096x3x16x32, .f32⟩
  | 63 => ⟨S4096x3x16x32, .f32⟩
  | 64 => ⟨S4096x3x16x32, .f32⟩
  | 65 => ⟨S4096x3x16x32, .f32⟩
  | 66 => ⟨S4096x3x16x32, .f32⟩
  | 67 => ⟨S4096x3x16x32, .f32⟩
  | 68 => ⟨S4096x3x16x32, .f32⟩
  | 69 => ⟨S4096x3x16x32, .f32⟩
  | 70 => ⟨S4096x3x16x32, .f32⟩
  | 71 => ⟨S4096x3x16x32, .f32⟩
  | 72 => ⟨S4096x3x16x64, .f32⟩
  | 73 => ⟨S4096, .i32⟩
  | 74 => ⟨S4096x1, .i32⟩
  | 75 => ⟨S4096, .i32⟩
  | 76 => ⟨S1x4096, .i32⟩
  | 77 => ⟨S4096x4096, .i32⟩
  | 78 => ⟨S4096x4096, .i32⟩
  | 79 => ⟨S4096x4096, .i32⟩
  | 80 => ⟨S_, .i32⟩
  | 81 => ⟨S4096x4096, .i32⟩
  | 82 => ⟨S4096x4096, .i1⟩
  | 83 => ⟨S_, .i32⟩
  | 84 => ⟨S4096x4096, .i32⟩
  | 85 => ⟨S4096x4096, .i1⟩
  | 86 => ⟨S4096x4096, .i1⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i1⟩
  | 98 => ⟨S_, .i32⟩
  | 99 => ⟨S4096x4096, .i32⟩
  | 100 => ⟨S4096x4096, .i1⟩
  | 101 => ⟨S_, .i32⟩
  | 102 => ⟨S_, .i1⟩
  | 103 => ⟨S4096x4096, .i1⟩
  | 104 => ⟨S4096x4096, .i1⟩
  | 105 => ⟨S4096x4096, .i1⟩
  | 106 => ⟨S4096x4096, .i32⟩
  | 107 => ⟨S4096x4096, .i32⟩
  | 108 => ⟨S4096x4096, .i32⟩
  | 109 => ⟨S_, .i32⟩
  | 110 => ⟨S4096x4096, .i32⟩
  | 111 => ⟨S4096x4096, .i1⟩
  | 112 => ⟨S4096x4096, .i1⟩
  | 113 => ⟨S_, .i32⟩
  | 114 => ⟨S4096x4096, .i32⟩
  | 115 => ⟨S4096x4096, .i1⟩
  | 116 => ⟨S_, .i32⟩
  | 117 => ⟨S4096x4096, .i32⟩
  | 118 => ⟨S4096x4096, .i1⟩
  | 119 => ⟨S4096x4096, .i1⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S4096x4096, .i32⟩
  | 127 => ⟨S4096x4096, .i32⟩
  | _ => ⟨S4096x9216, .f32⟩

abbrev hbmTy0_1 (i : Nat) : BufTy := match i % 128 with
  | 0 => ⟨S_, .i32⟩
  | 1 => ⟨S4096x4096, .i32⟩
  | 2 => ⟨S4096x4096, .i1⟩
  | 3 => ⟨S_, .i32⟩
  | 4 => ⟨S4096x4096, .i32⟩
  | 5 => ⟨S4096x4096, .i1⟩
  | 6 => ⟨S_, .i32⟩
  | 7 => ⟨S_, .i1⟩
  | 8 => ⟨S4096x4096, .i1⟩
  | 9 => ⟨S4096x4096, .i1⟩
  | 10 => ⟨S4096x4096, .i1⟩
  | 11 => ⟨S4096x4096, .i32⟩
  | 12 => ⟨S4096x4096, .i32⟩
  | 13 => ⟨S4096x4096, .i32⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i1⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i1⟩
  | 36 => ⟨S_, .i32⟩
  | 37 => ⟨S4096x4096, .i32⟩
  | 38 => ⟨S4096x4096, .i1⟩
  | 39 => ⟨S_, .i32⟩
  | 40 => ⟨S_, .i1⟩
  | 41 => ⟨S4096x4096, .i1⟩
  | 42 => ⟨S4096x4096, .i1⟩
  | 43 => ⟨S4096x4096, .i1⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i1⟩
  | 50 => ⟨S4096x4096, .i1⟩
  | 51 => ⟨S1x4096x4096, .i1⟩
  | 52 => ⟨S1x4096x4096, .i1⟩
  | 53 => ⟨S1x4096x4096, .i1⟩
  | 54 => ⟨S3x4096x4096, .i1⟩
  | 55 => ⟨S3x16x4096x4096, .f32⟩
  | 56 => ⟨S_, .f32⟩
  | 57 => ⟨S3x16x4096x4096, .f32⟩
  | 58 => ⟨S3x16x4096x4096, .f32⟩
  | 59 => ⟨S3x1x4096x4096, .i1⟩
  | 60 => ⟨S_, .f32⟩
  | 61 => ⟨S_, .f32⟩
  | 62 => ⟨S3x16x4096x4096, .i1⟩
  | 63 => ⟨S3x16x4096x4096, .f32⟩
  | 64 => ⟨S3x16x4096x4096, .f32⟩
  | 65 => ⟨S_, .f32⟩
  | 66 => ⟨S3x16x4096, .f32⟩
  | 67 => ⟨S3x16x4096x1, .f32⟩
  | 68 => ⟨S3x16x4096x4096, .f32⟩
  | 69 => ⟨S3x16x4096x4096, .f32⟩
  | 70 => ⟨S3x16x4096x4096, .f32⟩
  | 71 => ⟨S_, .f32⟩
  | 72 => ⟨S3x16x4096, .f32⟩
  | 73 => ⟨S3x16x4096x1, .f32⟩
  | 74 => ⟨S3x16x4096x4096, .f32⟩
  | 75 => ⟨S3x16x4096x4096, .f32⟩
  | 76 => ⟨S3x16x4096x64, .f32⟩
  | 77 => ⟨S3x16x4096x1, .f32⟩
  | 78 => ⟨S3x16x4096x1, .f32⟩
  | 79 => ⟨S3x16x4096, .f32⟩
  | 80 => ⟨S1x16x4096, .f32⟩
  | 81 => ⟨S1x16x4096, .f32⟩
  | 82 => ⟨S1x16x4096, .f32⟩
  | 83 => ⟨S1x16x4096, .f32⟩
  | 84 => ⟨S1x16x4096, .f32⟩
  | 85 => ⟨S1x16x4096, .f32⟩
  | 86 => ⟨S1x16x4096, .f32⟩
  | 87 => ⟨S1x16x4096, .f32⟩
  | 88 => ⟨S1x16x4096, .f32⟩
  | 89 => ⟨S1x16x4096, .f32⟩
  | 90 => ⟨S1x16x4096, .f32⟩
  | 91 => ⟨S1x16x4096, .f32⟩
  | 92 => ⟨S1x16x4096, .f32⟩
  | 93 => ⟨S1x16x4096, .f32⟩
  | 94 => ⟨S1x16x4096, .f32⟩
  | 95 => ⟨S1x16x4096, .f32⟩
  | 96 => ⟨S1x16x4096, .f32⟩
  | 97 => ⟨S1x16x4096x1, .f32⟩
  | 98 => ⟨S1x16x4096, .f32⟩
  | 99 => ⟨S1x16x4096, .f32⟩
  | 100 => ⟨S1x16x4096x1, .f32⟩
  | 101 => ⟨S1x16x4096, .f32⟩
  | 102 => ⟨S1x16x4096, .f32⟩
  | 103 => ⟨S1x16x4096x1, .f32⟩
  | 104 => ⟨S1x16x4096x64, .f32⟩
  | 105 => ⟨S1x16x4096x64, .f32⟩
  | 106 => ⟨S1x16x4096x64, .f32⟩
  | 107 => ⟨S1x16x4096x64, .f32⟩
  | 108 => ⟨S1x16x4096x64, .f32⟩
  | 109 => ⟨S1x16x4096x64, .f32⟩
  | 110 => ⟨S1x16x4096x64, .f32⟩
  | 111 => ⟨S1x16x4096x64, .f32⟩
  | 112 => ⟨S1x16x4096x64, .f32⟩
  | 113 => ⟨S1x16x4096x64, .f32⟩
  | 114 => ⟨S1x16x4096x64, .f32⟩
  | 115 => ⟨S4096x16x64, .f32⟩
  | 116 => ⟨S16x4096x64, .f32⟩
  | 117 => ⟨S1x16x4096x64, .f32⟩
  | 118 => ⟨S1x16x4096x64, .f32⟩
  | 119 => ⟨S_, .f32⟩
  | 120 => ⟨S1x16x4096, .f32⟩
  | 121 => ⟨S16x4096, .f32⟩
  | 122 => ⟨S4096x16, .f32⟩
  | 123 => ⟨S16x4096, .f32⟩
  | 124 => ⟨S4096x16, .f32⟩
  | 125 => ⟨S4096x3x1x16x64, .f32⟩
  | 126 => ⟨S4096x3x1x16x64, .f32⟩
  | 127 => ⟨S4096x3x1x16x64, .f32⟩
  | _ => ⟨S4096x9216, .f32⟩

abbrev hbmTy0_2 (i : Nat) : BufTy := match i % 128 with
  | 0 => ⟨S4096x3x3x16x64, .f32⟩
  | 1 => ⟨S4096x3x3072, .f32⟩
  | 2 => ⟨S4096x1x3072, .f32⟩
  | 3 => ⟨S4096x3072, .f32⟩
  | 4 => ⟨S4096x1x3072, .f32⟩
  | 5 => ⟨S1x4096x3072, .f32⟩
  | 6 => ⟨S4096x3072, .f32⟩
  | 7 => ⟨S4096x1x3072, .f32⟩
  | 8 => ⟨S4096x3072, .f32⟩
  | 9 => ⟨S1024x4x3072, .f32⟩
  | 10 => ⟨S4x1024x3072, .f32⟩
  | 11 => ⟨S4096x3072, .f32⟩
  | 12 => ⟨S4096x1x3072, .f32⟩
  | 13 => ⟨S4096x3072, .f32⟩
  | 14 => ⟨S256x16x3072, .f32⟩
  | 15 => ⟨S16x256x3072, .f32⟩
  | 16 => ⟨S4096x3072, .f32⟩
  | 17 => ⟨S12288x3072, .f32⟩
  | 18 => ⟨S12288x3072, .bf16⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S1x32, .f32⟩
  | 28 => ⟨S4x32, .f32⟩
  | 29 => ⟨S128, .f32⟩
  | 30 => ⟨S4096, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i1⟩
  | 45 => ⟨S_, .i32⟩
  | 46 => ⟨S_, .i1⟩
  | 47 => ⟨S4096, .i1⟩
  | 48 => ⟨S4096, .i1⟩
  | 49 => ⟨S4096, .i1⟩
  | 50 => ⟨S4096, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S_, .i32⟩
  | 58 => ⟨S4096, .i32⟩
  | 59 => ⟨S4096, .i32⟩
  | 60 => ⟨S4096, .i32⟩
  | 61 => ⟨S_, .i32⟩
  | 62 => ⟨S4096, .i32⟩
  | 63 => ⟨S4096, .i1⟩
  | 64 => ⟨S4096, .i32⟩
  | 65 => ⟨S4096, .i32⟩
  | 66 => ⟨S_, .i32⟩
  | 67 => ⟨S4096, .i32⟩
  | 68 => ⟨S4096, .i1⟩
  | 69 => ⟨S4096, .i1⟩
  | 70 => ⟨S_, .i32⟩
  | 71 => ⟨S4096, .i32⟩
  | 72 => ⟨S4096, .i32⟩
  | 73 => ⟨S4096, .i32⟩
  | 74 => ⟨S4096, .i32⟩
  | 75 => ⟨S4096, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i1⟩
  | 90 => ⟨S_, .i32⟩
  | 91 => ⟨S_, .i1⟩
  | 92 => ⟨S4096, .i1⟩
  | 93 => ⟨S4096, .i1⟩
  | 94 => ⟨S4096, .i1⟩
  | 95 => ⟨S4096, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .i32⟩
  | 102 => ⟨S_, .i32⟩
  | 103 => ⟨S4096, .i32⟩
  | 104 => ⟨S4096, .i32⟩
  | 105 => ⟨S4096, .i32⟩
  | 106 => ⟨S_, .i32⟩
  | 107 => ⟨S4096, .i32⟩
  | 108 => ⟨S4096, .i1⟩
  | 109 => ⟨S4096, .i32⟩
  | 110 => ⟨S4096, .i32⟩
  | 111 => ⟨S_, .i32⟩
  | 112 => ⟨S4096, .i32⟩
  | 113 => ⟨S4096, .i1⟩
  | 114 => ⟨S4096, .i1⟩
  | 115 => ⟨S_, .i32⟩
  | 116 => ⟨S4096, .i32⟩
  | 117 => ⟨S4096, .i32⟩
  | 118 => ⟨S4096, .i32⟩
  | 119 => ⟨S4096, .i32⟩
  | 120 => ⟨S4096, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S4096, .i32⟩
  | _ => ⟨S4096x9216, .f32⟩

abbrev hbmTy0_3 (i : Nat) : BufTy := match i % 128 with
  | 0 => ⟨S4096, .i32⟩
  | 1 => ⟨S_, .i32⟩
  | 2 => ⟨S4096, .i32⟩
  | 3 => ⟨S4096, .i1⟩
  | 4 => ⟨S_, .i32⟩
  | 5 => ⟨S4096, .i32⟩
  | 6 => ⟨S4096, .i1⟩
  | 7 => ⟨S_, .i32⟩
  | 8 => ⟨S_, .i1⟩
  | 9 => ⟨S4096, .i1⟩
  | 10 => ⟨S4096, .i1⟩
  | 11 => ⟨S4096, .i1⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i1⟩
  | 26 => ⟨S4096, .i32⟩
  | 27 => ⟨S4096, .i32⟩
  | 28 => ⟨S_, .i32⟩
  | 29 => ⟨S4096, .i32⟩
  | 30 => ⟨S4096, .i1⟩
  | 31 => ⟨S4096, .i1⟩
  | 32 => ⟨S_, .i32⟩
  | 33 => ⟨S4096, .i32⟩
  | 34 => ⟨S4096, .i32⟩
  | 35 => ⟨S4096, .i32⟩
  | 36 => ⟨S4096, .i32⟩
  | 37 => ⟨S12288, .i32⟩
  | 38 => ⟨S12288, .f32⟩
  | 39 => ⟨S12288x1, .f32⟩
  | 40 => ⟨S1x128, .f32⟩
  | 41 => ⟨S12288x128, .f32⟩
  | 42 => ⟨S12288x128, .f32⟩
  | 43 => ⟨S12288x128, .f32⟩
  | 44 => ⟨S128, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S128, .i32⟩
  | 52 => ⟨S128, .i32⟩
  | 53 => ⟨S_, .i32⟩
  | 54 => ⟨S128, .i32⟩
  | 55 => ⟨S128, .i1⟩
  | 56 => ⟨S_, .i32⟩
  | 57 => ⟨S128, .i32⟩
  | 58 => ⟨S128, .i1⟩
  | 59 => ⟨S_, .i32⟩
  | 60 => ⟨S_, .i1⟩
  | 61 => ⟨S128, .i1⟩
  | 62 => ⟨S128, .i1⟩
  | 63 => ⟨S128, .i1⟩
  | 64 => ⟨S128, .i32⟩
  | 65 => ⟨S128, .i32⟩
  | 66 => ⟨S128, .i32⟩
  | 67 => ⟨S_, .i32⟩
  | 68 => ⟨S128, .i32⟩
  | 69 => ⟨S128, .i1⟩
  | 70 => ⟨S12288x128, .f32⟩
  | 71 => ⟨S12288x128, .f32⟩
  | 72 => ⟨S1x128, .i1⟩
  | 73 => ⟨S12288x128, .f32⟩
  | 74 => ⟨S12288x128, .i1⟩
  | 75 => ⟨S12288x128, .f32⟩
  | 76 => ⟨S4096x1x1024, .f32⟩
  | 77 => ⟨S4096x3x1024, .f32⟩
  | 78 => ⟨S4096x1x1024, .f32⟩
  | 79 => ⟨S4096x1024, .f32⟩
  | 80 => ⟨S4096x1x1024, .f32⟩
  | 81 => ⟨S1x4096x1024, .f32⟩
  | 82 => ⟨S4096x1024, .f32⟩
  | 83 => ⟨S4096x1x1024, .f32⟩
  | 84 => ⟨S4096x1024, .f32⟩
  | 85 => ⟨S1024x4x1024, .f32⟩
  | 86 => ⟨S4x1024x1024, .f32⟩
  | 87 => ⟨S4096x1024, .f32⟩
  | 88 => ⟨S4096x1x1024, .f32⟩
  | 89 => ⟨S4096x1024, .f32⟩
  | 90 => ⟨S256x16x1024, .f32⟩
  | 91 => ⟨S16x256x1024, .f32⟩
  | 92 => ⟨S4096x1024, .f32⟩
  | 93 => ⟨S12288x1024, .f32⟩
  | 94 => ⟨S12288x1024, .bf16⟩
  | 95 => ⟨S_, .i32⟩
  | 96 => ⟨S_, .f32⟩
  | 97 => ⟨S4096x128, .f32⟩
  | 98 => ⟨S4096x1x128, .f32⟩
  | 99 => ⟨S4096x3x128, .f32⟩
  | 100 => ⟨S4096x1x128, .f32⟩
  | 101 => ⟨S4096x128, .f32⟩
  | 102 => ⟨S4096x1x128, .f32⟩
  | 103 => ⟨S1x4096x128, .f32⟩
  | 104 => ⟨S4096x128, .f32⟩
  | 105 => ⟨S4096x1x128, .f32⟩
  | 106 => ⟨S4096x128, .f32⟩
  | 107 => ⟨S1024x4x128, .f32⟩
  | 108 => ⟨S4x1024x128, .f32⟩
  | 109 => ⟨S4096x128, .f32⟩
  | 110 => ⟨S4096x1x128, .f32⟩
  | 111 => ⟨S4096x128, .f32⟩
  | 112 => ⟨S256x16x128, .f32⟩
  | 113 => ⟨S16x256x128, .f32⟩
  | 114 => ⟨S4096x128, .f32⟩
  | 115 => ⟨S12288x128, .f32⟩
  | 116 => ⟨S_, .i32⟩
  | 117 => ⟨S_, .f32⟩
  | 118 => ⟨S4096x128, .f32⟩
  | 119 => ⟨S4096x1x128, .f32⟩
  | 120 => ⟨S4096x3x128, .f32⟩
  | 121 => ⟨S4096x1x128, .f32⟩
  | 122 => ⟨S4096x128, .f32⟩
  | 123 => ⟨S4096x1x128, .f32⟩
  | 124 => ⟨S1x4096x128, .f32⟩
  | 125 => ⟨S4096x128, .f32⟩
  | 126 => ⟨S4096x1x128, .f32⟩
  | 127 => ⟨S4096x128, .f32⟩
  | _ => ⟨S4096x9216, .f32⟩

abbrev hbmTy0_4 (i : Nat) : BufTy := match i % 128 with
  | 0 => ⟨S1024x4x128, .f32⟩
  | 1 => ⟨S4x1024x128, .f32⟩
  | 2 => ⟨S4096x128, .f32⟩
  | 3 => ⟨S4096x1x128, .f32⟩
  | 4 => ⟨S4096x128, .f32⟩
  | 5 => ⟨S256x16x128, .f32⟩
  | 6 => ⟨S16x256x128, .f32⟩
  | 7 => ⟨S4096x128, .f32⟩
  | 8 => ⟨S12288x128, .f32⟩
  | 9 => ⟨S_, .f32⟩
  | 10 => ⟨S8x128, .f32⟩
  | 11 => ⟨S12288x3072, .bf16⟩
  | _ => ⟨S4096x9216, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x9216, .f32⟩

abbrev bufTy : (tb : Table) → Fin (tcTables nBuf tb) → BufTy
  | .hbm, ⟨i, _⟩ => hbmTy i
  | .local _ .vmem, ⟨0, _⟩ => ⟨S128x3072, .bf16⟩
  | .local _ .vmem, ⟨1, _⟩ => ⟨S128x3072, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x3072, .bf16⟩
  | .local _ .vmem, ⟨25, _⟩ => ⟨S128x3072, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_c : Ref sig .tc := ⟨.hbm, 80, rfl⟩
abbrev main_v74 : Ref sig .tc := ⟨.hbm, 81, rfl⟩
abbrev main_v75 : Ref sig .tc := ⟨.hbm, 82, rfl⟩
abbrev main_c_3 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_c_4 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_c_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_1 : Ref sig .tc := ⟨.hbm, 95, rfl⟩
abbrev main_call0_v5 : Ref sig .tc := ⟨.hbm, 96, rfl⟩
abbrev main_call0_v6 : Ref sig .tc := ⟨.hbm, 97, rfl⟩
abbrev main_call0_c_2 : Ref sig .tc := ⟨.hbm, 98, rfl⟩
abbrev main_call0_v7 : Ref sig .tc := ⟨.hbm, 99, rfl⟩
abbrev main_call0_v8 : Ref sig .tc := ⟨.hbm, 100, rfl⟩
abbrev main_call0_c_3 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_v12 : Ref sig .tc := ⟨.hbm, 105, rfl⟩
abbrev main_call0_v13 : Ref sig .tc := ⟨.hbm, 106, rfl⟩
abbrev main_call0_v14 : Ref sig .tc := ⟨.hbm, 107, rfl⟩
abbrev main_v79 : Ref sig .tc := ⟨.hbm, 108, rfl⟩
abbrev main_c_5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_6 : Ref sig .tc := ⟨.hbm, 113, rfl⟩
abbrev main_v83 : Ref sig .tc := ⟨.hbm, 114, rfl⟩
abbrev main_v84 : Ref sig .tc := ⟨.hbm, 115, rfl⟩
abbrev main_c_7 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_8 : Ref sig .tc := ⟨.hbm, 120, rfl⟩
abbrev main_call1_v0 : Ref sig .tc := ⟨.hbm, 121, rfl⟩
abbrev main_call1_c : Ref sig .tc := ⟨.hbm, 122, rfl⟩
abbrev main_call1_v1 : Ref sig .tc := ⟨.hbm, 123, rfl⟩
abbrev main_call1_c_0 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_c_1 : Ref sig .tc := ⟨.hbm, 128, rfl⟩
abbrev main_call1_v5 : Ref sig .tc := ⟨.hbm, 129, rfl⟩
abbrev main_call1_v6 : Ref sig .tc := ⟨.hbm, 130, rfl⟩
abbrev main_call1_c_2 : Ref sig .tc := ⟨.hbm, 131, rfl⟩
abbrev main_call1_v7 : Ref sig .tc := ⟨.hbm, 132, rfl⟩
abbrev main_call1_v8 : Ref sig .tc := ⟨.hbm, 133, rfl⟩
abbrev main_call1_c_3 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_v12 : Ref sig .tc := ⟨.hbm, 138, rfl⟩
abbrev main_call1_v13 : Ref sig .tc := ⟨.hbm, 139, rfl⟩
abbrev main_call1_v14 : Ref sig .tc := ⟨.hbm, 140, rfl⟩
abbrev main_v88 : Ref sig .tc := ⟨.hbm, 141, rfl⟩
abbrev main_c_9 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_c_10 : Ref sig .tc := ⟨.hbm, 146, rfl⟩
abbrev main_v92 : Ref sig .tc := ⟨.hbm, 147, rfl⟩
abbrev main_v93 : Ref sig .tc := ⟨.hbm, 148, rfl⟩
abbrev main_c_11 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_12 : Ref sig .tc := ⟨.hbm, 153, rfl⟩
abbrev main_call2_v0 : Ref sig .tc := ⟨.hbm, 154, rfl⟩
abbrev main_call2_c : Ref sig .tc := ⟨.hbm, 155, rfl⟩
abbrev main_call2_v1 : Ref sig .tc := ⟨.hbm, 156, rfl⟩
abbrev main_call2_c_0 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_c_1 : Ref sig .tc := ⟨.hbm, 161, rfl⟩
abbrev main_call2_v5 : Ref sig .tc := ⟨.hbm, 162, rfl⟩
abbrev main_call2_v6 : Ref sig .tc := ⟨.hbm, 163, rfl⟩
abbrev main_call2_c_2 : Ref sig .tc := ⟨.hbm, 164, rfl⟩
abbrev main_call2_v7 : Ref sig .tc := ⟨.hbm, 165, rfl⟩
abbrev main_call2_v8 : Ref sig .tc := ⟨.hbm, 166, rfl⟩
abbrev main_call2_c_3 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_v12 : Ref sig .tc := ⟨.hbm, 171, rfl⟩
abbrev main_call2_v13 : Ref sig .tc := ⟨.hbm, 172, rfl⟩
abbrev main_call2_v14 : Ref sig .tc := ⟨.hbm, 173, rfl⟩
abbrev main_v97 : Ref sig .tc := ⟨.hbm, 174, rfl⟩
abbrev main_c_13 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_14 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_cst_15 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_v109 : Ref sig .tc := ⟨.hbm, 192, rfl⟩
abbrev main_cst_16 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_17 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_cst_18 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_cst_19 : Ref sig .tc := ⟨.hbm, 277, rfl⟩
abbrev main_v191 : Ref sig .tc := ⟨.hbm, 278, rfl⟩
abbrev main_v192 : Ref sig .tc := ⟨.hbm, 279, rfl⟩
abbrev main_cst_20 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_c_21 : Ref sig .tc := ⟨.hbm, 287, rfl⟩
abbrev main_call4_v0 : Ref sig .tc := ⟨.hbm, 288, rfl⟩
abbrev main_call4_c : Ref sig .tc := ⟨.hbm, 289, rfl⟩
abbrev main_call4_v1 : Ref sig .tc := ⟨.hbm, 290, rfl⟩
abbrev main_call4_c_0 : Ref sig .tc := ⟨.hbm, 291, rfl⟩
abbrev main_call4_v2 : Ref sig .tc := ⟨.hbm, 292, rfl⟩
abbrev main_call4_v3 : Ref sig .tc := ⟨.hbm, 293, rfl⟩
abbrev main_call4_v4 : Ref sig .tc := ⟨.hbm, 294, rfl⟩
abbrev main_call4_c_1 : Ref sig .tc := ⟨.hbm, 295, rfl⟩
abbrev main_call4_v5 : Ref sig .tc := ⟨.hbm, 296, rfl⟩
abbrev main_call4_v6 : Ref sig .tc := ⟨.hbm, 297, rfl⟩
abbrev main_call4_c_2 : Ref sig .tc := ⟨.hbm, 298, rfl⟩
abbrev main_call4_v7 : Ref sig .tc := ⟨.hbm, 299, rfl⟩
abbrev main_call4_v8 : Ref sig .tc := ⟨.hbm, 300, rfl⟩
abbrev main_call4_c_3 : Ref sig .tc := ⟨.hbm, 301, rfl⟩
abbrev main_call4_v9 : Ref sig .tc := ⟨.hbm, 302, rfl⟩
abbrev main_call4_v10 : Ref sig .tc := ⟨.hbm, 303, rfl⟩
abbrev main_call4_v11 : Ref sig .tc := ⟨.hbm, 304, rfl⟩
abbrev main_call4_v12 : Ref sig .tc := ⟨.hbm, 305, rfl⟩
abbrev main_call4_v13 : Ref sig .tc := ⟨.hbm, 306, rfl⟩
abbrev main_call4_v14 : Ref sig .tc := ⟨.hbm, 307, rfl⟩
abbrev main_v199 : Ref sig .tc := ⟨.hbm, 308, rfl⟩
abbrev main_c_22 : Ref sig .tc := ⟨.hbm, 309, rfl⟩
abbrev main_v200 : Ref sig .tc := ⟨.hbm, 310, rfl⟩
abbrev main_v201 : Ref sig .tc := ⟨.hbm, 311, rfl⟩
abbrev main_c_23 : Ref sig .tc := ⟨.hbm, 312, rfl⟩
abbrev main_call5_v0 : Ref sig .tc := ⟨.hbm, 313, rfl⟩
abbrev main_call5_v1 : Ref sig .tc := ⟨.hbm, 314, rfl⟩
abbrev main_call5_v2 : Ref sig .tc := ⟨.hbm, 315, rfl⟩
abbrev main_call5_v3 : Ref sig .tc := ⟨.hbm, 316, rfl⟩
abbrev main_call5_v4 : Ref sig .tc := ⟨.hbm, 317, rfl⟩
abbrev main_call5_v5 : Ref sig .tc := ⟨.hbm, 318, rfl⟩
abbrev main_call5_v6 : Ref sig .tc := ⟨.hbm, 319, rfl⟩
abbrev main_call5_v7 : Ref sig .tc := ⟨.hbm, 320, rfl⟩
abbrev main_call5_v8 : Ref sig .tc := ⟨.hbm, 321, rfl⟩
abbrev main_call5_c : Ref sig .tc := ⟨.hbm, 322, rfl⟩
abbrev main_call5_v9 : Ref sig .tc := ⟨.hbm, 323, rfl⟩
abbrev main_call5_v10 : Ref sig .tc := ⟨.hbm, 324, rfl⟩
abbrev main_call5_v11 : Ref sig .tc := ⟨.hbm, 325, rfl⟩
abbrev main_call5_c_0 : Ref sig .tc := ⟨.hbm, 326, rfl⟩
abbrev main_call5_v12 : Ref sig .tc := ⟨.hbm, 327, rfl⟩
abbrev main_call5_v13 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_c_24 : Ref sig .tc := ⟨.hbm, 332, rfl⟩
abbrev main_call6_v0 : Ref sig .tc := ⟨.hbm, 333, rfl⟩
abbrev main_call6_c : Ref sig .tc := ⟨.hbm, 334, rfl⟩
abbrev main_call6_v1 : Ref sig .tc := ⟨.hbm, 335, rfl⟩
abbrev main_call6_c_0 : Ref sig .tc := ⟨.hbm, 336, rfl⟩
abbrev main_call6_v2 : Ref sig .tc := ⟨.hbm, 337, rfl⟩
abbrev main_call6_v3 : Ref sig .tc := ⟨.hbm, 338, rfl⟩
abbrev main_call6_v4 : Ref sig .tc := ⟨.hbm, 339, rfl⟩
abbrev main_call6_c_1 : Ref sig .tc := ⟨.hbm, 340, rfl⟩
abbrev main_call6_v5 : Ref sig .tc := ⟨.hbm, 341, rfl⟩
abbrev main_call6_v6 : Ref sig .tc := ⟨.hbm, 342, rfl⟩
abbrev main_call6_c_2 : Ref sig .tc := ⟨.hbm, 343, rfl⟩
abbrev main_call6_v7 : Ref sig .tc := ⟨.hbm, 344, rfl⟩
abbrev main_call6_v8 : Ref sig .tc := ⟨.hbm, 345, rfl⟩
abbrev main_call6_c_3 : Ref sig .tc := ⟨.hbm, 346, rfl⟩
abbrev main_call6_v9 : Ref sig .tc := ⟨.hbm, 347, rfl⟩
abbrev main_call6_v10 : Ref sig .tc := ⟨.hbm, 348, rfl⟩
abbrev main_call6_v11 : Ref sig .tc := ⟨.hbm, 349, rfl⟩
abbrev main_call6_v12 : Ref sig .tc := ⟨.hbm, 350, rfl⟩
abbrev main_call6_v13 : Ref sig .tc := ⟨.hbm, 351, rfl⟩
abbrev main_call6_v14 : Ref sig .tc := ⟨.hbm, 352, rfl⟩
abbrev main_v205 : Ref sig .tc := ⟨.hbm, 353, rfl⟩
abbrev main_c_25 : Ref sig .tc := ⟨.hbm, 354, rfl⟩
abbrev main_v206 : Ref sig .tc := ⟨.hbm, 355, rfl⟩
abbrev main_v207 : Ref sig .tc := ⟨.hbm, 356, rfl⟩
abbrev main_c_26 : Ref sig .tc := ⟨.hbm, 357, rfl⟩
abbrev main_call7_v0 : Ref sig .tc := ⟨.hbm, 358, rfl⟩
abbrev main_call7_v1 : Ref sig .tc := ⟨.hbm, 359, rfl⟩
abbrev main_call7_v2 : Ref sig .tc := ⟨.hbm, 360, rfl⟩
abbrev main_call7_v3 : Ref sig .tc := ⟨.hbm, 361, rfl⟩
abbrev main_call7_v4 : Ref sig .tc := ⟨.hbm, 362, rfl⟩
abbrev main_call7_v5 : Ref sig .tc := ⟨.hbm, 363, rfl⟩
abbrev main_call7_v6 : Ref sig .tc := ⟨.hbm, 364, rfl⟩
abbrev main_call7_v7 : Ref sig .tc := ⟨.hbm, 365, rfl⟩
abbrev main_call7_v8 : Ref sig .tc := ⟨.hbm, 366, rfl⟩
abbrev main_call7_c : Ref sig .tc := ⟨.hbm, 367, rfl⟩
abbrev main_call7_v9 : Ref sig .tc := ⟨.hbm, 368, rfl⟩
abbrev main_call7_v10 : Ref sig .tc := ⟨.hbm, 369, rfl⟩
abbrev main_call7_v11 : Ref sig .tc := ⟨.hbm, 370, rfl⟩
abbrev main_call7_c_0 : Ref sig .tc := ⟨.hbm, 371, rfl⟩
abbrev main_call7_v12 : Ref sig .tc := ⟨.hbm, 372, rfl⟩
abbrev main_call7_v13 : Ref sig .tc := ⟨.hbm, 373, rfl⟩
abbrev main_v208 : Ref sig .tc := ⟨.hbm, 374, rfl⟩
abbrev main_v209 : Ref sig .tc := ⟨.hbm, 375, rfl⟩
abbrev main_v210 : Ref sig .tc := ⟨.hbm, 376, rfl⟩
abbrev main_c_27 : Ref sig .tc := ⟨.hbm, 377, rfl⟩
abbrev main_call8_v0 : Ref sig .tc := ⟨.hbm, 378, rfl⟩
abbrev main_call8_c : Ref sig .tc := ⟨.hbm, 379, rfl⟩
abbrev main_call8_v1 : Ref sig .tc := ⟨.hbm, 380, rfl⟩
abbrev main_call8_c_0 : Ref sig .tc := ⟨.hbm, 381, rfl⟩
abbrev main_call8_v2 : Ref sig .tc := ⟨.hbm, 382, rfl⟩
abbrev main_call8_v3 : Ref sig .tc := ⟨.hbm, 383, rfl⟩
abbrev main_call8_v4 : Ref sig .tc := ⟨.hbm, 384, rfl⟩
abbrev main_call8_c_1 : Ref sig .tc := ⟨.hbm, 385, rfl⟩
abbrev main_call8_v5 : Ref sig .tc := ⟨.hbm, 386, rfl⟩
abbrev main_call8_v6 : Ref sig .tc := ⟨.hbm, 387, rfl⟩
abbrev main_call8_c_2 : Ref sig .tc := ⟨.hbm, 388, rfl⟩
abbrev main_call8_v7 : Ref sig .tc := ⟨.hbm, 389, rfl⟩
abbrev main_call8_v8 : Ref sig .tc := ⟨.hbm, 390, rfl⟩
abbrev main_call8_c_3 : Ref sig .tc := ⟨.hbm, 391, rfl⟩
abbrev main_call8_v9 : Ref sig .tc := ⟨.hbm, 392, rfl⟩
abbrev main_call8_v10 : Ref sig .tc := ⟨.hbm, 393, rfl⟩
abbrev main_call8_v11 : Ref sig .tc := ⟨.hbm, 394, rfl⟩
abbrev main_call8_v12 : Ref sig .tc := ⟨.hbm, 395, rfl⟩
abbrev main_call8_v13 : Ref sig .tc := ⟨.hbm, 396, rfl⟩
abbrev main_call8_v14 : Ref sig .tc := ⟨.hbm, 397, rfl⟩
abbrev main_v211 : Ref sig .tc := ⟨.hbm, 398, rfl⟩
abbrev main_c_28 : Ref sig .tc := ⟨.hbm, 399, rfl⟩
abbrev main_v212 : Ref sig .tc := ⟨.hbm, 400, rfl⟩
abbrev main_v213 : Ref sig .tc := ⟨.hbm, 401, rfl⟩
abbrev main_c_29 : Ref sig .tc := ⟨.hbm, 402, rfl⟩
abbrev main_call9_v0 : Ref sig .tc := ⟨.hbm, 403, rfl⟩
abbrev main_call9_v1 : Ref sig .tc := ⟨.hbm, 404, rfl⟩
abbrev main_call9_v2 : Ref sig .tc := ⟨.hbm, 405, rfl⟩
abbrev main_call9_v3 : Ref sig .tc := ⟨.hbm, 406, rfl⟩
abbrev main_call9_v4 : Ref sig .tc := ⟨.hbm, 407, rfl⟩
abbrev main_call9_v5 : Ref sig .tc := ⟨.hbm, 408, rfl⟩
abbrev main_call9_v6 : Ref sig .tc := ⟨.hbm, 409, rfl⟩
abbrev main_call9_v7 : Ref sig .tc := ⟨.hbm, 410, rfl⟩
abbrev main_call9_v8 : Ref sig .tc := ⟨.hbm, 411, rfl⟩
abbrev main_call9_c : Ref sig .tc := ⟨.hbm, 412, rfl⟩
abbrev main_call9_v9 : Ref sig .tc := ⟨.hbm, 413, rfl⟩
abbrev main_call9_v10 : Ref sig .tc := ⟨.hbm, 414, rfl⟩
abbrev main_call9_v11 : Ref sig .tc := ⟨.hbm, 415, rfl⟩
abbrev main_call9_c_0 : Ref sig .tc := ⟨.hbm, 416, rfl⟩
abbrev main_call9_v12 : Ref sig .tc := ⟨.hbm, 417, rfl⟩
abbrev main_call9_v13 : Ref sig .tc := ⟨.hbm, 418, rfl⟩
abbrev main_v214 : Ref sig .tc := ⟨.hbm, 419, rfl⟩
abbrev main_v215 : Ref sig .tc := ⟨.hbm, 420, rfl⟩
abbrev main_v216 : Ref sig .tc := ⟨.hbm, 421, rfl⟩
abbrev main_v217 : Ref sig .tc := ⟨.hbm, 422, rfl⟩
abbrev main_v218 : Ref sig .tc := ⟨.hbm, 423, rfl⟩
abbrev main_v219 : Ref sig .tc := ⟨.hbm, 424, rfl⟩
abbrev main_v220 : Ref sig .tc := ⟨.hbm, 425, rfl⟩
abbrev main_v221 : Ref sig .tc := ⟨.hbm, 426, rfl⟩
abbrev main_v222 : Ref sig .tc := ⟨.hbm, 427, rfl⟩
abbrev main_v223 : Ref sig .tc := ⟨.hbm, 428, rfl⟩
abbrev main_c_30 : Ref sig .tc := ⟨.hbm, 429, rfl⟩
abbrev main_call10_v0 : Ref sig .tc := ⟨.hbm, 430, rfl⟩
abbrev main_call10_c : Ref sig .tc := ⟨.hbm, 431, rfl⟩
abbrev main_call10_v1 : Ref sig .tc := ⟨.hbm, 432, rfl⟩
abbrev main_call10_c_0 : Ref sig .tc := ⟨.hbm, 433, rfl⟩
abbrev main_call10_v2 : Ref sig .tc := ⟨.hbm, 434, rfl⟩
abbrev main_call10_v3 : Ref sig .tc := ⟨.hbm, 435, rfl⟩
abbrev main_call10_v4 : Ref sig .tc := ⟨.hbm, 436, rfl⟩
abbrev main_call10_c_1 : Ref sig .tc := ⟨.hbm, 437, rfl⟩
abbrev main_call10_v5 : Ref sig .tc := ⟨.hbm, 438, rfl⟩
abbrev main_call10_v6 : Ref sig .tc := ⟨.hbm, 439, rfl⟩
abbrev main_call10_c_2 : Ref sig .tc := ⟨.hbm, 440, rfl⟩
abbrev main_call10_v7 : Ref sig .tc := ⟨.hbm, 441, rfl⟩
abbrev main_call10_v8 : Ref sig .tc := ⟨.hbm, 442, rfl⟩
abbrev main_call10_c_3 : Ref sig .tc := ⟨.hbm, 443, rfl⟩
abbrev main_call10_v9 : Ref sig .tc := ⟨.hbm, 444, rfl⟩
abbrev main_call10_v10 : Ref sig .tc := ⟨.hbm, 445, rfl⟩
abbrev main_call10_v11 : Ref sig .tc := ⟨.hbm, 446, rfl⟩
abbrev main_call10_v12 : Ref sig .tc := ⟨.hbm, 447, rfl⟩
abbrev main_call10_v13 : Ref sig .tc := ⟨.hbm, 448, rfl⟩
abbrev main_call10_v14 : Ref sig .tc := ⟨.hbm, 449, rfl⟩
abbrev main_v224 : Ref sig .tc := ⟨.hbm, 450, rfl⟩
abbrev main_c_31 : Ref sig .tc := ⟨.hbm, 451, rfl⟩
abbrev main_v225 : Ref sig .tc := ⟨.hbm, 452, rfl⟩
abbrev main_v226 : Ref sig .tc := ⟨.hbm, 453, rfl⟩
abbrev main_v227 : Ref sig .tc := ⟨.hbm, 454, rfl⟩
abbrev main_v228 : Ref sig .tc := ⟨.hbm, 455, rfl⟩
abbrev main_v229 : Ref sig .tc := ⟨.hbm, 456, rfl⟩
abbrev main_v230 : Ref sig .tc := ⟨.hbm, 457, rfl⟩
abbrev main_call11_v0 : Ref sig .tc := ⟨.hbm, 458, rfl⟩
abbrev main_v231 : Ref sig .tc := ⟨.hbm, 459, rfl⟩
abbrev main_v232 : Ref sig .tc := ⟨.hbm, 460, rfl⟩
abbrev main_v233 : Ref sig .tc := ⟨.hbm, 461, rfl⟩
abbrev main_v234 : Ref sig .tc := ⟨.hbm, 462, rfl⟩
abbrev main_v235 : Ref sig .tc := ⟨.hbm, 463, rfl⟩
abbrev main_v236 : Ref sig .tc := ⟨.hbm, 464, rfl⟩
abbrev main_v237 : Ref sig .tc := ⟨.hbm, 465, rfl⟩
abbrev main_v238 : Ref sig .tc := ⟨.hbm, 466, rfl⟩
abbrev main_v239 : Ref sig .tc := ⟨.hbm, 467, rfl⟩
abbrev main_v240 : Ref sig .tc := ⟨.hbm, 468, rfl⟩
abbrev main_v241 : Ref sig .tc := ⟨.hbm, 469, rfl⟩
abbrev main_v242 : Ref sig .tc := ⟨.hbm, 470, rfl⟩
abbrev main_v243 : Ref sig .tc := ⟨.hbm, 471, rfl⟩
abbrev main_v244 : Ref sig .tc := ⟨.hbm, 472, rfl⟩
abbrev main_v245 : Ref sig .tc := ⟨.hbm, 473, rfl⟩
abbrev main_v246 : Ref sig .tc := ⟨.hbm, 474, rfl⟩
abbrev main_v247 : Ref sig .tc := ⟨.hbm, 475, rfl⟩
abbrev main_v248 : Ref sig .tc := ⟨.hbm, 476, rfl⟩
abbrev main_v249 : Ref sig .tc := ⟨.hbm, 477, rfl⟩
abbrev main_v250 : Ref sig .tc := ⟨.hbm, 478, rfl⟩
abbrev main_c_32 : Ref sig .tc := ⟨.hbm, 479, rfl⟩
abbrev main_call12_v0 : Ref sig .tc := ⟨.hbm, 480, rfl⟩
abbrev main_v251 : Ref sig .tc := ⟨.hbm, 481, rfl⟩
abbrev main_v252 : Ref sig .tc := ⟨.hbm, 482, rfl⟩
abbrev main_v253 : Ref sig .tc := ⟨.hbm, 483, rfl⟩
abbrev main_v254 : Ref sig .tc := ⟨.hbm, 484, rfl⟩
abbrev main_v255 : Ref sig .tc := ⟨.hbm, 485, rfl⟩
abbrev main_v256 : Ref sig .tc := ⟨.hbm, 486, rfl⟩
abbrev main_v257 : Ref sig .tc := ⟨.hbm, 487, rfl⟩
abbrev main_v258 : Ref sig .tc := ⟨.hbm, 488, rfl⟩
abbrev main_v259 : Ref sig .tc := ⟨.hbm, 489, rfl⟩
abbrev main_v260 : Ref sig .tc := ⟨.hbm, 490, rfl⟩
abbrev main_v261 : Ref sig .tc := ⟨.hbm, 491, rfl⟩
abbrev main_v262 : Ref sig .tc := ⟨.hbm, 492, rfl⟩
abbrev main_v263 : Ref sig .tc := ⟨.hbm, 493, rfl⟩
abbrev main_v264 : Ref sig .tc := ⟨.hbm, 494, rfl⟩
abbrev main_v265 : Ref sig .tc := ⟨.hbm, 495, rfl⟩
abbrev main_v266 : Ref sig .tc := ⟨.hbm, 496, rfl⟩
abbrev main_v267 : Ref sig .tc := ⟨.hbm, 497, rfl⟩
abbrev main_v268 : Ref sig .tc := ⟨.hbm, 498, rfl⟩
abbrev main_v269 : Ref sig .tc := ⟨.hbm, 499, rfl⟩
abbrev main_c_33 : Ref sig .tc := ⟨.hbm, 500, rfl⟩
abbrev main_call13_v0 : Ref sig .tc := ⟨.hbm, 501, rfl⟩
abbrev main_v270 : Ref sig .tc := ⟨.hbm, 502, rfl⟩
abbrev main_v271 : Ref sig .tc := ⟨.hbm, 503, rfl⟩
abbrev main_v272 : Ref sig .tc := ⟨.hbm, 504, rfl⟩
abbrev main_v273 : Ref sig .tc := ⟨.hbm, 505, rfl⟩
abbrev main_v274 : Ref sig .tc := ⟨.hbm, 506, rfl⟩
abbrev main_v275 : Ref sig .tc := ⟨.hbm, 507, rfl⟩
abbrev main_v276 : Ref sig .tc := ⟨.hbm, 508, rfl⟩
abbrev main_v277 : Ref sig .tc := ⟨.hbm, 509, rfl⟩
abbrev main_v278 : Ref sig .tc := ⟨.hbm, 510, rfl⟩
abbrev main_v279 : Ref sig .tc := ⟨.hbm, 511, rfl⟩
abbrev main_v280 : Ref sig .tc := ⟨.hbm, 512, rfl⟩
abbrev main_v281 : Ref sig .tc := ⟨.hbm, 513, rfl⟩
abbrev main_v282 : Ref sig .tc := ⟨.hbm, 514, rfl⟩
abbrev main_v283 : Ref sig .tc := ⟨.hbm, 515, rfl⟩
abbrev main_v284 : Ref sig .tc := ⟨.hbm, 516, rfl⟩
abbrev main_v285 : Ref sig .tc := ⟨.hbm, 517, rfl⟩
abbrev main_v286 : Ref sig .tc := ⟨.hbm, 518, rfl⟩
abbrev main_v287 : Ref sig .tc := ⟨.hbm, 519, rfl⟩
abbrev main_v288 : Ref sig .tc := ⟨.hbm, 520, rfl⟩
abbrev main_cst_34 : Ref sig .tc := ⟨.hbm, 521, rfl⟩
abbrev main_v289 : Ref sig .tc := ⟨.hbm, 522, rfl⟩
abbrev main_v290 : Ref sig .tc := ⟨.hbm, 523, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c95_i32 : BitVec 32 := 95#32
  let v1 : BitVec 32 := Scalar.minsi v0 c95_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c95_i32 : BitVec 32 := 95#32
  let v1 : BitVec 32 := Scalar.minsi v0 c95_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c95_i32 : BitVec 32 := 95#32
  let v1 : BitVec 32 := Scalar.minsi v0 c95_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c95_i32 : BitVec 32 := 95#32
  let v1 : BitVec 32 := Scalar.minsi v0 c95_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x9216 : Shape := ⟨2, ![4096, 9216]⟩
abbrev S4096x1024 : Shape := ⟨2, ![4096, 1024]⟩
abbrev S4096x3x3x16x64 : Shape := ⟨5, ![4096, 3, 3, 16, 64]⟩
abbrev S4096x3x1x16x64 : Shape := ⟨5, ![4096, 3, 1, 16, 64]⟩
abbrev S4096x3x16x64 : Shape := ⟨4, ![4096, 3, 16, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x1x32 : Shape := ⟨4, ![4096, 1, 1, 32]⟩
abbrev S4096x3x16x32 : Shape := ⟨4, ![4096, 3, 16, 32]⟩
abbrev S1x4096 : Shape := ⟨2, ![1, 4096]⟩
abbrev S4096x4096 : Shape := ⟨2, ![4096, 4096]⟩
abbrev S1x4096x4096 : Shape := ⟨3, ![1, 4096, 4096]⟩
abbrev S3x4096x4096 : Shape := ⟨3, ![3, 4096, 4096]⟩
abbrev S3x16x4096x4096 : Shape := ⟨4, ![3, 16, 4096, 4096]⟩
abbrev S3x1x4096x4096 : Shape := ⟨4, ![3, 1, 4096, 4096]⟩
abbrev S3x16x4096 : Shape := ⟨3, ![3, 16, 4096]⟩
abbrev S3x16x4096x1 : Shape := ⟨4, ![3, 16, 4096, 1]⟩
abbrev S3x16x4096x64 : Shape := ⟨4, ![3, 16, 4096, 64]⟩
abbrev S16x4096 : Shape := ⟨2, ![16, 4096]⟩
abbrev S1x16x4096 : Shape := ⟨3, ![1, 16, 4096]⟩
abbrev S16x4096x64 : Shape := ⟨3, ![16, 4096, 64]⟩
abbrev S4096x16x64 : Shape := ⟨3, ![4096, 16, 64]⟩
abbrev S3x16x64x4096 : Shape := ⟨4, ![3, 16, 64, 4096]⟩
abbrev S4096x3x3072 : Shape := ⟨3, ![4096, 3, 3072]⟩
abbrev S4096x1x3072 : Shape := ⟨3, ![4096, 1, 3072]⟩
abbrev S4096x3072 : Shape := ⟨2, ![4096, 3072]⟩
abbrev S1x4096x3072 : Shape := ⟨3, ![1, 4096, 3072]⟩
abbrev S1024x4x3072 : Shape := ⟨3, ![1024, 4, 3072]⟩
abbrev S4x1024x3072 : Shape := ⟨3, ![4, 1024, 3072]⟩
abbrev S256x16x3072 : Shape := ⟨3, ![256, 16, 3072]⟩
abbrev S16x256x3072 : Shape := ⟨3, ![16, 256, 3072]⟩
abbrev S12288x3072 : Shape := ⟨2, ![12288, 3072]⟩

abbrev nBuf : Space → Nat
  | .hbm => 388
  | .vmem => 0
  | .smem => 0
  | _ => 0

abbrev hbmTy0_0 (i : Nat) : BufTy := match i % 128 with
  | 0 => ⟨S4096x9216, .f32⟩
  | 1 => ⟨S4096x1024, .f32⟩
  | 2 => ⟨S4096x3x3x16x64, .f32⟩
  | 3 => ⟨S4096x3x1x16x64, .f32⟩
  | 4 => ⟨S4096x3x16x64, .f32⟩
  | 5 => ⟨S4096x3x1x16x64, .f32⟩
  | 6 => ⟨S4096x3x16x64, .f32⟩
  | 7 => ⟨S4096x3x1x16x64, .f32⟩
  | 8 => ⟨S4096x3x16x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S4096, .i32⟩
  | 18 => ⟨S4096, .f32⟩
  | 19 => ⟨S4096x1, .f32⟩
  | 20 => ⟨S1x32, .f32⟩
  | 21 => ⟨S4096x32, .f32⟩
  | 22 => ⟨S4096x32, .f32⟩
  | 23 => ⟨S4096x32, .f32⟩
  | 24 => ⟨S4096x32, .f32⟩
  | 25 => ⟨S4096x1x1x32, .f32⟩
  | 26 => ⟨S4096x32, .f32⟩
  | 27 => ⟨S4096x1x1x32, .f32⟩
  | 28 => ⟨S4096x3x16x32, .f32⟩
  | 29 => ⟨S4096x3x16x32, .f32⟩
  | 30 => ⟨S4096x3x16x32, .f32⟩
  | 31 => ⟨S4096x3x16x32, .f32⟩
  | 32 => ⟨S4096x3x16x32, .f32⟩
  | 33 => ⟨S4096x3x16x32, .f32⟩
  | 34 => ⟨S4096x3x16x32, .f32⟩
  | 35 => ⟨S4096x3x16x32, .f32⟩
  | 36 => ⟨S4096x3x16x32, .f32⟩
  | 37 => ⟨S4096x3x16x32, .f32⟩
  | 38 => ⟨S4096x3x16x32, .f32⟩
  | 39 => ⟨S4096x3x16x32, .f32⟩
  | 40 => ⟨S4096x3x16x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096, .i32⟩
  | 50 => ⟨S4096, .f32⟩
  | 51 => ⟨S4096x1, .f32⟩
  | 52 => ⟨S1x32, .f32⟩
  | 53 => ⟨S4096x32, .f32⟩
  | 54 => ⟨S4096x32, .f32⟩
  | 55 => ⟨S4096x32, .f32⟩
  | 56 => ⟨S4096x32, .f32⟩
  | 57 => ⟨S4096x1x1x32, .f32⟩
  | 58 => ⟨S4096x32, .f32⟩
  | 59 => ⟨S4096x1x1x32, .f32⟩
  | 60 => ⟨S4096x3x16x32, .f32⟩
  | 61 => ⟨S4096x3x16x32, .f32⟩
  | 62 => ⟨S4096x3x16x32, .f32⟩
  | 63 => ⟨S4096x3x16x32, .f32⟩
  | 64 => ⟨S4096x3x16x32, .f32⟩
  | 65 => ⟨S4096x3x16x32, .f32⟩
  | 66 => ⟨S4096x3x16x32, .f32⟩
  | 67 => ⟨S4096x3x16x32, .f32⟩
  | 68 => ⟨S4096x3x16x32, .f32⟩
  | 69 => ⟨S4096x3x16x32, .f32⟩
  | 70 => ⟨S4096x3x16x32, .f32⟩
  | 71 => ⟨S4096x3x16x32, .f32⟩
  | 72 => ⟨S4096x3x16x64, .f32⟩
  | 73 => ⟨S4096, .i32⟩
  | 74 => ⟨S4096x1, .i32⟩
  | 75 => ⟨S4096, .i32⟩
  | 76 => ⟨S1x4096, .i32⟩
  | 77 => ⟨S4096x4096, .i32⟩
  | 78 => ⟨S4096x4096, .i32⟩
  | 79 => ⟨S4096x4096, .i32⟩
  | 80 => ⟨S_, .i32⟩
  | 81 => ⟨S4096x4096, .i32⟩
  | 82 => ⟨S4096x4096, .i1⟩
  | 83 => ⟨S_, .i32⟩
  | 84 => ⟨S4096x4096, .i32⟩
  | 85 => ⟨S4096x4096, .i1⟩
  | 86 => ⟨S4096x4096, .i1⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i1⟩
  | 98 => ⟨S_, .i32⟩
  | 99 => ⟨S4096x4096, .i32⟩
  | 100 => ⟨S4096x4096, .i1⟩
  | 101 => ⟨S_, .i32⟩
  | 102 => ⟨S_, .i1⟩
  | 103 => ⟨S4096x4096, .i1⟩
  | 104 => ⟨S4096x4096, .i1⟩
  | 105 => ⟨S4096x4096, .i1⟩
  | 106 => ⟨S4096x4096, .i32⟩
  | 107 => ⟨S4096x4096, .i32⟩
  | 108 => ⟨S4096x4096, .i32⟩
  | 109 => ⟨S_, .i32⟩
  | 110 => ⟨S4096x4096, .i32⟩
  | 111 => ⟨S4096x4096, .i1⟩
  | 112 => ⟨S4096x4096, .i1⟩
  | 113 => ⟨S_, .i32⟩
  | 114 => ⟨S4096x4096, .i32⟩
  | 115 => ⟨S4096x4096, .i1⟩
  | 116 => ⟨S_, .i32⟩
  | 117 => ⟨S4096x4096, .i32⟩
  | 118 => ⟨S4096x4096, .i1⟩
  | 119 => ⟨S4096x4096, .i1⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S4096x4096, .i32⟩
  | 127 => ⟨S4096x4096, .i32⟩
  | _ => ⟨S4096x9216, .f32⟩

abbrev hbmTy0_1 (i : Nat) : BufTy := match i % 128 with
  | 0 => ⟨S_, .i32⟩
  | 1 => ⟨S4096x4096, .i32⟩
  | 2 => ⟨S4096x4096, .i1⟩
  | 3 => ⟨S_, .i32⟩
  | 4 => ⟨S4096x4096, .i32⟩
  | 5 => ⟨S4096x4096, .i1⟩
  | 6 => ⟨S_, .i32⟩
  | 7 => ⟨S_, .i1⟩
  | 8 => ⟨S4096x4096, .i1⟩
  | 9 => ⟨S4096x4096, .i1⟩
  | 10 => ⟨S4096x4096, .i1⟩
  | 11 => ⟨S4096x4096, .i32⟩
  | 12 => ⟨S4096x4096, .i32⟩
  | 13 => ⟨S4096x4096, .i32⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i1⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i1⟩
  | 36 => ⟨S_, .i32⟩
  | 37 => ⟨S4096x4096, .i32⟩
  | 38 => ⟨S4096x4096, .i1⟩
  | 39 => ⟨S_, .i32⟩
  | 40 => ⟨S_, .i1⟩
  | 41 => ⟨S4096x4096, .i1⟩
  | 42 => ⟨S4096x4096, .i1⟩
  | 43 => ⟨S4096x4096, .i1⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i1⟩
  | 50 => ⟨S4096x4096, .i1⟩
  | 51 => ⟨S1x4096x4096, .i1⟩
  | 52 => ⟨S1x4096x4096, .i1⟩
  | 53 => ⟨S1x4096x4096, .i1⟩
  | 54 => ⟨S3x4096x4096, .i1⟩
  | 55 => ⟨S3x16x4096x4096, .f32⟩
  | 56 => ⟨S_, .f32⟩
  | 57 => ⟨S3x16x4096x4096, .f32⟩
  | 58 => ⟨S3x16x4096x4096, .f32⟩
  | 59 => ⟨S3x1x4096x4096, .i1⟩
  | 60 => ⟨S_, .f32⟩
  | 61 => ⟨S_, .f32⟩
  | 62 => ⟨S3x16x4096x4096, .i1⟩
  | 63 => ⟨S3x16x4096x4096, .f32⟩
  | 64 => ⟨S3x16x4096x4096, .f32⟩
  | 65 => ⟨S_, .f32⟩
  | 66 => ⟨S3x16x4096x4096, .f32⟩
  | 67 => ⟨S_, .f32⟩
  | 68 => ⟨S3x16x4096, .f32⟩
  | 69 => ⟨S3x16x4096x1, .f32⟩
  | 70 => ⟨S3x16x4096x4096, .f32⟩
  | 71 => ⟨S3x16x4096x4096, .i1⟩
  | 72 => ⟨S3x16x4096x4096, .f32⟩
  | 73 => ⟨S_, .f32⟩
  | 74 => ⟨S3x16x4096, .f32⟩
  | 75 => ⟨S3x16x4096x1, .f32⟩
  | 76 => ⟨S3x16x4096x4096, .f32⟩
  | 77 => ⟨S3x16x4096x4096, .f32⟩
  | 78 => ⟨S3x16x4096x4096, .f32⟩
  | 79 => ⟨S_, .f32⟩
  | 80 => ⟨S3x16x4096, .f32⟩
  | 81 => ⟨S3x16x4096x1, .f32⟩
  | 82 => ⟨S3x16x4096x4096, .f32⟩
  | 83 => ⟨S3x16x4096x4096, .f32⟩
  | 84 => ⟨S3x16x4096x1, .f32⟩
  | 85 => ⟨S_, .f32⟩
  | 86 => ⟨S3x16x4096x1, .f32⟩
  | 87 => ⟨S3x16x4096x1, .f32⟩
  | 88 => ⟨S3x16x4096x64, .f32⟩
  | 89 => ⟨S3x16x4096x1, .f32⟩
  | 90 => ⟨S3x16x4096x1, .f32⟩
  | 91 => ⟨S3x16x4096, .f32⟩
  | 92 => ⟨S_, .f32⟩
  | 93 => ⟨S16x4096, .f32⟩
  | 94 => ⟨S1x16x4096, .f32⟩
  | 95 => ⟨S3x16x4096, .f32⟩
  | 96 => ⟨S3x16x4096, .i1⟩
  | 97 => ⟨S3x16x4096, .f32⟩
  | 98 => ⟨S_, .f32⟩
  | 99 => ⟨S16x4096, .f32⟩
  | 100 => ⟨S_, .f32⟩
  | 101 => ⟨S16x4096, .f32⟩
  | 102 => ⟨S16x4096, .f32⟩
  | 103 => ⟨S_, .f32⟩
  | 104 => ⟨S16x4096, .f32⟩
  | 105 => ⟨S16x4096, .i1⟩
  | 106 => ⟨S_, .f32⟩
  | 107 => ⟨S16x4096, .f32⟩
  | 108 => ⟨S16x4096, .i1⟩
  | 109 => ⟨S_, .f32⟩
  | 110 => ⟨S16x4096, .f32⟩
  | 111 => ⟨S_, .f32⟩
  | 112 => ⟨S16x4096, .f32⟩
  | 113 => ⟨S_, .f32⟩
  | 114 => ⟨S16x4096, .f32⟩
  | 115 => ⟨S16x4096, .f32⟩
  | 116 => ⟨S16x4096, .f32⟩
  | 117 => ⟨S1x16x4096, .f32⟩
  | 118 => ⟨S3x16x4096, .f32⟩
  | 119 => ⟨S3x16x4096, .f32⟩
  | 120 => ⟨S3x16x4096, .f32⟩
  | 121 => ⟨S_, .f32⟩
  | 122 => ⟨S16x4096, .f32⟩
  | 123 => ⟨S1x16x4096, .f32⟩
  | 124 => ⟨S3x16x4096, .f32⟩
  | 125 => ⟨S3x16x4096, .f32⟩
  | 126 => ⟨S1x16x4096, .f32⟩
  | 127 => ⟨S_, .f32⟩
  | _ => ⟨S4096x9216, .f32⟩

abbrev hbmTy0_2 (i : Nat) : BufTy := match i % 128 with
  | 0 => ⟨S1x16x4096, .f32⟩
  | 1 => ⟨S1x16x4096, .f32⟩
  | 2 => ⟨S3x16x4096x1, .f32⟩
  | 3 => ⟨S3x16x4096x64, .f32⟩
  | 4 => ⟨S3x16x4096x64, .f32⟩
  | 5 => ⟨S_, .f32⟩
  | 6 => ⟨S16x4096x64, .f32⟩
  | 7 => ⟨S4096x16x64, .f32⟩
  | 8 => ⟨S4096x16x64, .f32⟩
  | 9 => ⟨S16x4096x64, .f32⟩
  | 10 => ⟨S3x16x4096x64, .f32⟩
  | 11 => ⟨S3x16x4096x64, .f32⟩
  | 12 => ⟨S3x16x4096x64, .f32⟩
  | 13 => ⟨S3x16x4096x64, .f32⟩
  | 14 => ⟨S_, .f32⟩
  | 15 => ⟨S3x16x4096, .f32⟩
  | 16 => ⟨S3x16x4096x1, .f32⟩
  | 17 => ⟨S_, .f32⟩
  | 18 => ⟨S3x16x4096, .f32⟩
  | 19 => ⟨S3x16x4096, .f32⟩
  | 20 => ⟨S3x16x4096, .f32⟩
  | 21 => ⟨S3x16x4096, .f32⟩
  | 22 => ⟨S_, .f32⟩
  | 23 => ⟨S16x4096, .f32⟩
  | 24 => ⟨S1x16x4096, .f32⟩
  | 25 => ⟨S1x16x4096, .f32⟩
  | 26 => ⟨S3x16x4096, .f32⟩
  | 27 => ⟨S3x16x4096, .f32⟩
  | 28 => ⟨S_, .f32⟩
  | 29 => ⟨S16x4096, .f32⟩
  | 30 => ⟨S3x16x4096, .f32⟩
  | 31 => ⟨S3x16x4096, .f32⟩
  | 32 => ⟨S3x16x4096, .f32⟩
  | 33 => ⟨S3x16x4096x1, .f32⟩
  | 34 => ⟨S3x16x4096x1, .f32⟩
  | 35 => ⟨S3x16x64x4096, .f32⟩
  | 36 => ⟨S4096x3x16x64, .f32⟩
  | 37 => ⟨S3x16x4096x4096, .f32⟩
  | 38 => ⟨S3x16x4096x4096, .f32⟩
  | 39 => ⟨S3x16x4096x4096, .f32⟩
  | 40 => ⟨S3x16x4096x4096, .f32⟩
  | 41 => ⟨S_, .f32⟩
  | 42 => ⟨S3x16x4096, .f32⟩
  | 43 => ⟨S3x16x4096x1, .f32⟩
  | 44 => ⟨S3x16x4096x1, .f32⟩
  | 45 => ⟨S3x16x4096x1, .f32⟩
  | 46 => ⟨S3x16x4096x4096, .f32⟩
  | 47 => ⟨S3x16x4096x4096, .f32⟩
  | 48 => ⟨S_, .f32⟩
  | 49 => ⟨S3x16x4096, .f32⟩
  | 50 => ⟨S3x16x4096x4096, .f32⟩
  | 51 => ⟨S3x16x4096x4096, .f32⟩
  | 52 => ⟨S3x16x4096x4096, .f32⟩
  | 53 => ⟨S3x16x4096x4096, .f32⟩
  | 54 => ⟨S_, .f32⟩
  | 55 => ⟨S3x16x4096, .f32⟩
  | 56 => ⟨S3x16x4096x1, .f32⟩
  | 57 => ⟨S3x16x4096x1, .f32⟩
  | 58 => ⟨S_, .f32⟩
  | 59 => ⟨S3x16x4096, .f32⟩
  | 60 => ⟨S3x16x4096, .f32⟩
  | 61 => ⟨S3x16x4096x4096, .f32⟩
  | 62 => ⟨S3x16x4096x4096, .f32⟩
  | 63 => ⟨S3x16x4096x4096, .f32⟩
  | 64 => ⟨S_, .f32⟩
  | 65 => ⟨S3x16x4096x4096, .f32⟩
  | 66 => ⟨S3x16x4096x4096, .f32⟩
  | 67 => ⟨S_, .f32⟩
  | 68 => ⟨S3x16x4096x4096, .f32⟩
  | 69 => ⟨S3x16x4096x4096, .f32⟩
  | 70 => ⟨S3x16x4096x64, .f32⟩
  | 71 => ⟨S4096x3x16x64, .f32⟩
  | 72 => ⟨S3x16x4096x64, .f32⟩
  | 73 => ⟨S4096x3x16x64, .f32⟩
  | 74 => ⟨S4096x3x16x32, .f32⟩
  | 75 => ⟨S4096x3x16x32, .f32⟩
  | 76 => ⟨S4096x3x16x32, .f32⟩
  | 77 => ⟨S4096x3x16x32, .f32⟩
  | 78 => ⟨S4096x3x16x32, .f32⟩
  | 79 => ⟨S4096x3x16x32, .f32⟩
  | 80 => ⟨S4096x3x16x32, .f32⟩
  | 81 => ⟨S4096x3x16x32, .f32⟩
  | 82 => ⟨S4096x3x16x32, .f32⟩
  | 83 => ⟨S4096x3x16x32, .f32⟩
  | 84 => ⟨S4096x3x16x32, .f32⟩
  | 85 => ⟨S4096x3x16x32, .f32⟩
  | 86 => ⟨S4096x3x16x32, .f32⟩
  | 87 => ⟨S_, .f32⟩
  | 88 => ⟨S4096x3x16x64, .f32⟩
  | 89 => ⟨S_, .f32⟩
  | 90 => ⟨S4096x3x16x64, .f32⟩
  | 91 => ⟨S4096x3x16x64, .f32⟩
  | 92 => ⟨S4096x3x16x32, .f32⟩
  | 93 => ⟨S4096x3x16x32, .f32⟩
  | 94 => ⟨S4096x3x16x32, .f32⟩
  | 95 => ⟨S4096x3x16x32, .f32⟩
  | 96 => ⟨S4096x3x16x32, .f32⟩
  | 97 => ⟨S4096x3x16x32, .f32⟩
  | 98 => ⟨S4096x3x16x32, .f32⟩
  | 99 => ⟨S4096x3x16x32, .f32⟩
  | 100 => ⟨S4096x3x16x32, .f32⟩
  | 101 => ⟨S4096x3x16x32, .f32⟩
  | 102 => ⟨S4096x3x16x32, .f32⟩
  | 103 => ⟨S4096x3x16x32, .f32⟩
  | 104 => ⟨S4096x3x16x32, .f32⟩
  | 105 => ⟨S_, .f32⟩
  | 106 => ⟨S4096x3x16x64, .f32⟩
  | 107 => ⟨S_, .f32⟩
  | 108 => ⟨S4096x3x16x64, .f32⟩
  | 109 => ⟨S4096x3x16x64, .f32⟩
  | 110 => ⟨S4096x3x1x16x64, .f32⟩
  | 111 => ⟨S4096x3x1x16x64, .f32⟩
  | 112 => ⟨S4096x3x1x16x64, .f32⟩
  | 113 => ⟨S4096x3x3x16x64, .f32⟩
  | 114 => ⟨S4096x3x3072, .f32⟩
  | 115 => ⟨S4096x1x3072, .f32⟩
  | 116 => ⟨S4096x3072, .f32⟩
  | 117 => ⟨S4096x1x3072, .f32⟩
  | 118 => ⟨S1x4096x3072, .f32⟩
  | 119 => ⟨S4096x3072, .f32⟩
  | 120 => ⟨S4096x1x3072, .f32⟩
  | 121 => ⟨S4096x3072, .f32⟩
  | 122 => ⟨S1024x4x3072, .f32⟩
  | 123 => ⟨S4x1024x3072, .f32⟩
  | 124 => ⟨S4096x3072, .f32⟩
  | 125 => ⟨S4096x1x3072, .f32⟩
  | 126 => ⟨S4096x3072, .f32⟩
  | 127 => ⟨S256x16x3072, .f32⟩
  | _ => ⟨S4096x9216, .f32⟩

abbrev hbmTy0_3 (i : Nat) : BufTy := match i % 128 with
  | 0 => ⟨S16x256x3072, .f32⟩
  | 1 => ⟨S4096x3072, .f32⟩
  | 2 => ⟨S12288x3072, .f32⟩
  | 3 => ⟨S12288x3072, .bf16⟩
  | _ => ⟨S4096x9216, .f32⟩

abbrev hbmTy (i : Nat) : BufTy := match i / 128 with
  | 0 => hbmTy0_0 i
  | 1 => hbmTy0_1 i
  | 2 => hbmTy0_2 i
  | 3 => hbmTy0_3 i
  | _ => ⟨S4096x9216, .f32⟩

abbrev bufTy : (tb : Table) → Fin (tcTables nBuf tb) → BufTy
  | .hbm, ⟨i, _⟩ => hbmTy i
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_c : Ref sig .tc := ⟨.hbm, 80, rfl⟩
abbrev main_v74 : Ref sig .tc := ⟨.hbm, 81, rfl⟩
abbrev main_v75 : Ref sig .tc := ⟨.hbm, 82, rfl⟩
abbrev main_c_3 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_c_4 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_c_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_1 : Ref sig .tc := ⟨.hbm, 95, rfl⟩
abbrev main_call0_v5 : Ref sig .tc := ⟨.hbm, 96, rfl⟩
abbrev main_call0_v6 : Ref sig .tc := ⟨.hbm, 97, rfl⟩
abbrev main_call0_c_2 : Ref sig .tc := ⟨.hbm, 98, rfl⟩
abbrev main_call0_v7 : Ref sig .tc := ⟨.hbm, 99, rfl⟩
abbrev main_call0_v8 : Ref sig .tc := ⟨.hbm, 100, rfl⟩
abbrev main_call0_c_3 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_v12 : Ref sig .tc := ⟨.hbm, 105, rfl⟩
abbrev main_call0_v13 : Ref sig .tc := ⟨.hbm, 106, rfl⟩
abbrev main_call0_v14 : Ref sig .tc := ⟨.hbm, 107, rfl⟩
abbrev main_v79 : Ref sig .tc := ⟨.hbm, 108, rfl⟩
abbrev main_c_5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_6 : Ref sig .tc := ⟨.hbm, 113, rfl⟩
abbrev main_v83 : Ref sig .tc := ⟨.hbm, 114, rfl⟩
abbrev main_v84 : Ref sig .tc := ⟨.hbm, 115, rfl⟩
abbrev main_c_7 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_8 : Ref sig .tc := ⟨.hbm, 120, rfl⟩
abbrev main_call1_v0 : Ref sig .tc := ⟨.hbm, 121, rfl⟩
abbrev main_call1_c : Ref sig .tc := ⟨.hbm, 122, rfl⟩
abbrev main_call1_v1 : Ref sig .tc := ⟨.hbm, 123, rfl⟩
abbrev main_call1_c_0 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_c_1 : Ref sig .tc := ⟨.hbm, 128, rfl⟩
abbrev main_call1_v5 : Ref sig .tc := ⟨.hbm, 129, rfl⟩
abbrev main_call1_v6 : Ref sig .tc := ⟨.hbm, 130, rfl⟩
abbrev main_call1_c_2 : Ref sig .tc := ⟨.hbm, 131, rfl⟩
abbrev main_call1_v7 : Ref sig .tc := ⟨.hbm, 132, rfl⟩
abbrev main_call1_v8 : Ref sig .tc := ⟨.hbm, 133, rfl⟩
abbrev main_call1_c_3 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_v12 : Ref sig .tc := ⟨.hbm, 138, rfl⟩
abbrev main_call1_v13 : Ref sig .tc := ⟨.hbm, 139, rfl⟩
abbrev main_call1_v14 : Ref sig .tc := ⟨.hbm, 140, rfl⟩
abbrev main_v88 : Ref sig .tc := ⟨.hbm, 141, rfl⟩
abbrev main_c_9 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_c_10 : Ref sig .tc := ⟨.hbm, 146, rfl⟩
abbrev main_v92 : Ref sig .tc := ⟨.hbm, 147, rfl⟩
abbrev main_v93 : Ref sig .tc := ⟨.hbm, 148, rfl⟩
abbrev main_c_11 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_12 : Ref sig .tc := ⟨.hbm, 153, rfl⟩
abbrev main_call2_v0 : Ref sig .tc := ⟨.hbm, 154, rfl⟩
abbrev main_call2_c : Ref sig .tc := ⟨.hbm, 155, rfl⟩
abbrev main_call2_v1 : Ref sig .tc := ⟨.hbm, 156, rfl⟩
abbrev main_call2_c_0 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_c_1 : Ref sig .tc := ⟨.hbm, 161, rfl⟩
abbrev main_call2_v5 : Ref sig .tc := ⟨.hbm, 162, rfl⟩
abbrev main_call2_v6 : Ref sig .tc := ⟨.hbm, 163, rfl⟩
abbrev main_call2_c_2 : Ref sig .tc := ⟨.hbm, 164, rfl⟩
abbrev main_call2_v7 : Ref sig .tc := ⟨.hbm, 165, rfl⟩
abbrev main_call2_v8 : Ref sig .tc := ⟨.hbm, 166, rfl⟩
abbrev main_call2_c_3 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_v12 : Ref sig .tc := ⟨.hbm, 171, rfl⟩
abbrev main_call2_v13 : Ref sig .tc := ⟨.hbm, 172, rfl⟩
abbrev main_call2_v14 : Ref sig .tc := ⟨.hbm, 173, rfl⟩
abbrev main_v97 : Ref sig .tc := ⟨.hbm, 174, rfl⟩
abbrev main_c_13 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_14 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_cst_15 : Ref sig .tc := ⟨.hbm, 188, rfl⟩
abbrev main_call3_v0 : Ref sig .tc := ⟨.hbm, 189, rfl⟩
abbrev main_v109_1 : Ref sig .tc := ⟨.hbm, 190, rfl⟩
abbrev main_call3_v2 : Ref sig .tc := ⟨.hbm, 191, rfl⟩
abbrev main_v109_0 : Ref sig .tc := ⟨.hbm, 192, rfl⟩
abbrev main_call3_cst : Ref sig .tc := ⟨.hbm, 193, rfl⟩
abbrev main_v109_2 : Ref sig .tc := ⟨.hbm, 194, rfl⟩
abbrev main_cst_16 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_cst_17 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_cst_18 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_cst_19 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_20 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_cst_21 : Ref sig .tc := ⟨.hbm, 226, rfl⟩
abbrev main_v136 : Ref sig .tc := ⟨.hbm, 227, rfl⟩
abbrev main_cst_22 : Ref sig .tc := ⟨.hbm, 228, rfl⟩
abbrev main_v137 : Ref sig .tc := ⟨.hbm, 229, rfl⟩
abbrev main_v138 : Ref sig .tc := ⟨.hbm, 230, rfl⟩
abbrev main_cst_23 : Ref sig .tc := ⟨.hbm, 231, rfl⟩
abbrev main_v139 : Ref sig .tc := ⟨.hbm, 232, rfl⟩
abbrev main_v140 : Ref sig .tc := ⟨.hbm, 233, rfl⟩
abbrev main_cst_24 : Ref sig .tc := ⟨.hbm, 234, rfl⟩
abbrev main_v141 : Ref sig .tc := ⟨.hbm, 235, rfl⟩
abbrev main_v142 : Ref sig .tc := ⟨.hbm, 236, rfl⟩
abbrev main_cst_25 : Ref sig .tc := ⟨.hbm, 237, rfl⟩
abbrev main_v143 : Ref sig .tc := ⟨.hbm, 238, rfl⟩
abbrev main_cst_26 : Ref sig .tc := ⟨.hbm, 239, rfl⟩
abbrev main_v144 : Ref sig .tc := ⟨.hbm, 240, rfl⟩
abbrev main_cst_27 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_28 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_cst_29 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_cst_30 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_cst_31 : Ref sig .tc := ⟨.hbm, 270, rfl⟩
abbrev main_v170 : Ref sig .tc := ⟨.hbm, 271, rfl⟩
abbrev main_v171 : Ref sig .tc := ⟨.hbm, 272, rfl⟩
abbrev main_cst_32 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_33 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_cst_34 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_cst_35 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_cst_36 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_cst_37 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_cst_38 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_call4_cst : Ref sig .tc := ⟨.hbm, 320, rfl⟩
abbrev main_call4_v0 : Ref sig .tc := ⟨.hbm, 321, rfl⟩
abbrev main_v212 : Ref sig .tc := ⟨.hbm, 322, rfl⟩
abbrev main_cst_39 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_cst_40 : Ref sig .tc := ⟨.hbm, 343, rfl⟩
abbrev main_v232 : Ref sig .tc := ⟨.hbm, 344, rfl⟩
abbrev main_cst_41 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_v238 : Ref sig .tc := ⟨.hbm, 351, rfl⟩
abbrev main_v239 : Ref sig .tc := ⟨.hbm, 352, rfl⟩
abbrev main_v240 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_cst_42 : Ref sig .tc := ⟨.hbm, 361, rfl⟩
abbrev main_v248 : Ref sig .tc := ⟨.hbm, 362, rfl⟩
abbrev main_cst_43 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_v254 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_v262 : Ref sig .tc := ⟨.hbm, 377, rfl⟩
abbrev main_v263 : Ref sig .tc := ⟨.hbm, 378, rfl⟩
abbrev main_v264 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩

abbrev nD : Nat := 1
abbrev τ : Topo := Topo.v7x

variable {F : FTy → Type} [FloatOps F]
-- ==== Hidden.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .hbm, ⟨12, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiddenReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Down.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 12
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 26
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .bf16⟩
  | .hbm, ⟨24, _⟩ => ⟨S4096x4096, .bf16⟩
  | .hbm, ⟨25, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Act.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== AttnWeight.lean ====
abbrev S4096x1024 : Shape := ⟨2, ![4096, 1024]⟩
abbrev S1024x9216 : Shape := ⟨2, ![1024, 9216]⟩
abbrev S4096x9216 : Shape := ⟨2, ![4096, 9216]⟩
abbrev S4096x1x1024 : Shape := ⟨3, ![4096, 1, 1024]⟩
abbrev S4096x3x1024 : Shape := ⟨3, ![4096, 3, 1024]⟩
abbrev S1x4096x1024 : Shape := ⟨3, ![1, 4096, 1024]⟩
abbrev S1024x4x1024 : Shape := ⟨3, ![1024, 4, 1024]⟩
abbrev S4x1024x1024 : Shape := ⟨3, ![4, 1024, 1024]⟩
abbrev S256x16x1024 : Shape := ⟨3, ![256, 16, 1024]⟩
abbrev S16x256x1024 : Shape := ⟨3, ![16, 256, 1024]⟩
abbrev S12288x1024 : Shape := ⟨2, ![12288, 1024]⟩
abbrev S4096x3x3072 : Shape := ⟨3, ![4096, 3, 3072]⟩
abbrev S4096x1x3072 : Shape := ⟨3, ![4096, 1, 3072]⟩
abbrev S4096x3072 : Shape := ⟨2, ![4096, 3072]⟩
abbrev S1x4096x3072 : Shape := ⟨3, ![1, 4096, 3072]⟩
abbrev S1024x4x3072 : Shape := ⟨3, ![1024, 4, 3072]⟩
abbrev S4x1024x3072 : Shape := ⟨3, ![4, 1024, 3072]⟩
abbrev S256x16x3072 : Shape := ⟨3, ![256, 16, 3072]⟩
abbrev S16x256x3072 : Shape := ⟨3, ![16, 256, 3072]⟩
abbrev S12288x3072 : Shape := ⟨2, ![12288, 3072]⟩
abbrev S4096x768 : Shape := ⟨2, ![4096, 768]⟩
abbrev S1024x768 : Shape := ⟨2, ![1024, 768]⟩

abbrev nBuf : Space → Nat
  | .hbm => 41
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x1x1024, .f32⟩
  | .hbm, ⟨4, _⟩ => ⟨S4096x3x1024, .f32⟩
  | .hbm, ⟨5, _⟩ => ⟨S4096x1x1024, .f32⟩
  | .hbm, ⟨6, _⟩ => ⟨S4096x1024, .f32⟩
  | .hbm, ⟨7, _⟩ => ⟨S4096x1x1024, .f32⟩
  | .hbm, ⟨8, _⟩ => ⟨S1x4096x1024, .f32⟩
  | .hbm, ⟨9, _⟩ => ⟨S4096x1024, .f32⟩
  | .hbm, ⟨10, _⟩ => ⟨S4096x1x1024, .f32⟩
  | .hbm, ⟨11, _⟩ => ⟨S4096x1024, .f32⟩
  | .hbm, ⟨12, _⟩ => ⟨S1024x4x1024, .f32⟩
  | .hbm, ⟨13, _⟩ => ⟨S4x1024x1024, .f32⟩
  | .hbm, ⟨14, _⟩ => ⟨S4096x1024, .f32⟩
  | .hbm, ⟨15, _⟩ => ⟨S4096x1x1024, .f32⟩
  | .hbm, ⟨16, _⟩ => ⟨S4096x1024, .f32⟩
  | .hbm, ⟨17, _⟩ => ⟨S256x16x1024, .f32⟩
  | .hbm, ⟨18, _⟩ => ⟨S16x256x1024, .f32⟩
  | .hbm, ⟨19, _⟩ => ⟨S4096x1024, .f32⟩
  | .hbm, ⟨20, _⟩ => ⟨S12288x1024, .f32⟩
  | .hbm, ⟨21, _⟩ => ⟨S12288x1024, .bf16⟩
  | .hbm, ⟨22, _⟩ => ⟨S4096x3x3072, .f32⟩
  | .hbm, ⟨23, _⟩ => ⟨S4096x1x3072, .f32⟩
  | .hbm, ⟨24, _⟩ => ⟨S4096x3072, .f32⟩
  | .hbm, ⟨25, _⟩ => ⟨S4096x1x3072, .f32⟩
  | .hbm, ⟨26, _⟩ => ⟨S1x4096x3072, .f32⟩
  | .hbm, ⟨27, _⟩ => ⟨S4096x3072, .f32⟩
  | .hbm, ⟨28, _⟩ => ⟨S4096x1x3072, .f32⟩
  | .hbm, ⟨29, _⟩ => ⟨S4096x3072, .f32⟩
  | .hbm, ⟨30, _⟩ => ⟨S1024x4x3072, .f32⟩
  | .hbm, ⟨31, _⟩ => ⟨S4x1024x3072, .f32⟩
  | .hbm, ⟨32, _⟩ => ⟨S4096x3072, .f32⟩
  | .hbm, ⟨33, _⟩ => ⟨S4096x1x3072, .f32⟩
  | .hbm, ⟨34, _⟩ => ⟨S4096x3072, .f32⟩
  | .hbm, ⟨35, _⟩ => ⟨S256x16x3072, .f32⟩
  | .hbm, ⟨36, _⟩ => ⟨S16x256x3072, .f32⟩
  | .hbm, ⟨37, _⟩ => ⟨S4096x3072, .f32⟩
  | .hbm, ⟨38, _⟩ => ⟨S12288x3072, .f32⟩
  | .hbm, ⟨39, _⟩ => ⟨S12288x3072, .bf16⟩
  | .hbm, ⟨40, _⟩ => ⟨S1024x9216, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnWeightReferenceIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .f32⟩
  | .hbm, ⟨4, _⟩ => ⟨S9216x1024, .f32⟩
  | .hbm, ⟨5, _⟩ => ⟨S1024x9216, .f32⟩
  | .hbm, ⟨6, _⟩ => ⟨S1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnInput.lean ====
abbrev S4096x1024 : Shape := ⟨2, ![4096, 1024]⟩
abbrev S1024x9216 : Shape := ⟨2, ![1024, 9216]⟩
abbrev S4096x9216 : Shape := ⟨2, ![4096, 9216]⟩
abbrev S4096x3x3072 : Shape := ⟨3, ![4096, 3, 3072]⟩
abbrev S4096x1x3072 : Shape := ⟨3, ![4096, 1, 3072]⟩
abbrev S4096x3072 : Shape := ⟨2, ![4096, 3072]⟩
abbrev S1x4096x3072 : Shape := ⟨3, ![1, 4096, 3072]⟩
abbrev S1024x4x3072 : Shape := ⟨3, ![1024, 4, 3072]⟩
abbrev S4x1024x3072 : Shape := ⟨3, ![4, 1024, 3072]⟩
abbrev S256x16x3072 : Shape := ⟨3, ![256, 16, 3072]⟩
abbrev S16x256x3072 : Shape := ⟨3, ![16, 256, 3072]⟩
abbrev S12288x3072 : Shape := ⟨2, ![12288, 3072]⟩
abbrev S12288x1024 : Shape := ⟨2, ![12288, 1024]⟩
abbrev S1024x3072 : Shape := ⟨2, ![1024, 3072]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x3x3072, .f32⟩
  | .hbm, ⟨4, _⟩ => ⟨S4096x1x3072, .f32⟩
  | .hbm, ⟨5, _⟩ => ⟨S4096x3072, .f32⟩
  | .hbm, ⟨6, _⟩ => ⟨S4096x1x3072, .f32⟩
  | .hbm, ⟨7, _⟩ => ⟨S1x4096x3072, .f32⟩
  | .hbm, ⟨8, _⟩ => ⟨S4096x3072, .f32⟩
  | .hbm, ⟨9, _⟩ => ⟨S4096x1x3072, .f32⟩
  | .hbm, ⟨10, _⟩ => ⟨S4096x3072, .f32⟩
  | .hbm, ⟨11, _⟩ => ⟨S1024x4x3072, .f32⟩
  | .hbm, ⟨12, _⟩ => ⟨S4x1024x3072, .f32⟩
  | .hbm, ⟨13, _⟩ => ⟨S4096x3072, .f32⟩
  | .hbm, ⟨14, _⟩ => ⟨S4096x1x3072, .f32⟩
  | .hbm, ⟨15, _⟩ => ⟨S4096x3072, .f32⟩
  | .hbm, ⟨16, _⟩ => ⟨S256x16x3072, .f32⟩
  | .hbm, ⟨17, _⟩ => ⟨S16x256x3072, .f32⟩
  | .hbm, ⟨18, _⟩ => ⟨S4096x3072, .f32⟩
  | .hbm, ⟨19, _⟩ => ⟨S12288x3072, .f32⟩
  | .hbm, ⟨20, _⟩ => ⟨S12288x3072, .bf16⟩
  | .hbm, ⟨21, _⟩ => ⟨S1024x9216, .bf16⟩
  | .hbm, ⟨22, _⟩ => ⟨S12288x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.addi arg2 v16
  let c0_i32_4 : BitVec 32 := 0#32
  ![arg1.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInputReferenceIdeal.lean ====
abbrev S4096x1024 : Shape := ⟨2, ![4096, 1024]⟩
abbrev S1024x9216 : Shape := ⟨2, ![1024, 9216]⟩
abbrev S4096x9216 : Shape := ⟨2, ![4096, 9216]⟩
abbrev S1024x3x3072 : Shape := ⟨3, ![1024, 3, 3072]⟩
abbrev S3x1024x3072 : Shape := ⟨3, ![3, 1024, 3072]⟩
abbrev S4096x3x3072 : Shape := ⟨3, ![4096, 3, 3072]⟩
abbrev S3x4096x3072 : Shape := ⟨3, ![3, 4096, 3072]⟩
abbrev S1x1024x3072 : Shape := ⟨3, ![1, 1024, 3072]⟩
abbrev S1024x3072 : Shape := ⟨2, ![1024, 3072]⟩
abbrev S1x4096x3072 : Shape := ⟨3, ![1, 4096, 3072]⟩
abbrev S4096x3072 : Shape := ⟨2, ![4096, 3072]⟩
abbrev S4096x1x1024 : Shape := ⟨3, ![4096, 1, 1024]⟩
abbrev S4096x3x1024 : Shape := ⟨3, ![4096, 3, 1024]⟩
abbrev S1x4096x1024 : Shape := ⟨3, ![1, 4096, 1024]⟩
abbrev S1024x4x1024 : Shape := ⟨3, ![1024, 4, 1024]⟩
abbrev S4x1024x1024 : Shape := ⟨3, ![4, 1024, 1024]⟩
abbrev S256x16x1024 : Shape := ⟨3, ![256, 16, 1024]⟩
abbrev S16x256x1024 : Shape := ⟨3, ![16, 256, 1024]⟩
abbrev S12288x1024 : Shape := ⟨2, ![12288, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S1024x3x3072, .f32⟩
  | .hbm, ⟨4, _⟩ => ⟨S3x1024x3072, .f32⟩
  | .hbm, ⟨5, _⟩ => ⟨S4096x3x3072, .f32⟩
  | .hbm, ⟨6, _⟩ => ⟨S3x4096x3072, .f32⟩
  | .hbm, ⟨7, _⟩ => ⟨S1x1024x3072, .f32⟩
  | .hbm, ⟨8, _⟩ => ⟨S1024x3072, .f32⟩
  | .hbm, ⟨9, _⟩ => ⟨S1x1024x3072, .f32⟩
  | .hbm, ⟨10, _⟩ => ⟨S1024x3072, .f32⟩
  | .hbm, ⟨11, _⟩ => ⟨S1x1024x3072, .f32⟩
  | .hbm, ⟨12, _⟩ => ⟨S1024x3072, .f32⟩
  | .hbm, ⟨13, _⟩ => ⟨S1x4096x3072, .f32⟩
  | .hbm, ⟨14, _⟩ => ⟨S4096x3072, .f32⟩
  | .hbm, ⟨15, _⟩ => ⟨S1x4096x3072, .f32⟩
  | .hbm, ⟨16, _⟩ => ⟨S4096x3072, .f32⟩
  | .hbm, ⟨17, _⟩ => ⟨S1x4096x3072, .f32⟩
  | .hbm, ⟨18, _⟩ => ⟨S4096x3072, .f32⟩
  | .hbm, ⟨19, _⟩ => ⟨S4096x3072, .f32⟩
  | .hbm, ⟨20, _⟩ => ⟨S4096x1024, .f32⟩
  | .hbm, ⟨21, _⟩ => ⟨S4096x3072, .f32⟩
  | .hbm, ⟨22, _⟩ => ⟨S4096x1024, .f32⟩
  | .hbm, ⟨23, _⟩ => ⟨S4096x3072, .f32⟩
  | .hbm, ⟨24, _⟩ => ⟨S4096x1024, .f32⟩
  | .hbm, ⟨25, _⟩ => ⟨S4096x1x1024, .f32⟩
  | .hbm, ⟨26, _⟩ => ⟨S4096x1x1024, .f32⟩
  | .hbm, ⟨27, _⟩ => ⟨S4096x1x1024, .f32⟩
  | .hbm, ⟨28, _⟩ => ⟨S4096x3x1024, .f32⟩
  | .hbm, ⟨29, _⟩ => ⟨S4096x1x1024, .f32⟩
  | .hbm, ⟨30, _⟩ => ⟨S4096x1024, .f32⟩
  | .hbm, ⟨31, _⟩ => ⟨S4096x1x1024, .f32⟩
  | .hbm, ⟨32, _⟩ => ⟨S1x4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S1024x4x1024, .f32⟩
  | .hbm, ⟨37, _⟩ => ⟨S4x1024x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S256x16x1024, .f32⟩
  | .hbm, ⟨42, _⟩ => ⟨S16x256x1024, .f32⟩
  | .hbm, ⟨43, _⟩ => ⟨S4096x1024, .f32⟩
  | .hbm, ⟨44, _⟩ => ⟨S12288x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩

abbrev nD : Nat := 1
abbrev τ : Topo := Topo.v7x

variable {F : FTy → Type} [FloatOps F]
-- ==== ScanWeight.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanWeightReferenceIdeal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScanOut.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanOutReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ScanProj.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S1024x3072, .bf16⟩
  | .hbm, ⟨5, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanProjReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== OutWeight.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Model.lean ====
/- The gradient of the dilated attention in real numbers: the quantities both programs compute, and the two ways of
   summing over the keys a query sees (all 4096 positions under the mask; the 256 rows of two neighbouring blocks under
   the band). -/
module

public import Idealize.ShloMosaic.Lib.Pointwise
public import Mathlib.Analysis.SpecialFunctions.Log.Basic

@[expose] public section

noncomputable section

namespace Cert.Model

/-- What the gradient is computed from: the rotated queries and keys, the values, the incoming gradient, and the rotary
    angles' cosines and sines. -/
structure Inputs where
  q : Fin 3 → Fin 4096 → Fin 16 → Fin 64 → ℝ
  k : Fin 3 → Fin 4096 → Fin 16 → Fin 64 → ℝ
  v : Fin 3 → Fin 4096 → Fin 16 → Fin 64 → ℝ
  ct : Fin 4096 → Fin 16 → Fin 64 → ℝ
  c : Fin 4096 → Fin 32 → ℝ
  s : Fin 4096 → Fin 32 → ℝ

/-- The dilation of a group. -/
def dil (g : Fin 3) : ℕ := if g = 0 then 1 else if g = 1 then 4 else 16

/-- Query `p` sees key `p'` in group `g`. -/
def Ok (g : Fin 3) (p p' : Fin 4096) : Prop :=
  p'.val ≤ p.val ∧ p.val - p'.val ≤ 128 * dil g ∧ (p.val - p'.val) % dil g = 0

instance (g : Fin 3) (p p' : Fin 4096) : Decidable (Ok g p p') := by unfold Ok; infer_instance

theorem ok_self (g : Fin 3) (p : Fin 4096) : Ok g p p := by simp [Ok]

variable (I : Inputs) (g : Fin 3) (h : Fin 16)

/-- The scaled score. -/
def score (p p' : Fin 4096) : ℝ := (∑ e, I.q g p h e * I.k g p' h e) * (1 / 8)

/-- The masked exponential of the score. -/
def ex (p p' : Fin 4096) : ℝ := if Ok g p p' then Real.exp (score I g h p p') else 0

/-- One group's sum of exponentials. -/
def Z (p : Fin 4096) : ℝ := ∑ p', ex I g h p p'

/-- The sum of exponentials over all groups. -/
def T (p : Fin 4096) : ℝ := ∑ g, Z I g h p

/-- One group's output. -/
def og (p : Fin 4096) (e : Fin 64) : ℝ := ∑ p', ex I g h p p' / Z I g h p * I.v g p' h e

/-- The mixed output against the incoming gradient. -/
def delta (p : Fin 4096) : ℝ := ∑ e, I.ct p h e * ∑ g, Z I g h p / T I h p * og I g h p e

/-- The probability that the mixed attention gives key `p'` of group `g`. -/
def prob (p p' : Fin 4096) : ℝ := ex I g h p p' / T I h p

/-- The incoming gradient against one value row. -/
def up (p p' : Fin 4096) : ℝ := ∑ e, I.ct p h e * I.v g p' h e

/-- The gradient of a score. -/
def ds (p p' : Fin 4096) : ℝ := prob I g h p p' * (up I g h p p' - delta I h p)

/-- The gradient of a rotated query. -/
def dq (p : Fin 4096) (e : Fin 64) : ℝ := (∑ p', ds I g h p p' * I.k g p' h e) * (1 / 8)

/-- The gradient of a rotated key. -/
def dk (p' : Fin 4096) (e : Fin 64) : ℝ := (∑ p, ds I g h p p' * I.q g p h e) * (1 / 8)

/-- The gradient of a value. -/
def dv (p' : Fin 4096) (e : Fin 64) : ℝ := ∑ p, prob I g h p p' * I.ct p h e

/-- The rotation's transpose, applied to a row. -/
def unrope (p : Fin 4096) (x : Fin 64 → ℝ) (e : Fin 64) : ℝ :=
  if he : e.val < 32 then x e * I.c p ⟨e.val, he⟩ + x ⟨e.val + 32, by omega⟩ * I.s p ⟨e.val, he⟩
  else x e * I.c p ⟨e.val - 32, by omega⟩ - x ⟨e.val - 32, by omega⟩ * I.s p ⟨e.val - 32, by omega⟩

/-- The gradient of the projection's part `a` (0 the queries, 1 the keys, 2 the values). -/
def grad (a : Fin 3) (p : Fin 4096) (e : Fin 64) : ℝ :=
  if a = 0 then unrope I p (dq I g h p) e else if a = 1 then unrope I p (dk I g h p) e else dv I g h p e

theorem ex_nonneg (p p' : Fin 4096) : 0 ≤ ex I g h p p' := by
  unfold ex; split
  · exact (Real.exp_pos _).le
  · exact le_rfl

theorem Z_pos (p : Fin 4096) : 0 < Z I g h p := by
  refine Finset.sum_pos' (fun p' _ => ex_nonneg I g h p p') ⟨p, Finset.mem_univ _, ?_⟩
  simp [ex, ok_self, Real.exp_pos]

theorem T_pos (p : Fin 4096) : 0 < T I h p := Finset.sum_pos (fun g _ => Z_pos I g h p) Finset.univ_nonempty

/-- One group's output against the incoming gradient, as a weighted mean over the keys. -/
theorem sum_ct_og (p : Fin 4096) : ∑ e, I.ct p h e * og I g h p e = ∑ p', ex I g h p p' / Z I g h p * up I g h p p' := by
  simp only [og, up, Finset.mul_sum]
  rw [Finset.sum_comm]
  refine Finset.sum_congr rfl fun p' _ => Finset.sum_congr rfl fun e _ => by ring

theorem delta_eq (p : Fin 4096) : delta I h p = ∑ g, Z I g h p / T I h p * ∑ e, I.ct p h e * og I g h p e := by
  simp only [delta, Finset.mul_sum]
  rw [Finset.sum_comm]
  refine Finset.sum_congr rfl fun g _ => Finset.sum_congr rfl fun e _ => by ring

/-! ## A class's rows -/

/-- The position that row `R` of group `g` holds: the classes modulo the dilation one after the other. -/
def pos (g : Fin 3) (R : ℕ) : ℕ := R % (4096 / dil g) * dil g + R / (4096 / dil g)

theorem pos_lt (g : Fin 3) (R : ℕ) (hR : R < 4096) : pos g R < 4096 := by
  fin_cases g
  all_goals simp [pos, dil]; omega

/-- A row of block `b` and the rows of the block before it, within the class. -/
theorem pos_prev (g : Fin 3) (b t : ℕ) (hb : b < 32) (ht : t < 256) (h : b % (32 / dil g) ≠ 0 ∨ 128 ≤ t) :
    pos g (128 * b + t - 128) = (128 * (b % (32 / dil g)) + t - 128) * dil g + b / (32 / dil g) := by
  fin_cases g
  all_goals simp [pos, dil] at h ⊢; omega

/-- A row of block `b` and the rows of the block after it, within the class. -/
theorem pos_next (g : Fin 3) (b t : ℕ) (hb : b < 32) (ht : t < 256) (h : b % (32 / dil g) + 1 ≠ 32 / dil g ∨ t < 128) :
    pos g (128 * b + t) = (128 * (b % (32 / dil g)) + t) * dil g + b / (32 / dil g) := by
  fin_cases g
  all_goals simp [pos, dil] at h ⊢; omega

/-- What query row `i` of block `n` of class `r` sees: the sum over all keys under the mask is the sum over the rows of the
    block before (from row `i` on, if there is one) and of its own block (up to row `i`). -/
theorem sum_keys (g : Fin 3) (r n : ℕ) (hr : r < dil g) (hn : n < 32 / dil g) (i : Fin 128) (p : Fin 4096)
    (hp : p.val = (128 * n + i.val) * dil g + r) (f : Fin 4096 → ℝ) (F : Fin 256 → ℝ)
    (hF : ∀ t : Fin 256, (n ≠ 0 ∨ 128 ≤ t.val) → ∀ p' : Fin 4096, p'.val = (128 * n + t.val - 128) * dil g + r → F t = f p') :
    (∑ t : Fin 256, if (t.val < 128 ∧ i.val ≤ t.val ∧ n ≠ 0) ∨ (128 ≤ t.val ∧ t.val - 128 ≤ i.val) then F t else 0)
      = ∑ p', if Ok g p p' then f p' else 0 := by
  rw [← Finset.sum_filter, ← Finset.sum_filter]
  have hi := i.isLt
  have hp' := p.isLt
  fin_cases g
  all_goals
    simp only [dil, Ok, Fin.isValue, Fin.zero_eta, Fin.mk_one, Fin.reduceFinMk, reduceIte, Nat.reduceDiv, one_ne_zero, show (2 : Fin 3) ≠ 0 by decide, show (2 : Fin 3) ≠ 1 by decide] at hp hF hr hn ⊢
  · refine Finset.sum_bij' (fun t ht => ⟨(128 * n + t.val - 128) * 1 + r, ?_⟩) (fun p' hp' => ⟨i.val + 128 - (p.val - p'.val), ?_⟩) ?_ ?_ ?_ ?_ ?_
    all_goals simp only [Finset.mem_filter, Finset.mem_univ, true_and, Fin.ext_iff] at *
    all_goals intros
    all_goals first
      | omega
      | exact hF _ (by omega) _ rfl
  · refine Finset.sum_bij' (fun t ht => ⟨(128 * n + t.val - 128) * 4 + r, ?_⟩) (fun p' hp' => ⟨i.val + 128 - (p.val - p'.val) / 4, ?_⟩) ?_ ?_ ?_ ?_ ?_
    all_goals simp only [Finset.mem_filter, Finset.mem_univ, true_and, Fin.ext_iff] at *
    all_goals intros
    all_goals first
      | omega
      | exact hF _ (by omega) _ rfl
  · refine Finset.sum_bij' (fun t ht => ⟨(128 * n + t.val - 128) * 16 + r, ?_⟩) (fun p' hp' => ⟨i.val + 128 - (p.val - p'.val) / 16, ?_⟩) ?_ ?_ ?_ ?_ ?_
    all_goals simp only [Finset.mem_filter, Finset.mem_univ, true_and, Fin.ext_iff] at *
    all_goals intros
    all_goals first
      | omega
      | exact hF _ (by omega) _ rfl

/-- Who sees key row `j` of block `n` of class `r`: its own block's rows from `j` on, and the rows up to `j` of the block
    after it, if there is one. -/
theorem sum_queries (g : Fin 3) (r n : ℕ) (hr : r < dil g) (hn : n < 32 / dil g) (j : Fin 128) (p' : Fin 4096)
    (hp : p'.val = (128 * n + j.val) * dil g + r) (f : Fin 4096 → ℝ) (F : Fin 256 → ℝ)
    (hF : ∀ t : Fin 256, (n + 1 ≠ 32 / dil g ∨ t.val < 128) → ∀ p : Fin 4096, p.val = (128 * n + t.val) * dil g + r → F t = f p) :
    (∑ t : Fin 256, if (t.val < 128 ∧ j.val ≤ t.val) ∨ (128 ≤ t.val ∧ t.val - 128 ≤ j.val ∧ n + 1 ≠ 32 / dil g) then F t else 0)
      = ∑ p, if Ok g p p' then f p else 0 := by
  rw [← Finset.sum_filter, ← Finset.sum_filter]
  have hj := j.isLt
  have hp' := p'.isLt
  fin_cases g
  all_goals
    simp only [dil, Ok, Fin.isValue, Fin.zero_eta, Fin.mk_one, Fin.reduceFinMk, reduceIte, Nat.reduceDiv, one_ne_zero, show (2 : Fin 3) ≠ 0 by decide, show (2 : Fin 3) ≠ 1 by decide] at hp hF hr hn ⊢
  · refine Finset.sum_bij' (fun t ht => ⟨(128 * n + t.val) * 1 + r, ?_⟩) (fun p hp => ⟨j.val + (p.val - p'.val), ?_⟩) ?_ ?_ ?_ ?_ ?_
    all_goals simp only [Finset.mem_filter, Finset.mem_univ, true_and, Fin.ext_iff] at *
    all_goals intros
    all_goals first
      | omega
      | exact hF _ (by omega) _ rfl
  · refine Finset.sum_bij' (fun t ht => ⟨(128 * n + t.val) * 4 + r, ?_⟩) (fun p hp => ⟨j.val + (p.val - p'.val) / 4, ?_⟩) ?_ ?_ ?_ ?_ ?_
    all_goals simp only [Finset.mem_filter, Finset.mem_univ, true_and, Fin.ext_iff] at *
    all_goals intros
    all_goals first
      | omega
      | exact hF _ (by omega) _ rfl
  · refine Finset.sum_bij' (fun t ht => ⟨(128 * n + t.val) * 16 + r, ?_⟩) (fun p hp => ⟨j.val + (p.val - p'.val) / 16, ?_⟩) ?_ ?_ ?_ ?_ ?_
    all_goals simp only [Finset.mem_filter, Finset.mem_univ, true_and, Fin.ext_iff] at *
    all_goals intros
    all_goals first
      | omega
      | exact hF _ (by omega) _ rfl

end Cert.Model

end
-- ==== Proof.RefDefs.lean ====
/- The reference's stages by short names, each one step from the ones before it. -/
module

public import proofs.«01_k».proof.Proof.Model
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe

variable (V0 : Valuation τ sig (Elt Ideal))

/-- The two arguments. -/
def arg0 : FVec Ideal S4096x9216 .f32 := V0 (Proc.devRef .tc main_arg0)
def arg1 : FVec Ideal S4096x1024 .f32 := V0 (Proc.devRef .tc main_arg1)

/-- The stage `v0`. -/
def v0 : FVec Ideal S4096x3x3x16x64 .f32 := res_main_v0 V0

theorem v0_eq : v0 V0 = (
    shapeCast _ (arg0 V0) shapeCasts_S4096x9216_S4096x3x3x16x64 : FVec Ideal S4096x3x3x16x64 .f32) := rfl

/-- The stage `v2`. -/
def v2 : FVec Ideal S4096x3x16x64 .f32 := res_main_v2 V0

theorem v2_eq : v2 V0 = (
    shapeCast _ (extractStridedSlice S4096x3x1x16x64 ![0, 0, 0, 0, 0] (v0 V0) slices_S4096x3x3x16x64_S4096x3x1x16x64_0_0_0_0_0)
    shapeCasts_S4096x3x1x16x64_S4096x3x16x64 : FVec Ideal S4096x3x16x64 .f32) := rfl

/-- The stage `v4`. -/
def v4 : FVec Ideal S4096x3x16x64 .f32 := res_main_v4 V0

theorem v4_eq : v4 V0 = (
    shapeCast _ (extractStridedSlice S4096x3x1x16x64 ![0, 0, 1, 0, 0] (v0 V0) slices_S4096x3x3x16x64_S4096x3x1x16x64_0_0_1_0_0)
    shapeCasts_S4096x3x1x16x64_S4096x3x16x64 : FVec Ideal S4096x3x16x64 .f32) := rfl

/-- The stage `v6`. -/
def v6 : FVec Ideal S4096x3x16x64 .f32 := res_main_v6 V0

theorem v6_eq : v6 V0 = (
    shapeCast _ (extractStridedSlice S4096x3x1x16x64 ![0, 0, 2, 0, 0] (v0 V0) slices_S4096x3x3x16x64_S4096x3x1x16x64_0_0_2_0_0)
    shapeCasts_S4096x3x1x16x64_S4096x3x16x64 : FVec Ideal S4096x3x16x64 .f32) := rfl

/-- The stage `v19`. -/
def v19 : FVec Ideal S4096x32 .f32 := res_main_v19 V0

theorem v19_eq : v19 V0 = (
    mulf (broadcastInDim S4096x32 ![0, 1] bcast_S4096x1_S4096x32_0_1 (broadcastInDim S4096x1 ![0] bcast_S4096_S4096x1_0 (sitofp .f32 (iotaInDim
    S4096 32 0)))) (broadcastInDim S4096x32 ![0, 1] bcast_S1x32_S4096x32_0_1 (broadcastInDim S1x32 ![1] bcast_S32_S1x32_1 (Host.powf
    (broadcastInDim S32 ![] bcast_S_S32 (constant S_ .f32 0x461C4000#32)) (mulf (Host.negf (sitofp .f32 (iotaInDim S32 32 0))) (broadcastInDim
    S32 ![] bcast_S_S32 (constant S_ .f32 0x3D000000#32)))))) : FVec Ideal S4096x32 .f32) := rfl

/-- The stage `v21`. -/
def v21 : FVec Ideal S4096x1x1x32 .f32 := res_main_v21 V0

theorem v21_eq : v21 V0 = (
    broadcastInDim S4096x1x1x32 ![0, 3] bcast_S4096x32_S4096x1x1x32_0_3 (Host.cos (v19 V0)) : FVec Ideal S4096x1x1x32 .f32) := rfl

/-- The stage `v23`. -/
def v23 : FVec Ideal S4096x1x1x32 .f32 := res_main_v23 V0

theorem v23_eq : v23 V0 = (
    broadcastInDim S4096x1x1x32 ![0, 3] bcast_S4096x32_S4096x1x1x32_0_3 (Host.sin (v19 V0)) : FVec Ideal S4096x1x1x32 .f32) := rfl

/-- The stage `v24`. -/
def v24 : FVec Ideal S4096x3x16x32 .f32 := res_main_v24 V0

theorem v24_eq : v24 V0 = (
    extractStridedSlice S4096x3x16x32 ![0, 0, 0, 0] (v2 V0) slices_S4096x3x16x64_S4096x3x16x32_0_0_0_0 : FVec Ideal S4096x3x16x32 .f32) := rfl

/-- The stage `v25`. -/
def v25 : FVec Ideal S4096x3x16x32 .f32 := res_main_v25 V0

theorem v25_eq : v25 V0 = (
    extractStridedSlice S4096x3x16x32 ![0, 0, 0, 32] (v2 V0) slices_S4096x3x16x64_S4096x3x16x32_0_0_0_32 : FVec Ideal S4096x3x16x32 .f32) := rfl

/-- The stage `v36`. -/
def v36 : FVec Ideal S4096x3x16x64 .f32 := res_main_v36 V0

theorem v36_eq : v36 V0 = (
    concatenate S4096x3x16x64 3 [⟨S4096x3x16x32, (subf (mulf (v24 V0) (broadcastInDim S4096x3x16x32 ![0, 1, 2, 3]
    bcast_S4096x1x1x32_S4096x3x16x32_0_1_2_3 (v21 V0))) (mulf (v25 V0) (broadcastInDim S4096x3x16x32 ![0, 1, 2, 3]
    bcast_S4096x1x1x32_S4096x3x16x32_0_1_2_3 (v23 V0))))⟩, ⟨S4096x3x16x32, (addf (mulf (v25 V0) (broadcastInDim S4096x3x16x32 ![0, 1, 2, 3]
    bcast_S4096x1x1x32_S4096x3x16x32_0_1_2_3 (v21 V0))) (mulf (v24 V0) (broadcastInDim S4096x3x16x32 ![0, 1, 2, 3]
    bcast_S4096x1x1x32_S4096x3x16x32_0_1_2_3 (v23 V0))))⟩] concatenates_S4096x3x16x32_S4096x3x16x32_S4096x3x16x64_d3 : FVec Ideal S4096x3x16x64 .f32) := rfl

/-- The stage `v49`. -/
def v49 : FVec Ideal S4096x32 .f32 := res_main_v49 V0

theorem v49_eq : v49 V0 = (
    mulf (broadcastInDim S4096x32 ![0, 1] bcast_S4096x1_S4096x32_0_1 (broadcastInDim S4096x1 ![0] bcast_S4096_S4096x1_0 (sitofp .f32 (iotaInDim
    S4096 32 0)))) (broadcastInDim S4096x32 ![0, 1] bcast_S1x32_S4096x32_0_1 (broadcastInDim S1x32 ![1] bcast_S32_S1x32_1 (Host.powf
    (broadcastInDim S32 ![] bcast_S_S32 (constant S_ .f32 0x461C4000#32)) (mulf (Host.negf (sitofp .f32 (iotaInDim S32 32 0))) (broadcastInDim
    S32 ![] bcast_S_S32 (constant S_ .f32 0x3D000000#32)))))) : FVec Ideal S4096x32 .f32) := rfl

/-- The stage `v51`. -/
def v51 : FVec Ideal S4096x1x1x32 .f32 := res_main_v51 V0

theorem v51_eq : v51 V0 = (
    broadcastInDim S4096x1x1x32 ![0, 3] bcast_S4096x32_S4096x1x1x32_0_3 (Host.cos (v49 V0)) : FVec Ideal S4096x1x1x32 .f32) := rfl

/-- The stage `v53`. -/
def v53 : FVec Ideal S4096x1x1x32 .f32 := res_main_v53 V0

theorem v53_eq : v53 V0 = (
    broadcastInDim S4096x1x1x32 ![0, 3] bcast_S4096x32_S4096x1x1x32_0_3 (Host.sin (v49 V0)) : FVec Ideal S4096x1x1x32 .f32) := rfl

/-- The stage `v54`. -/
def v54 : FVec Ideal S4096x3x16x32 .f32 := res_main_v54 V0

theorem v54_eq : v54 V0 = (
    extractStridedSlice S4096x3x16x32 ![0, 0, 0, 0] (v4 V0) slices_S4096x3x16x64_S4096x3x16x32_0_0_0_0 : FVec Ideal S4096x3x16x32 .f32) := rfl

/-- The stage `v55`. -/
def v55 : FVec Ideal S4096x3x16x32 .f32 := res_main_v55 V0

theorem v55_eq : v55 V0 = (
    extractStridedSlice S4096x3x16x32 ![0, 0, 0, 32] (v4 V0) slices_S4096x3x16x64_S4096x3x16x32_0_0_0_32 : FVec Ideal S4096x3x16x32 .f32) := rfl

/-- The stage `v66`. -/
def v66 : FVec Ideal S4096x3x16x64 .f32 := res_main_v66 V0

theorem v66_eq : v66 V0 = (
    concatenate S4096x3x16x64 3 [⟨S4096x3x16x32, (subf (mulf (v54 V0) (broadcastInDim S4096x3x16x32 ![0, 1, 2, 3]
    bcast_S4096x1x1x32_S4096x3x16x32_0_1_2_3 (v51 V0))) (mulf (v55 V0) (broadcastInDim S4096x3x16x32 ![0, 1, 2, 3]
    bcast_S4096x1x1x32_S4096x3x16x32_0_1_2_3 (v53 V0))))⟩, ⟨S4096x3x16x32, (addf (mulf (v55 V0) (broadcastInDim S4096x3x16x32 ![0, 1, 2, 3]
    bcast_S4096x1x1x32_S4096x3x16x32_0_1_2_3 (v51 V0))) (mulf (v54 V0) (broadcastInDim S4096x3x16x32 ![0, 1, 2, 3]
    bcast_S4096x1x1x32_S4096x3x16x32_0_1_2_3 (v53 V0))))⟩] concatenates_S4096x3x16x32_S4096x3x16x32_S4096x3x16x64_d3 : FVec Ideal S4096x3x16x64 .f32) := rfl

/-- The stage `v73`. -/
def v73 : S4096x4096.Idx → BitVec 32 := res_main_v73 V0

theorem v73_eq : v73 V0 = (
    subi (broadcastInDim S4096x4096 ![0, 1] bcast_S4096x1_S4096x4096_0_1 (broadcastInDim S4096x1 ![0] bcast_S4096_S4096x1_0 (iotaInDim S4096 32
    0))) (broadcastInDim S4096x4096 ![0, 1] bcast_S1x4096_S4096x4096_0_1 (broadcastInDim S1x4096 ![1] bcast_S4096_S1x4096_1 (iotaInDim S4096 32
    0))) : S4096x4096.Idx → BitVec 32) := rfl

/-- The stage `call0_v0`. -/
def call0_v0 : S_.Idx → BitVec 32 := res_main_call0_v0 V0

theorem call0_v0_eq : call0_v0 V0 = (
    id (constantI S_ 32 1#32) : S_.Idx → BitVec 32) := rfl

/-- The stage `call0_v2`. -/
def call0_v2 : S_.Idx → BitVec 32 := res_main_call0_v2 V0

theorem call0_v2_eq : call0_v2 V0 = (
    select (cmpi .eq (call0_v0 V0) (constantI S_ 32 0#32)) (constantI S_ 32 1#32) (call0_v0 V0) : S_.Idx → BitVec 32) := rfl

/-- The stage `call0_v4`. -/
def call0_v4 : S4096x4096.Idx → BitVec 32 := res_main_call0_v4 V0

theorem call0_v4_eq : call0_v4 V0 = (
    Host.remsi (v73 V0) (broadcastInDim S4096x4096 ![] bcast_S_S4096x4096 (call0_v2 V0)) : S4096x4096.Idx → BitVec 32) := rfl

/-- The stage `call1_v0`. -/
def call1_v0 : S_.Idx → BitVec 32 := res_main_call1_v0 V0

theorem call1_v0_eq : call1_v0 V0 = (
    id (constantI S_ 32 4#32) : S_.Idx → BitVec 32) := rfl

/-- The stage `call1_v2`. -/
def call1_v2 : S_.Idx → BitVec 32 := res_main_call1_v2 V0

theorem call1_v2_eq : call1_v2 V0 = (
    select (cmpi .eq (call1_v0 V0) (constantI S_ 32 0#32)) (constantI S_ 32 1#32) (call1_v0 V0) : S_.Idx → BitVec 32) := rfl

/-- The stage `call1_v4`. -/
def call1_v4 : S4096x4096.Idx → BitVec 32 := res_main_call1_v4 V0

theorem call1_v4_eq : call1_v4 V0 = (
    Host.remsi (v73 V0) (broadcastInDim S4096x4096 ![] bcast_S_S4096x4096 (call1_v2 V0)) : S4096x4096.Idx → BitVec 32) := rfl

/-- The stage `call2_v0`. -/
def call2_v0 : S_.Idx → BitVec 32 := res_main_call2_v0 V0

theorem call2_v0_eq : call2_v0 V0 = (
    id (constantI S_ 32 16#32) : S_.Idx → BitVec 32) := rfl

/-- The stage `call2_v2`. -/
def call2_v2 : S_.Idx → BitVec 32 := res_main_call2_v2 V0

theorem call2_v2_eq : call2_v2 V0 = (
    select (cmpi .eq (call2_v0 V0) (constantI S_ 32 0#32)) (constantI S_ 32 1#32) (call2_v0 V0) : S_.Idx → BitVec 32) := rfl

/-- The stage `call2_v4`. -/
def call2_v4 : S4096x4096.Idx → BitVec 32 := res_main_call2_v4 V0

theorem call2_v4_eq : call2_v4 V0 = (
    Host.remsi (v73 V0) (broadcastInDim S4096x4096 ![] bcast_S_S4096x4096 (call2_v2 V0)) : S4096x4096.Idx → BitVec 32) := rfl

/-- The stage `v109_1`. -/
def v109_1 : S3x16x4096x4096.Idx → BitVec 1 := res_main_v109_1 V0

theorem v109_1_eq : v109_1 V0 = (
    broadcastInDim S3x16x4096x4096 ![0, 1, 2, 3] bcast_S3x1x4096x4096_S3x16x4096x4096_0_1_2_3 (broadcastInDim S3x1x4096x4096 ![0, 2, 3]
    bcast_S3x4096x4096_S3x1x4096x4096_0_2_3 ((concatenate S3x4096x4096 0 [⟨S1x4096x4096, ((broadcastInDim S1x4096x4096 ![1, 2]
    bcast_S4096x4096_S1x4096x4096_1_2 (andi (andi (cmpi .sge (v73 V0) (broadcastInDim S4096x4096 ![] bcast_S_S4096x4096 (constantI S_ 32 0#32)))
    (cmpi .sle (v73 V0) (broadcastInDim S4096x4096 ![] bcast_S_S4096x4096 (constantI S_ 32 128#32)))) (cmpi .eq (select (andi (cmpi .ne (cmpi
    .slt (call0_v4 V0) (broadcastInDim S4096x4096 ![] bcast_S_S4096x4096 (constantI S_ 32 0#32))) (broadcastInDim S4096x4096 ![]
    bcast_S_S4096x4096 (cmpi .slt (call0_v2 V0) (constantI S_ 32 0#32)))) (cmpi .ne (call0_v4 V0) (broadcastInDim S4096x4096 ![]
    bcast_S_S4096x4096 (constantI S_ 32 0#32)))) (addi (call0_v4 V0) (broadcastInDim S4096x4096 ![] bcast_S_S4096x4096 (call0_v2 V0))) (call0_v4
    V0)) (broadcastInDim S4096x4096 ![] bcast_S_S4096x4096 (constantI S_ 32 0#32))))) : (⟨S1x4096x4096, .i1⟩ : BufTy).Contents (Elt Ideal))⟩,
    ⟨S1x4096x4096, ((broadcastInDim S1x4096x4096 ![1, 2] bcast_S4096x4096_S1x4096x4096_1_2 (andi (andi (cmpi .sge (v73 V0) (broadcastInDim
    S4096x4096 ![] bcast_S_S4096x4096 (constantI S_ 32 0#32))) (cmpi .sle (v73 V0) (broadcastInDim S4096x4096 ![] bcast_S_S4096x4096 (constantI
    S_ 32 512#32)))) (cmpi .eq (select (andi (cmpi .ne (cmpi .slt (call1_v4 V0) (broadcastInDim S4096x4096 ![] bcast_S_S4096x4096 (constantI S_
    32 0#32))) (broadcastInDim S4096x4096 ![] bcast_S_S4096x4096 (cmpi .slt (call1_v2 V0) (constantI S_ 32 0#32)))) (cmpi .ne (call1_v4 V0)
    (broadcastInDim S4096x4096 ![] bcast_S_S4096x4096 (constantI S_ 32 0#32)))) (addi (call1_v4 V0) (broadcastInDim S4096x4096 ![]
    bcast_S_S4096x4096 (call1_v2 V0))) (call1_v4 V0)) (broadcastInDim S4096x4096 ![] bcast_S_S4096x4096 (constantI S_ 32 0#32))))) :
    (⟨S1x4096x4096, .i1⟩ : BufTy).Contents (Elt Ideal))⟩, ⟨S1x4096x4096, ((broadcastInDim S1x4096x4096 ![1, 2] bcast_S4096x4096_S1x4096x4096_1_2
    (andi (andi (cmpi .sge (v73 V0) (broadcastInDim S4096x4096 ![] bcast_S_S4096x4096 (constantI S_ 32 0#32))) (cmpi .sle (v73 V0)
    (broadcastInDim S4096x4096 ![] bcast_S_S4096x4096 (constantI S_ 32 2048#32)))) (cmpi .eq (select (andi (cmpi .ne (cmpi .slt (call2_v4 V0)
    (broadcastInDim S4096x4096 ![] bcast_S_S4096x4096 (constantI S_ 32 0#32))) (broadcastInDim S4096x4096 ![] bcast_S_S4096x4096 (cmpi .slt
    (call2_v2 V0) (constantI S_ 32 0#32)))) (cmpi .ne (call2_v4 V0) (broadcastInDim S4096x4096 ![] bcast_S_S4096x4096 (constantI S_ 32 0#32))))
    (addi (call2_v4 V0) (broadcastInDim S4096x4096 ![] bcast_S_S4096x4096 (call2_v2 V0))) (call2_v4 V0)) (broadcastInDim S4096x4096 ![]
    bcast_S_S4096x4096 (constantI S_ 32 0#32))))) : (⟨S1x4096x4096, .i1⟩ : BufTy).Contents (Elt Ideal))⟩]
    concatenates_S1x4096x4096_S1x4096x4096_S1x4096x4096_S3x4096x4096_d0 : (⟨S3x4096x4096, .i1⟩ : BufTy).Contents (Elt Ideal)))) : S3x16x4096x4096.Idx → BitVec 1) := rfl

/-- The stage `v109_0`. -/
def v109_0 : FVec Ideal S3x16x4096x4096 .f32 := res_main_v109_0 V0

theorem v109_0_eq : v109_0 V0 = (
    select (v109_1 V0) (mulf (Host.dotGeneral dot_S4096x3x16x64_S4096x3x16x64_S3x16x4096x4096_3_3_0_0_12_12 none (v36 V0) (v66 V0))
    (broadcastInDim S3x16x4096x4096 ![] bcast_S_S3x16x4096x4096 (constant S_ .f32 0x3E000000#32))) (broadcastInDim S3x16x4096x4096 ![]
    bcast_S_S3x16x4096x4096 (id (constant S_ .f32 0xFF800000#32))) : FVec Ideal S3x16x4096x4096 .f32) := rfl

/-- The stage `v110`. -/
def v110 : FVec Ideal S3x16x4096 .f32 := res_main_v110 V0

theorem v110_eq : v110 V0 = (
    Host.reduce FloatOps.maximumf (v109_0 V0) (constant S_ .f32 0xFF800000#32) reducesTo_S3x16x4096x4096_S3x16x4096_d3 h_S_ : FVec Ideal S3x16x4096 .f32) := rfl

/-- The stage `v114`. -/
def v114 : FVec Ideal S3x16x4096x4096 .f32 := res_main_v114 V0

theorem v114_eq : v114 V0 = (
    uitofp .f32 (cmpf .oeq (v109_0 V0) (broadcastInDim S3x16x4096x4096 ![0, 1, 2, 3] bcast_S3x16x4096x1_S3x16x4096x4096_0_1_2_3 (shapeCast _
    (v110 V0) shapeCasts_S3x16x4096_S3x16x4096x1))) : FVec Ideal S3x16x4096x4096 .f32) := rfl

/-- The stage `v116`. -/
def v116 : FVec Ideal S3x16x4096x1 .f32 := res_main_v116 V0

theorem v116_eq : v116 V0 = (
    broadcastInDim S3x16x4096x1 ![0, 1, 2] bcast_S3x16x4096_S3x16x4096x1_0_1_2 (v110 V0) : FVec Ideal S3x16x4096x1 .f32) := rfl

/-- The stage `v119`. -/
def v119 : FVec Ideal S3x16x4096x4096 .f32 := res_main_v119 V0

theorem v119_eq : v119 V0 = (
    Host.exp (subf (v109_0 V0) (broadcastInDim S3x16x4096x4096 ![0, 1, 2, 3] bcast_S3x16x4096x1_S3x16x4096x4096_0_1_2_3 (v116 V0))) : FVec Ideal S3x16x4096x4096 .f32) := rfl

/-- The stage `v121`. -/
def v121 : FVec Ideal S3x16x4096x1 .f32 := res_main_v121 V0

theorem v121_eq : v121 V0 = (
    broadcastInDim S3x16x4096x1 ![0, 1, 2] bcast_S3x16x4096_S3x16x4096x1_0_1_2 (Host.reduceAdd (v119 V0) (constant S_ .f32 0x00000000#32)
    reducesTo_S3x16x4096x4096_S3x16x4096_d3 h_S_) : FVec Ideal S3x16x4096x1 .f32) := rfl

/-- The stage `v123`. -/
def v123 : FVec Ideal S3x16x4096x4096 .f32 := res_main_v123 V0

theorem v123_eq : v123 V0 = (
    Host.divf (v119 V0) (broadcastInDim S3x16x4096x4096 ![0, 1, 2, 3] bcast_S3x16x4096x1_S3x16x4096x4096_0_1_2_3 (v121 V0)) : FVec Ideal S3x16x4096x4096 .f32) := rfl

/-- The stage `v127`. -/
def v127 : FVec Ideal S3x16x4096x64 .f32 := res_main_v127 V0

theorem v127_eq : v127 V0 = (
    Host.dotGeneral dot_S3x16x4096x4096_S4096x3x16x64_S3x16x4096x64_3_0_2_3_01_12 none (v123 V0) (v6 V0) : FVec Ideal S3x16x4096x64 .f32) := rfl

/-- The stage `v130`. -/
def v130 : FVec Ideal S3x16x4096 .f32 := res_main_v130 V0

theorem v130_eq : v130 V0 = (
    shapeCast _ (addf (v116 V0) (Host.log (v121 V0))) shapeCasts_S3x16x4096x1_S3x16x4096 : FVec Ideal S3x16x4096 .f32) := rfl

/-- The stage `v131`. -/
def v131 : FVec Ideal S16x4096 .f32 := res_main_v131 V0

theorem v131_eq : v131 V0 = (
    Host.reduce FloatOps.maximumf (v130 V0) (constant S_ .f32 0xFF800000#32) reducesTo_S3x16x4096_S16x4096_d0 h_S_ : FVec Ideal S16x4096 .f32) := rfl

/-- The stage `v151`. -/
def v151 : FVec Ideal S3x16x4096 .f32 := res_main_v151 V0

theorem v151_eq : v151 V0 = (
    Host.exp (subf (v130 V0) (broadcastInDim S3x16x4096 ![0, 1, 2] bcast_S1x16x4096_S3x16x4096_0_1_2 (broadcastInDim S1x16x4096 ![1, 2]
    bcast_S16x4096_S1x16x4096_1_2 (maximumf (broadcastInDim S16x4096 ![] bcast_S_S16x4096 (constant S_ .f32 0xFF800000#32)) (v131 V0))))) : FVec Ideal S3x16x4096 .f32) := rfl

/-- The stage `v153`. -/
def v153 : FVec Ideal S1x16x4096 .f32 := res_main_v153 V0

theorem v153_eq : v153 V0 = (
    broadcastInDim S1x16x4096 ![1, 2] bcast_S16x4096_S1x16x4096_1_2 (Host.reduceAdd (v151 V0) (constant S_ .f32 0x00000000#32)
    reducesTo_S3x16x4096_S16x4096_d0 h_S_) : FVec Ideal S1x16x4096 .f32) := rfl

/-- The stage `v159`. -/
def v159 : FVec Ideal S3x16x4096x1 .f32 := res_main_v159 V0

theorem v159_eq : v159 V0 = (
    broadcastInDim S3x16x4096x1 ![0, 1, 2] bcast_S3x16x4096_S3x16x4096x1_0_1_2 (Host.divf (v151 V0) (broadcastInDim S3x16x4096 ![0, 1, 2]
    bcast_S1x16x4096_S3x16x4096_0_1_2 (v153 V0))) : FVec Ideal S3x16x4096x1 .f32) := rfl

/-- The stage `v166`. -/
def v166 : FVec Ideal S3x16x4096x64 .f32 := res_main_v166 V0

theorem v166_eq : v166 V0 = (
    broadcastInDim S3x16x4096x64 ![1, 2, 3] bcast_S16x4096x64_S3x16x4096x64_1_2_3 (transpose S16x4096x64 [1, 0, 2] (shapeCast _ (arg1 V0)
    shapeCasts_S4096x1024_S4096x16x64) transposes_S4096x16x64_S16x4096x64_1_0_2) : FVec Ideal S3x16x4096x64 .f32) := rfl

/-- The stage `v168`. -/
def v168 : FVec Ideal S3x16x4096x64 .f32 := res_main_v168 V0

theorem v168_eq : v168 V0 = (
    mulf (broadcastInDim S3x16x4096x64 ![0, 1, 2, 3] bcast_S3x16x4096x1_S3x16x4096x64_0_1_2_3 (v159 V0)) (v166 V0) : FVec Ideal S3x16x4096x64 .f32) := rfl

/-- The stage `v172`. -/
def v172 : FVec Ideal S3x16x4096 .f32 := res_main_v172 V0

theorem v172_eq : v172 V0 = (
    Host.reduceAdd (shapeCast _ (Host.reduceAdd (mulf (v166 V0) (v127 V0)) (constant S_ .f32 0x00000000#32)
    reducesTo_S3x16x4096x64_S3x16x4096_d3 h_S_) shapeCasts_S3x16x4096_S3x16x4096x1) (constant S_ .f32 0x00000000#32)
    reducesTo_S3x16x4096x1_S3x16x4096_d3 h_S_ : FVec Ideal S3x16x4096 .f32) := rfl

/-- The stage `v185`. -/
def v185 : FVec Ideal S3x16x4096x1 .f32 := res_main_v185 V0

theorem v185_eq : v185 V0 = (
    broadcastInDim S3x16x4096x1 ![0, 1, 2] bcast_S3x16x4096_S3x16x4096x1_0_1_2 (mulf (addf (Host.divf (v172 V0) (broadcastInDim S3x16x4096 ![0,
    1, 2] bcast_S1x16x4096_S3x16x4096_0_1_2 (v153 V0))) (broadcastInDim S3x16x4096 ![1, 2] bcast_S16x4096_S3x16x4096_1_2 (Host.reduceAdd
    (Host.negf (shapeCast _ (Host.reduceAdd (mulf (mulf (v172 V0) (broadcastInDim S3x16x4096 ![0, 1, 2] bcast_S1x16x4096_S3x16x4096_0_1_2
    (Host.divf (broadcastInDim S1x16x4096 ![] bcast_S_S1x16x4096 (constant S_ .f32 0x3F800000#32)) (mulf (v153 V0) (v153 V0))))) (v151 V0))
    (constant S_ .f32 0x00000000#32) reducesTo_S3x16x4096_S16x4096_d0 h_S_) shapeCasts_S16x4096_S1x16x4096)) (constant S_ .f32 0x00000000#32)
    reducesTo_S1x16x4096_S16x4096_d0 h_S_))) (v151 V0)) : FVec Ideal S3x16x4096x1 .f32) := rfl

/-- The stage `v189`. -/
def v189 : FVec Ideal S3x16x4096x4096 .f32 := res_main_v189 V0

theorem v189_eq : v189 V0 = (
    Host.dotGeneral dot_S3x16x4096x64_S4096x3x16x64_S3x16x4096x4096_3_3_2_0_01_12 none (v168 V0) (v6 V0) : FVec Ideal S3x16x4096x4096 .f32) := rfl

/-- The stage `v202`. -/
def v202 : FVec Ideal S3x16x4096x4096 .f32 := res_main_v202 V0

theorem v202_eq : v202 V0 = (
    mulf (addf (Host.divf (v189 V0) (broadcastInDim S3x16x4096x4096 ![0, 1, 2, 3] bcast_S3x16x4096x1_S3x16x4096x4096_0_1_2_3 (v121 V0)))
    (broadcastInDim S3x16x4096x4096 ![0, 1, 2] bcast_S3x16x4096_S3x16x4096x4096_0_1_2 (Host.reduceAdd (addf (Host.divf (v185 V0) (v121 V0))
    (Host.negf (shapeCast _ (Host.reduceAdd (mulf (mulf (v189 V0) (broadcastInDim S3x16x4096x4096 ![0, 1, 2, 3]
    bcast_S3x16x4096x1_S3x16x4096x4096_0_1_2_3 (Host.divf (broadcastInDim S3x16x4096x1 ![] bcast_S_S3x16x4096x1 (constant S_ .f32
    0x3F800000#32)) (mulf (v121 V0) (v121 V0))))) (v119 V0)) (constant S_ .f32 0x00000000#32) reducesTo_S3x16x4096x4096_S3x16x4096_d3 h_S_)
    shapeCasts_S3x16x4096_S3x16x4096x1))) (constant S_ .f32 0x00000000#32) reducesTo_S3x16x4096x1_S3x16x4096_d3 h_S_))) (v119 V0) : FVec Ideal S3x16x4096x4096 .f32) := rfl

/-- The stage `v214`. -/
def v214 : FVec Ideal S3x16x4096x4096 .f32 := res_main_v214 V0

theorem v214_eq : v214 V0 = (
    mulf (select (v109_1 V0) (addf (v202 V0) (mulf (broadcastInDim S3x16x4096x4096 ![0, 1, 2] bcast_S3x16x4096_S3x16x4096x4096_0_1_2 (Host.divf
    (Host.reduceAdd (addf (v185 V0) (shapeCast _ (Host.reduceAdd (Host.negf (v202 V0)) (constant S_ .f32 0x00000000#32)
    reducesTo_S3x16x4096x4096_S3x16x4096_d3 h_S_) shapeCasts_S3x16x4096_S3x16x4096x1)) (constant S_ .f32 0x00000000#32)
    reducesTo_S3x16x4096x1_S3x16x4096_d3 h_S_) (Host.reduceAdd (v114 V0) (constant S_ .f32 0x00000000#32)
    reducesTo_S3x16x4096x4096_S3x16x4096_d3 h_S_))) (v114 V0))) (broadcastInDim S3x16x4096x4096 ![] bcast_S_S3x16x4096x4096 (constant S_ .f32
    0x00000000#32))) (broadcastInDim S3x16x4096x4096 ![] bcast_S_S3x16x4096x4096 (constant S_ .f32 0x3E000000#32)) : FVec Ideal S3x16x4096x4096 .f32) := rfl

/-- The stage `v216`. -/
def v216 : FVec Ideal S4096x3x16x64 .f32 := res_main_v216 V0

theorem v216_eq : v216 V0 = (
    transpose S4096x3x16x64 [2, 0, 1, 3] (Host.dotGeneral dot_S3x16x4096x4096_S4096x3x16x64_S3x16x4096x64_2_0_3_3_01_12 none (v214 V0) (v36 V0))
    transposes_S3x16x4096x64_S4096x3x16x64_2_0_1_3 : FVec Ideal S4096x3x16x64 .f32) := rfl

/-- The stage `v218`. -/
def v218 : FVec Ideal S4096x3x16x64 .f32 := res_main_v218 V0

theorem v218_eq : v218 V0 = (
    transpose S4096x3x16x64 [2, 0, 1, 3] (Host.dotGeneral dot_S3x16x4096x4096_S4096x3x16x64_S3x16x4096x64_3_0_2_3_01_12 none (v214 V0) (v66 V0))
    transposes_S3x16x4096x64_S4096x3x16x64_2_0_1_3 : FVec Ideal S4096x3x16x64 .f32) := rfl

/-- The stage `v219`. -/
def v219 : FVec Ideal S4096x3x16x32 .f32 := res_main_v219 V0

theorem v219_eq : v219 V0 = (
    extractStridedSlice S4096x3x16x32 ![0, 0, 0, 0] (v216 V0) slices_S4096x3x16x64_S4096x3x16x32_0_0_0_0 : FVec Ideal S4096x3x16x32 .f32) := rfl

/-- The stage `v220`. -/
def v220 : FVec Ideal S4096x3x16x32 .f32 := res_main_v220 V0

theorem v220_eq : v220 V0 = (
    extractStridedSlice S4096x3x16x32 ![0, 0, 0, 32] (v216 V0) slices_S4096x3x16x64_S4096x3x16x32_0_0_0_32 : FVec Ideal S4096x3x16x32 .f32) := rfl

/-- The stage `v235`. -/
def v235 : FVec Ideal S4096x3x16x32 .f32 := res_main_v235 V0

theorem v235_eq : v235 V0 = (
    extractStridedSlice S4096x3x16x32 ![0, 0, 0, 0] (v218 V0) slices_S4096x3x16x64_S4096x3x16x32_0_0_0_0 : FVec Ideal S4096x3x16x32 .f32) := rfl

/-- The stage `v236`. -/
def v236 : FVec Ideal S4096x3x16x32 .f32 := res_main_v236 V0

theorem v236_eq : v236 V0 = (
    extractStridedSlice S4096x3x16x32 ![0, 0, 0, 32] (v218 V0) slices_S4096x3x16x64_S4096x3x16x32_0_0_0_32 : FVec Ideal S4096x3x16x32 .f32) := rfl

/-- The stage `v255`. -/
def v255 : FVec Ideal S4096x3x3072 .f32 := res_main_v255 V0

theorem v255_eq : v255 V0 = (
    shapeCast _ ((concatenate S4096x3x3x16x64 2 [⟨S4096x3x1x16x64, ((broadcastInDim S4096x3x1x16x64 ![0, 1, 3, 4]
    bcast_S4096x3x16x64_S4096x3x1x16x64_0_1_3_4 (addf (pad S4096x3x16x64 ![0, 0, 0, 32] ![0, 0, 0, 0] ![0, 0, 0, 0] (addf (mulf (v236 V0)
    (broadcastInDim S4096x3x16x32 ![0, 1, 2, 3] bcast_S4096x1x1x32_S4096x3x16x32_0_1_2_3 (v21 V0))) (mulf (Host.negf (v235 V0)) (broadcastInDim
    S4096x3x16x32 ![0, 1, 2, 3] bcast_S4096x1x1x32_S4096x3x16x32_0_1_2_3 (v23 V0)))) (constant S_ .f32 0x00000000#32)
    pads_S4096x3x16x32_S4096x3x16x64_000_000_000_3200 h_S_) (pad S4096x3x16x64 ![0, 0, 0, 0] ![0, 0, 0, 32] ![0, 0, 0, 0] (addf (mulf (v236 V0)
    (broadcastInDim S4096x3x16x32 ![0, 1, 2, 3] bcast_S4096x1x1x32_S4096x3x16x32_0_1_2_3 (v23 V0))) (mulf (v235 V0) (broadcastInDim
    S4096x3x16x32 ![0, 1, 2, 3] bcast_S4096x1x1x32_S4096x3x16x32_0_1_2_3 (v21 V0)))) (constant S_ .f32 0x00000000#32)
    pads_S4096x3x16x32_S4096x3x16x64_000_000_000_0320 h_S_))) : (⟨S4096x3x1x16x64, .f32⟩ : BufTy).Contents (Elt Ideal))⟩, ⟨S4096x3x1x16x64,
    ((broadcastInDim S4096x3x1x16x64 ![0, 1, 3, 4] bcast_S4096x3x16x64_S4096x3x1x16x64_0_1_3_4 (addf (pad S4096x3x16x64 ![0, 0, 0, 32] ![0, 0,
    0, 0] ![0, 0, 0, 0] (addf (mulf (v220 V0) (broadcastInDim S4096x3x16x32 ![0, 1, 2, 3] bcast_S4096x1x1x32_S4096x3x16x32_0_1_2_3 (v51 V0)))
    (mulf (Host.negf (v219 V0)) (broadcastInDim S4096x3x16x32 ![0, 1, 2, 3] bcast_S4096x1x1x32_S4096x3x16x32_0_1_2_3 (v53 V0)))) (constant S_
    .f32 0x00000000#32) pads_S4096x3x16x32_S4096x3x16x64_000_000_000_3200 h_S_) (pad S4096x3x16x64 ![0, 0, 0, 0] ![0, 0, 0, 32] ![0, 0, 0, 0]
    (addf (mulf (v220 V0) (broadcastInDim S4096x3x16x32 ![0, 1, 2, 3] bcast_S4096x1x1x32_S4096x3x16x32_0_1_2_3 (v53 V0))) (mulf (v219 V0)
    (broadcastInDim S4096x3x16x32 ![0, 1, 2, 3] bcast_S4096x1x1x32_S4096x3x16x32_0_1_2_3 (v51 V0)))) (constant S_ .f32 0x00000000#32)
    pads_S4096x3x16x32_S4096x3x16x64_000_000_000_0320 h_S_))) : (⟨S4096x3x1x16x64, .f32⟩ : BufTy).Contents (Elt Ideal))⟩, ⟨S4096x3x1x16x64,
    ((broadcastInDim S4096x3x1x16x64 ![0, 1, 3, 4] bcast_S4096x3x16x64_S4096x3x1x16x64_0_1_3_4 (transpose S4096x3x16x64 [3, 0, 1, 2]
    (Host.dotGeneral dot_S3x16x4096x64_S3x16x4096x4096_S3x16x64x4096_2_2_3_3_01_01 none (v168 V0) (v123 V0))
    transposes_S3x16x64x4096_S4096x3x16x64_3_0_1_2)) : (⟨S4096x3x1x16x64, .f32⟩ : BufTy).Contents (Elt Ideal))⟩]
    concatenates_S4096x3x1x16x64_S4096x3x1x16x64_S4096x3x1x16x64_S4096x3x3x16x64_d2 : (⟨S4096x3x3x16x64, .f32⟩ : BufTy).Contents (Elt Ideal)))
    shapeCasts_S4096x3x3x16x64_S4096x3x3072 : FVec Ideal S4096x3x3072 .f32) := rfl

end Cert.Ref

end
-- ==== Proof.RefAt.lean ====
/- The reference's stages at an index. -/
module

public import proofs.«01_k».proof.Proof.RefDefs

@[expose] public section

set_option maxRecDepth 16384

noncomputable section

namespace Cert.Ref

open Cert.ReferenceIdeal Cert.ReferenceIdeal.Gen Idealize.ShloMosaic Idealize.ShloMosaic.TcCoe

variable (V0 : Valuation τ sig (Elt Ideal))

theorem read_36 (p : Fin 4096) (g : Fin 3) (h : Fin 16) (e : Fin 64) (xv21 : FVec Ideal S4096x1x1x32 .f32) (xv23 : FVec Ideal S4096x1x1x32 .f32) (xv2 : FVec Ideal S4096x3x16x64 .f32) :
    ((concatenate S4096x3x16x64 3 [⟨S4096x3x16x32, (subf (mulf (extractStridedSlice S4096x3x16x32 ![0, 0, 0, 0] (xv2) slices_S4096x3x16x64_S4096x3x16x32_0_0_0_0) (broadcastInDim S4096x3x16x32 ![0, 1, 2, 3]
    bcast_S4096x1x1x32_S4096x3x16x32_0_1_2_3 (xv21))) (mulf (extractStridedSlice S4096x3x16x32 ![0, 0, 0, 32] (xv2) slices_S4096x3x16x64_S4096x3x16x32_0_0_0_32) (broadcastInDim S4096x3x16x32 ![0, 1, 2, 3]
    bcast_S4096x1x1x32_S4096x3x16x32_0_1_2_3 (xv23))))⟩, ⟨S4096x3x16x32, (addf (mulf (extractStridedSlice S4096x3x16x32 ![0, 0, 0, 32] (xv2) slices_S4096x3x16x64_S4096x3x16x32_0_0_0_32) (broadcastInDim S4096x3x16x32 ![0, 1, 2, 3]
    bcast_S4096x1x1x32_S4096x3x16x32_0_1_2_3 (xv21))) (mulf (extractStridedSlice S4096x3x16x32 ![0, 0, 0, 0] (xv2) slices_S4096x3x16x64_S4096x3x16x32_0_0_0_0) (broadcastInDim S4096x3x16x32 ![0, 1, 2, 3]
    bcast_S4096x1x1x32_S4096x3x16x32_0_1_2_3 (xv23))))⟩] concatenates_S4096x3x16x32_S4096x3x16x32_S4096x3x16x64_d3) : FVec Ideal S4096x3x16x64 .f32) (ix4 p g h e)
    = (if he : (e : ℕ) < 32 then xv2 (ix4 p g h e) * xv21 (ix4 p 0 0 ⟨e, he⟩) - xv2 (ix4 p g h ⟨32 + e, by omega⟩) * xv23 (ix4 p 0 0 ⟨e, he⟩)
      else xv2 (ix4 p g h ⟨32 + (e - 32), by omega⟩) * xv21 (ix4 p 0 0 ⟨e - 32, by omega⟩) + xv2 (ix4 p g h ⟨e - 32, by omega⟩) * xv23 (ix4 p 0 0 ⟨e - 32, by omega⟩) : EReal) := by
  pointwise

theorem at_36 (p : Fin 4096) (g : Fin 3) (h : Fin 16) (e : Fin 64) :
    v36 V0 (ix4 p g h e) = (if he : (e : ℕ) < 32 then v2 V0 (ix4 p g h e) * v21 V0 (ix4 p 0 0 ⟨e, he⟩) - v2 V0 (ix4 p g h ⟨32 + e, by omega⟩) * v23 V0 (ix4 p 0 0 ⟨e, he⟩)
      else v2 V0 (ix4 p g h ⟨32 + (e - 32), by omega⟩) * v21 V0 (ix4 p 0 0 ⟨e - 32, by omega⟩) + v2 V0 (ix4 p g h ⟨e - 32, by omega⟩) * v23 V0 (ix4 p 0 0 ⟨e - 32, by omega⟩) : EReal) := by
  rw [v36_eq, v24_eq, v25_eq]
  exact read_36 p g h e (v21 V0) (v23 V0) (v2 V0)

theorem read_66 (p : Fin 4096) (g : Fin 3) (h : Fin 16) (e : Fin 64) (xv51 : FVec Ideal S4096x1x1x32 .f32) (xv53 : FVec Ideal S4096x1x1x32 .f32) (xv4 : FVec Ideal S4096x3x16x64 .f32) :
    ((concatenate S4096x3x16x64 3 [⟨S4096x3x16x32, (subf (mulf (extractStridedSlice S4096x3x16x32 ![0, 0, 0, 0] (xv4) slices_S4096x3x16x64_S4096x3x16x32_0_0_0_0) (broadcastInDim S4096x3x16x32 ![0, 1, 2, 3]
    bcast_S4096x1x1x32_S4096x3x16x32_0_1_2_3 (xv51))) (mulf (extractStridedSlice S4096x3x16x32 ![0, 0, 0, 32] (xv4) slices_S4096x3x16x64_S4096x3x16x32_0_0_0_32) (broadcastInDim S4096x3x16x32 ![0, 1, 2, 3]
    bcast_S4096x1x1x32_S4096x3x16x32_0_1_2_3 (xv53))))⟩, ⟨S4096x3x16x32, (addf (mulf (extractStridedSlice S4096x3x16x32 ![0, 0, 0, 32] (xv4) slices_S4096x3x16x64_S4096x3x16x32_0_0_0_32) (broadcastInDim S4096x3x16x32 ![0, 1, 2, 3]
    bcast_S4096x1x1x32_S4096x3x16x32_0_1_2_3 (xv51))) (mulf (extractStridedSlice S4096x3x16x32 ![0, 0, 0, 0] (xv4) slices_S4096x3x16x64_S4096x3x16x32_0_0_0_0) (broadcastInDim S4096x3x16x32 ![0, 1, 2, 3]
    bcast_S4096x1x1x32_S4096x3x16x32_0_1_2_3 (xv53))))⟩] concatenates_S4096x3x16x32_S4096x3x16x32_S4096x3x16x64_d3) : FVec Ideal S4096x3x16x64 .f32) (ix4 p g h e)
    = (if he : (e : ℕ) < 32 then xv4 (ix4 p g h e) * xv51 (ix4 p 0 0 ⟨e, he⟩) - xv4 (ix4 p g h ⟨32 + e, by omega⟩) * xv53 (ix4 p 0 0 ⟨e, he⟩)
      else xv4 (ix4 p g h ⟨32 + (e - 32), by omega⟩) * xv51 (ix4 p 0 0 ⟨e - 32, by omega⟩) + xv4 (ix4 p g h ⟨e - 32, by omega⟩) * xv53 (ix4 p 0 0 ⟨e - 32, by omega⟩) : EReal) := by
  pointwise

theorem at_66 (p : Fin 4096) (g : Fin 3) (h : Fin 16) (e : Fin 64) :
    v66 V0 (ix4 p g h e) = (if he : (e : ℕ) < 32 then v4 V0 (ix4 p g h e) * v51 V0 (ix4 p 0 0 ⟨e, he⟩) - v4 V0 (ix4 p g h ⟨32 + e, by omega⟩) * v53 V0 (ix4 p 0 0 ⟨e, he⟩)
      else v4 V0 (ix4 p g h ⟨32 + (e - 32), by omega⟩) * v51 V0 (ix4 p 0 0 ⟨e - 32, by omega⟩) + v4 V0 (ix4 p g h ⟨e - 32, by omega⟩) * v53 V0 (ix4 p 0 0 ⟨e - 32, by omega⟩) : EReal) := by
  rw [v66_eq, v54_eq, v55_eq]
  exact read_66 p g h e (v51 V0) (v53 V0) (v4 V0)

theorem read_116 (g : Fin 3) (h : Fin 16) (p : Fin 4096) (xv110 : FVec Ideal S3x16x4096 .f32) :
    ((broadcastInDim S3x16x4096x1 ![0, 1, 2] bcast_S3x16x4096_S3x16x4096x1_0_1_2 (xv110)) : FVec Ideal S3x16x4096x1 .f32) (ix4 g h p 0)
    = (xv110 (ix3 g h p) : EReal) := by
  pointwise

theorem at_116 (g : Fin 3) (h : Fin 16) (p : Fin 4096) :
    v116 V0 (ix4 g h p 0) = (v110 V0 (ix3 g h p) : EReal) := by
  rw [v116_eq]
  exact read_116 g h p (v110 V0)

theorem read_119 (g : Fin 3) (h : Fin 16) (p p' : Fin 4096) (xv109_0 : FVec Ideal S3x16x4096x4096 .f32) (xv116 : FVec Ideal S3x16x4096x1 .f32) :
    ((Host.exp (subf (xv109_0) (broadcastInDim S3x16x4096x4096 ![0, 1, 2, 3] bcast_S3x16x4096x1_S3x16x4096x4096_0_1_2_3 (xv116)))) : FVec Ideal S3x16x4096x4096 .f32) (ix4 g h p p')
    = (Ideal.exp (xv109_0 (ix4 g h p p') - xv116 (ix4 g h p 0)) : EReal) := by
  pointwise

theorem at_119 (g : Fin 3) (h : Fin 16) (p p' : Fin 4096) :
    v119 V0 (ix4 g h p p') = (Ideal.exp (v109_0 V0 (ix4 g h p p') - v116 V0 (ix4 g h p 0)) : EReal) := by
  rw [v119_eq]
  exact read_119 g h p p' (v109_0 V0) (v116 V0)

theorem read_121 (g : Fin 3) (h : Fin 16) (p : Fin 4096) (xv119 : FVec Ideal S3x16x4096x4096 .f32) :
    ((broadcastInDim S3x16x4096x1 ![0, 1, 2] bcast_S3x16x4096_S3x16x4096x1_0_1_2 (Host.reduceAdd (xv119) (constant S_ .f32 0x00000000#32)
    reducesTo_S3x16x4096x4096_S3x16x4096_d3 h_S_)) : FVec Ideal S3x16x4096x1 .f32) (ix4 g h p 0)
    = (∑ x : Fin 4096, xv119 (ix4 g h p x) : EReal) := by
  pointwise

theorem at_121 (g : Fin 3) (h : Fin 16) (p : Fin 4096) :
    v121 V0 (ix4 g h p 0) = (∑ x : Fin 4096, v119 V0 (ix4 g h p x) : EReal) := by
  rw [v121_eq]
  exact read_121 g h p (v119 V0)

theorem read_123 (g : Fin 3) (h : Fin 16) (p p' : Fin 4096) (xv119 : FVec Ideal S3x16x4096x4096 .f32) (xv121 : FVec Ideal S3x16x4096x1 .f32) :
    ((Host.divf (xv119) (broadcastInDim S3x16x4096x4096 ![0, 1, 2, 3] bcast_S3x16x4096x1_S3x16x4096x4096_0_1_2_3 (xv121))) : FVec Ideal S3x16x4096x4096 .f32) (ix4 g h p p')
    = (Ideal.div (xv119 (ix4 g h p p')) (xv121 (ix4 g h p 0)) : EReal) := by
  pointwise

theorem at_123 (g : Fin 3) (h : Fin 16) (p p' : Fin 4096) :
    v123 V0 (ix4 g h p p') = (Ideal.div (v119 V0 (ix4 g h p p')) (v121 V0 (ix4 g h p 0)) : EReal) := by
  rw [v123_eq]
  exact read_123 g h p p' (v119 V0) (v121 V0)

theorem read_127 (g : Fin 3) (h : Fin 16) (p : Fin 4096) (e : Fin 64) (xv123 : FVec Ideal S3x16x4096x4096 .f32) (xv6 : FVec Ideal S4096x3x16x64 .f32) :
    ((Host.dotGeneral dot_S3x16x4096x4096_S4096x3x16x64_S3x16x4096x64_3_0_2_3_01_12 none (xv123) (xv6)) : FVec Ideal S3x16x4096x64 .f32) (ix4 g h p e)
    = (∑ x : Fin 4096, xv123 (ix4 g h p x) * xv6 (ix4 x g h e) : EReal) := by
  pointwise

theorem at_127 (g : Fin 3) (h : Fin 16) (p : Fin 4096) (e : Fin 64) :
    v127 V0 (ix4 g h p e) = (∑ x : Fin 4096, v123 V0 (ix4 g h p x) * v6 V0 (ix4 x g h e) : EReal) := by
  rw [v127_eq]
  exact read_127 g h p e (v123 V0) (v6 V0)

theorem read_130 (g : Fin 3) (h : Fin 16) (p : Fin 4096) (xv116 : FVec Ideal S3x16x4096x1 .f32) (xv121 : FVec Ideal S3x16x4096x1 .f32) :
    ((shapeCast _ (addf (xv116) (Host.log (xv121))) shapeCasts_S3x16x4096x1_S3x16x4096) : FVec Ideal S3x16x4096 .f32) (ix3 g h p)
    = (xv116 (ix4 g h p 0) + Ideal.log (xv121 (ix4 g h p 0)) : EReal) := by
  pointwise

theorem at_130 (g : Fin 3) (h : Fin 16) (p : Fin 4096) :
    v130 V0 (ix3 g h p) = (v116 V0 (ix4 g h p 0) + Ideal.log (v121 V0 (ix4 g h p 0)) : EReal) := by
  rw [v130_eq]
  exact read_130 g h p (v116 V0) (v121 V0)

theorem read_151 (g : Fin 3) (h : Fin 16) (p : Fin 4096) (xv130 : FVec Ideal S3x16x4096 .f32) (xv131 : FVec Ideal S16x4096 .f32) :
    ((Host.exp (subf (xv130) (broadcastInDim S3x16x4096 ![0, 1, 2] bcast_S1x16x4096_S3x16x4096_0_1_2 (broadcastInDim S1x16x4096 ![1, 2]
    bcast_S16x4096_S1x16x4096_1_2 (maximumf (broadcastInDim S16x4096 ![] bcast_S_S16x4096 (constant S_ .f32 0xFF800000#32)) (xv131)))))) : FVec Ideal S3x16x4096 .f32) (ix3 g h p)
    = (Ideal.exp (xv130 (ix3 g h p) - max (Ideal.ofBits .f32 0xFF800000#32) (xv131 (ix2 h p))) : EReal) := by
  pointwise

theorem at_151 (g : Fin 3) (h : Fin 16) (p : Fin 4096) :
    v151 V0 (ix3 g h p) = (Ideal.exp (v130 V0 (ix3 g h p) - max (Ideal.ofBits .f32 0xFF800000#32) (v131 V0 (ix2 h p))) : EReal) := by
  rw [v151_eq]
  exact read_151 g h p (v130 V0) (v131 V0)

theorem read_153 (h : Fin 16) (p : Fin 4096) (xv151 : FVec Ideal S3x16x4096 .f32) :
    ((broadcastInDim S1x16x4096 ![1, 2] bcast_S16x4096_S1x16x4096_1_2 (Host.reduceAdd (xv151) (constant S_ .f32 0x00000000#32)
    reducesTo_S3x16x4096_S16x4096_d0 h_S_)) : FVec Ideal S1x16x4096 .f32) (ix3 0 h p)
    = (∑ x : Fin 3, xv151 (ix3 x h p) : EReal) := by
  pointwise

theorem at_153 (h : Fin 16) (p : Fin 4096) :
    v153 V0 (ix3 0 h p) = (∑ x : Fin 3, v151 V0 (ix3 x h p) : EReal) := by
  rw [v153_eq]
  exact read_153 h p (v151 V0)

theorem read_159 (g : Fin 3) (h : Fin 16) (p : Fin 4096) (xv151 : FVec Ideal S3x16x4096 .f32) (xv153 : FVec Ideal S1x16x4096 .f32) :
    ((broadcastInDim S3x16x4096x1 ![0, 1, 2] bcast_S3x16x4096_S3x16x4096x1_0_1_2 (Host.divf (xv151) (broadcastInDim S3x16x4096 ![0, 1, 2]
    bcast_S1x16x4096_S3x16x4096_0_1_2 (xv153)))) : FVec Ideal S3x16x4096x1 .f32) (ix4 g h p 0)
    = (Ideal.div (xv151 (ix3 g h p)) (xv153 (ix3 0 h p)) : EReal) := by
  pointwise

theorem at_159 (g : Fin 3) (h : Fin 16) (p : Fin 4096) :
    v159 V0 (ix4 g h p 0) = (Ideal.div (v151 V0 (ix3 g h p)) (v153 V0 (ix3 0 h p)) : EReal) := by
  rw [v159_eq]
  exact read_159 g h p (v151 V0) (v153 V0)

theorem read_166 (g : Fin 3) (h : Fin 16) (p : Fin 4096) (e : Fin 64) (xarg1 : FVec Ideal S4096x1024 .f32) :
    ((broadcastInDim S3x16x4096x64 ![1, 2, 3] bcast_S16x4096x64_S3x16x4096x64_1_2_3 (transpose S16x4096x64 [1, 0, 2] (shapeCast _ (xarg1)
    shapeCasts_S4096x1024_S4096x16x64) transposes_S4096x16x64_S16x4096x64_1_0_2)) : FVec Ideal S3x16x4096x64 .f32) (ix4 g h p e)
    = (xarg1 (ix2 p ⟨h * 64 + e, by omega⟩) : EReal) := by
  pointwise

theorem at_166 (g : Fin 3) (h : Fin 16) (p : Fin 4096) (e : Fin 64) :
    v166 V0 (ix4 g h p e) = (arg1 V0 (ix2 p ⟨h * 64 + e, by omega⟩) : EReal) := by
  rw [v166_eq]
  exact read_166 g h p e (arg1 V0)

theorem read_168 (g : Fin 3) (h : Fin 16) (p : Fin 4096) (e : Fin 64) (xv159 : FVec Ideal S3x16x4096x1 .f32) (xv166 : FVec Ideal S3x16x4096x64 .f32) :
    ((mulf (broadcastInDim S3x16x4096x64 ![0, 1, 2, 3] bcast_S3x16x4096x1_S3x16x4096x64_0_1_2_3 (xv159)) (xv166)) : FVec Ideal S3x16x4096x64 .f32) (ix4 g h p e)
    = (xv159 (ix4 g h p 0) * xv166 (ix4 g h p e) : EReal) := by
  pointwise

theorem at_168 (g : Fin 3) (h : Fin 16) (p : Fin 4096) (e : Fin 64) :
    v168 V0 (ix4 g h p e) = (v159 V0 (ix4 g h p 0) * v166 V0 (ix4 g h p e) : EReal) := by
  rw [v168_eq]
  exact read_168 g h p e (v159 V0) (v166 V0)

theorem read_172 (g : Fin 3) (h : Fin 16) (p : Fin 4096) (xv166 : FVec Ideal S3x16x4096x64 .f32) (xv127 : FVec Ideal S3x16x4096x64 .f32) :
    ((Host.reduceAdd (shapeCast _ (Host.reduceAdd (mulf (xv166) (xv127)) (constant S_ .f32 0x00000000#32)
    reducesTo_S3x16x4096x64_S3x16x4096_d3 h_S_) shapeCasts_S3x16x4096_S3x16x4096x1) (constant S_ .f32 0x00000000#32)
    reducesTo_S3x16x4096x1_S3x16x4096_d3 h_S_) : FVec Ideal S3x16x4096 .f32) (ix3 g h p)
    = (∑ _x : Fin 1, ∑ x : Fin 64, xv166 (ix4 g h p x) * xv127 (ix4 g h p x) : EReal) := by
  pointwise

theorem at_172 (g : Fin 3) (h : Fin 16) (p : Fin 4096) :
    v172 V0 (ix3 g h p) = (∑ _x : Fin 1, ∑ x : Fin 64, v166 V0 (ix4 g h p x) * v127 V0 (ix4 g h p x) : EReal) := by
  rw [v172_eq]
  exact read_172 g h p (v166 V0) (v127 V0)

theorem read_185 (g : Fin 3) (h : Fin 16) (p : Fin 4096) (xv172 : FVec Ideal S3x16x4096 .f32) (xv153 : FVec Ideal S1x16x4096 .f32) (xv151 : FVec Ideal S3x16x4096 .f32) :
    ((broadcastInDim S3x16x4096x1 ![0, 1, 2] bcast_S3x16x4096_S3x16x4096x1_0_1_2 (mulf (addf (Host.divf (xv172) (broadcastInDim S3x16x4096 ![0,
    1, 2] bcast_S1x16x4096_S3x16x4096_0_1_2 (xv153))) (broadcastInDim S3x16x4096 ![1, 2] bcast_S16x4096_S3x16x4096_1_2 (Host.reduceAdd
    (Host.negf (shapeCast _ (Host.reduceAdd (mulf (mulf (xv172) (broadcastInDim S3x16x4096 ![0, 1, 2] bcast_S1x16x4096_S3x16x4096_0_1_2
    (Host.divf (broadcastInDim S1x16x4096 ![] bcast_S_S1x16x4096 (constant S_ .f32 0x3F800000#32)) (mulf (xv153) (xv153))))) (xv151))
    (constant S_ .f32 0x00000000#32) reducesTo_S3x16x4096_S16x4096_d0 h_S_) shapeCasts_S16x4096_S1x16x4096)) (constant S_ .f32 0x00000000#32)
    reducesTo_S1x16x4096_S16x4096_d0 h_S_))) (xv151))) : FVec Ideal S3x16x4096x1 .f32) (ix4 g h p 0)
    = ((Ideal.div (xv172 (ix3 g h p)) (xv153 (ix3 0 h p))
      + ∑ _x : Fin 1, -∑ x : Fin 3, xv172 (ix3 x h p) * Ideal.div 1 (xv153 (ix3 0 h p) * xv153 (ix3 0 h p)) * xv151 (ix3 x h p))
      * xv151 (ix3 g h p) : EReal) := by
  pointwise

theorem at_185 (g : Fin 3) (h : Fin 16) (p : Fin 4096) :
    v185 V0 (ix4 g h p 0) = ((Ideal.div (v172 V0 (ix3 g h p)) (v153 V0 (ix3 0 h p))
      + ∑ _x : Fin 1, -∑ x : Fin 3, v172 V0 (ix3 x h p) * Ideal.div 1 (v153 V0 (ix3 0 h p) * v153 V0 (ix3 0 h p)) * v151 V0 (ix3 x h p))
      * v151 V0 (ix3 g h p) : EReal) := by
  rw [v185_eq]
  exact read_185 g h p (v172 V0) (v153 V0) (v151 V0)

theorem read_189 (g : Fin 3) (h : Fin 16) (p p' : Fin 4096) (xv168 : FVec Ideal S3x16x4096x64 .f32) (xv6 : FVec Ideal S4096x3x16x64 .f32) :
    ((Host.dotGeneral dot_S3x16x4096x64_S4096x3x16x64_S3x16x4096x4096_3_3_2_0_01_12 none (xv168) (xv6)) : FVec Ideal S3x16x4096x4096 .f32) (ix4 g h p p')
    = (∑ x : Fin 64, xv168 (ix4 g h p x) * xv6 (ix4 p' g h x) : EReal) := by
  pointwise

theorem at_189 (g : Fin 3) (h : Fin 16) (p p' : Fin 4096) :
    v189 V0 (ix4 g h p p') = (∑ x : Fin 64, v168 V0 (ix4 g h p x) * v6 V0 (ix4 p' g h x) : EReal) := by
  rw [v189_eq]
  exact read_189 g h p p' (v168 V0) (v6 V0)

theorem read_202 (g : Fin 3) (h : Fin 16) (p p' : Fin 4096) (xv189 : FVec Ideal S3x16x4096x4096 .f32) (xv121 : FVec Ideal S3x16x4096x1 .f32) (xv185 : FVec Ideal S3x16x4096x1 .f32) (xv119 : FVec Ideal S3x16x4096x4096 .f32) :
    ((mulf (addf (Host.divf (xv189) (broadcastInDim S3x16x4096x4096 ![0, 1, 2, 3] bcast_S3x16x4096x1_S3x16x4096x4096_0_1_2_3 (xv121)))
    (broadcastInDim S3x16x4096x4096 ![0, 1, 2] bcast_S3x16x4096_S3x16x4096x4096_0_1_2 (Host.reduceAdd (addf (Host.divf (xv185) (xv121))
    (Host.negf (shapeCast _ (Host.reduceAdd (mulf (mulf (xv189) (broadcastInDim S3x16x4096x4096 ![0, 1, 2, 3]
    bcast_S3x16x4096x1_S3x16x4096x4096_0_1_2_3 (Host.divf (broadcastInDim S3x16x4096x1 ![] bcast_S_S3x16x4096x1 (constant S_ .f32
    0x3F800000#32)) (mulf (xv121) (xv121))))) (xv119)) (constant S_ .f32 0x00000000#32) reducesTo_S3x16x4096x4096_S3x16x4096_d3 h_S_)
    shapeCasts_S3x16x4096_S3x16x4096x1))) (constant S_ .f32 0x00000000#32) reducesTo_S3x16x4096x1_S3x16x4096_d3 h_S_))) (xv119)) : FVec Ideal S3x16x4096x4096 .f32) (ix4 g h p p')
    = ((Ideal.div (xv189 (ix4 g h p p')) (xv121 (ix4 g h p 0))
      + ∑ y : Fin 1, (Ideal.div (xv185 (ix4 g h p y)) (xv121 (ix4 g h p y))
        + -∑ x : Fin 4096, xv189 (ix4 g h p x) * Ideal.div 1 (xv121 (ix4 g h p 0) * xv121 (ix4 g h p 0)) * xv119 (ix4 g h p x)))
      * xv119 (ix4 g h p p') : EReal) := by
  pointwise

theorem at_202 (g : Fin 3) (h : Fin 16) (p p' : Fin 4096) :
    v202 V0 (ix4 g h p p') = ((Ideal.div (v189 V0 (ix4 g h p p')) (v121 V0 (ix4 g h p 0))
      + ∑ y : Fin 1, (Ideal.div (v185 V0 (ix4 g h p y)) (v121 V0 (ix4 g h p y))
        + -∑ x : Fin 4096, v189 V0 (ix4 g h p x) * Ideal.div 1 (v121 V0 (ix4 g h p 0) * v121 V0 (ix4 g h p 0)) * v119 V0 (ix4 g h p x)))
      * v119 V0 (ix4 g h p p') : EReal) := by
  rw [v202_eq]
  exact read_202 g h p p' (v189 V0) (v121 V0) (v185 V0) (v119 V0)

theorem read_214 (g : Fin 3) (h : Fin 16) (p p' : Fin 4096) (xv109_1 : S3x16x4096x4096.Idx → BitVec 1) (xv202 : FVec Ideal S3x16x4096x4096 .f32) (xv185 : FVec Ideal S3x16x4096x1 .f32) (xv114 : FVec Ideal S3x16x4096x4096 .f32) :
    ((mulf (select (xv109_1) (addf (xv202) (mulf (broadcastInDim S3x16x4096x4096 ![0, 1, 2] bcast_S3x16x4096_S3x16x4096x4096_0_1_2 (Host.divf
    (Host.reduceAdd (addf (xv185) (shapeCast _ (Host.reduceAdd (Host.negf (xv202)) (constant S_ .f32 0x00000000#32)
    reducesTo_S3x16x4096x4096_S3x16x4096_d3 h_S_) shapeCasts_S3x16x4096_S3x16x4096x1)) (constant S_ .f32 0x00000000#32)
    reducesTo_S3x16x4096x1_S3x16x4096_d3 h_S_) (Host.reduceAdd (xv114) (constant S_ .f32 0x00000000#32)
    reducesTo_S3x16x4096x4096_S3x16x4096_d3 h_S_))) (xv114))) (broadcastInDim S3x16x4096x4096 ![] bcast_S_S3x16x4096x4096 (constant S_ .f32
    0x00000000#32))) (broadcastInDim S3x16x4096x4096 ![] bcast_S_S3x16x4096x4096 (constant S_ .f32 0x3E000000#32))) : FVec Ideal S3x16x4096x4096 .f32) (ix4 g h p p')
    = (Scalar.select (xv109_1 (ix4 g h p p'))
      ((xv202 (ix4 g h p p') + Ideal.div (∑ y : Fin 1, (xv185 (ix4 g h p y) + ∑ x : Fin 4096, -xv202 (ix4 g h p x)))
        (∑ x : Fin 4096, xv114 (ix4 g h p x)) * xv114 (ix4 g h p p')) * Ideal.ofBits .f32 0x3E000000#32) 0 : EReal) := by
  pointwise

theorem at_214 (g : Fin 3) (h : Fin 16) (p p' : Fin 4096) :
    v214 V0 (ix4 g h p p') = (Scalar.select (v109_1 V0 (ix4 g h p p'))
      ((v202 V0 (ix4 g h p p') + Ideal.div (∑ y : Fin 1, (v185 V0 (ix4 g h p y) + ∑ x : Fin 4096, -v202 V0 (ix4 g h p x)))
        (∑ x : Fin 4096, v114 V0 (ix4 g h p x)) * v114 V0 (ix4 g h p p')) * Ideal.ofBits .f32 0x3E000000#32) 0 : EReal) := by
  rw [v214_eq]
  exact read_214 g h p p' (v109_1 V0) (v202 V0) (v185 V0) (v114 V0)

theorem read_216 (p : Fin 4096) (g : Fin 3) (h : Fin 16) (e : Fin 64) (xv214 : FVec Ideal S3x16x4096x4096 .f32) (xv36 : FVec Ideal S4096x3x16x64 .f32) :
    ((transpose S4096x3x16x64 [2, 0, 1, 3] (Host.dotGeneral dot_S3x16x4096x4096_S4096x3x16x64_S3x16x4096x64_2_0_3_3_01_12 none (xv214) (xv36))
    transposes_S3x16x4096x64_S4096x3x16x64_2_0_1_3) : FVec Ideal S4096x3x16x64 .f32) (ix4 p g h e)
    = (∑ x : Fin 4096, xv214 (ix4 g h x p) * xv36 (ix4 x g h e) : EReal) := by
  pointwise

theorem at_216 (p : Fin 4096) (g : Fin 3) (h : Fin 16) (e : Fin 64) :
    v216 V0 (ix4 p g h e) = (∑ x : Fin 4096, v214 V0 (ix4 g h x p) * v36 V0 (ix4 x g h e) : EReal) := by
  rw [v216_eq]
  exact read_216 p g h e (v214 V0) (v36 V0)

theorem read_218 (p : Fin 4096) (g : Fin 3) (h : Fin 16) (e : Fin 64) (xv214 : FVec Ideal S3x16x4096x4096 .f32) (xv66 : FVec Ideal S4096x3x16x64 .f32) :
    ((transpose S4096x3x16x64 [2, 0, 1, 3] (Host.dotGeneral dot_S3x16x4096x4096_S4096x3x16x64_S3x16x4096x64_3_0_2_3_01_12 none (xv214) (xv66))
    transposes_S3x16x4096x64_S4096x3x16x64_2_0_1_3) : FVec Ideal S4096x3x16x64 .f32) (ix4 p g h e)
    = (∑ x : Fin 4096, xv214 (ix4 g h p x) * xv66 (ix4 x g h e) : EReal) := by
  pointwise

theorem at_218 (p : Fin 4096) (g : Fin 3) (h : Fin 16) (e : Fin 64) :
    v218 V0 (ix4 p g h e) = (∑ x : Fin 4096, v214 V0 (ix4 g h p x) * v66 V0 (ix4 x g h e) : EReal) := by
  rw [v218_eq]
  exact read_218 p g h e (v214 V0) (v66 V0)

end Cert.Ref

end
-- ==== Proof.RefOut.lean ====
/- Reading the stack of the three parts, the rotation's transpose, and the permutation into classes. -/
module

public import proofs.«01_k».proof.Proof.RefDefs

@[expose] public section

set_option maxRecDepth 16384

noncomputable section

namespace Cert.Ref

open Cert.ReferenceIdeal Cert.ReferenceIdeal.Gen Idealize.ShloMosaic Idealize.ShloMosaic.TcCoe

/-- The three parts stacked and flattened. -/
def stack (A B C : FVec Ideal S4096x3x16x64 .f32) : FVec Ideal S4096x3x3072 .f32 :=
  shapeCast S4096x3x3072 (concatenate S4096x3x3x16x64 2 [⟨S4096x3x1x16x64, broadcastInDim S4096x3x1x16x64 ![0, 1, 3, 4] bcast_S4096x3x16x64_S4096x3x1x16x64_0_1_3_4 A⟩,
      ⟨S4096x3x1x16x64, broadcastInDim S4096x3x1x16x64 ![0, 1, 3, 4] bcast_S4096x3x16x64_S4096x3x1x16x64_0_1_3_4 B⟩,
      ⟨S4096x3x1x16x64, broadcastInDim S4096x3x1x16x64 ![0, 1, 3, 4] bcast_S4096x3x16x64_S4096x3x1x16x64_0_1_3_4 C⟩]
      concatenates_S4096x3x1x16x64_S4096x3x1x16x64_S4096x3x1x16x64_S4096x3x3x16x64_d2) shapeCasts_S4096x3x3x16x64_S4096x3x3072

variable (A B C : FVec Ideal S4096x3x16x64 .f32) (p : Fin 4096) (g : Fin 3) (u : Fin 3072)

theorem stack_0 (hu : (u : ℕ) / 1024 = 0) :
    stack A B C (ix3 p g u) = (A (ix4 p g ⟨u / 64 % 16, by omega⟩ ⟨u % 64, by omega⟩) : EReal) := by
  pointwise [stack]
  simp only [hu, Nat.reduceSub, Nat.reduceLT, reduceDIte]

theorem stack_1 (hu : (u : ℕ) / 1024 = 1) :
    stack A B C (ix3 p g u) = (B (ix4 p g ⟨u / 64 % 16, by omega⟩ ⟨u % 64, by omega⟩) : EReal) := by
  pointwise [stack]
  simp only [hu, Nat.reduceSub, Nat.reduceLT, reduceDIte]

theorem stack_2 (hu : (u : ℕ) / 1024 = 2) :
    stack A B C (ix3 p g u) = (C (ix4 p g ⟨u / 64 % 16, by omega⟩ ⟨u % 64, by omega⟩) : EReal) := by
  pointwise [stack]
  simp only [hu, Nat.reduceSub, Nat.reduceLT, reduceDIte]

/-- The rotation's transpose. -/
def unrot (x : FVec Ideal S4096x3x16x64 .f32) (c s : FVec Ideal S4096x1x1x32 .f32) : FVec Ideal S4096x3x16x64 .f32 :=
  addf (pad S4096x3x16x64 ![0, 0, 0, 32] ![0, 0, 0, 0] ![0, 0, 0, 0]
      (addf (mulf (extractStridedSlice S4096x3x16x32 ![0, 0, 0, 32] x slices_S4096x3x16x64_S4096x3x16x32_0_0_0_32)
          (broadcastInDim S4096x3x16x32 ![0, 1, 2, 3] bcast_S4096x1x1x32_S4096x3x16x32_0_1_2_3 c))
        (mulf (Host.negf (extractStridedSlice S4096x3x16x32 ![0, 0, 0, 0] x slices_S4096x3x16x64_S4096x3x16x32_0_0_0_0))
          (broadcastInDim S4096x3x16x32 ![0, 1, 2, 3] bcast_S4096x1x1x32_S4096x3x16x32_0_1_2_3 s)))
      (constant S_ .f32 0x00000000#32) pads_S4096x3x16x32_S4096x3x16x64_000_000_000_3200 h_S_)
    (pad S4096x3x16x64 ![0, 0, 0, 0] ![0, 0, 0, 32] ![0, 0, 0, 0]
      (addf (mulf (extractStridedSlice S4096x3x16x32 ![0, 0, 0, 32] x slices_S4096x3x16x64_S4096x3x16x32_0_0_0_32)
          (broadcastInDim S4096x3x16x32 ![0, 1, 2, 3] bcast_S4096x1x1x32_S4096x3x16x32_0_1_2_3 s))
        (mulf (extractStridedSlice S4096x3x16x32 ![0, 0, 0, 0] x slices_S4096x3x16x64_S4096x3x16x32_0_0_0_0)
          (broadcastInDim S4096x3x16x32 ![0, 1, 2, 3] bcast_S4096x1x1x32_S4096x3x16x32_0_1_2_3 c)))
      (constant S_ .f32 0x00000000#32) pads_S4096x3x16x32_S4096x3x16x64_000_000_000_0320 h_S_)

theorem unrot_at (x : FVec Ideal S4096x3x16x64 .f32) (c s : FVec Ideal S4096x1x1x32 .f32) (h : Fin 16) (e : Fin 64) :
    unrot x c s (ix4 p g h e)
    = (if he : (e : ℕ) < 32 then x (ix4 p g h ⟨32 + e, by omega⟩) * s (ix4 p 0 0 ⟨e, he⟩) + x (ix4 p g h e) * c (ix4 p 0 0 ⟨e, he⟩)
      else x (ix4 p g h ⟨32 + (e - 32), by omega⟩) * c (ix4 p 0 0 ⟨e - 32, by omega⟩)
        + -x (ix4 p g h ⟨e - 32, by omega⟩) * s (ix4 p 0 0 ⟨e - 32, by omega⟩) : EReal) := by
  pointwise [unrot]
  by_cases he : (e : ℕ) < 32
  · rw [dif_neg (by omega), dif_pos he, dif_pos he, zero_add]
  · rw [dif_pos (by omega), dif_neg he, dif_neg he, add_zero]

/-- The gradient of the values, from the weighted gradient and the probabilities. -/
def dvs (w : FVec Ideal S3x16x4096x64 .f32) (a : FVec Ideal S3x16x4096x4096 .f32) : FVec Ideal S4096x3x16x64 .f32 :=
  transpose S4096x3x16x64 [3, 0, 1, 2]
    (Host.dotGeneral dot_S3x16x4096x64_S3x16x4096x4096_S3x16x64x4096_2_2_3_3_01_01 none w a) transposes_S3x16x64x4096_S4096x3x16x64_3_0_1_2

theorem dvs_at (w : FVec Ideal S3x16x4096x64 .f32) (a : FVec Ideal S3x16x4096x4096 .f32) (h : Fin 16) (e : Fin 64) :
    dvs w a (ix4 p g h e) = (∑ x : Fin 4096, w (ix4 g h x e) * a (ix4 g h x p) : EReal) := by
  pointwise [dvs]

theorem v255_parts (V0 : Valuation τ sig (Elt Ideal)) :
    v255 V0 = stack (unrot (v218 V0) (v21 V0) (v23 V0)) (unrot (v216 V0) (v51 V0) (v53 V0)) (dvs (v168 V0) (v123 V0)) := by
  rw [v255_eq, v235_eq, v236_eq, v219_eq, v220_eq]
  rfl

end Cert.Ref

end
-- ==== Proof.RefMask.lean ====
/- The reference's mask: a key is seen exactly when the model says so. -/
module

public import proofs.«01_k».proof.Proof.RefDefs
public import proofs.«01_k».proof.Proof.Model

@[expose] public section

set_option maxRecDepth 16384

noncomputable section

namespace Cert.Ref

open Cert.ReferenceIdeal Cert.ReferenceIdeal.Gen Idealize.ShloMosaic Idealize.ShloMosaic.TcCoe Cert.Model

/-- The mask of the distance `x`, for a dilation `D` and a window `w`, in words. -/
def maskWord (D w x : BitVec 32) : BitVec 1 :=
  IntOp.andi (IntOp.andi (IntOp.cmpi .sge x 0#32) (IntOp.cmpi .sle x w))
    (IntOp.cmpi .eq (Scalar.select (IntOp.andi (IntOp.cmpi .ne (IntOp.cmpi .slt (IntOp.remsi .host x D) 0#32) (IntOp.cmpi .slt D 0#32))
      (IntOp.cmpi .ne (IntOp.remsi .host x D) 0#32)) (IntOp.addi (IntOp.remsi .host x D) D) (IntOp.remsi .host x D)) 0#32)

theorem maskWord_1 : ∀ d : Fin 8191, maskWord 1#32 128#32 (BitVec.ofNat 32 d.val - 4095#32)
    = BitVec.ofBool (decide (4095 ≤ d.val ∧ d.val - 4095 ≤ 128 * 1 ∧ (d.val - 4095) % 1 = 0)) := by decide +kernel
theorem maskWord_4 : ∀ d : Fin 8191, maskWord 4#32 512#32 (BitVec.ofNat 32 d.val - 4095#32)
    = BitVec.ofBool (decide (4095 ≤ d.val ∧ d.val - 4095 ≤ 128 * 4 ∧ (d.val - 4095) % 4 = 0)) := by decide +kernel
theorem maskWord_16 : ∀ d : Fin 8191, maskWord 16#32 2048#32 (BitVec.ofNat 32 d.val - 4095#32)
    = BitVec.ofBool (decide (4095 ≤ d.val ∧ d.val - 4095 ≤ 128 * 16 ∧ (d.val - 4095) % 16 = 0)) := by decide +kernel

theorem sub_word (p p' : Fin 4096) :
    BitVec.ofNat 32 p.val - BitVec.ofNat 32 p'.val = BitVec.ofNat 32 (p.val + 4095 - p'.val) - 4095#32 := by
  apply BitVec.eq_of_toNat_eq
  simp only [BitVec.toNat_sub, BitVec.toNat_ofNat]
  omega

theorem ofBool_congr {P Q : Prop} [Decidable P] [Decidable Q] (h : P ↔ Q) : BitVec.ofBool (decide P) = BitVec.ofBool (decide Q) := by
  rw [decide_eq_decide.mpr h]

theorem mask_1 (p p' : Fin 4096) : maskWord 1#32 128#32 (BitVec.ofNat 32 p.val - BitVec.ofNat 32 p'.val) = BitVec.ofBool (decide (Ok 0 p p')) := by
  rw [sub_word, maskWord_1 ⟨p.val + 4095 - p'.val, by omega⟩]
  refine ofBool_congr ?_
  change _ ↔ p'.val ≤ p.val ∧ p.val - p'.val ≤ 128 * 1 ∧ (p.val - p'.val) % 1 = 0
  simp only
  omega
theorem mask_4 (p p' : Fin 4096) : maskWord 4#32 512#32 (BitVec.ofNat 32 p.val - BitVec.ofNat 32 p'.val) = BitVec.ofBool (decide (Ok 1 p p')) := by
  rw [sub_word, maskWord_4 ⟨p.val + 4095 - p'.val, by omega⟩]
  refine ofBool_congr ?_
  change _ ↔ p'.val ≤ p.val ∧ p.val - p'.val ≤ 128 * 4 ∧ (p.val - p'.val) % 4 = 0
  simp only
  omega
theorem mask_16 (p p' : Fin 4096) : maskWord 16#32 2048#32 (BitVec.ofNat 32 p.val - BitVec.ofNat 32 p'.val) = BitVec.ofBool (decide (Ok 2 p p')) := by
  rw [sub_word, maskWord_16 ⟨p.val + 4095 - p'.val, by omega⟩]
  refine ofBool_congr ?_
  change _ ↔ p'.val ≤ p.val ∧ p.val - p'.val ≤ 128 * 16 ∧ (p.val - p'.val) % 16 = 0
  simp only
  omega

/-- The three groups' masks stacked. -/
theorem read_mask (A B C : S4096x4096.Idx → BitVec 1) (g : Fin 3) (h : Fin 16) (p p' : Fin 4096) :
    (broadcastInDim S3x16x4096x4096 ![0, 1, 2, 3] bcast_S3x1x4096x4096_S3x16x4096x4096_0_1_2_3
      (broadcastInDim S3x1x4096x4096 ![0, 2, 3] bcast_S3x4096x4096_S3x1x4096x4096_0_2_3
        (concatenate S3x4096x4096 0 [⟨S1x4096x4096, broadcastInDim S1x4096x4096 ![1, 2] bcast_S4096x4096_S1x4096x4096_1_2 A⟩,
          ⟨S1x4096x4096, broadcastInDim S1x4096x4096 ![1, 2] bcast_S4096x4096_S1x4096x4096_1_2 B⟩,
          ⟨S1x4096x4096, broadcastInDim S1x4096x4096 ![1, 2] bcast_S4096x4096_S1x4096x4096_1_2 C⟩]
          concatenates_S1x4096x4096_S1x4096x4096_S1x4096x4096_S3x4096x4096_d0))) (ix4 g h p p')
    = if g = 0 then A (ix2 p p') else if g = 1 then B (ix2 p p') else C (ix2 p p') := by
  pointwise
  fin_cases g
  all_goals rfl

variable (V0 : Valuation τ sig (Elt Ideal))

theorem at_109_1 (g : Fin 3) (h : Fin 16) (p p' : Fin 4096) :
    v109_1 V0 (ix4 g h p p') = BitVec.ofBool (decide (Ok g p p')) := by
  rw [v109_1_eq]
  refine (read_mask _ _ _ g h p p').trans ?_
  fin_cases g
  · exact mask_1 p p'
  · exact mask_4 p p'
  · exact mask_16 p p'

end Cert.Ref

end
-- ==== Proof.RefVal.lean ====
/- The reference's stages as real numbers. -/
module

public import proofs.«01_k».proof.Proof.RefAt
public import proofs.«01_k».proof.Proof.RefOut
public import proofs.«01_k».proof.Proof.RefMask

@[expose] public section

set_option maxRecDepth 16384

noncomputable section

namespace Cert.Real

open Idealize.ShloMosaic

/-- A number, not an infinity. -/
def IsR (x : EReal) : Prop := ∃ r : ℝ, x = ↑r

theorem IsR.eq {x : EReal} (h : IsR x) : x = ↑x.toReal := by
  obtain ⟨r, rfl⟩ := h
  rfl

theorem IsR.coe (r : ℝ) : IsR (r : EReal) := ⟨r, rfl⟩

theorem IsR.add {x y : EReal} (hx : IsR x) (hy : IsR y) : IsR (x + y) := by
  obtain ⟨a, rfl⟩ := hx
  obtain ⟨b, rfl⟩ := hy
  exact ⟨a + b, by push_cast; rfl⟩

theorem IsR.sub {x y : EReal} (hx : IsR x) (hy : IsR y) : IsR (x - y) := by
  obtain ⟨a, rfl⟩ := hx
  obtain ⟨b, rfl⟩ := hy
  exact ⟨a - b, by push_cast; rfl⟩

theorem IsR.mul {x y : EReal} (hx : IsR x) (hy : IsR y) : IsR (x * y) := by
  obtain ⟨a, rfl⟩ := hx
  obtain ⟨b, rfl⟩ := hy
  exact ⟨a * b, by push_cast; rfl⟩

theorem IsR.neg {x : EReal} (hx : IsR x) : IsR (-x) := by
  obtain ⟨a, rfl⟩ := hx
  exact ⟨-a, by push_cast; rfl⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe_coe (a : ℝ) {b : ℝ} (hb : b ≠ 0) : Ideal.div (a : EReal) (b : EReal) = ((a / b : ℝ) : EReal) := by
  rw [Ideal.div_coe hb, ← EReal.coe_mul]
  congr 1
  ring

theorem exp_coe (a : ℝ) : Ideal.exp (a : EReal) = (Real.exp a : EReal) := rfl

theorem log_coe {a : ℝ} (ha : 0 < a) : Ideal.log (a : EReal) = (Real.log a : EReal) := by
  change (if a ≤ 0 then (⊥ : EReal) else (Real.log a : EReal)) = _
  rw [if_neg (not_le.mpr ha)]

theorem eighth : Ideal.ofBits .f32 0x3E000000#32 = ((1 / 8 : ℝ) : EReal) := by
  simp [Ideal.ofBits, Ideal.ieee, -EReal.coe_mul]; norm_num

theorem eighth_bf16 : Ideal.ofBits .bf16 0x3E00#16 = ((1 / 8 : ℝ) : EReal) := by
  simp [Ideal.ofBits, Ideal.ieee, -EReal.coe_mul]; norm_num

theorem neg_inf : Ideal.ofBits .f32 0xFF800000#32 = (⊥ : EReal) := by
  simp [Ideal.ofBits, Ideal.ieee]

theorem pos_inf : Ideal.ofBits .f32 0x7F800000#32 = (⊤ : EReal) := by
  simp [Ideal.ofBits, Ideal.ieee]

theorem isR_theta : IsR (Ideal.ofBits .f32 0x461C4000#32) :=
  ⟨10000, by simp [Ideal.ofBits, Ideal.ieee, -EReal.coe_mul]; norm_num⟩

theorem isR_step : IsR (Ideal.ofBits .f32 0x3D000000#32) :=
  ⟨1 / 32, by simp [Ideal.ofBits, Ideal.ieee, -EReal.coe_mul]; norm_num⟩

theorem isR_pow {x y : EReal} (hx : IsR x) (hy : IsR y) : IsR (Ideal.pow x y) := by
  obtain ⟨a, rfl⟩ := hx
  obtain ⟨b, rfl⟩ := hy
  exact ⟨_, Ideal.pow_coe_coe a b⟩

theorem isR_cos {x : EReal} (hx : IsR x) : IsR (Ideal.cos x) := by
  obtain ⟨a, rfl⟩ := hx
  exact ⟨Real.cos a, rfl⟩

theorem isR_sin {x : EReal} (hx : IsR x) : IsR (Ideal.sin x) := by
  obtain ⟨a, rfl⟩ := hx
  exact ⟨Real.sin a, rfl⟩

theorem isR_sitofp {w : ℕ} (b : BitVec w) : IsR (FloatOps.sitofp (F := Ideal) .f32 b) := ⟨(b.toInt : ℝ), rfl⟩

/-- A maximum over finitely many, started at `-∞`, is one of them (there is at least one). -/
theorem fold_max_mem {ι : Type} [Fintype ι] [Nonempty ι] (f : ι → EReal) :
    ∃ i, Finset.fold max ⊥ f Finset.univ = f i ∧ ∀ j, f j ≤ f i := by
  obtain ⟨i, _, hi⟩ := Finset.exists_mem_eq_sup Finset.univ Finset.univ_nonempty f
  exact ⟨i, hi, fun j => hi ▸ Finset.le_sup (Finset.mem_univ j)⟩

end Cert.Real

namespace Cert.Ref

open Cert.ReferenceIdeal Cert.ReferenceIdeal.Gen Idealize.ShloMosaic Idealize.ShloMosaic.TcCoe Cert.Model Cert.Real

variable (V0 : Valuation τ sig (Elt Ideal))

/-- Every argument's element is a number. -/
structure Num : Prop where
  a0 : ∀ (p : Fin 4096) (u : Fin 9216), IsR (arg0 V0 (ix2 p u))
  a1 : ∀ (p : Fin 4096) (u : Fin 1024), IsR (arg1 V0 (ix2 p u))

/-- The model's inputs, as the reference computes them. -/
def inp : Inputs where
  q g p h e := EReal.toReal (v36 V0 (ix4 p g h e))
  k g p h e := EReal.toReal (v66 V0 (ix4 p g h e))
  v g p h e := EReal.toReal (v6 V0 (ix4 p g h e))
  ct p h e := EReal.toReal (arg1 V0 (ix2 p ⟨h * 64 + e, by omega⟩))
  c p e := EReal.toReal (v21 V0 (ix4 p 0 0 e))
  s p e := EReal.toReal (v23 V0 (ix4 p 0 0 e))

theorem read_parts (x : FVec Ideal S4096x9216 .f32) (p : Fin 4096) (g : Fin 3) (h : Fin 16) (e : Fin 64) :
    (shapeCast S4096x3x16x64 (extractStridedSlice S4096x3x1x16x64 ![0, 0, 0, 0, 0] (shapeCast S4096x3x3x16x64 x shapeCasts_S4096x9216_S4096x3x3x16x64) slices_S4096x3x3x16x64_S4096x3x1x16x64_0_0_0_0_0) shapeCasts_S4096x3x1x16x64_S4096x3x16x64 (ix4 p g h e)
      = x (ix2 p ⟨g * 3072 + h * 64 + e, by omega⟩))
    ∧ (shapeCast S4096x3x16x64 (extractStridedSlice S4096x3x1x16x64 ![0, 0, 1, 0, 0] (shapeCast S4096x3x3x16x64 x shapeCasts_S4096x9216_S4096x3x3x16x64) slices_S4096x3x3x16x64_S4096x3x1x16x64_0_0_1_0_0) shapeCasts_S4096x3x1x16x64_S4096x3x16x64 (ix4 p g h e)
      = x (ix2 p ⟨g * 3072 + 1 * 1024 + h * 64 + e, by omega⟩))
    ∧ (shapeCast S4096x3x16x64 (extractStridedSlice S4096x3x1x16x64 ![0, 0, 2, 0, 0] (shapeCast S4096x3x3x16x64 x shapeCasts_S4096x9216_S4096x3x3x16x64) slices_S4096x3x3x16x64_S4096x3x1x16x64_0_0_2_0_0) shapeCasts_S4096x3x1x16x64_S4096x3x16x64 (ix4 p g h e)
      = x (ix2 p ⟨g * 3072 + 2 * 1024 + h * 64 + e, by omega⟩)) := by
  refine ⟨?_, ?_, ?_⟩
  all_goals pointwise

theorem read_angle (p : Fin 4096) (e : Fin 32) :
    (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32)))))) : FVec Ideal S4096x32 .f32) (ix2 p e)
      = (FloatOps.sitofp (F := Ideal) .f32 (BitVec.ofNat 32 p.val) * Ideal.pow (Ideal.ofBits .f32 0x461C4000#32) (-FloatOps.sitofp (F := Ideal) .f32 (BitVec.ofNat 32 e.val) * Ideal.ofBits .f32 0x3D000000#32) : EReal) := by
  pointwise

theorem at_19 (p : Fin 4096) (e : Fin 32) : v19 V0 (ix2 p e) = (FloatOps.sitofp (F := Ideal) .f32 (BitVec.ofNat 32 p.val) * Ideal.pow (Ideal.ofBits .f32 0x461C4000#32) (-FloatOps.sitofp (F := Ideal) .f32 (BitVec.ofNat 32 e.val) * Ideal.ofBits .f32 0x3D000000#32) : EReal) := by
  rw [v19_eq]
  exact read_angle p e

theorem isR_19 (p : Fin 4096) (e : Fin 32) : IsR (v19 V0 (ix2 p e)) := by
  rw [at_19]
  exact (isR_sitofp _).mul (isR_pow isR_theta ((isR_sitofp _).neg.mul isR_step))

theorem read_table (x : FVec Ideal S4096x32 .f32) (p : Fin 4096) (e : Fin 32) :
    ((broadcastInDim S4096x1x1x32 ![0, 3] bcast_S4096x32_S4096x1x1x32_0_3 (Host.cos x) : FVec Ideal S4096x1x1x32 .f32) (ix4 p 0 0 e) = Ideal.cos (x (ix2 p e)))
    ∧ ((broadcastInDim S4096x1x1x32 ![0, 3] bcast_S4096x32_S4096x1x1x32_0_3 (Host.sin x) : FVec Ideal S4096x1x1x32 .f32) (ix4 p 0 0 e) = Ideal.sin (x (ix2 p e))) := by
  constructor
  all_goals pointwise

theorem at_21 (p : Fin 4096) (e : Fin 32) : v21 V0 (ix4 p 0 0 e) = Ideal.cos (v19 V0 (ix2 p e)) := by
  rw [v21_eq]
  exact (read_table _ p e).1

theorem at_23 (p : Fin 4096) (e : Fin 32) : v23 V0 (ix4 p 0 0 e) = Ideal.sin (v19 V0 (ix2 p e)) := by
  rw [v23_eq]
  exact (read_table _ p e).2

theorem v51_same : v51 V0 = v21 V0 := rfl
theorem v53_same : v53 V0 = v23 V0 := rfl

theorem val_21 (p : Fin 4096) (e : Fin 32) : v21 V0 (ix4 p 0 0 e) = ((inp V0).c p e : EReal) :=
  IsR.eq (at_21 V0 p e ▸ isR_cos (isR_19 V0 p e))

theorem val_23 (p : Fin 4096) (e : Fin 32) : v23 V0 (ix4 p 0 0 e) = ((inp V0).s p e : EReal) :=
  IsR.eq (at_23 V0 p e ▸ isR_sin (isR_19 V0 p e))

variable {V0} (N : Num V0) (g : Fin 3) (h : Fin 16) (p p' : Fin 4096) (e : Fin 64)
include N

theorem isR_2 : IsR (v2 V0 (ix4 p g h e)) := by
  rw [v2_eq, v0_eq]
  exact (read_parts (arg0 V0) p g h e).1 ▸ N.a0 _ _

theorem isR_4 : IsR (v4 V0 (ix4 p g h e)) := by
  rw [v4_eq, v0_eq]
  exact (read_parts (arg0 V0) p g h e).2.1 ▸ N.a0 _ _

theorem val_6 : v6 V0 (ix4 p g h e) = ((inp V0).v g p h e : EReal) := by
  refine IsR.eq ?_
  rw [v6_eq, v0_eq]
  exact (read_parts (arg0 V0) p g h e).2.2 ▸ N.a0 _ _

theorem val_36 : v36 V0 (ix4 p g h e) = ((inp V0).q g p h e : EReal) := by
  refine IsR.eq ?_
  rw [at_36]
  split
  · exact ((isR_2 N g h p _).mul (val_21 V0 _ _ ▸ IsR.coe _)).sub ((isR_2 N g h p _).mul (val_23 V0 _ _ ▸ IsR.coe _))
  · exact ((isR_2 N g h p _).mul (val_21 V0 _ _ ▸ IsR.coe _)).add ((isR_2 N g h p _).mul (val_23 V0 _ _ ▸ IsR.coe _))

theorem val_66 : v66 V0 (ix4 p g h e) = ((inp V0).k g p h e : EReal) := by
  refine IsR.eq ?_
  rw [at_66, v51_same, v53_same]
  split
  · exact ((isR_4 N g h p _).mul (val_21 V0 _ _ ▸ IsR.coe _)).sub ((isR_4 N g h p _).mul (val_23 V0 _ _ ▸ IsR.coe _))
  · exact ((isR_4 N g h p _).mul (val_21 V0 _ _ ▸ IsR.coe _)).add ((isR_4 N g h p _).mul (val_23 V0 _ _ ▸ IsR.coe _))

theorem val_166 : v166 V0 (ix4 g h p e) = ((inp V0).ct p h e : EReal) := by
  rw [at_166]
  exact IsR.eq (N.a1 _ _)

end Cert.Ref

end
-- ==== Proof.Finite.lean ====
/- The precondition: every element of the arguments is a number. -/
module

public import proofs.«01_k».proof.Defs
public import proofs.«01_k».proof.Proof.RefVal
public import Idealize.ShloMosaic.Lib.Pointwise

@[expose] public section

set_option maxRecDepth 16384

noncomputable section

namespace Cert.Finite

open Idealize.ShloMosaic Idealize.ShloMosaic.TcCoe Cert.Real

/-- The shapes the precondition's broadcasts relate. -/
theorem facts : Cert.Pre_finite.Facts where
  bcast_S_S4096x9216 := by decide
  bcast_S_S4096x1024 := by decide

/-- A magnitude below infinity belongs to a number. -/
theorem isR_of_abs {x : EReal} (h : Ideal.cmp .olt (max x (-x)) (Ideal.ofBits .f32 0x7F800000#32) = 1#1) : IsR x := by
  rw [pos_inf] at h
  induction x using EReal.rec with
  | bot => simp [Ideal.cmp] at h
  | top => simp [Ideal.cmp] at h
  | coe r => exact ⟨r, rfl⟩

attribute [local instance] facts

theorem fn_0 (x : FVec Ideal Pre_finite.S4096x9216 .f32) (y : FVec Ideal Pre_finite.S4096x1024 .f32) (p : Fin 4096) (u : Fin 9216) :
    (Pre_finite.fn (F := Ideal) x y).1 (ix2 p u) = Ideal.cmp .olt (max (x (ix2 p u)) (-x (ix2 p u)) : EReal) (Ideal.ofBits .f32 0x7F800000#32) := by
  pointwise [Pre_finite.fn]
  rfl
theorem fn_1 (x : FVec Ideal Pre_finite.S4096x9216 .f32) (y : FVec Ideal Pre_finite.S4096x1024 .f32) (p : Fin 4096) (u : Fin 1024) :
    (Pre_finite.fn (F := Ideal) x y).2 (ix2 p u) = Ideal.cmp .olt (max (y (ix2 p u)) (-y (ix2 p u)) : EReal) (Ideal.ofBits .f32 0x7F800000#32) := by
  pointwise [Pre_finite.fn]
  rfl

/-- Under the precondition the reference's arguments are numbers. -/
theorem num (V0 : Valuation ReferenceIdeal.τ ReferenceIdeal.sig (Elt Ideal)) (x : FVec Ideal Pre_finite.S4096x9216 .f32)
    (y : FVec Ideal Pre_finite.S4096x1024 .f32) (hx : Ref.arg0 V0 = x) (hy : Ref.arg1 V0 = y)
    (h : (Pre_finite.fn (F := Ideal) x y).1 = (fun _ => 1#1) ∧ (Pre_finite.fn (F := Ideal) x y).2 = (fun _ => 1#1)) : Ref.Num V0 where
  a0 p u := by
    rw [hx]
    exact isR_of_abs ((fn_0 x y p u).symm.trans (congrFun h.1 (ix2 p u)))
  a1 p u := by
    rw [hy]
    exact isR_of_abs ((fn_1 x y p u).symm.trans (congrFun h.2 (ix2 p u)))

end Cert.Finite

end
-- ==== Proof.RefSoft.lean ====
/- The reference's softmax, mixture and their gradient as real numbers. -/
module

public import proofs.«01_k».proof.Proof.RefVal

@[expose] public section

set_option maxRecDepth 16384

noncomputable section

namespace Cert.Ref

open Cert.ReferenceIdeal Cert.ReferenceIdeal.Gen Idealize.ShloMosaic Idealize.ShloMosaic.TcCoe Cert.Model Cert.Real

theorem select_ofBool {α : Type} (P : Prop) [Decidable P] (a b : α) :
    Scalar.select (BitVec.ofBool (decide P)) a b = if P then a else b := by
  by_cases h : P <;> simp [Scalar.select, h]

theorem read_109_0 (g : Fin 3) (h : Fin 16) (p p' : Fin 4096) (k : S3x16x4096x4096.Idx → BitVec 1) (a b : FVec Ideal S4096x3x16x64 .f32) :
    (select k (mulf (Host.dotGeneral dot_S4096x3x16x64_S4096x3x16x64_S3x16x4096x4096_3_3_0_0_12_12 none a b)
      (broadcastInDim S3x16x4096x4096 ![] bcast_S_S3x16x4096x4096 (constant S_ .f32 0x3E000000#32)))
      (broadcastInDim S3x16x4096x4096 ![] bcast_S_S3x16x4096x4096 (id (constant S_ .f32 0xFF800000#32))) : FVec Ideal S3x16x4096x4096 .f32) (ix4 g h p p')
      = (Scalar.select (k (ix4 g h p p')) ((∑ x : Fin 64, a (ix4 p g h x) * b (ix4 p' g h x)) * Ideal.ofBits .f32 0x3E000000#32) (Ideal.ofBits .f32 0xFF800000#32) : EReal) := by
  pointwise
  rfl

theorem read_110 (g : Fin 3) (h : Fin 16) (p : Fin 4096) (x : FVec Ideal S3x16x4096x4096 .f32) :
    (Host.reduce FloatOps.maximumf x (constant S_ .f32 0xFF800000#32) reducesTo_S3x16x4096x4096_S3x16x4096_d3 h_S_ : FVec Ideal S3x16x4096 .f32) (ix3 g h p)
      = (Finset.fold max (Ideal.ofBits .f32 0xFF800000#32) (fun y => x (ix4 g h p y)) Finset.univ : EReal) := by
  pointwise

theorem read_131 (h : Fin 16) (p : Fin 4096) (x : FVec Ideal S3x16x4096 .f32) :
    (Host.reduce FloatOps.maximumf x (constant S_ .f32 0xFF800000#32) reducesTo_S3x16x4096_S16x4096_d0 h_S_ : FVec Ideal S16x4096 .f32) (ix2 h p)
      = (Finset.fold max (Ideal.ofBits .f32 0xFF800000#32) (fun y => x (ix3 y h p)) Finset.univ : EReal) := by
  pointwise

theorem read_114 (g : Fin 3) (h : Fin 16) (p p' : Fin 4096) (x : FVec Ideal S3x16x4096x4096 .f32) (y : FVec Ideal S3x16x4096 .f32) :
    (uitofp .f32 (cmpf .oeq x (broadcastInDim S3x16x4096x4096 ![0, 1, 2, 3] bcast_S3x16x4096x1_S3x16x4096x4096_0_1_2_3 (shapeCast _ y shapeCasts_S3x16x4096_S3x16x4096x1))) : FVec Ideal S3x16x4096x4096 .f32) (ix4 g h p p')
      = (FloatOps.uitofp (F := Ideal) .f32 (BitVec.ofBool (decide (x (ix4 g h p p') = y (ix3 g h p)))) : EReal) := by
  pointwise

variable {V0 : Valuation τ sig (Elt Ideal)}

theorem val_114 (g : Fin 3) (h : Fin 16) (p p' : Fin 4096) :
    v114 V0 (ix4 g h p p') = ((if v109_0 V0 (ix4 g h p p') = v110 V0 (ix3 g h p) then 1 else 0 : ℝ) : EReal) := by
  rw [v114_eq, read_114]
  change (((BitVec.ofBool _).toNat : ℝ) : EReal) = _
  split <;> rename_i h' <;> simp [h']

variable (N : Num V0) (g : Fin 3) (h : Fin 16) (p p' : Fin 4096) (e : Fin 64)
include N

theorem val_109 : v109_0 V0 (ix4 g h p p') = if Ok g p p' then (score (inp V0) g h p p' : EReal) else ⊥ := by
  rw [v109_0_eq, read_109_0, at_109_1, select_ofBool, neg_inf, eighth]
  refine if_congr Iff.rfl ?_ rfl
  simp only [val_36 N, val_66 N, ← EReal.coe_mul, coe_sum]
  rfl

/-- The largest score is attained at a key the query sees. -/
theorem max_110 : ∃ p0, Ok g p p0 ∧ v110 V0 (ix3 g h p) = (score (inp V0) g h p p0 : EReal) ∧ v109_0 V0 (ix4 g h p p0) = v110 V0 (ix3 g h p) := by
  obtain ⟨p0, h0, hle⟩ := fold_max_mem fun y => v109_0 V0 (ix4 g h p y)
  have hm : v110 V0 (ix3 g h p) = v109_0 V0 (ix4 g h p p0) := by
    rw [v110_eq, read_110, neg_inf]
    exact h0
  have hok : Ok g p p0 := by
    by_contra hn
    have := hle p
    simp only [val_109 N, if_pos (ok_self g p), if_neg hn] at this
    exact absurd this (not_le.mpr (EReal.bot_lt_coe _))
  exact ⟨p0, hok, by rw [hm, val_109 N, if_pos hok], hm.symm⟩

/-- The largest score. -/
def M (V0 : Valuation τ sig (Elt Ideal)) (g : Fin 3) (h : Fin 16) (p : Fin 4096) : ℝ := EReal.toReal (v110 V0 (ix3 g h p))

theorem val_110 : v110 V0 (ix3 g h p) = (M V0 g h p : EReal) := by
  obtain ⟨p0, _, h0, _⟩ := max_110 N g h p
  exact IsR.eq ⟨_, h0⟩

theorem val_119 : v119 V0 (ix4 g h p p') = ((ex (inp V0) g h p p' * Real.exp (-M V0 g h p) : ℝ) : EReal) := by
  rw [at_119, at_116, val_110 N, val_109 N]
  unfold ex
  split
  · rw [← EReal.coe_sub, exp_coe, ← Real.exp_add, sub_eq_add_neg]
  · rw [zero_mul]
    rfl

theorem val_121 : v121 V0 (ix4 g h p 0) = ((Z (inp V0) g h p * Real.exp (-M V0 g h p) : ℝ) : EReal) := by
  rw [at_121]
  simp only [val_119 N, coe_sum]
  rw [Z, Finset.sum_mul]

theorem val_123 : v123 V0 (ix4 g h p p') = ((ex (inp V0) g h p p' / Z (inp V0) g h p : ℝ) : EReal) := by
  have hz := Z_pos (inp V0) g h p
  have he := Real.exp_pos (-M V0 g h p)
  rw [at_123, val_119 N, val_121 N, div_coe_coe _ (mul_pos hz he).ne']
  congr 1
  field_simp

theorem val_127 : v127 V0 (ix4 g h p e) = (og (inp V0) g h p e : EReal) := by
  rw [at_127]
  simp only [val_123 N, val_6 N, ← EReal.coe_mul, coe_sum]
  rfl

theorem val_130 : v130 V0 (ix3 g h p) = (Real.log (Z (inp V0) g h p) : EReal) := by
  have hz := Z_pos (inp V0) g h p
  have he := Real.exp_pos (-M V0 g h p)
  rw [at_130, at_116, val_110 N, val_121 N, log_coe (mul_pos hz he), Real.log_mul hz.ne' he.ne', Real.log_exp, ← EReal.coe_add]
  congr 1
  ring

/-- The largest logarithm over the groups. -/
def M2 (V0 : Valuation τ sig (Elt Ideal)) (h : Fin 16) (p : Fin 4096) : ℝ := EReal.toReal (v131 V0 (ix2 h p))

theorem val_131 : v131 V0 (ix2 h p) = (M2 V0 h p : EReal) := by
  obtain ⟨g, h0, _⟩ := fold_max_mem fun y : Fin 3 => v130 V0 (ix3 y h p)
  refine IsR.eq ⟨Real.log (Z (inp V0) g h p), ?_⟩
  rw [v131_eq, read_131, neg_inf, ← val_130 N]
  exact h0

theorem val_151 : v151 V0 (ix3 g h p) = ((Z (inp V0) g h p * Real.exp (-M2 V0 h p) : ℝ) : EReal) := by
  rw [at_151, val_131 N, val_130 N, neg_inf, max_eq_right bot_le, ← EReal.coe_sub, exp_coe, sub_eq_add_neg, Real.exp_add,
    Real.exp_log (Z_pos _ g h p)]

theorem val_153 : v153 V0 (ix3 0 h p) = ((T (inp V0) h p * Real.exp (-M2 V0 h p) : ℝ) : EReal) := by
  rw [at_153]
  simp only [val_151 N, coe_sum]
  rw [Model.T, Finset.sum_mul]

theorem val_159 : v159 V0 (ix4 g h p 0) = ((Z (inp V0) g h p / T (inp V0) h p : ℝ) : EReal) := by
  have ht := T_pos (inp V0) h p
  have he := Real.exp_pos (-M2 V0 h p)
  rw [at_159, val_151 N, val_153 N, div_coe_coe _ (mul_pos ht he).ne']
  congr 1
  field_simp

theorem val_168 : v168 V0 (ix4 g h p e) = ((Z (inp V0) g h p / T (inp V0) h p * (inp V0).ct p h e : ℝ) : EReal) := by
  rw [at_168, val_159 N, val_166 N, ← EReal.coe_mul]

/-- One group's output against the incoming gradient. -/
def cg (I : Inputs) (g : Fin 3) (h : Fin 16) (p : Fin 4096) : ℝ := ∑ e, I.ct p h e * og I g h p e

theorem val_172 : v172 V0 (ix3 g h p) = (cg (inp V0) g h p : EReal) := by
  rw [at_172]
  simp only [val_166 N, val_127 N, ← EReal.coe_mul, coe_sum, Finset.univ_unique, Finset.sum_singleton]
  rfl

theorem val_185 : v185 V0 (ix4 g h p 0) = (((cg (inp V0) g h p - delta (inp V0) h p) * (Z (inp V0) g h p / T (inp V0) h p) : ℝ) : EReal) := by
  have ht := T_pos (inp V0) h p
  have he := Real.exp_pos (-M2 V0 h p)
  have hte := mul_pos ht he
  rw [at_185]
  simp only [val_172 N, val_153 N, val_151 N, ← EReal.coe_mul, ← EReal.coe_one, div_coe_coe _ hte.ne', div_coe_coe _ (mul_pos hte hte).ne', coe_sum,
    ← EReal.coe_neg, ← EReal.coe_add, Finset.univ_unique, Finset.sum_singleton]
  congr 1
  have hd : ∑ x : Fin 3, cg (inp V0) x h p * (1 / (T (inp V0) h p * Real.exp (-M2 V0 h p) * (T (inp V0) h p * Real.exp (-M2 V0 h p)))) * (Z (inp V0) x h p * Real.exp (-M2 V0 h p))
      = delta (inp V0) h p / (T (inp V0) h p * Real.exp (-M2 V0 h p)) := by
    rw [delta_eq, Finset.sum_div]
    refine Finset.sum_congr rfl fun x _ => ?_
    unfold cg
    field_simp
  rw [hd]
  field_simp
  ring

theorem val_189 : v189 V0 (ix4 g h p p') = ((Z (inp V0) g h p / T (inp V0) h p * up (inp V0) g h p p' : ℝ) : EReal) := by
  rw [at_189]
  simp only [val_168 N, val_6 N, ← EReal.coe_mul, coe_sum]
  congr 1
  rw [up, Finset.mul_sum]
  exact Finset.sum_congr rfl fun x _ => by ring

theorem val_202 : v202 V0 (ix4 g h p p') = (ds (inp V0) g h p p' : EReal) := by
  have hz := Z_pos (inp V0) g h p
  have ht := T_pos (inp V0) h p
  have he := Real.exp_pos (-M V0 g h p)
  have hze := mul_pos hz he
  rw [at_202]
  simp only [Finset.univ_unique, Finset.sum_singleton, Fin.default_eq_zero, Fin.isValue]
  simp only [val_189 N, val_121 N, val_185 N, val_119 N, ← EReal.coe_mul, ← EReal.coe_one, div_coe_coe _ hze.ne', div_coe_coe _ (mul_pos hze hze).ne', coe_sum,
    ← EReal.coe_neg, ← EReal.coe_add]
  congr 1
  have hc : ∑ x : Fin 4096, Z (inp V0) g h p / T (inp V0) h p * up (inp V0) g h p x * (1 / (Z (inp V0) g h p * Real.exp (-M V0 g h p) * (Z (inp V0) g h p * Real.exp (-M V0 g h p)))) * (ex (inp V0) g h p x * Real.exp (-M V0 g h p))
      = cg (inp V0) g h p / (T (inp V0) h p * Real.exp (-M V0 g h p)) := by
    rw [cg, sum_ct_og, Finset.sum_div]
    refine Finset.sum_congr rfl fun x _ => ?_
    field_simp
  rw [hc, ds, prob]
  field_simp
  ring

omit N in
/-- The scores' gradients of one query and group. -/
theorem sum_ds (I : Inputs) : ∑ x, ds I g h p x = (cg I g h p - delta I h p) * (Z I g h p / T I h p) := by
  have hz := Z_pos I g h p
  have ht := T_pos I h p
  simp only [ds, prob, mul_sub, Finset.sum_sub_distrib, ← Finset.sum_mul, ← Finset.sum_div]
  rw [cg, sum_ct_og, ← Z, sub_mul, Finset.sum_mul]
  congr 1
  · refine Finset.sum_congr rfl fun x _ => ?_
    field_simp
  · ring

omit N in
theorem ds_off (I : Inputs) (hn : ¬ Ok g p p') : ds I g h p p' = 0 := by simp [ds, prob, ex, hn]

theorem val_214 : v214 V0 (ix4 g h p p') = ((ds (inp V0) g h p p' * (1 / 8) : ℝ) : EReal) := by
  obtain ⟨p0, hok, hv, heq⟩ := max_110 N g h p
  have hs : ∑ x : Fin 4096, (if v109_0 V0 (ix4 g h p x) = v110 V0 (ix3 g h p) then 1 else 0 : ℝ) ≠ 0 := by
    refine (Finset.sum_pos' (fun x _ => by split <;> norm_num) ⟨p0, Finset.mem_univ _, ?_⟩).ne'
    rw [if_pos heq]
    norm_num
  rw [at_214, at_109_1, select_ofBool]
  split
  · have hy : ∑ y : Fin 1, (v185 V0 (ix4 g h p y) + ∑ x : Fin 4096, -v202 V0 (ix4 g h p x) : EReal) = ((0 : ℝ) : EReal) := by
      rw [Fin.sum_univ_one, val_185 N]
      simp only [val_202 N, ← EReal.coe_neg, coe_sum]
      rw [← EReal.coe_add]
      refine congrArg Real.toEReal ?_
      rw [Finset.sum_neg_distrib, sum_ds g h p (inp V0)]
      exact add_neg_cancel _
    have hw : ∑ x : Fin 4096, v114 V0 (ix4 g h p x) = ((∑ x : Fin 4096, (if v109_0 V0 (ix4 g h p x) = v110 V0 (ix3 g h p) then 1 else 0 : ℝ) : ℝ) : EReal) := by
      rw [← coe_sum]
      exact Finset.sum_congr rfl fun x _ => val_114 g h p x
    rw [hy, hw, div_coe_coe _ hs, val_202 N, val_114, eighth, zero_div, ← EReal.coe_mul, zero_mul, ← EReal.coe_add, add_zero, ← EReal.coe_mul]
  · rename_i hn
    rw [ds_off g h p p' _ hn, zero_mul]
    rfl

theorem val_216 : v216 V0 (ix4 p g h e) = (dk (inp V0) g h p e : EReal) := by
  rw [at_216]
  simp only [val_214 N, val_36 N, ← EReal.coe_mul, coe_sum]
  rw [dk, Finset.sum_mul]
  congr 1
  exact Finset.sum_congr rfl fun x _ => by ring

theorem val_218 : v218 V0 (ix4 p g h e) = (dq (inp V0) g h p e : EReal) := by
  rw [at_218]
  simp only [val_214 N, val_66 N, ← EReal.coe_mul, coe_sum]
  rw [dq, Finset.sum_mul]
  congr 1
  exact Finset.sum_congr rfl fun x _ => by ring

end Cert.Ref

end
-- ==== Proof.KDefs.lean ====
/- One pair of heads of the kernel, as array operations, and each of them read at an index. -/
module

public import proofs.«01_k».proof.Proof.Gen.KernelIdeal.Value
public import Idealize.ShloMosaic.Lib.Pipeline.ValueKit
public import Idealize.ShloMosaic.Lib.Pointwise
public import proofs.«01_k».proof.Proof.RefSoft

@[expose] public section

set_option maxRecDepth 16384

noncomputable section

namespace Cert.Body

open Cert.KernelIdeal Cert.KernelIdeal.Gen Idealize.ShloMosaic Idealize.ShloMosaic.TcCoe

abbrev A128 := FVec Ideal S128x128 .f32
abbrev B128 := FVec Ideal S128x128 .bf16
abbrev Col := FVec Ideal S128x1 .f32

/-! ## The operations -/

/-- Two blocks one above the other. -/
def above (a b : B128) : FVec Ideal S256x128 .bf16 :=
  concatenate S256x128 0 [⟨S128x128, shapeCast S128x128 a shapeCasts_S128x128_S128x128⟩, ⟨S128x128, shapeCast S128x128 b shapeCasts_S128x128_S128x128⟩]
    concatenates_S128x128_S128x128_S256x128_d0

/-- A pair's block twice: the first copy keeps the first head's lanes, the second the second's. -/
def split (x : B128) : FVec Ideal S256x128 .bf16 :=
  concatenate S256x128 0 [⟨S128x128, select (k0_pay5) x (broadcast S128x128 (Scalar.ofBits (F := Ideal) .bf16 0x0000#16))⟩,
    ⟨S128x128, select (k0_pay5) (broadcast S128x128 (Scalar.ofBits (F := Ideal) .bf16 0x0000#16)) x⟩] concatenates_S128x128_S128x128_S256x128_d0

/-- The queries of a pair, scaled. -/
def scaled (x : B128) : B128 :=
  mulf (shapeCast S128x128 x shapeCasts_S128x128_S128x128) (broadcast S128x128 (Scalar.ofBits (F := Ideal) .bf16 0x3E00#16))

/-- Two columns one above the other, repeated along the lanes. -/
def cols256 (a b : Col) : FVec Ideal S256x256 .f32 :=
  broadcastTo S256x256 (concatenate S256x1 0 [⟨S128x1, a⟩, ⟨S128x1, b⟩] concatenates_S128x1_S128x1_S256x1_d0) broadcasts_S256x1_S256x256

/-- The same over 128 lanes. -/
def cols128 (a b : Col) : FVec Ideal S256x128 .f32 :=
  broadcastTo S256x128 (concatenate S256x1 0 [⟨S128x1, a⟩, ⟨S128x1, b⟩] concatenates_S128x1_S128x1_S256x1_d0) broadcasts_S256x1_S256x128

/-- Rows against rows of the block before and the own block. -/
def dots256 (x y : FVec Ideal S256x128 .bf16) : FVec Ideal S256x256 .f32 :=
  matmul dot_S256x128_S256x128_S256x256_1_1_0_0_n_n none x y (constant S256x256 .f32 0x00000000#32)

/-- Rows against rows of the own block. -/
def dots128 (x : FVec Ideal S256x128 .bf16) (y : B128) : FVec Ideal S256x128 .f32 :=
  matmul dot_S256x128_S128x128_S256x128_1_1_0_0_n_n none x (shapeCast S128x128 y shapeCasts_S128x128_S128x128) (constant S256x128 .f32 0x00000000#32)

/-- The probabilities of the own rows. -/
def probs (S M : FVec Ideal S256x256 .f32) (a b : Col) : FVec Ideal S256x256 .f32 := exp (subf (addf S M) (cols256 a b))
/-- The probabilities of the next rows. -/
def probs' (S M : FVec Ideal S256x128 .f32) (a b : Col) : FVec Ideal S256x128 .f32 := exp (subf (addf S M) (cols128 a b))
/-- The score gradients of the own rows. -/
def slopes (P W : FVec Ideal S256x256 .f32) (a b : Col) : FVec Ideal S256x256 .f32 := mulf P (subf W (cols256 a b))
/-- The score gradients of the next rows. -/
def slopes' (P W : FVec Ideal S256x128 .f32) (a b : Col) : FVec Ideal S256x128 .f32 := mulf P (subf W (cols128 a b))

/-- The query gradients of a pair. -/
def back (D : FVec Ideal S256x256 .f32) (K : FVec Ideal S256x128 .bf16) : A128 :=
  mulf (select k0_pay5
      (extractStridedSlice S128x128 ![0, 0] (matmul dot_S256x256_S256x128_S256x128_1_0_0_1_n_n none (truncf .bf16 D bitsLt_bf16_f32) K (constant S256x128 .f32 0x00000000#32)) slices_S256x128_o0_0_S128x128)
      (extractStridedSlice S128x128 ![128, 0] (matmul dot_S256x256_S256x128_S256x128_1_0_0_1_n_n none (truncf .bf16 D bitsLt_bf16_f32) K (constant S256x128 .f32 0x00000000#32)) slices_S256x128_o128_0_S128x128))
    (broadcast S128x128 (Scalar.ofBits (F := Ideal) .f32 0x3E000000#32))

/-- What the own rows and the next rows send back to the own keys. -/
def fore (D : FVec Ideal S256x256 .f32) (E : FVec Ideal S256x128 .f32) (X Y : FVec Ideal S256x128 .bf16) : A128 :=
  matmul dot_S512x128_S512x128_S128x128_0_0_1_1_n_n none
    (truncf .bf16 (concatenate S512x128 0 [⟨S256x128, extractStridedSlice S256x128 ![0, 128] D slices_S256x256_o0_128_S256x128⟩, ⟨S256x128, E⟩] concatenates_S256x128_S256x128_S512x128_d0) bitsLt_bf16_f32)
    (concatenate S512x128 0 [⟨S256x128, X⟩, ⟨S256x128, Y⟩] concatenates_S256x128_S256x128_S512x128_d0) (constant S128x128 .f32 0x00000000#32)

/-- The rotation, transposed. -/
def turn (x c s : A128) : B128 :=
  truncf .bf16 (addf (mulf x c) (mulf (select k0_pay30 (dynamicRotate 1 96#32 none x rotates_S128x128_d1) (dynamicRotate 1 32#32 none x rotates_S128x128_d1)) s))
    bitsLt_bf16_f32

/-! ## At an index -/

/-- A row of the two stacked heads. -/
abbrev row (d : Fin 2) (i : Fin 128) : Fin 256 := ⟨128 * d + i, by omega⟩

theorem above_at (a b : B128) (r : Fin 256) (l : Fin 128) :
    above a b (ix2 r l) = (if h : (r : ℕ) < 128 then a (ix2 ⟨r, h⟩ l) else b (ix2 ⟨r - 128, by omega⟩ l) : EReal) := by
  pointwise [above]

theorem first_half (i l : Fin 128) : k0_pay5 (ix2 i l) = BitVec.ofBool (decide ((l : ℕ) < 64)) := by
  have e : k0_pay5 (ix2 i l) = IntOp.cmpi .slt (BitVec.ofNat 32 l) 64#32 := by pointwise [k0_pay5]
  rw [e]
  clear e
  revert l
  decide +kernel

theorem half_lane (i l : Fin 128) : k0_pay30 (ix2 i l) = BitVec.ofBool (decide ((l : ℕ) % 64 < 32)) := by
  have e : k0_pay30 (ix2 i l) = IntOp.cmpi .slt (Scalar.select (IntOp.andi (IntOp.xori (IntOp.cmpi .slt (IntOp.remsi .vector (BitVec.ofNat 32 l) 64#32) 0#32) 0#1)
      (IntOp.cmpi .ne (IntOp.remsi .vector (BitVec.ofNat 32 l) 64#32) 0#32)) (IntOp.addi (IntOp.remsi .vector (BitVec.ofNat 32 l) 64#32) 64#32) (IntOp.remsi .vector (BitVec.ofNat 32 l) 64#32)) 32#32 := by
    pointwise [k0_pay30]
    rfl
  rw [e]
  clear e
  revert l
  decide +kernel

theorem split_at (x : B128) (d : Fin 2) (i l : Fin 128) :
    split x (ix2 (row d i) l) = (if (l : ℕ) / 64 = d then x (ix2 i l) else 0 : EReal) := by
  pointwise [split]
  fin_cases d
  · have h : 128 * ((0 : Fin 2) : ℕ) + (i : ℕ) < 128 := by simp
    have e : (⟨128 * ((0 : Fin 2) : ℕ) + (i : ℕ), h⟩ : Fin 128) = i := Fin.ext (by simp)
    refine (dif_pos h).trans ((congrArg (fun q => Scalar.select (k0_pay5 (ix2 q l)) (x (ix2 q l)) (0 : EReal)) e).trans ?_)
    change Scalar.select (k0_pay5 (ix2 i l)) (x (ix2 i l)) (0 : EReal) = _
    rw [first_half, Ref.select_ofBool]
    exact if_congr (by simp) rfl rfl
  · have h : ¬ 128 * ((1 : Fin 2) : ℕ) + (i : ℕ) < 128 := by simp
    have e : (⟨128 * ((1 : Fin 2) : ℕ) + (i : ℕ) - 128, by simp⟩ : Fin 128) = i := Fin.ext (by simp)
    refine (dif_neg h).trans ((congrArg (fun q => Scalar.select (k0_pay5 (ix2 q l)) (0 : EReal) (x (ix2 q l))) e).trans ?_)
    change Scalar.select (k0_pay5 (ix2 i l)) (0 : EReal) (x (ix2 i l)) = _
    rw [first_half, Ref.select_ofBool]
    by_cases hl : (l : ℕ) < 64
    · rw [if_pos hl]
      exact (if_neg (by simp; omega)).symm
    · rw [if_neg hl]
      exact (if_pos (by simp; omega)).symm

theorem scaled_at (x : B128) (i l : Fin 128) : scaled x (ix2 i l) = (x (ix2 i l) * Ideal.ofBits .bf16 0x3E00#16 : EReal) := by
  pointwise [scaled]

theorem cols256_at (a b : Col) (d : Fin 2) (i : Fin 128) (t : Fin 256) :
    cols256 a b (ix2 (row d i) t) = ((if d = 0 then a else b) (ix2 i 0) : EReal) := by
  pointwise [cols256]
  fin_cases d
  · have h : 128 * ((0 : Fin 2) : ℕ) + (i : ℕ) < 128 := by simp
    exact (dif_pos h).trans (congrArg (fun q => a (ix2 q 0)) (Fin.ext (by simp)))
  · have h : ¬ 128 * ((1 : Fin 2) : ℕ) + (i : ℕ) < 128 := by simp
    exact (dif_neg h).trans (congrArg (fun q => b (ix2 q 0)) (Fin.ext (by simp)))

theorem cols128_at (a b : Col) (d : Fin 2) (i t : Fin 128) :
    cols128 a b (ix2 (row d i) t) = ((if d = 0 then a else b) (ix2 i 0) : EReal) := by
  pointwise [cols128]
  fin_cases d
  · have h : 128 * ((0 : Fin 2) : ℕ) + (i : ℕ) < 128 := by simp
    exact (dif_pos h).trans (congrArg (fun q => a (ix2 q 0)) (Fin.ext (by simp)))
  · have h : ¬ 128 * ((1 : Fin 2) : ℕ) + (i : ℕ) < 128 := by simp
    exact (dif_neg h).trans (congrArg (fun q => b (ix2 q 0)) (Fin.ext (by simp)))

theorem probs_at (S M : FVec Ideal S256x256 .f32) (a b : Col) (r t : Fin 256) :
    probs S M a b (ix2 r t) = (Ideal.exp (S (ix2 r t) + M (ix2 r t) - cols256 a b (ix2 r t)) : EReal) := rfl
theorem probs'_at (S M : FVec Ideal S256x128 .f32) (a b : Col) (r : Fin 256) (t : Fin 128) :
    probs' S M a b (ix2 r t) = (Ideal.exp (S (ix2 r t) + M (ix2 r t) - cols128 a b (ix2 r t)) : EReal) := rfl
theorem slopes_at (P W : FVec Ideal S256x256 .f32) (a b : Col) (r t : Fin 256) :
    slopes P W a b (ix2 r t) = (P (ix2 r t) * (W (ix2 r t) - cols256 a b (ix2 r t)) : EReal) := rfl
theorem slopes'_at (P W : FVec Ideal S256x128 .f32) (a b : Col) (r : Fin 256) (t : Fin 128) :
    slopes' P W a b (ix2 r t) = (P (ix2 r t) * (W (ix2 r t) - cols128 a b (ix2 r t)) : EReal) := rfl

theorem dots256_at (x y : FVec Ideal S256x128 .bf16) (r t : Fin 256) : dots256 x y (ix2 r t) = (∑ l : Fin 128, x (ix2 r l) * y (ix2 t l) : EReal) := by
  pointwise [dots256]
theorem dots128_at (x : FVec Ideal S256x128 .bf16) (y : B128) (r : Fin 256) (t : Fin 128) : dots128 x y (ix2 r t) = (∑ l : Fin 128, x (ix2 r l) * y (ix2 t l) : EReal) := by
  pointwise [dots128]

theorem back_at (D : FVec Ideal S256x256 .f32) (K : FVec Ideal S256x128 .bf16) (i l : Fin 128) :
    back D K (ix2 i l) = ((∑ t : Fin 256, D (ix2 (row ⟨l / 64, by omega⟩ i) t) * K (ix2 t l)) * Ideal.ofBits .f32 0x3E000000#32 : EReal) := by
  pointwise [back]
  rw [first_half, Ref.select_ofBool]
  refine congrArg (· * Ideal.ofBits .f32 0x3E000000#32) ?_
  by_cases hl : (l : ℕ) < 64
  · rw [if_pos hl]
    have e : (⟨i, by omega⟩ : Fin 256) = row ⟨l / 64, by omega⟩ i := Fin.ext (by simp only; omega)
    rw [e]
  · rw [if_neg hl]
    have e : (⟨128 + i, by omega⟩ : Fin 256) = row ⟨l / 64, by omega⟩ i := Fin.ext (by simp only; omega)
    rw [e]

theorem fore_at (D : FVec Ideal S256x256 .f32) (E : FVec Ideal S256x128 .f32) (X Y : FVec Ideal S256x128 .bf16) (j l : Fin 128) :
    fore D E X Y (ix2 j l) = (∑ u : Fin 256, D (ix2 u ⟨128 + j, by omega⟩) * X (ix2 u l) + ∑ u : Fin 256, E (ix2 u j) * Y (ix2 u l) : EReal) := by
  pointwise [fore]

theorem turn_at (x c s : A128) (i l : Fin 128) :
    turn x c s (ix2 i l) = (x (ix2 i l) * c (ix2 i l)
      + (if (l : ℕ) % 64 < 32 then x (ix2 i ⟨(l + 32) % 128, by omega⟩) else x (ix2 i ⟨(l + 96) % 128, by omega⟩)) * s (ix2 i l) : EReal) := by
  pointwise [turn]
  rw [half_lane, Ref.select_ofBool]
  have e1 : (⟨((l : ℕ) + 128 - 96) % 128, by omega⟩ : Fin 128) = ⟨(l + 32) % 128, by omega⟩ := Fin.ext (by simp only; omega)
  have e2 : (⟨((l : ℕ) + 128 - 32) % 128, by omega⟩ : Fin 128) = ⟨(l + 96) % 128, by omega⟩ := Fin.ext (by simp only; omega)
  rw [e1, e2]

end Cert.Body

end
-- ==== Proof.KReal.lean ====
/- One pair of heads of the kernel, in real numbers. -/
module

public import proofs.«01_k».proof.Proof.KDefs

@[expose] public section

set_option maxRecDepth 16384

noncomputable section

namespace Cert.Body

open Cert.KernelIdeal Cert.KernelIdeal.Gen Idealize.ShloMosaic Idealize.ShloMosaic.TcCoe Cert.Real

/-- What a pair reads: queries, keys, values and the incoming gradient of its own block, the keys and values of the block
    before, the queries and gradient of the block after, two columns of each statistic, and the two masks. -/
structure Arr where
  q : B128
  k : B128
  v : B128
  kp : B128
  vp : B128
  qn : B128
  o : B128
  on : B128
  la : Col
  lb : Col
  na : Col
  nb : Col
  da : Col
  db : Col
  ea : Col
  eb : Col
  m : FVec Ideal S256x256 .f32
  mn : FVec Ideal S256x128 .f32

namespace Arr

variable (a : Arr)

def qs : FVec Ideal S256x128 .bf16 := split (scaled a.q)
def qns : FVec Ideal S256x128 .bf16 := split (scaled a.qn)
def os : FVec Ideal S256x128 .bf16 := split (shapeCast S128x128 a.o shapeCasts_S128x128_S128x128)
def ons : FVec Ideal S256x128 .bf16 := split (shapeCast S128x128 a.on shapeCasts_S128x128_S128x128)
def p : FVec Ideal S256x256 .f32 := probs (dots256 a.qs (above a.kp a.k)) a.m a.la a.lb
def pn : FVec Ideal S256x128 .f32 := probs' (dots128 a.qns a.k) a.mn a.na a.nb
def s : FVec Ideal S256x256 .f32 := slopes a.p (dots256 a.os (above a.vp a.v)) a.da a.db
def sn : FVec Ideal S256x128 .f32 := slopes' a.pn (dots128 a.ons a.v) a.ea a.eb
/-- The query gradients, -/
def dq : A128 := back a.s (above a.kp a.k)
/-- the key gradients -/
def dk : A128 := fore a.s a.sn a.qs a.qns
/-- and the value gradients. -/
def dv : A128 := fore a.p a.pn a.os a.ons

end Arr

/-- The same in real numbers. -/
structure Nums where
  q : Fin 128 → Fin 128 → ℝ
  k : Fin 128 → Fin 128 → ℝ
  v : Fin 128 → Fin 128 → ℝ
  kp : Fin 128 → Fin 128 → ℝ
  vp : Fin 128 → Fin 128 → ℝ
  qn : Fin 128 → Fin 128 → ℝ
  o : Fin 128 → Fin 128 → ℝ
  on : Fin 128 → Fin 128 → ℝ
  l : Fin 2 → Fin 128 → ℝ
  n : Fin 2 → Fin 128 → ℝ
  d : Fin 2 → Fin 128 → ℝ
  e : Fin 2 → Fin 128 → ℝ
  hp : Prop
  hn : Prop

namespace Nums

variable (R : Nums)

/-- The keys of the block before and the own block. -/
def k2 (t : Fin 256) (l : Fin 128) : ℝ := if h : (t : ℕ) < 128 then R.kp ⟨t, h⟩ l else R.k ⟨t - 128, by omega⟩ l
/-- The values of the block before and the own block. -/
def v2 (t : Fin 256) (l : Fin 128) : ℝ := if h : (t : ℕ) < 128 then R.vp ⟨t, h⟩ l else R.v ⟨t - 128, by omega⟩ l
/-- Which of them an own row sees. -/
def sees (i : Fin 128) (t : Fin 256) : Prop := ((t : ℕ) < 128 ∧ (i : ℕ) ≤ t ∧ R.hp) ∨ (128 ≤ (t : ℕ) ∧ (t : ℕ) - 128 ≤ i)
/-- Which own keys a row of the next block sees. -/
def sees' (i j : Fin 128) : Prop := (i : ℕ) ≤ j ∧ R.hn
/-- The product of two rows over one head's lanes. -/
def dot (d : Fin 2) (x y : Fin 128 → ℝ) : ℝ := ∑ e : Fin 64, x ⟨64 * d + e, by omega⟩ * y ⟨64 * d + e, by omega⟩

open Classical in
def p (d : Fin 2) (i : Fin 128) (t : Fin 256) : ℝ := if R.sees i t then Real.exp (dot d (R.q i) (R.k2 t) * (1 / 8) - R.l d i) else 0
open Classical in
def pn (d : Fin 2) (i j : Fin 128) : ℝ := if R.sees' i j then Real.exp (dot d (R.qn i) (R.k j) * (1 / 8) - R.n d i) else 0
def s (d : Fin 2) (i : Fin 128) (t : Fin 256) : ℝ := R.p d i t * (dot d (R.o i) (R.v2 t) - R.d d i)
def sn (d : Fin 2) (i j : Fin 128) : ℝ := R.pn d i j * (dot d (R.on i) (R.v j) - R.e d i)
/-- The head a lane belongs to. -/
abbrev hd (l : Fin 128) : Fin 2 := ⟨l / 64, by omega⟩
def dq (i l : Fin 128) : ℝ := (∑ t, R.s (hd l) i t * R.k2 t l) * (1 / 8)
def dk (j l : Fin 128) : ℝ := ∑ i, R.s (hd l) i ⟨128 + j, by omega⟩ * (R.q i l * (1 / 8)) + ∑ i, R.sn (hd l) i j * (R.qn i l * (1 / 8))
def dv (j l : Fin 128) : ℝ := ∑ i, R.p (hd l) i ⟨128 + j, by omega⟩ * R.o i l + ∑ i, R.pn (hd l) i j * R.on i l

end Nums

open Classical in
/-- The arrays hold the numbers. -/
structure Holds (a : Arr) (R : Nums) : Prop where
  q : ∀ i l, a.q (ix2 i l) = (R.q i l : EReal)
  k : ∀ i l, a.k (ix2 i l) = (R.k i l : EReal)
  v : ∀ i l, a.v (ix2 i l) = (R.v i l : EReal)
  kp : ∀ i l, a.kp (ix2 i l) = (R.kp i l : EReal)
  vp : ∀ i l, a.vp (ix2 i l) = (R.vp i l : EReal)
  qn : ∀ i l, a.qn (ix2 i l) = (R.qn i l : EReal)
  o : ∀ i l, a.o (ix2 i l) = (R.o i l : EReal)
  on : ∀ i l, a.on (ix2 i l) = (R.on i l : EReal)
  l : ∀ d i, (if d = (0 : Fin 2) then a.la else a.lb) (ix2 i 0) = (R.l d i : EReal)
  n : ∀ d i, (if d = (0 : Fin 2) then a.na else a.nb) (ix2 i 0) = (R.n d i : EReal)
  d : ∀ d i, (if d = (0 : Fin 2) then a.da else a.db) (ix2 i 0) = (R.d d i : EReal)
  e : ∀ d i, (if d = (0 : Fin 2) then a.ea else a.eb) (ix2 i 0) = (R.e d i : EReal)
  m : ∀ d i t, a.m (ix2 (row d i) t) = (if R.sees i t then 0 else ⊥ : EReal)
  mn : ∀ d i j, a.mn (ix2 (row d i) j) = (if R.sees' i j then 0 else ⊥ : EReal)

variable {a : Arr} {R : Nums} (H : Holds a R)

/-! ## Sums -/

/-- A sum over the lanes that one head holds. -/
theorem sum_lanes (d : Fin 2) (x y : Fin 128 → ℝ) :
    ∑ l : Fin 128, (if (l : ℕ) / 64 = d then x l else 0) * y l = Nums.dot d x y := by
  have h : ∀ f : Fin 128 → ℝ, ∑ l : Fin 128, f l = ∑ e : Fin 64, f ⟨e, by omega⟩ + ∑ e : Fin 64, f ⟨64 + e, by omega⟩ :=
    fun f => Fin.sum_univ_add (a := 64) (b := 64) f
  rw [h, Nums.dot]
  fin_cases d
  · refine (congrArg₂ (· + ·) (Finset.sum_congr rfl fun e _ => ?_) (Finset.sum_eq_zero fun e _ => ?_)).trans (add_zero (∑ e : Fin 64, x ⟨64 * (0 : Fin 2) + e, by omega⟩ * y ⟨64 * (0 : Fin 2) + e, by omega⟩))
    · have he : ((⟨(e : ℕ), by omega⟩ : Fin 128) : ℕ) / 64 = 0 := by simp only; omega
      simp only [he]
      simp
    · have he : ¬ ((⟨64 + (e : ℕ), by omega⟩ : Fin 128) : ℕ) / 64 = 0 := by simp only; omega
      rw [if_neg he, zero_mul]
  · refine (congrArg₂ (· + ·) (Finset.sum_eq_zero fun e _ => ?_) (Finset.sum_congr rfl fun e _ => ?_)).trans (zero_add (∑ e : Fin 64, x ⟨64 * (1 : Fin 2) + e, by omega⟩ * y ⟨64 * (1 : Fin 2) + e, by omega⟩))
    · have he : ¬ ((⟨(e : ℕ), by omega⟩ : Fin 128) : ℕ) / 64 = 1 := by simp only; omega
      exact (congrArg (· * _) (if_neg he)).trans (zero_mul _)
    · have he : ((⟨64 + (e : ℕ), by omega⟩ : Fin 128) : ℕ) / 64 = 1 := by simp only; omega
      exact congrArg (· * _) (if_pos he)

/-- A sum over the rows of the two stacked heads. -/
theorem sum_rows {M : Type} [AddCommMonoid M] (f : Fin 256 → M) : ∑ u, f u = ∑ i : Fin 128, f (row 0 i) + ∑ i : Fin 128, f (row 1 i) := by
  refine (Fin.sum_univ_add (a := 128) (b := 128) f).trans ?_
  refine congrArg₂ (· + ·) (Finset.sum_congr rfl fun i _ => congrArg f (Fin.ext ?_)) (Finset.sum_congr rfl fun i _ => congrArg f (Fin.ext ?_))
  · simp
  · simp [add_comm]

/-! ## The arrays in numbers -/

include H

theorem val_qs (d : Fin 2) (i l : Fin 128) : a.qs (ix2 (row d i) l) = ((if (l : ℕ) / 64 = d then R.q i l * (1 / 8) else 0 : ℝ) : EReal) := by
  rw [Arr.qs, split_at, scaled_at, H.q, eighth_bf16, ← EReal.coe_mul]
  split <;> rfl

theorem val_qns (d : Fin 2) (i l : Fin 128) : a.qns (ix2 (row d i) l) = ((if (l : ℕ) / 64 = d then R.qn i l * (1 / 8) else 0 : ℝ) : EReal) := by
  rw [Arr.qns, split_at, scaled_at, H.qn, eighth_bf16, ← EReal.coe_mul]
  split <;> rfl

omit H in
theorem cast_at (x : B128) (i l : Fin 128) : shapeCast S128x128 x shapeCasts_S128x128_S128x128 (ix2 i l) = (x (ix2 i l) : EReal) := by
  pointwise

theorem val_os (d : Fin 2) (i l : Fin 128) : a.os (ix2 (row d i) l) = ((if (l : ℕ) / 64 = d then R.o i l else 0 : ℝ) : EReal) := by
  rw [Arr.os, split_at, cast_at, H.o]
  split <;> rfl

theorem val_ons (d : Fin 2) (i l : Fin 128) : a.ons (ix2 (row d i) l) = ((if (l : ℕ) / 64 = d then R.on i l else 0 : ℝ) : EReal) := by
  rw [Arr.ons, split_at, cast_at, H.on]
  split <;> rfl

theorem val_k2 (t : Fin 256) (l : Fin 128) : above a.kp a.k (ix2 t l) = (R.k2 t l : EReal) := by
  rw [above_at, Nums.k2]
  split
  · exact H.kp _ _
  · exact H.k _ _

theorem val_v2 (t : Fin 256) (l : Fin 128) : above a.vp a.v (ix2 t l) = (R.v2 t l : EReal) := by
  rw [above_at, Nums.v2]
  split
  · exact H.vp _ _
  · exact H.v _ _

omit H in
theorem dot_eighth (d : Fin 2) (x y : Fin 128 → ℝ) : Nums.dot d (fun l => x l * (1 / 8)) y = Nums.dot d x y * (1 / 8) := by
  rw [Nums.dot, Nums.dot, Finset.sum_mul]
  exact Finset.sum_congr rfl fun e _ => by ring

omit H in
open Classical in
/-- The exponential of a masked score. -/
theorem masked (P : Prop) (x l : ℝ) : Ideal.exp ((x : EReal) + (if P then 0 else ⊥ : EReal) - (l : EReal)) = ((if P then Real.exp (x - l) else 0 : ℝ) : EReal) := by
  split
  · rw [add_zero, ← EReal.coe_sub, exp_coe]
  · rw [EReal.add_bot, EReal.bot_sub]
    rfl

theorem val_p (d : Fin 2) (i : Fin 128) (t : Fin 256) : a.p (ix2 (row d i) t) = (R.p d i t : EReal) := by
  rw [Arr.p, probs_at, dots256_at, cols256_at, H.l, H.m]
  simp only [val_qs H, val_k2 H, ← EReal.coe_mul, coe_sum]
  rw [sum_lanes d (fun l => R.q i l * (1 / 8)), dot_eighth, masked]
  rfl

theorem val_pn (d : Fin 2) (i j : Fin 128) : a.pn (ix2 (row d i) j) = (R.pn d i j : EReal) := by
  rw [Arr.pn, probs'_at, dots128_at, cols128_at, H.n, H.mn]
  simp only [val_qns H, H.k, ← EReal.coe_mul, coe_sum]
  rw [sum_lanes d (fun l => R.qn i l * (1 / 8)), dot_eighth, masked]
  rfl

theorem val_s (d : Fin 2) (i : Fin 128) (t : Fin 256) : a.s (ix2 (row d i) t) = (R.s d i t : EReal) := by
  rw [Arr.s, slopes_at, val_p H, dots256_at, cols256_at, H.d]
  simp only [val_os H, val_v2 H, ← EReal.coe_mul, coe_sum]
  rw [sum_lanes d (fun l => R.o i l), ← EReal.coe_sub, ← EReal.coe_mul]
  rfl

theorem val_sn (d : Fin 2) (i j : Fin 128) : a.sn (ix2 (row d i) j) = (R.sn d i j : EReal) := by
  rw [Arr.sn, slopes'_at, val_pn H, dots128_at, cols128_at, H.e]
  simp only [val_ons H, H.v, ← EReal.coe_mul, coe_sum]
  rw [sum_lanes d (fun l => R.on i l), ← EReal.coe_sub, ← EReal.coe_mul]
  rfl

theorem val_dq (i l : Fin 128) : a.dq (ix2 i l) = (R.dq i l : EReal) := by
  rw [Arr.dq, back_at, eighth]
  simp only [val_s H, val_k2 H, ← EReal.coe_mul, coe_sum]
  rfl

theorem val_dk (j l : Fin 128) : a.dk (ix2 j l) = (R.dk j l : EReal) := by
  rw [Arr.dk, fore_at, sum_rows, sum_rows]
  simp only [val_s H, val_sn H, val_qs H, val_qns H, ← EReal.coe_mul, coe_sum, ← EReal.coe_add]
  refine congrArg Real.toEReal ?_
  rw [Nums.dk, Nums.hd]
  have h : (l : ℕ) / 64 = 0 ∨ (l : ℕ) / 64 = 1 := by omega
  rcases h with h | h
  · simp [h]
  · simp [h]

theorem val_dv (j l : Fin 128) : a.dv (ix2 j l) = (R.dv j l : EReal) := by
  rw [Arr.dv, fore_at, sum_rows, sum_rows]
  simp only [val_p H, val_pn H, val_os H, val_ons H, ← EReal.coe_mul, coe_sum, ← EReal.coe_add]
  refine congrArg Real.toEReal ?_
  rw [Nums.dv, Nums.hd]
  have h : (l : ℕ) / 64 = 0 ∨ (l : ℕ) / 64 = 1 := by omega
  rcases h with h | h
  · simp [h]
  · simp [h]

end Cert.Body

end
-- ==== Proof.KRead.lean ====
/- What each block of a grid point holds, in terms of the arrays the launch reads. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Body

open Cert.KernelIdeal Cert.KernelIdeal.Gen Idealize.ShloMosaic Idealize.ShloMosaic.TcCoe

/-- The block every window reads at each point. -/
theorem idx : ∀ t : Fin cfg0.N, win0_0.index t = ![t.val, 0] ∧ win0_1.index t = ![t.val - 1, 1] ∧ win0_2.index t = ![t.val - 1, 2]
    ∧ win0_3.index t = ![min (t.val + 1) 95, 0] ∧ win0_4.index t = ![t.val, 0] ∧ win0_5.index t = ![min (t.val + 1) 95, 0]
    ∧ win0_6.index t = ![t.val, 0] ∧ win0_7.index t = ![min (t.val + 1) 95, 0] ∧ win0_8.index t = ![t.val, 0]
    ∧ win0_9.index t = ![min (t.val + 1) 95, 0] ∧ win0_10.index t = ![t.val, 0] ∧ win0_11.index t = ![t.val, 0]
    ∧ win0_12.index t = ![t.val, 0] :=
  (by decide +kernel : ∀ t : Fin grid0.N, _)

theorem coords_val : ∀ t : Fin cfg0.N, (grid0.coords t 0).val = t.val := (by decide +kernel : ∀ t : Fin grid0.N, _)

variable (m : (ℓ : Loc nD τ sig) → Buf (Elt Ideal) ℓ) (c : Dev nD) (t : Fin cfg0.N) (i : Fin 128)

theorem t_lt : (t : ℕ) < 96 := t.isLt

theorem blk0 (u : Fin 3072) : iblk m c 0 t (ix2 i u) = V m c main_v188 (ix2 ⟨128 * t + i, by have := t_lt t; omega⟩ u) := by
  blk_ext [iblk, idx t]
theorem blk1 (u : Fin 1024) : iblk m c 1 t (ix2 i u) = V m c main_v188 (ix2 ⟨128 * (t.val - 1) + i, by have := t_lt t; omega⟩ ⟨1024 + u, by omega⟩) := by
  blk_ext [iblk, idx t]
theorem blk2 (u : Fin 1024) : iblk m c 2 t (ix2 i u) = V m c main_v188 (ix2 ⟨128 * (t.val - 1) + i, by have := t_lt t; omega⟩ ⟨2048 + u, by omega⟩) := by
  blk_ext [iblk, idx t]
theorem blk3 (u : Fin 1024) : iblk m c 3 t (ix2 i u) = V m c main_v188 (ix2 ⟨128 * min (t.val + 1) 95 + i, by omega⟩ ⟨u, by omega⟩) := by
  blk_ext [iblk, idx t]
theorem blk4 (u : Fin 1024) : iblk m c 4 t (ix2 i u) = V m c main_v250 (ix2 ⟨128 * t + i, by have := t_lt t; omega⟩ u) := by
  blk_ext [iblk, idx t]
theorem blk5 (u : Fin 1024) : iblk m c 5 t (ix2 i u) = V m c main_v250 (ix2 ⟨128 * min (t.val + 1) 95 + i, by omega⟩ u) := by
  blk_ext [iblk, idx t]
theorem blk6 (u : Fin 128) : iblk m c 6 t (ix2 i u) = V m c main_v269 (ix2 ⟨128 * t + i, by have := t_lt t; omega⟩ u) := by
  blk_ext [iblk, idx t]
theorem blk7 (u : Fin 128) : iblk m c 7 t (ix2 i u) = V m c main_v269 (ix2 ⟨128 * min (t.val + 1) 95 + i, by omega⟩ u) := by
  blk_ext [iblk, idx t]
theorem blk8 (u : Fin 128) : iblk m c 8 t (ix2 i u) = V m c main_v288 (ix2 ⟨128 * t + i, by have := t_lt t; omega⟩ u) := by
  blk_ext [iblk, idx t]
theorem blk9 (u : Fin 128) : iblk m c 9 t (ix2 i u) = V m c main_v288 (ix2 ⟨128 * min (t.val + 1) 95 + i, by omega⟩ u) := by
  blk_ext [iblk, idx t]
theorem blk10 (u : Fin 128) : iblk m c 10 t (ix2 i u) = V m c main_v228 (ix2 ⟨128 * t + i, by have := t_lt t; omega⟩ u) := by
  blk_ext [iblk, idx t]
theorem blk11 (u : Fin 128) : iblk m c 11 t (ix2 i u) = V m c main_v231 (ix2 ⟨128 * t + i, by have := t_lt t; omega⟩ u) := by
  blk_ext [iblk, idx t]

end Cert.Body

end
-- ==== Proof.KMask.lean ====
/- The two masks of a grid point. -/
module

public import proofs.«01_k».proof.Proof.KReal
public import proofs.«01_k».proof.Proof.KRead

@[expose] public section

set_option maxRecDepth 16384

noncomputable section

namespace Cert.Body

open Cert.KernelIdeal Cert.KernelIdeal.Gen Idealize.ShloMosaic Idealize.ShloMosaic.TcCoe

/-! ## Where a grid point lies -/

/-- The group of a grid point. -/
def groupWord (b : BitVec 32) : BitVec 32 :=
  Scalar.select (Scalar.andi
      (Scalar.cmpi .ne (Scalar.subi (Scalar.extui (Scalar.cmpi .sgt b 0#32)) (Scalar.extui (Scalar.cmpi .slt b 0#32)))
        1#32)
      (Scalar.cmpi .ne (Scalar.remsi b 32#32) 0#32))
    (Scalar.subi (Scalar.divsi b 32#32) 1#32) (Scalar.divsi b 32#32)

/-- How many blocks a class of that group has. -/
def countWord (b : BitVec 32) : BitVec 32 :=
  Scalar.select (Scalar.cmpi .eq (groupWord b) 0#32) 32#32 (Scalar.select (Scalar.cmpi .eq (groupWord b) 1#32) 8#32 2#32)

/-- The block within the group. -/
def innerWord (b : BitVec 32) : BitVec 32 :=
  Scalar.select (Scalar.andi (Scalar.xori (Scalar.cmpi .slt (Scalar.remsi b 32#32) 0#32)
        (0#1))
      (Scalar.cmpi .ne (Scalar.remsi b 32#32) 0#32))
    (Scalar.addi (Scalar.remsi b 32#32) 32#32)
    (Scalar.remsi b 32#32)

/-- The number of blocks, never zero. -/
def modWord (b : BitVec 32) : BitVec 32 := Scalar.select (Scalar.cmpi .eq (countWord b) 0#32) 1#32 (countWord b)
/-- The block within the class, before its sign is looked at. -/
def remnWord (b : BitVec 32) : BitVec 32 := Scalar.remsi (innerWord b) (modWord b)
/-- The block within the class. -/
def placeWord (b : BitVec 32) : BitVec 32 :=
  Scalar.select (Scalar.andi (Scalar.xori (Scalar.cmpi .slt (remnWord b) 0#32) (Scalar.cmpi .slt (modWord b) 0#32)) (Scalar.cmpi .ne (remnWord b) 0#32))
    (Scalar.addi (remnWord b) (modWord b)) (remnWord b)

/-- The own rows' mask -/
def mask (b : BitVec 32) : FVec Ideal S256x256 .f32 :=
  k0_pay3 (modWord b) (remnWord b) (Scalar.cmpi .ne (remnWord b) 0#32) (Scalar.cmpi .slt (remnWord b) 0#32) 0#32
/-- and the next rows'. -/
def maskNext (b : BitVec 32) : FVec Ideal S256x128 .f32 :=
  k0_pay4 (Scalar.cmpi .ne (placeWord b) (Scalar.subi (countWord b) 1#32)) (iota .tc S256x128 32 [0] iota_S256x128_d0_w32) 128#32 (Scalar.cmpi .eq 128#32 0#32) 1#32

/-- How many blocks a class has. -/
def count (t : ℕ) : ℕ := if t / 32 = 0 then 32 else if t / 32 = 1 then 8 else 2

theorem place_word : ∀ t : Fin 96, Scalar.cmpi .ne (placeWord (BitVec.ofNat 32 t)) 0#32 = BitVec.ofBool (decide ((t : ℕ) % 32 % count t ≠ 0)) := by
  decide +kernel
theorem last_word : ∀ t : Fin 96, Scalar.cmpi .ne (placeWord (BitVec.ofNat 32 t)) (Scalar.subi (countWord (BitVec.ofNat 32 t)) 1#32)
    = BitVec.ofBool (decide ((t : ℕ) % 32 % count t + 1 ≠ count t)) := by
  decide +kernel

/-! ## Words of small numbers -/

theorem toInt_small (n : ℕ) (hn : n < 2 ^ 31) : (BitVec.ofNat 32 n).toInt = n := by
  rw [BitVec.toInt_eq_toNat_of_lt (by rw [BitVec.toNat_ofNat]; omega), BitVec.toNat_ofNat]
  omega

theorem sge_word (a b : ℕ) (ha : a < 2 ^ 31) (hb : b < 2 ^ 31) : IntOp.cmpi .sge (BitVec.ofNat 32 a) (BitVec.ofNat 32 b) = BitVec.ofBool (decide (b ≤ a)) := by
  simp only [IntOp.cmpi, BitVec.sle, toInt_small a ha, toInt_small b hb, Nat.cast_le]
theorem sle_word (a b : ℕ) (ha : a < 2 ^ 31) (hb : b < 2 ^ 31) : IntOp.cmpi .sle (BitVec.ofNat 32 a) (BitVec.ofNat 32 b) = BitVec.ofBool (decide (a ≤ b)) := by
  simp only [IntOp.cmpi, BitVec.sle, toInt_small a ha, toInt_small b hb, Nat.cast_le]
theorem slt_word (a b : ℕ) (ha : a < 2 ^ 31) (hb : b < 2 ^ 31) : IntOp.cmpi .slt (BitVec.ofNat 32 a) (BitVec.ofNat 32 b) = BitVec.ofBool (decide (a < b)) := by
  simp only [IntOp.cmpi, BitVec.slt, toInt_small a ha, toInt_small b hb, Nat.cast_lt]

/-- A row's word modulo 128. -/
def lowWord (x n : BitVec 32) : BitVec 32 :=
  Scalar.select (IntOp.andi (IntOp.xori (IntOp.cmpi .slt (IntOp.remsi .vector x n) 0#32) (Scalar.cmpi .slt n 0#32))
    (IntOp.cmpi .ne (IntOp.remsi .vector x n) 0#32)) (IntOp.addi (IntOp.remsi .vector x n) n) (IntOp.remsi .vector x n)

theorem low_word : ∀ r : Fin 256, lowWord (BitVec.ofNat 32 r) (Scalar.select (Scalar.cmpi .eq 128#32 0#32) 1#32 128#32) = BitVec.ofNat 32 ((r : ℕ) % 128) := by decide +kernel

theorem read_mask (v32 v33 : BitVec 32) (v34 v35 : BitVec 1) (z : BitVec 32) (r t : Fin 256) :
    k0_pay3 (F := Ideal) v32 v33 v34 v35 z (ix2 r t)
      = (Scalar.select (IntOp.ori (IntOp.andi (IntOp.andi (IntOp.cmpi .slt (BitVec.ofNat 32 t) 128#32)
            (IntOp.cmpi .sge (BitVec.ofNat 32 t) (lowWord (BitVec.ofNat 32 r) (Scalar.select (Scalar.cmpi .eq 128#32 0#32) 1#32 128#32))))
            (Scalar.cmpi .ne (Scalar.select (Scalar.andi (Scalar.xori v35 (Scalar.cmpi .slt v32 z)) v34) (Scalar.addi v33 v32) v33) 0#32))
          (IntOp.andi (IntOp.cmpi .sge (BitVec.ofNat 32 t) 128#32) (IntOp.cmpi .sle (IntOp.subi (BitVec.ofNat 32 t) 128#32) (lowWord (BitVec.ofNat 32 r) (Scalar.select (Scalar.cmpi .eq 128#32 0#32) 1#32 128#32)))))
        (0 : EReal) ⊥) := by
  pointwise [k0_pay3, lowWord]
  exact congrArg (Scalar.select _ (0 : EReal)) (IdealRules.named_const.ideal_named_scalar _ _ _ _ rfl)

theorem read_maskNext (h : BitVec 1) (r : Fin 256) (t : Fin 128) :
    k0_pay4 (F := Ideal) h (iota .tc S256x128 32 [0] iota_S256x128_d0_w32) 128#32 (Scalar.cmpi .eq 128#32 0#32) 1#32 (ix2 r t)
      = (Scalar.select (IntOp.andi (IntOp.cmpi .sge (BitVec.ofNat 32 t) (lowWord (BitVec.ofNat 32 r) (Scalar.select (Scalar.cmpi .eq 128#32 0#32) 1#32 128#32))) h)
        (0 : EReal) ⊥) := by
  pointwise [k0_pay4, lowWord]
  exact congrArg (Scalar.select _ (0 : EReal)) (IdealRules.named_const.ideal_named_scalar _ _ _ _ rfl)

theorem and_bit (a b : Bool) : IntOp.andi (BitVec.ofBool a) (BitVec.ofBool b) = BitVec.ofBool (a && b) := by cases a <;> cases b <;> rfl
theorem or_bit (a b : Bool) : IntOp.ori (BitVec.ofBool a) (BitVec.ofBool b) = BitVec.ofBool (a || b) := by cases a <;> cases b <;> rfl

/-- A word chooses as a proposition does. -/
theorem choose (P : Bool) (Q : Prop) [Decidable Q] (h : P = true ↔ Q) (a b : EReal) : Scalar.select (BitVec.ofBool P) a b = if Q then a else b := by
  have e : BitVec.ofBool P = BitVec.ofBool (decide (P = true)) := by cases P <;> rfl
  rw [e, Cert.Ref.select_ofBool]
  exact if_congr h rfl rfl

/-- Whether the own rows of a grid point see a block before theirs -/
abbrev hasPrev (t : ℕ) : Prop := t % 32 % count t ≠ 0
/-- and whether a block after theirs sees them. -/
abbrev hasNext (t : ℕ) : Prop := t % 32 % count t + 1 ≠ count t

theorem mask_at (b : Fin 96) (d : Fin 2) (i : Fin 128) (t : Fin 256) :
    mask (BitVec.ofNat 32 b) (ix2 (row d i) t)
      = (if ((t : ℕ) < 128 ∧ (i : ℕ) ≤ t ∧ hasPrev b) ∨ (128 ≤ (t : ℕ) ∧ (t : ℕ) - 128 ≤ i) then 0 else ⊥ : EReal) := by
  have hr : ((row d i : Fin 256) : ℕ) % 128 = i := by simp only; omega
  have hp : Scalar.cmpi .ne (Scalar.select (Scalar.andi (Scalar.xori (Scalar.cmpi .slt (remnWord (BitVec.ofNat 32 b)) 0#32) (Scalar.cmpi .slt (modWord (BitVec.ofNat 32 b)) 0#32))
      (Scalar.cmpi .ne (remnWord (BitVec.ofNat 32 b)) 0#32)) (Scalar.addi (remnWord (BitVec.ofNat 32 b)) (modWord (BitVec.ofNat 32 b))) (remnWord (BitVec.ofNat 32 b))) 0#32
      = BitVec.ofBool (decide (hasPrev b)) := place_word b
  rw [mask, read_mask, low_word, hr, hp, show (128#32 : BitVec 32) = BitVec.ofNat 32 128 from rfl,
    sge_word t i (by omega) (by omega), sge_word t 128 (by omega) (by omega), slt_word t 128 (by omega) (by omega), and_bit, and_bit]
  by_cases h : 128 ≤ (t : ℕ)
  · rw [show IntOp.subi (BitVec.ofNat 32 t) (BitVec.ofNat 32 128) = BitVec.ofNat 32 ((t : ℕ) - 128) by
        apply BitVec.eq_of_toNat_eq
        simp only [IntOp.subi, BitVec.toNat_sub, BitVec.toNat_ofNat]
        omega,
      sle_word ((t : ℕ) - 128) i (by omega) (by omega), and_bit, or_bit]
    refine choose _ _ ?_ _ _
    simp only [Bool.or_eq_true, Bool.and_eq_true, decide_eq_true_eq, and_assoc]
  · rw [show (decide (128 ≤ (t : ℕ))) = false from decide_eq_false h,
      show ∀ z : BitVec 1, IntOp.andi (BitVec.ofBool false) z = BitVec.ofBool false by decide, or_bit]
    refine choose _ _ ?_ _ _
    simp only [Bool.or_eq_true, Bool.and_eq_true, decide_eq_true_eq, and_assoc, h, false_and, Bool.false_eq_true]

theorem maskNext_at (b : Fin 96) (d : Fin 2) (i j : Fin 128) :
    maskNext (BitVec.ofNat 32 b) (ix2 (row d i) j) = (if (i : ℕ) ≤ j ∧ hasNext b then 0 else ⊥ : EReal) := by
  have hr : ((row d i : Fin 256) : ℕ) % 128 = i := by simp only; omega
  rw [maskNext, read_maskNext, low_word, hr, last_word, sge_word j i (by omega) (by omega), and_bit]
  refine choose _ _ ?_ _ _
  simp only [Bool.and_eq_true, decide_eq_true_eq]

end Cert.Body

end
-- ==== Proof.KPieces.lean ====
/- What a grid point stores: eight pairs of heads, three blocks each. -/
module

public import proofs.«01_k».proof.Proof.KMask

@[expose] public section

set_option maxRecDepth 16384

noncomputable section

namespace Cert.Body

open Cert.KernelIdeal Cert.KernelIdeal.Gen Idealize.ShloMosaic Idealize.ShloMosaic.TcCoe

theorem in3072 {o : ℕ} (h : o + 128 ≤ 3072) : ∀ a, (![0, o] : Fin 2 → ℕ) a + S128x128.size a ≤ S128x3072.size a :=
  fun a => by fin_cases a; exacts [le_rfl, h]
theorem in1024 {o : ℕ} (h : o + 128 ≤ 1024) : ∀ a, (![0, o] : Fin 2 → ℕ) a + S128x128.size a ≤ S128x1024.size a :=
  fun a => by fin_cases a; exacts [le_rfl, h]
theorem inCol {o : ℕ} (h : o + 1 ≤ 128) : S128x128.Slices ![0, o] S128x1 := ⟨rfl, fun a => by fin_cases a; exacts [le_rfl, h]⟩

/-- 128 lanes of a wide block, -/
abbrev cut3072 (x : FVec Ideal S128x3072 .bf16) (o : ℕ) (h : o + 128 ≤ 3072) : B128 := fun i => x ((Rect.unit (s := S128x3072) ![0, o] ![128, 128] (in3072 h)).idx i)
/-- of a narrower one, -/
abbrev cut1024 (x : FVec Ideal S128x1024 .bf16) (o : ℕ) (h : o + 128 ≤ 1024) : B128 := fun i => x ((Rect.unit (s := S128x1024) ![0, o] ![128, 128] (in1024 h)).idx i)
/-- and one lane of a block of statistics. -/
abbrev cutCol (x : A128) (o : ℕ) (h : o + 1 ≤ 128) : Col := extractStridedSlice S128x1 ![0, o] (shapeCast S128x128 x shapeCasts_S128x128_S128x128) (inCol h)

variable (m : (ℓ : Loc nD τ sig) → Buf (Elt Ideal) ℓ) (c : Dev nD) (t : Fin cfg0.N)

/-- What pair `j` reads at a grid point. -/
def arr (w0 : FVec Ideal S128x3072 .bf16) (w1 w2 w3 w4 w5 : FVec Ideal S128x1024 .bf16) (w6 w7 w8 w9 : A128)
    (M : FVec Ideal S256x256 .f32) (N : FVec Ideal S256x128 .f32) (j : Fin 8) : Arr where
  q := cut3072 w0 (128 * j) (by omega)
  k := cut3072 w0 (1024 + 128 * j) (by omega)
  v := cut3072 w0 (2048 + 128 * j) (by omega)
  kp := cut1024 w1 (128 * j) (by omega)
  vp := cut1024 w2 (128 * j) (by omega)
  qn := cut1024 w3 (128 * j) (by omega)
  o := cut1024 w4 (128 * j) (by omega)
  on := cut1024 w5 (128 * j) (by omega)
  la := cutCol w6 (2 * j) (by omega)
  lb := cutCol w6 (2 * j + 1) (by omega)
  na := cutCol w7 (2 * j) (by omega)
  nb := cutCol w7 (2 * j + 1) (by omega)
  da := cutCol w8 (2 * j) (by omega)
  db := cutCol w8 (2 * j + 1) (by omega)
  ea := cutCol w9 (2 * j) (by omega)
  eb := cutCol w9 (2 * j + 1) (by omega)
  m := M
  mn := N

/-- What a pair of heads reads at a grid point. -/
def pairArr (M : FVec Ideal S256x256 .f32) (N : FVec Ideal S256x128 .f32) (j : Fin 8) : Arr :=
  arr (iblk m c 0 t) (iblk m c 1 t) (iblk m c 2 t) (iblk m c 3 t) (iblk m c 4 t) (iblk m c 5 t) (iblk m c 6 t) (iblk m c 7 t)
    (iblk m c 8 t) (iblk m c 9 t) M N j

/-- The stored query gradients, -/
abbrev outQ (M : FVec Ideal S256x256 .f32) (j : Fin 8) : B128 := turn (pairArr m c t M (fun _ => 0) j).dq (k0_pay6 (iblk m c 10 t)) (k0_pay7 (iblk m c 11 t))
/-- key gradients -/
abbrev outK (M : FVec Ideal S256x256 .f32) (N : FVec Ideal S256x128 .f32) (j : Fin 8) : B128 := turn (pairArr m c t M N j).dk (k0_pay6 (iblk m c 10 t)) (k0_pay7 (iblk m c 11 t))
/-- and value gradients. -/
abbrev outV (M : FVec Ideal S256x256 .f32) (N : FVec Ideal S256x128 .f32) (j : Fin 8) : B128 := truncf .bf16 (pairArr m c t M N j).dv bitsLt_bf16_f32

set_option maxHeartbeats 4000000 in
/-- Eight pairs, three blocks each: what holds of each stored block holds of the whole. -/
theorem outs_eq (G : S128x3072.Idx → EReal)
    (hq : ∀ (j : Fin 8) M, mask (BitVec.ofNat 32 (grid0.coords t 0)) = M →
      ∀ (x : S128x128.Idx) (y : S128x3072.Idx), (y 0 : ℕ) = x 0 → (y 1 : ℕ) = 128 * j + x 1 → outQ m c t M j x = G y)
    (hk : ∀ (j : Fin 8) M N, mask (BitVec.ofNat 32 (grid0.coords t 0)) = M → maskNext (BitVec.ofNat 32 (grid0.coords t 0)) = N →
      ∀ (x : S128x128.Idx) (y : S128x3072.Idx), (y 0 : ℕ) = x 0 → (y 1 : ℕ) = 1024 + 128 * j + x 1 → outK m c t M N j x = G y)
    (hv : ∀ (j : Fin 8) M N, mask (BitVec.ofNat 32 (grid0.coords t 0)) = M → maskNext (BitVec.ofNat 32 (grid0.coords t 0)) = N →
      ∀ (x : S128x128.Idx) (y : S128x3072.Idx), (y 0 : ℕ) = x 0 → (y 1 : ℕ) = 2048 + 128 * j + x 1 → outV m c t M N j x = G y)
    (y : S128x3072.Idx) : outsAt0 m c t y = G y := by
  unfold outsAt0
  frame_out
  canon_tiles y hh
  all_goals generalize hM : k0_pay3 (F := Ideal) _ _ _ _ _ = M
  case' piece0 => generalize hN : k0_pay4 (F := Ideal) _ _ _ _ _ = N; refine Eq.trans (congrFun (?_ : _ = outV m c t M N 7) y) (hv 7 M N hM hN y _ hh0 (by simpa using hh1))
  case' piece1 => generalize hN : k0_pay4 (F := Ideal) _ _ _ _ _ = N; refine Eq.trans (congrFun (?_ : _ = outK m c t M N 7) y) (hk 7 M N hM hN y _ hh0 (by simpa using hh1))
  case' piece2 => refine Eq.trans (congrFun (?_ : _ = outQ m c t M 7) y) (hq 7 M hM y _ hh0 (by simpa using hh1))
  case' piece3 => generalize hN : k0_pay4 (F := Ideal) _ _ _ _ _ = N; refine Eq.trans (congrFun (?_ : _ = outV m c t M N 6) y) (hv 6 M N hM hN y _ hh0 (by simpa using hh1))
  case' piece4 => generalize hN : k0_pay4 (F := Ideal) _ _ _ _ _ = N; refine Eq.trans (congrFun (?_ : _ = outK m c t M N 6) y) (hk 6 M N hM hN y _ hh0 (by simpa using hh1))
  case' piece5 => refine Eq.trans (congrFun (?_ : _ = outQ m c t M 6) y) (hq 6 M hM y _ hh0 (by simpa using hh1))
  case' piece6 => generalize hN : k0_pay4 (F := Ideal) _ _ _ _ _ = N; refine Eq.trans (congrFun (?_ : _ = outV m c t M N 5) y) (hv 5 M N hM hN y _ hh0 (by simpa using hh1))
  case' piece7 => generalize hN : k0_pay4 (F := Ideal) _ _ _ _ _ = N; refine Eq.trans (congrFun (?_ : _ = outK m c t M N 5) y) (hk 5 M N hM hN y _ hh0 (by simpa using hh1))
  case' piece8 => refine Eq.trans (congrFun (?_ : _ = outQ m c t M 5) y) (hq 5 M hM y _ hh0 (by simpa using hh1))
  case' piece9 => generalize hN : k0_pay4 (F := Ideal) _ _ _ _ _ = N; refine Eq.trans (congrFun (?_ : _ = outV m c t M N 4) y) (hv 4 M N hM hN y _ hh0 (by simpa using hh1))
  case' piece10 => generalize hN : k0_pay4 (F := Ideal) _ _ _ _ _ = N; refine Eq.trans (congrFun (?_ : _ = outK m c t M N 4) y) (hk 4 M N hM hN y _ hh0 (by simpa using hh1))
  case' piece11 => refine Eq.trans (congrFun (?_ : _ = outQ m c t M 4) y) (hq 4 M hM y _ hh0 (by simpa using hh1))
  case' piece12 => generalize hN : k0_pay4 (F := Ideal) _ _ _ _ _ = N; refine Eq.trans (congrFun (?_ : _ = outV m c t M N 3) y) (hv 3 M N hM hN y _ hh0 (by simpa using hh1))
  case' piece13 => generalize hN : k0_pay4 (F := Ideal) _ _ _ _ _ = N; refine Eq.trans (congrFun (?_ : _ = outK m c t M N 3) y) (hk 3 M N hM hN y _ hh0 (by simpa using hh1))
  case' piece14 => refine Eq.trans (congrFun (?_ : _ = outQ m c t M 3) y) (hq 3 M hM y _ hh0 (by simpa using hh1))
  case' piece15 => generalize hN : k0_pay4 (F := Ideal) _ _ _ _ _ = N; refine Eq.trans (congrFun (?_ : _ = outV m c t M N 2) y) (hv 2 M N hM hN y _ hh0 (by simpa using hh1))
  case' piece16 => generalize hN : k0_pay4 (F := Ideal) _ _ _ _ _ = N; refine Eq.trans (congrFun (?_ : _ = outK m c t M N 2) y) (hk 2 M N hM hN y _ hh0 (by simpa using hh1))
  case' piece17 => refine Eq.trans (congrFun (?_ : _ = outQ m c t M 2) y) (hq 2 M hM y _ hh0 (by simpa using hh1))
  case' piece18 => generalize hN : k0_pay4 (F := Ideal) _ _ _ _ _ = N; refine Eq.trans (congrFun (?_ : _ = outV m c t M N 1) y) (hv 1 M N hM hN y _ hh0 (by simpa using hh1))
  case' piece19 => generalize hN : k0_pay4 (F := Ideal) _ _ _ _ _ = N; refine Eq.trans (congrFun (?_ : _ = outK m c t M N 1) y) (hk 1 M N hM hN y _ hh0 (by simpa using hh1))
  case' piece20 => refine Eq.trans (congrFun (?_ : _ = outQ m c t M 1) y) (hq 1 M hM y _ hh0 (by simpa using hh1))
  case' piece21 => generalize hN : k0_pay4 (F := Ideal) _ _ _ _ _ = N; refine Eq.trans (congrFun (?_ : _ = outV m c t M N 0) y) (hv 0 M N hM hN y _ hh0 (by simpa using hh1))
  case' piece22 => generalize hN : k0_pay4 (F := Ideal) _ _ _ _ _ = N; refine Eq.trans (congrFun (?_ : _ = outK m c t M N 0) y) (hk 0 M N hM hN y _ hh0 (by simpa using hh1))
  case' piece23 => refine Eq.trans (congrFun (?_ : _ = outQ m c t M 0) y) (hq 0 M hM y _ hh0 (by simpa using hh1))
  all_goals try clear hN
  all_goals clear hM hq hk hv
  all_goals first | unfold outQ | unfold outK | unfold outV
  all_goals unfold pairArr arr cut3072 cut1024 cutCol
  all_goals generalize iblk m c 0 t = w0
  all_goals generalize iblk m c 1 t = w1
  all_goals generalize iblk m c 2 t = w2
  all_goals generalize iblk m c 3 t = w3
  all_goals generalize iblk m c 4 t = w4
  all_goals generalize iblk m c 5 t = w5
  all_goals generalize iblk m c 6 t = w6
  all_goals generalize iblk m c 7 t = w7
  all_goals generalize iblk m c 8 t = w8
  all_goals generalize iblk m c 9 t = w9
  all_goals generalize iblk m c 10 t = w10
  all_goals generalize iblk m c 11 t = w11
  all_goals rfl

end Cert.Body

end
-- ==== Proof.KNums.lean ====
/- One pair of heads of one block in real numbers is the model's gradient. -/
module

public import proofs.«01_k».proof.Proof.KMask
public import proofs.«01_k».proof.Proof.Model

@[expose] public section

set_option maxRecDepth 16384

noncomputable section

namespace Cert.Body

open Cert.Model

/-- The group of a block, -/
abbrev gr (t : Fin 96) : Fin 3 := ⟨t / 32, by omega⟩
/-- a row of it within the group -/
abbrev line (t : Fin 96) (i : Fin 128) : Fin 4096 := ⟨128 * (t % 32) + i, by omega⟩
/-- and the position that row holds. -/
abbrev place (t : Fin 96) (i : Fin 128) : Fin 4096 := ⟨pos (gr t) (line t i), pos_lt _ _ (line t i).isLt⟩
/-- The block before -/
abbrev prev (t : Fin 96) : Fin 96 := ⟨t - 1, by omega⟩
/-- and the block after. -/
abbrev next (t : Fin 96) : Fin 96 := ⟨min (t + 1) 95, by omega⟩
/-- A head of a pair. -/
abbrev head (j : Fin 8) (d : Fin 2) : Fin 16 := ⟨2 * j + d, by omega⟩
/-- A lane within its head. -/
abbrev lane (l : Fin 128) : Fin 64 := ⟨l % 64, by omega⟩

variable (I : Inputs) (t : Fin 96) (j : Fin 8)

/-- What pair `j` of block `t` reads. -/
def nums : Nums where
  q i l := I.q (gr t) (place t i) (head j (Nums.hd l)) (lane l)
  k i l := I.k (gr t) (place t i) (head j (Nums.hd l)) (lane l)
  v i l := I.v (gr t) (place t i) (head j (Nums.hd l)) (lane l)
  kp i l := I.k (gr (prev t)) (place (prev t) i) (head j (Nums.hd l)) (lane l)
  vp i l := I.v (gr (prev t)) (place (prev t) i) (head j (Nums.hd l)) (lane l)
  qn i l := I.q (gr (next t)) (place (next t) i) (head j (Nums.hd l)) (lane l)
  o i l := I.ct (place t i) (head j (Nums.hd l)) (lane l)
  on i l := I.ct (place (next t) i) (head j (Nums.hd l)) (lane l)
  l d i := Real.log (Model.T I (head j d) (place t i))
  n d i := Real.log (Model.T I (head j d) (place (next t) i))
  d d i := delta I (head j d) (place t i)
  e d i := delta I (head j d) (place (next t) i)
  hp := hasPrev t
  hn := hasNext t

/-! ## Where the rows lie -/

theorem count_eq : count t = 32 / dil (gr t) := by
  have : ∀ t : Fin 96, count t = 32 / dil (gr t) := by decide +kernel
  exact this t
theorem class_lt : (t : ℕ) % 32 / count t < dil (gr t) := by
  have : ∀ t : Fin 96, (t : ℕ) % 32 / count t < dil (gr t) := by decide +kernel
  exact this t
theorem block_lt : (t : ℕ) % 32 % count t < 32 / dil (gr t) := by
  have : ∀ t : Fin 96, (t : ℕ) % 32 % count t < 32 / dil (gr t) := by decide +kernel
  exact this t

theorem place_eq (i : Fin 128) : (place t i : ℕ) = (128 * ((t : ℕ) % 32 % count t) + i) * dil (gr t) + (t : ℕ) % 32 / count t := by
  have := pos_next (gr t) (t % 32) i (by omega) (by omega) (Or.inr i.isLt)
  rw [count_eq]
  exact this

/-- The rows a block's queries see, as positions. -/
theorem prev_eq {α : Type} (X : Fin 3 → Fin 4096 → α) (x : Fin 256) (hx : (t : ℕ) % 32 % count t ≠ 0 ∨ 128 ≤ (x : ℕ)) (p : Fin 4096)
    (hp : (p : ℕ) = (128 * ((t : ℕ) % 32 % count t) + x - 128) * dil (gr t) + (t : ℕ) % 32 / count t) :
    (if h : (x : ℕ) < 128 then X (gr (prev t)) (place (prev t) ⟨x, h⟩) else X (gr t) (place t ⟨x - 128, by omega⟩)) = X (gr t) p := by
  have e := pos_prev (gr t) (t % 32) x (by omega) x.isLt (by rw [← count_eq]; exact hx)
  rw [← count_eq] at e
  split
  · have h0 : (t : ℕ) % 32 ≠ 0 := fun h => by
      rcases hx with hx | hx
      · rw [h, Nat.zero_mod] at hx; exact hx rfl
      · omega
    have hg : gr (prev t) = gr t := Fin.ext (by simp only; omega)
    have hl : place (prev t) ⟨x, by assumption⟩ = p := Fin.ext (by
      rw [hp, ← e]
      have : 128 * ((t : ℕ) % 32) + x - 128 = 128 * (((t : ℕ) - 1) % 32) + x := by omega
      rw [this]
      exact congrArg (fun g => pos g _) hg)
    rw [hl, hg]
  · refine congrArg _ (Fin.ext ?_)
    rw [hp, ← e]
    exact congrArg (pos (gr t)) (by simp only; omega)

/-- The rows that see a block's keys, as positions. -/
theorem next_eq {α : Type} (X : Fin 3 → Fin 4096 → α) (x : Fin 256) (hx : (t : ℕ) % 32 % count t + 1 ≠ count t ∨ (x : ℕ) < 128) (p : Fin 4096)
    (hp : (p : ℕ) = (128 * ((t : ℕ) % 32 % count t) + x) * dil (gr t) + (t : ℕ) % 32 / count t) :
    (if h : (x : ℕ) < 128 then X (gr t) (place t ⟨x, h⟩) else X (gr (next t)) (place (next t) ⟨x - 128, by omega⟩)) = X (gr t) p := by
  have e := pos_next (gr t) (t % 32) x (by omega) x.isLt (by rw [← count_eq]; exact hx)
  rw [← count_eq] at e
  split
  · refine congrArg _ (Fin.ext ?_)
    rw [hp, ← e]
  · have h0 : (t : ℕ) % 32 ≠ 31 := fun h => by
      rcases hx with hx | hx
      · rw [h] at hx
        have : ∀ t : Fin 96, 31 % count t + 1 = count t := by decide +kernel
        exact hx (this t)
      · omega
    have hg : gr (next t) = gr t := Fin.ext (by simp only; omega)
    have hl : place (next t) ⟨x - 128, by omega⟩ = p := Fin.ext (by
      rw [hp, ← e]
      have : 128 * ((t : ℕ) % 32) + x = 128 * (min ((t : ℕ) + 1) 95 % 32) + (x - 128) := by omega
      rw [this]
      exact congrArg (fun g => pos g _) hg)
    rw [hl, hg]

/-! ## The three gradients -/

/-- Two rows over one head's lanes. -/
theorem dot_lanes (d : Fin 2) (A B : Fin 16 → Fin 64 → ℝ) :
    Nums.dot d (fun l => A (head j (Nums.hd l)) (lane l)) (fun l => B (head j (Nums.hd l)) (lane l)) = ∑ e, A (head j d) e * B (head j d) e := by
  refine Finset.sum_congr rfl fun e _ => ?_
  have h1 : Nums.hd ⟨64 * d + e, by omega⟩ = d := Fin.ext (by simp only; omega)
  have h2 : lane ⟨64 * d + e, by omega⟩ = e := Fin.ext (by simp only; omega)
  simp only [h1, h2]

/-- The probability, from the logarithm of the sum. -/
theorem exp_log_T (h : Fin 16) (p : Fin 4096) (x : ℝ) : Real.exp (x - Real.log (Model.T I h p)) = Real.exp x / Model.T I h p := by
  rw [Real.exp_sub, Real.exp_log (T_pos I h p)]

/-- What a key adds to a query's gradient, where the query sees it, -/
def toQ (g₀ : Fin 3) (h : Fin 16) (p : Fin 4096) (e : Fin 64) (g : Fin 3) (p' : Fin 4096) : ℝ :=
  Real.exp ((∑ e, I.q g₀ p h e * I.k g p' h e) * (1 / 8)) / Model.T I h p * ((∑ e, I.ct p h e * I.v g p' h e) - delta I h p) * I.k g p' h e
/-- what a query adds to a key's gradient -/
def toK (g₀ : Fin 3) (h : Fin 16) (p' : Fin 4096) (e : Fin 64) (g : Fin 3) (p : Fin 4096) : ℝ :=
  Real.exp ((∑ e, I.q g p h e * I.k g₀ p' h e) * (1 / 8)) / Model.T I h p * ((∑ e, I.ct p h e * I.v g₀ p' h e) - delta I h p) * I.q g p h e
/-- and to a value's. -/
def toV (g₀ : Fin 3) (h : Fin 16) (p' : Fin 4096) (e : Fin 64) (g : Fin 3) (p : Fin 4096) : ℝ :=
  Real.exp ((∑ e, I.q g p h e * I.k g₀ p' h e) * (1 / 8)) / Model.T I h p * I.ct p h e

theorem dq_eq (i l : Fin 128) : (nums I t j).dq i l = Model.dq I (gr t) (head j (Nums.hd l)) (place t i) (lane l) := by
  refine congrArg (· * (1 / 8 : ℝ)) ?_
  have hs := sum_keys (gr t) _ _ (class_lt t) (block_lt t) i (place t i) (place_eq t i)
    ((toQ I (gr t) (head j (Nums.hd l)) (place t i) (lane l)) (gr t))
    (fun x => if h : (x : ℕ) < 128 then (toQ I (gr t) (head j (Nums.hd l)) (place t i) (lane l)) (gr (prev t)) (place (prev t) ⟨x, h⟩) else (toQ I (gr t) (head j (Nums.hd l)) (place t i) (lane l)) (gr t) (place t ⟨x - 128, by omega⟩))
    (fun x hx p hp => prev_eq t (toQ I (gr t) (head j (Nums.hd l)) (place t i) (lane l)) x hx p hp)
  refine Eq.trans (Finset.sum_congr rfl fun x _ => ?_) (hs.trans (Finset.sum_congr rfl fun p' _ => ?_))
  · unfold Nums.s Nums.p
    by_cases hx : (nums I t j).sees i x
    · rw [if_pos hx, if_pos (show ((x : ℕ) < 128 ∧ (i : ℕ) ≤ x ∧ (t : ℕ) % 32 % count t ≠ 0) ∨ (128 ≤ (x : ℕ) ∧ (x : ℕ) - 128 ≤ i) from hx)]
      by_cases h : (x : ℕ) < 128
      · rw [dif_pos h, show (nums I t j).k2 x = (nums I t j).kp ⟨x, h⟩ from funext fun _ => dif_pos h,
          show (nums I t j).v2 x = (nums I t j).vp ⟨x, h⟩ from funext fun _ => dif_pos h]
        simp only [nums, toQ, exp_log_T]
        rw [dot_lanes j (Nums.hd l) (I.q (gr t) (place t i)) (I.k (gr (prev t)) (place (prev t) ⟨x, h⟩)),
          dot_lanes j (Nums.hd l) (I.ct (place t i)) (I.v (gr (prev t)) (place (prev t) ⟨x, h⟩))]
      · rw [dif_neg h, show (nums I t j).k2 x = (nums I t j).k ⟨x - 128, by omega⟩ from funext fun _ => dif_neg h,
          show (nums I t j).v2 x = (nums I t j).v ⟨x - 128, by omega⟩ from funext fun _ => dif_neg h]
        simp only [nums, toQ, exp_log_T]
        rw [dot_lanes j (Nums.hd l) (I.q (gr t) (place t i)) (I.k (gr t) (place t ⟨x - 128, by omega⟩)),
          dot_lanes j (Nums.hd l) (I.ct (place t i)) (I.v (gr t) (place t ⟨x - 128, by omega⟩))]
    · rw [if_neg hx, if_neg (show ¬(((x : ℕ) < 128 ∧ (i : ℕ) ≤ x ∧ (t : ℕ) % 32 % count t ≠ 0) ∨ (128 ≤ (x : ℕ) ∧ (x : ℕ) - 128 ≤ i)) from hx), zero_mul, zero_mul]
  · unfold ds prob ex
    split
    · rfl
    · rw [zero_div, zero_mul, zero_mul]

/-- A sum over 256 rows, in halves. -/
theorem sum_halves (f : Fin 256 → ℝ) : ∑ x, f x = ∑ i : Fin 128, f ⟨i, by omega⟩ + ∑ i : Fin 128, f ⟨128 + i, by omega⟩ :=
  Fin.sum_univ_add (a := 128) (b := 128) f

theorem dk_eq (i l : Fin 128) : (nums I t j).dk i l = Model.dk I (gr t) (head j (Nums.hd l)) (place t i) (lane l) := by
  have hs := sum_queries (gr t) _ _ (class_lt t) (block_lt t) i (place t i) (place_eq t i)
    ((toK I (gr t) (head j (Nums.hd l)) (place t i) (lane l)) (gr t))
    (fun x => if h : (x : ℕ) < 128 then (toK I (gr t) (head j (Nums.hd l)) (place t i) (lane l)) (gr t) (place t ⟨x, h⟩) else (toK I (gr t) (head j (Nums.hd l)) (place t i) (lane l)) (gr (next t)) (place (next t) ⟨x - 128, by omega⟩))
    (fun x hx p hp => next_eq t (toK I (gr t) (head j (Nums.hd l)) (place t i) (lane l)) x (by rw [count_eq] at hx ⊢; exact hx) p hp)
  rw [sum_halves] at hs
  have e : Model.dk I (gr t) (head j (Nums.hd l)) (place t i) (lane l) = _ * (1 / 8 : ℝ) := congrArg (· * (1 / 8 : ℝ)) (Eq.trans (Finset.sum_congr rfl fun p _ => ?_) hs.symm)
  · rw [e, add_mul, Finset.sum_mul, Finset.sum_mul]
    refine congrArg₂ (· + ·) (Finset.sum_congr rfl fun x _ => ?_) (Finset.sum_congr rfl fun x _ => ?_)
    · have hk : (nums I t j).k2 ⟨128 + i, by omega⟩ = (nums I t j).k i := by
        funext l; simp [Nums.k2]
      have hv : (nums I t j).v2 ⟨128 + i, by omega⟩ = (nums I t j).v i := by
        funext l; simp [Nums.v2]
      unfold Nums.s Nums.p
      rw [hk, hv]
      by_cases hx : (i : ℕ) ≤ x
      · rw [if_pos (show (nums I t j).sees x ⟨128 + i, by omega⟩ from Or.inr ⟨by simp, by simpa using hx⟩), if_pos (Or.inl ⟨x.isLt, hx⟩), dif_pos x.isLt]
        simp only [nums, toK, toV, exp_log_T]
        rw [dot_lanes j (Nums.hd l) (I.q (gr t) (place t x)) (I.k (gr t) (place t i)),
          dot_lanes j (Nums.hd l) (I.ct (place t x)) (I.v (gr t) (place t i))]
        ring
      · rw [if_neg (show ¬ (nums I t j).sees x ⟨128 + i, by omega⟩ from fun h => by
            rcases h with h | h
            · have := h.1; simp at this
            · have := h.2; simp at this; omega), if_neg (by simp only; omega)]
        ring
    · unfold Nums.sn Nums.pn
      by_cases hx : (nums I t j).sees' x i
      · rw [if_pos hx, if_pos (Or.inr ⟨by simp, by simpa using hx.1, by rw [← count_eq]; exact hx.2⟩), dif_neg (by simp)]
        have ex : (⟨(⟨128 + x, by omega⟩ : Fin 256) - 128, by simp⟩ : Fin 128) = x := Fin.ext (by simp)
        simp only [nums, toK, toV, exp_log_T]
        rw [dot_lanes j (Nums.hd l) (I.q (gr (next t)) (place (next t) x)) (I.k (gr t) (place t i)),
          dot_lanes j (Nums.hd l) (I.ct (place (next t) x)) (I.v (gr t) (place t i))]
        simp only [Nat.add_sub_cancel_left]
        ring
      · rw [if_neg hx, if_neg (fun h => hx (by
            rcases h with h | h
            · have := h.1; simp at this
            · exact ⟨by simpa using h.2.1, by have := h.2.2; rw [← count_eq] at this; exact this⟩))]
        ring
  · unfold ds prob ex
    split
    · rfl
    · rw [zero_div, zero_mul, zero_mul]

theorem dv_eq (i l : Fin 128) : (nums I t j).dv i l = Model.dv I (gr t) (head j (Nums.hd l)) (place t i) (lane l) := by
  have hs := sum_queries (gr t) _ _ (class_lt t) (block_lt t) i (place t i) (place_eq t i)
    ((toV I (gr t) (head j (Nums.hd l)) (place t i) (lane l)) (gr t))
    (fun x => if h : (x : ℕ) < 128 then (toV I (gr t) (head j (Nums.hd l)) (place t i) (lane l)) (gr t) (place t ⟨x, h⟩) else (toV I (gr t) (head j (Nums.hd l)) (place t i) (lane l)) (gr (next t)) (place (next t) ⟨x - 128, by omega⟩))
    (fun x hx p hp => next_eq t (toV I (gr t) (head j (Nums.hd l)) (place t i) (lane l)) x (by rw [count_eq] at hx ⊢; exact hx) p hp)
  rw [sum_halves] at hs
  refine Eq.trans (congrArg₂ (· + ·) (Finset.sum_congr rfl fun x _ => ?_) (Finset.sum_congr rfl fun x _ => ?_)) (hs.trans (Finset.sum_congr rfl fun p _ => ?_))
  · have hk : (nums I t j).k2 ⟨128 + i, by omega⟩ = (nums I t j).k i := by
      funext l; simp [Nums.k2]
    unfold Nums.p
    rw [hk]
    by_cases hx : (i : ℕ) ≤ x
    · rw [if_pos (show (nums I t j).sees x ⟨128 + i, by omega⟩ from Or.inr ⟨by simp, by simpa using hx⟩), if_pos (Or.inl ⟨x.isLt, hx⟩), dif_pos x.isLt]
      simp only [nums, toK, toV, exp_log_T]
      rw [dot_lanes j (Nums.hd l) (I.q (gr t) (place t x)) (I.k (gr t) (place t i))]
    · rw [if_neg (show ¬ (nums I t j).sees x ⟨128 + i, by omega⟩ from fun h => by
          rcases h with h | h
          · have := h.1; simp at this
          · have := h.2; simp at this; omega), if_neg (by simp only; omega), zero_mul]
  · unfold Nums.pn
    by_cases hx : (nums I t j).sees' x i
    · rw [if_pos hx, if_pos (Or.inr ⟨by simp, by simpa using hx.1, by rw [← count_eq]; exact hx.2⟩), dif_neg (by simp)]
      simp only [nums, toK, toV, exp_log_T]
      rw [dot_lanes j (Nums.hd l) (I.q (gr (next t)) (place (next t) x)) (I.k (gr t) (place t i))]
      simp only [Nat.add_sub_cancel_left]
    · rw [if_neg hx, if_neg (fun h => hx (by
          rcases h with h | h
          · have := h.1; simp at this
          · exact ⟨by simpa using h.2.1, by have := h.2.2; rw [← count_eq] at this; exact this⟩)), zero_mul]
  · unfold prob ex
    split
    · rfl
    · rw [zero_div, zero_mul]

/-! ## The rotation -/

/-- The rotation's transpose on a pair's rows is the model's. -/
theorem turn_eq (x : Fin 128 → ℝ) (X : Fin 64 → ℝ) (p : Fin 4096) (l : Fin 128) (hX : ∀ m : Fin 128, Nums.hd m = Nums.hd l → x m = X (lane m)) :
    x l * I.c p ⟨l % 32, by omega⟩ + (if (l : ℕ) % 64 < 32 then x ⟨(l + 32) % 128, by omega⟩ else x ⟨(l + 96) % 128, by omega⟩)
      * (0 - (if (l : ℕ) % 64 < 32 then -I.s p ⟨l % 32, by omega⟩ else I.s p ⟨l % 32, by omega⟩)) = unrope I p X (lane l) := by
  unfold unrope
  by_cases h : (l : ℕ) % 64 < 32
  · have e1 : (⟨l % 32, by omega⟩ : Fin 32) = ⟨l % 64, h⟩ := Fin.ext (by simp only; omega)
    have e2 : lane ⟨(l + 32) % 128, by omega⟩ = ⟨l % 64 + 32, by omega⟩ := Fin.ext (by simp only; omega)
    rw [if_pos h, if_pos h, dif_pos h, hX l rfl, hX ⟨(l + 32) % 128, by omega⟩ (Fin.ext (by simp only; omega)), e1, e2]
    ring
  · have e1 : (⟨l % 32, by omega⟩ : Fin 32) = ⟨l % 64 - 32, by omega⟩ := Fin.ext (by simp only; omega)
    have e2 : lane ⟨(l + 96) % 128, by omega⟩ = ⟨l % 64 - 32, by omega⟩ := Fin.ext (by simp only; omega)
    rw [if_neg h, if_neg h, dif_neg h, hX l rfl, hX ⟨(l + 96) % 128, by omega⟩ (Fin.ext (by simp only; omega)), e1, e2]
    ring

end Cert.Body

end
-- ==== Proof.Line.lean ====
/- A straight line of operations that writes every buffer once: what a buffer holds after the line is its operation's
   function of what the operand buffers hold after the line. -/
module

public import Idealize.ShloMosaic.Lib.StableHlo.RunRead

@[expose] public section

noncomputable section

namespace Cert.Line

open Idealize.ShloMosaic Idealize.ShloMosaic.StableHlo

variable {τ : Topo} {sig : RefSig} {Val : EltTy → Type}

/-- The operations write the references `W`, in order, each once. -/
structure Once (ops : List (HloOp τ sig Val)) (W : List (Ref sig .tc)) : Prop where
  writes : ops.map HloOp.writes = W.map fun w => {Proc.devRef (τ := τ) .tc w}
  nodup : W.Nodup

variable {ops : List (HloOp τ sig Val)} {W : List (Ref sig .tc)} (L : Once ops W) (V : Valuation τ sig Val)
include L

/-- A reference written at position `j` is not written from position `i > j` on. -/
theorem Once.past (j : ℕ) {i : ℕ} {x : Ref sig .tc} (hx : W[j]? = some x) (h : j < i) : x ∉ W.drop i := by
  intro hm
  obtain ⟨k, hk, he⟩ := List.mem_iff_getElem.mp hm
  rw [List.getElem_drop] at he
  obtain ⟨hj, hx'⟩ := List.getElem?_eq_some_iff.mp hx
  have := (List.Nodup.getElem_inj_iff L.nodup).mp (he.trans hx'.symm)
  omega

theorem Once.split (i : ℕ) : after ops V = after (ops.drop i) (upto ops V i) := by
  have h : ∀ (l₁ l₂ : List (HloOp τ sig Val)) (V : Valuation τ sig Val), after (l₁ ++ l₂) V = after l₂ (after l₁ V) := by
    intro l₁
    induction l₁ with
    | nil => intros; rfl
    | cons op l ih => intro l₂ V; exact ih _ _
  conv_lhs => rw [← List.take_append_drop i ops]
  exact h _ _ _

/-- A buffer not written from position `i` on. -/
theorem Once.keep (i : ℕ) {x : Ref sig .tc} (hx : x ∉ W.drop i) :
    upto ops V i (Proc.devRef .tc x) = after ops V (Proc.devRef .tc x) := by
  rw [L.split V i, after_unwritten (W.drop i) (by rw [List.map_drop, L.writes, ← List.map_drop]) hx]

/-- The buffer written at position `i`. -/
theorem Once.at (i : ℕ) {op : HloOp τ sig Val} {y : Ref sig .tc} (hop : ops[i]? = some op) (hy : W[i]? = some y) :
    after ops V (Proc.devRef .tc y) = op.result (upto ops V i) (Proc.devRef .tc y) := by
  obtain ⟨hi, rfl⟩ := List.getElem?_eq_some_iff.mp hop
  refine after_last_write (rest := ops.drop (i + 1)) (W.drop (i + 1)) (List.drop_eq_getElem_cons hi) ?_ (L.past i hy (Nat.lt_succ_self i)) V
  rw [List.map_drop, L.writes, ← List.map_drop]

theorem Once.nullary (i : ℕ) {y : Ref sig .tc} {v : y.ty.Contents Val} {hy} (hop : ops[i]? = some (StableHlo.nullary (τ := τ) y v hy))
    (hw : W[i]? = some y) : after ops V (Proc.devRef .tc y) = v := by
  rw [L.at V i hop hw, nullary_result']

theorem Once.unary (i : ℕ) {x y : Ref sig .tc} {f : x.ty.Contents Val → y.ty.Contents Val} {hx hy}
    (hop : ops[i]? = some (StableHlo.unary (τ := τ) x y f hx hy)) (hw : W[i]? = some y) (h : x ∉ W.drop i) :
    after ops V (Proc.devRef .tc y) = f (after ops V (Proc.devRef .tc x)) := by
  rw [L.at V i hop hw, unary_result', L.keep V i h]

theorem Once.reshape (i : ℕ) {x y : Ref sig .tc} {he hn hx hy} (hop : ops[i]? = some (StableHlo.reshape (τ := τ) (Val := Val) x y he hn hx hy))
    (hw : W[i]? = some y) (h : x ∉ W.drop i) :
    after ops V (Proc.devRef .tc y) = fun j => he ▸ shapeCast y.ty.shape (after ops V (Proc.devRef .tc x)) hn j := by
  rw [L.at V i hop hw, reshape_result', L.keep V i h]

theorem Once.binary (i : ℕ) {a b y : Ref sig .tc} {f : a.ty.Contents Val → b.ty.Contents Val → y.ty.Contents Val} {ha hb hy}
    (hop : ops[i]? = some (StableHlo.binary (τ := τ) a b y f ha hb hy)) (hw : W[i]? = some y) (h : a ∉ W.drop i) (h' : b ∉ W.drop i) :
    after ops V (Proc.devRef .tc y) = f (after ops V (Proc.devRef .tc a)) (after ops V (Proc.devRef .tc b)) := by
  rw [L.at V i hop hw, binary_result', L.keep V i h, L.keep V i h']

theorem Once.ternary (i : ℕ) {a b c y : Ref sig .tc} {f : a.ty.Contents Val → b.ty.Contents Val → c.ty.Contents Val → y.ty.Contents Val}
    {ha hb hc hy} (hop : ops[i]? = some (StableHlo.ternary (τ := τ) a b c y f ha hb hc hy)) (hw : W[i]? = some y) (h : a ∉ W.drop i)
    (h' : b ∉ W.drop i) (h'' : c ∉ W.drop i) :
    after ops V (Proc.devRef .tc y)
      = f (after ops V (Proc.devRef .tc a)) (after ops V (Proc.devRef .tc b)) (after ops V (Proc.devRef .tc c)) := by
  rw [L.at V i hop hw, ternary_result', L.keep V i h, L.keep V i h', L.keep V i h'']

theorem Once.nary (i : ℕ) {n : ℕ} {xs : Fin n → Ref sig .tc} {y : Ref sig .tc} {f : ((k : Fin n) → (xs k).ty.Contents Val) → y.ty.Contents Val}
    {hxs hy} (hop : ops[i]? = some (StableHlo.nary (τ := τ) xs y f hxs hy)) (hw : W[i]? = some y) (h : ∀ k, xs k ∉ W.drop i) :
    after ops V (Proc.devRef .tc y) = f (fun k => after ops V (Proc.devRef .tc (xs k))) := by
  rw [L.at V i hop hw, nary_result']
  exact congrArg f (funext fun k => L.keep V i (h k))

end Cert.Line

end
-- ==== Proof.HostLine.lean ====
/- The host operations before the launch, as a straight line that writes every buffer once. -/
module

public import proofs.«01_k».proof.Proof.Line
public import proofs.«01_k».proof.Proof.Gen.KernelIdeal.Value

@[expose] public section

set_option maxRecDepth 16384

noncomputable section

namespace Cert.Host

open Cert.KernelIdeal Cert.KernelIdeal.Gen Idealize.ShloMosaic Idealize.ShloMosaic.TcCoe

/-- The host operations. -/
abbrev ops : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28]

/-- The buffers they write, in order. -/
abbrev W : List (Ref sig .tc) :=
  [main_v0, main_v1, main_v2, main_v3, main_v4, main_v5, main_v6, main_v7, main_v8, main_cst, main_v9, main_v10, main_cst_0, main_v11, main_v12,
   main_v13, main_v14, main_v15, main_v16, main_v17, main_v18, main_v19, main_v20, main_v21, main_v22, main_v23, main_v24, main_v25, main_v26,
   main_v27, main_v28, main_v29, main_v30, main_v31, main_v32, main_v33, main_v34, main_v35, main_v36, main_v37, main_v38, main_cst_1, main_v39,
   main_v40, main_cst_2, main_v41, main_v42, main_v43, main_v44, main_v45, main_v46, main_v47, main_v48, main_v49, main_v50, main_v51, main_v52,
   main_v53, main_v54, main_v55, main_v56, main_v57, main_v58, main_v59, main_v60, main_v61, main_v62, main_v63, main_v64, main_v65, main_v66,
   main_v67, main_v68, main_v69, main_v70, main_v71, main_v72, main_v73, main_c, main_v74, main_v75, main_c_3, main_v76, main_v77, main_v78,
   main_c_4, main_call0_v0, main_call0_c, main_call0_v1, main_call0_c_0, main_call0_v2, main_call0_v3, main_call0_v4, main_call0_c_1, main_call0_v5,
   main_call0_v6, main_call0_c_2, main_call0_v7, main_call0_v8, main_call0_c_3, main_call0_v9, main_call0_v10, main_call0_v11, main_call0_v12,
   main_call0_v13, main_call0_v14, main_v79, main_c_5, main_v80, main_v81, main_v82, main_c_6, main_v83, main_v84, main_c_7, main_v85, main_v86,
   main_v87, main_c_8, main_call1_v0, main_call1_c, main_call1_v1, main_call1_c_0, main_call1_v2, main_call1_v3, main_call1_v4, main_call1_c_1,
   main_call1_v5, main_call1_v6, main_call1_c_2, main_call1_v7, main_call1_v8, main_call1_c_3, main_call1_v9, main_call1_v10, main_call1_v11,
   main_call1_v12, main_call1_v13, main_call1_v14, main_v88, main_c_9, main_v89, main_v90, main_v91, main_c_10, main_v92, main_v93, main_c_11,
   main_v94, main_v95, main_v96, main_c_12, main_call2_v0, main_call2_c, main_call2_v1, main_call2_c_0, main_call2_v2, main_call2_v3, main_call2_v4,
   main_call2_c_1, main_call2_v5, main_call2_v6, main_call2_c_2, main_call2_v7, main_call2_v8, main_call2_c_3, main_call2_v9, main_call2_v10,
   main_call2_v11, main_call2_v12, main_call2_v13, main_call2_v14, main_v97, main_c_13, main_v98, main_v99, main_v100, main_v101, main_v102,
   main_v103, main_v104, main_v105, main_cst_14, main_v106, main_v107, main_v108, main_cst_15, main_call3_v0, main_call3_v1, main_call3_v2,
   main_v109, main_cst_16, main_v110, main_v111, main_v112, main_v113, main_v114, main_cst_17, main_v115, main_v116, main_v117, main_v118, main_v119,
   main_v120, main_v121, main_v122, main_v123, main_v124, main_v125, main_v126, main_v127, main_v128, main_v129, main_v130, main_v131, main_v132,
   main_v133, main_v134, main_v135, main_v136, main_v137, main_v138, main_v139, main_v140, main_v141, main_v142, main_v143, main_v144, main_v145,
   main_v146, main_v147, main_v148, main_v149, main_v150, main_v151, main_v152, main_v153, main_v154, main_v155, main_v156, main_v157, main_v158,
   main_v159, main_v160, main_v161, main_cst_18, main_v162, main_v163, main_v164, main_v165, main_v166, main_v167, main_v168, main_v169, main_v170,
   main_v171, main_v172, main_v173, main_v174, main_v175, main_v176, main_v177, main_v178, main_v179, main_v180, main_v181, main_v182, main_v183,
   main_v184, main_v185, main_v186, main_v187, main_v188, main_v189, main_v190, main_cst_19, main_v191, main_v192, main_cst_20, main_v193, main_v194,
   main_v195, main_v196, main_v197, main_v198, main_c_21, main_call4_v0, main_call4_c, main_call4_v1, main_call4_c_0, main_call4_v2, main_call4_v3,
   main_call4_v4, main_call4_c_1, main_call4_v5, main_call4_v6, main_call4_c_2, main_call4_v7, main_call4_v8, main_call4_c_3, main_call4_v9,
   main_call4_v10, main_call4_v11, main_call4_v12, main_call4_v13, main_call4_v14, main_v199, main_c_22, main_v200, main_v201, main_c_23,
   main_call5_v0, main_call5_v1, main_call5_v2, main_call5_v3, main_call5_v4, main_call5_v5, main_call5_v6, main_call5_v7, main_call5_v8,
   main_call5_c, main_call5_v9, main_call5_v10, main_call5_v11, main_call5_c_0, main_call5_v12, main_call5_v13, main_v202, main_v203, main_v204,
   main_c_24, main_call6_v0, main_call6_c, main_call6_v1, main_call6_c_0, main_call6_v2, main_call6_v3, main_call6_v4, main_call6_c_1, main_call6_v5,
   main_call6_v6, main_call6_c_2, main_call6_v7, main_call6_v8, main_call6_c_3, main_call6_v9, main_call6_v10, main_call6_v11, main_call6_v12,
   main_call6_v13, main_call6_v14, main_v205, main_c_25, main_v206, main_v207, main_c_26, main_call7_v0, main_call7_v1, main_call7_v2, main_call7_v3,
   main_call7_v4, main_call7_v5, main_call7_v6, main_call7_v7, main_call7_v8, main_call7_c, main_call7_v9, main_call7_v10, main_call7_v11,
   main_call7_c_0, main_call7_v12, main_call7_v13, main_v208, main_v209, main_v210, main_c_27, main_call8_v0, main_call8_c, main_call8_v1,
   main_call8_c_0, main_call8_v2, main_call8_v3, main_call8_v4, main_call8_c_1, main_call8_v5, main_call8_v6, main_call8_c_2, main_call8_v7,
   main_call8_v8, main_call8_c_3, main_call8_v9, main_call8_v10, main_call8_v11, main_call8_v12, main_call8_v13, main_call8_v14, main_v211,
   main_c_28, main_v212, main_v213, main_c_29, main_call9_v0, main_call9_v1, main_call9_v2, main_call9_v3, main_call9_v4, main_call9_v5,
   main_call9_v6, main_call9_v7, main_call9_v8, main_call9_c, main_call9_v9, main_call9_v10, main_call9_v11, main_call9_c_0, main_call9_v12,
   main_call9_v13, main_v214, main_v215, main_v216, main_v217, main_v218, main_v219, main_v220, main_v221, main_v222, main_v223, main_c_30,
   main_call10_v0, main_call10_c, main_call10_v1, main_call10_c_0, main_call10_v2, main_call10_v3, main_call10_v4, main_call10_c_1, main_call10_v5,
   main_call10_v6, main_call10_c_2, main_call10_v7, main_call10_v8, main_call10_c_3, main_call10_v9, main_call10_v10, main_call10_v11,
   main_call10_v12, main_call10_v13, main_call10_v14, main_v224, main_c_31, main_v225, main_v226, main_v227, main_v228, main_v229, main_v230,
   main_call11_v0, main_v231, main_v232, main_v233, main_v234, main_v235, main_v236, main_v237, main_v238, main_v239, main_v240, main_v241,
   main_v242, main_v243, main_v244, main_v245, main_v246, main_v247, main_v248, main_v249, main_v250, main_c_32, main_call12_v0, main_v251,
   main_v252, main_v253, main_v254, main_v255, main_v256, main_v257, main_v258, main_v259, main_v260, main_v261, main_v262, main_v263, main_v264,
   main_v265, main_v266, main_v267, main_v268, main_v269, main_c_33, main_call13_v0, main_v270, main_v271, main_v272, main_v273, main_v274,
   main_v275, main_v276, main_v277, main_v278, main_v279, main_v280, main_v281, main_v282, main_v283, main_v284, main_v285, main_v286, main_v287,
   main_v288, main_cst_34, main_v289]

theorem writes_ops : ops.map HloOp.writes = W.map fun w => {Proc.devRef (τ := τ) .tc w} := rfl

theorem index_W : W.map (fun w => w.idx.val) = List.range' 2 521 := rfl

theorem once : Line.Once ops W where
  writes := writes_ops
  nodup := List.Nodup.of_map (fun w => w.idx.val) (index_W ▸ List.nodup_range')

variable (m : (ℓ : Loc nD τ sig) → Buf (Elt Ideal) ℓ) (c : Dev nD)

theorem eq_after (b) : V m c b = StableHlo.after ops (fun b => m (c, b)) b := rfl

end Cert.Host

end
-- ==== Proof.HostStep.lean ====
/- One host operation's buffer in terms of the buffers it reads. -/
module

public import proofs.«01_k».proof.Proof.HostLine
public import proofs.«01_k».proof.Proof.RefDefs

@[expose] public section

set_option maxRecDepth 16384

noncomputable section

namespace Cert.Host

open Cert.KernelIdeal Cert.KernelIdeal.Gen Idealize.ShloMosaic Idealize.ShloMosaic.TcCoe

variable (U : Valuation τ sig (Elt Ideal))

theorem unwritten {x : Ref sig .tc} (h : x.idx.val < 2) : x ∉ W := by
  intro hm
  have h' : x.idx.val ∈ W.map (fun w => w.idx.val) := List.mem_map.mpr ⟨x, hm, rfl⟩
  rw [index_W, List.mem_range'] at h'
  obtain ⟨i, _, hi⟩ := h'
  omega

theorem main_arg0_unwritten : main_arg0 ∉ W := unwritten (by decide)
theorem main_arg1_unwritten : main_arg1 ∉ W := unwritten (by decide)

theorem arg {x : Ref sig .tc} (h : x ∉ W) : StableHlo.after ops U (Proc.devRef .tc x) = U (Proc.devRef .tc x) :=
  StableHlo.after_unwritten W writes_ops h U

theorem nu (i : ℕ) {y : Ref sig .tc} {v : y.ty.Contents (Elt Ideal)} {hy} (hop : ops[i]? = some (StableHlo.nullary (τ := τ) y v hy))
    (hw : W[i]? = some y) : StableHlo.after ops U (Proc.devRef .tc y) = v := once.nullary U i hop hw

theorem un (i j : ℕ) {x y : Ref sig .tc} {f : x.ty.Contents (Elt Ideal) → y.ty.Contents (Elt Ideal)} {hx hy}
    (hop : ops[i]? = some (StableHlo.unary (τ := τ) x y f hx hy)) (hw : W[i]? = some y) (hj : W[j]? = some x) (h : j < i := by decide) :
    StableHlo.after ops U (Proc.devRef .tc y) = f (StableHlo.after ops U (Proc.devRef .tc x)) :=
  once.unary U i hop hw (once.past j hj h)

theorem un_arg (i : ℕ) {x y : Ref sig .tc} {f : x.ty.Contents (Elt Ideal) → y.ty.Contents (Elt Ideal)} {hx hy}
    (hop : ops[i]? = some (StableHlo.unary (τ := τ) x y f hx hy)) (hw : W[i]? = some y) (hn : x ∉ W) :
    StableHlo.after ops U (Proc.devRef .tc y) = f (U (Proc.devRef .tc x)) :=
  (once.unary U i hop hw fun h => hn (List.mem_of_mem_drop h)).trans (congrArg f (arg U hn))

theorem rs (i j : ℕ) {x y : Ref sig .tc} {he hn hx hy} (hop : ops[i]? = some (StableHlo.reshape (τ := τ) (Val := Elt Ideal) x y he hn hx hy))
    (hw : W[i]? = some y) (hj : W[j]? = some x) (h : j < i := by decide) :
    StableHlo.after ops U (Proc.devRef .tc y) = fun k => he ▸ shapeCast y.ty.shape (StableHlo.after ops U (Proc.devRef .tc x)) hn k :=
  once.reshape U i hop hw (once.past j hj h)

theorem rs_arg (i : ℕ) {x y : Ref sig .tc} {he hn hx hy} (hop : ops[i]? = some (StableHlo.reshape (τ := τ) (Val := Elt Ideal) x y he hn hx hy))
    (hw : W[i]? = some y) (hx' : x ∉ W) :
    StableHlo.after ops U (Proc.devRef .tc y) = fun k => he ▸ shapeCast y.ty.shape (U (Proc.devRef .tc x)) hn k := by
  rw [← arg U hx']
  exact once.reshape U i hop hw fun h => hx' (List.mem_of_mem_drop h)

theorem bi (i j k : ℕ) {a b y : Ref sig .tc} {f : a.ty.Contents (Elt Ideal) → b.ty.Contents (Elt Ideal) → y.ty.Contents (Elt Ideal)} {ha hb hy}
    (hop : ops[i]? = some (StableHlo.binary (τ := τ) a b y f ha hb hy)) (hw : W[i]? = some y) (hj : W[j]? = some a) (hk : W[k]? = some b)
    (h : j < i := by decide) (h' : k < i := by decide) :
    StableHlo.after ops U (Proc.devRef .tc y)
      = f (StableHlo.after ops U (Proc.devRef .tc a)) (StableHlo.after ops U (Proc.devRef .tc b)) :=
  once.binary U i hop hw (once.past j hj h) (once.past k hk h')

theorem te (i j k l : ℕ) {a b c y : Ref sig .tc}
    {f : a.ty.Contents (Elt Ideal) → b.ty.Contents (Elt Ideal) → c.ty.Contents (Elt Ideal) → y.ty.Contents (Elt Ideal)} {ha hb hc hy}
    (hop : ops[i]? = some (StableHlo.ternary (τ := τ) a b c y f ha hb hc hy)) (hw : W[i]? = some y) (hj : W[j]? = some a)
    (hk : W[k]? = some b) (hl : W[l]? = some c) (h : j < i := by decide) (h' : k < i := by decide) (h'' : l < i := by decide) :
    StableHlo.after ops U (Proc.devRef .tc y) = f (StableHlo.after ops U (Proc.devRef .tc a)) (StableHlo.after ops U (Proc.devRef .tc b))
      (StableHlo.after ops U (Proc.devRef .tc c)) :=
  once.ternary U i hop hw (once.past j hj h) (once.past k hk h') (once.past l hl h'')

/-- Three buffers' contents, by position. -/
def three {a b c : Ref sig .tc} (x : a.ty.Contents (Elt Ideal)) (y : b.ty.Contents (Elt Ideal)) (z : c.ty.Contents (Elt Ideal)) :
    (k : Fin 3) → (![a, b, c] k).ty.Contents (Elt Ideal)
  | 0 => x
  | 1 => y
  | 2 => z

theorem na3 (i j k l : ℕ) {a b c y : Ref sig .tc} {f : ((k : Fin 3) → (![a, b, c] k).ty.Contents (Elt Ideal)) → y.ty.Contents (Elt Ideal)} {hs hy}
    (hop : ops[i]? = some (StableHlo.nary (τ := τ) ![a, b, c] y f hs hy)) (hw : W[i]? = some y) (hj : W[j]? = some a)
    (hk : W[k]? = some b) (hl : W[l]? = some c) (h : j < i := by decide) (h' : k < i := by decide) (h'' : l < i := by decide) :
    StableHlo.after ops U (Proc.devRef .tc y) = f (three (StableHlo.after ops U (Proc.devRef .tc a)) (StableHlo.after ops U (Proc.devRef .tc b))
      (StableHlo.after ops U (Proc.devRef .tc c))) := by
  refine (once.nary U i hop hw fun t => ?_).trans (congrArg f (funext fun t => ?_))
  · fin_cases t
    · exact once.past j hj h
    · exact once.past k hk h'
    · exact once.past l hl h''
  · fin_cases t <;> rfl

/-- Both programs start from the same arguments. -/
structure Same (V0 : Valuation ReferenceIdeal.τ ReferenceIdeal.sig (Elt Ideal)) : Prop where
  a0 : (U (Proc.devRef .tc main_arg0) : FVec Ideal S4096x9216 .f32) = Ref.arg0 V0
  a1 : (U (Proc.devRef .tc main_arg1) : FVec Ideal S4096x1024 .f32) = Ref.arg1 V0

end Cert.Host

end
-- ==== Proof.HostClasses.lean ====
/- The permutation into residue classes, read at a row: the kernel's operands. -/
module

public import proofs.«01_k».proof.Proof.Model
public import proofs.«01_k».proof.Proof.Gen.KernelIdeal

@[expose] public section

set_option maxRecDepth 16384

noncomputable section

namespace Cert.Host

open Cert.KernelIdeal Cert.KernelIdeal.Gen Idealize.ShloMosaic Idealize.ShloMosaic.TcCoe

/-- The rows of width 3072, one residue class after the other. -/
def classes3072 (x : FVec Ideal S4096x3x3072 .f32) : FVec Ideal S12288x3072 .f32 :=
  concatenate S12288x3072 0
    [⟨S4096x3072, shapeCast S4096x3072 (transpose S1x4096x3072 [1, 0, 2] (shapeCast S4096x1x3072 (shapeCast S4096x3072
        (extractStridedSlice S4096x1x3072 ![0, 0, 0] x slices_S4096x3x3072_S4096x1x3072_0_0_0) shapeCasts_S4096x1x3072_S4096x3072)
        shapeCasts_S4096x3072_S4096x1x3072) transposes_S4096x1x3072_S1x4096x3072_1_0_2) shapeCasts_S1x4096x3072_S4096x3072⟩,
      ⟨S4096x3072, shapeCast S4096x3072 (transpose S4x1024x3072 [1, 0, 2] (shapeCast S1024x4x3072 (shapeCast S4096x3072
        (extractStridedSlice S4096x1x3072 ![0, 1, 0] x slices_S4096x3x3072_S4096x1x3072_0_1_0) shapeCasts_S4096x1x3072_S4096x3072)
        shapeCasts_S4096x3072_S1024x4x3072) transposes_S1024x4x3072_S4x1024x3072_1_0_2) shapeCasts_S4x1024x3072_S4096x3072⟩,
      ⟨S4096x3072, shapeCast S4096x3072 (transpose S16x256x3072 [1, 0, 2] (shapeCast S256x16x3072 (shapeCast S4096x3072
        (extractStridedSlice S4096x1x3072 ![0, 2, 0] x slices_S4096x3x3072_S4096x1x3072_0_2_0) shapeCasts_S4096x1x3072_S4096x3072)
        shapeCasts_S4096x3072_S256x16x3072) transposes_S256x16x3072_S16x256x3072_1_0_2) shapeCasts_S16x256x3072_S4096x3072⟩]
    concatenates_S4096x3072_S4096x3072_S4096x3072_S12288x3072_d0

set_option maxRecDepth 100000 in
theorem classes3072_at (x : FVec Ideal S4096x3x3072 .f32) (g : Fin 3) (r : Fin 4096) (u : Fin 3072) :
    classes3072 x (ix2 ⟨4096 * g + r, by omega⟩ u) = (x (ix3 ⟨Model.pos g r, Model.pos_lt g r r.isLt⟩ g u) : EReal) := by
  fin_cases g
  · pointwise [classes3072]
    refine congrArg (fun t => x (ix3 t _ u)) (Fin.ext ?_)
    change (r : ℕ) = r % 4096 * 1 + r / 4096
    omega
  · pointwise [classes3072]
    refine congrArg (fun t => x (ix3 t _ u)) (Fin.ext ?_)
    rfl
  · obtain ⟨R, hR⟩ : ∃ R : Fin 12288, R.val = 8192 + r.val := ⟨⟨8192 + r, by omega⟩, rfl⟩
    have e : (⟨4096 * 2 + r, by omega⟩ : Fin 12288) = R := Fin.ext (by rw [hR])
    refine (congrArg (fun t => classes3072 x (ix2 t u)) e).trans ?_
    pointwise [classes3072]
    rw [dif_neg (by omega), dif_neg (by omega)]
    refine congrArg (fun t => x (ix3 t _ u)) (Fin.ext ?_)
    change (R.val - 4096 - 4096) % 256 * 16 + (R.val - 4096 - 4096) / 256 = r % 256 * 16 + r / 256
    omega

/-- The rows of width 1024, one residue class after the other. -/
def classes1024 (x : FVec Ideal S4096x3x1024 .f32) : FVec Ideal S12288x1024 .f32 :=
  concatenate S12288x1024 0
    [⟨S4096x1024, shapeCast S4096x1024 (transpose S1x4096x1024 [1, 0, 2] (shapeCast S4096x1x1024 (shapeCast S4096x1024
        (extractStridedSlice S4096x1x1024 ![0, 0, 0] x slices_S4096x3x1024_S4096x1x1024_0_0_0) shapeCasts_S4096x1x1024_S4096x1024)
        shapeCasts_S4096x1024_S4096x1x1024) transposes_S4096x1x1024_S1x4096x1024_1_0_2) shapeCasts_S1x4096x1024_S4096x1024⟩,
      ⟨S4096x1024, shapeCast S4096x1024 (transpose S4x1024x1024 [1, 0, 2] (shapeCast S1024x4x1024 (shapeCast S4096x1024
        (extractStridedSlice S4096x1x1024 ![0, 1, 0] x slices_S4096x3x1024_S4096x1x1024_0_1_0) shapeCasts_S4096x1x1024_S4096x1024)
        shapeCasts_S4096x1024_S1024x4x1024) transposes_S1024x4x1024_S4x1024x1024_1_0_2) shapeCasts_S4x1024x1024_S4096x1024⟩,
      ⟨S4096x1024, shapeCast S4096x1024 (transpose S16x256x1024 [1, 0, 2] (shapeCast S256x16x1024 (shapeCast S4096x1024
        (extractStridedSlice S4096x1x1024 ![0, 2, 0] x slices_S4096x3x1024_S4096x1x1024_0_2_0) shapeCasts_S4096x1x1024_S4096x1024)
        shapeCasts_S4096x1024_S256x16x1024) transposes_S256x16x1024_S16x256x1024_1_0_2) shapeCasts_S16x256x1024_S4096x1024⟩]
    concatenates_S4096x1024_S4096x1024_S4096x1024_S12288x1024_d0

set_option maxRecDepth 100000 in
theorem classes1024_at (x : FVec Ideal S4096x3x1024 .f32) (g : Fin 3) (r : Fin 4096) (u : Fin 1024) :
    classes1024 x (ix2 ⟨4096 * g + r, by omega⟩ u) = (x (ix3 ⟨Model.pos g r, Model.pos_lt g r r.isLt⟩ g u) : EReal) := by
  fin_cases g
  · pointwise [classes1024]
    refine congrArg (fun t => x (ix3 t _ u)) (Fin.ext ?_)
    change (r : ℕ) = r % 4096 * 1 + r / 4096
    omega
  · pointwise [classes1024]
    refine congrArg (fun t => x (ix3 t _ u)) (Fin.ext ?_)
    rfl
  · obtain ⟨R, hR⟩ : ∃ R : Fin 12288, R.val = 8192 + r.val := ⟨⟨8192 + r, by omega⟩, rfl⟩
    have e : (⟨4096 * 2 + r, by omega⟩ : Fin 12288) = R := Fin.ext (by rw [hR])
    refine (congrArg (fun t => classes1024 x (ix2 t u)) e).trans ?_
    pointwise [classes1024]
    rw [dif_neg (by omega), dif_neg (by omega)]
    refine congrArg (fun t => x (ix3 t _ u)) (Fin.ext ?_)
    change (R.val - 4096 - 4096) % 256 * 16 + (R.val - 4096 - 4096) / 256 = r % 256 * 16 + r / 256
    omega

/-- The rows of width 128, one residue class after the other. -/
def classes128 (x : FVec Ideal S4096x3x128 .f32) : FVec Ideal S12288x128 .f32 :=
  concatenate S12288x128 0
    [⟨S4096x128, shapeCast S4096x128 (transpose S1x4096x128 [1, 0, 2] (shapeCast S4096x1x128 (shapeCast S4096x128
        (extractStridedSlice S4096x1x128 ![0, 0, 0] x slices_S4096x3x128_S4096x1x128_0_0_0) shapeCasts_S4096x1x128_S4096x128)
        shapeCasts_S4096x128_S4096x1x128) transposes_S4096x1x128_S1x4096x128_1_0_2) shapeCasts_S1x4096x128_S4096x128⟩,
      ⟨S4096x128, shapeCast S4096x128 (transpose S4x1024x128 [1, 0, 2] (shapeCast S1024x4x128 (shapeCast S4096x128
        (extractStridedSlice S4096x1x128 ![0, 1, 0] x slices_S4096x3x128_S4096x1x128_0_1_0) shapeCasts_S4096x1x128_S4096x128)
        shapeCasts_S4096x128_S1024x4x128) transposes_S1024x4x128_S4x1024x128_1_0_2) shapeCasts_S4x1024x128_S4096x128⟩,
      ⟨S4096x128, shapeCast S4096x128 (transpose S16x256x128 [1, 0, 2] (shapeCast S256x16x128 (shapeCast S4096x128
        (extractStridedSlice S4096x1x128 ![0, 2, 0] x slices_S4096x3x128_S4096x1x128_0_2_0) shapeCasts_S4096x1x128_S4096x128)
        shapeCasts_S4096x128_S256x16x128) transposes_S256x16x128_S16x256x128_1_0_2) shapeCasts_S16x256x128_S4096x128⟩]
    concatenates_S4096x128_S4096x128_S4096x128_S12288x128_d0

set_option maxRecDepth 100000 in
theorem classes128_at (x : FVec Ideal S4096x3x128 .f32) (g : Fin 3) (r : Fin 4096) (u : Fin 128) :
    classes128 x (ix2 ⟨4096 * g + r, by omega⟩ u) = (x (ix3 ⟨Model.pos g r, Model.pos_lt g r r.isLt⟩ g u) : EReal) := by
  fin_cases g
  · pointwise [classes128]
    refine congrArg (fun t => x (ix3 t _ u)) (Fin.ext ?_)
    change (r : ℕ) = r % 4096 * 1 + r / 4096
    omega
  · pointwise [classes128]
    refine congrArg (fun t => x (ix3 t _ u)) (Fin.ext ?_)
    rfl
  · obtain ⟨R, hR⟩ : ∃ R : Fin 12288, R.val = 8192 + r.val := ⟨⟨8192 + r, by omega⟩, rfl⟩
    have e : (⟨4096 * 2 + r, by omega⟩ : Fin 12288) = R := Fin.ext (by rw [hR])
    refine (congrArg (fun t => classes128 x (ix2 t u)) e).trans ?_
    pointwise [classes128]
    rw [dif_neg (by omega), dif_neg (by omega)]
    refine congrArg (fun t => x (ix3 t _ u)) (Fin.ext ?_)
    change (R.val - 4096 - 4096) % 256 * 16 + (R.val - 4096 - 4096) / 256 = r % 256 * 16 + r / 256
    omega

end Cert.Host

end
-- ==== Proof.HostMix.lean ====
/- The host stages that only the kernel's program computes: the mixture over the groups, and what the launch reads. -/
module

public import proofs.«01_k».proof.Proof.HostStep
public import proofs.«01_k».proof.Proof.HostClasses
public import proofs.«01_k».proof.Proof.RefOut

@[expose] public section

set_option maxRecDepth 16384

noncomputable section

namespace Cert.Host

open Cert.KernelIdeal Cert.KernelIdeal.Gen Idealize.ShloMosaic Idealize.ShloMosaic.TcCoe

/-- The logarithm of the sum of three exponentials, computed past their maximum. -/
def lse (a b c : FVec Ideal S1x16x4096 .f32) : FVec Ideal S1x16x4096 .f32 :=
  addf (maximumf (maximumf a b) c) (Host.log (addf (addf (Host.exp (subf a (maximumf (maximumf a b) c)))
    (Host.exp (subf b (maximumf (maximumf a b) c)))) (Host.exp (subf c (maximumf (maximumf a b) c)))))

/-- One group's weight, repeated over the head's columns. -/
def weight (a l : FVec Ideal S1x16x4096 .f32) : FVec Ideal S1x16x4096x64 .f32 :=
  broadcastInDim S1x16x4096x64 ![0, 1, 2, 3] bcast_S1x16x4096x1_S1x16x4096x64_0_1_2_3
    (broadcastInDim S1x16x4096x1 ![0, 1, 2] bcast_S1x16x4096_S1x16x4096x1_0_1_2 (Host.exp (subf a l)))

/-- The three groups' outputs, weighted and added. -/
def mixed (a b c l : FVec Ideal S1x16x4096 .f32) (o : FVec Ideal S3x16x4096x64 .f32) : FVec Ideal S1x16x4096x64 .f32 :=
  addf (addf (mulf (weight a l) (extractStridedSlice S1x16x4096x64 ![0, 0, 0, 0] o slices_S3x16x4096x64_S1x16x4096x64_0_0_0_0))
      (mulf (weight b l) (extractStridedSlice S1x16x4096x64 ![1, 0, 0, 0] o slices_S3x16x4096x64_S1x16x4096x64_1_0_0_0)))
    (mulf (weight c l) (extractStridedSlice S1x16x4096x64 ![2, 0, 0, 0] o slices_S3x16x4096x64_S1x16x4096x64_2_0_0_0))

/-- An output against the incoming gradient. -/
def against (y : FVec Ideal S4096x1024 .f32) (o : FVec Ideal S1x16x4096x64 .f32) : FVec Ideal S1x16x4096 .f32 :=
  Host.reduceAdd (mulf (broadcastInDim S1x16x4096x64 ![1, 2, 3] bcast_S16x4096x64_S1x16x4096x64_1_2_3
    (transpose S16x4096x64 [1, 0, 2] (shapeCast S4096x16x64 y shapeCasts_S4096x1024_S4096x16x64) transposes_S4096x16x64_S16x4096x64_1_0_2)) o)
    (constant S_ .f32 0x00000000#32) reducesTo_S1x16x4096x64_S1x16x4096_d3 h_S_

/-- One column per head. -/
def cols (x : FVec Ideal S1x16x4096 .f32) : FVec Ideal S4096x16 .f32 :=
  transpose S4096x16 [1, 0] (shapeCast S16x4096 x shapeCasts_S1x16x4096_S16x4096) transposes_S16x4096_S4096x16_1_0

/-- A column per head, padded to 128 columns and repeated for the three groups. -/
def padded (x : FVec Ideal S4096x16 .f32) : FVec Ideal S4096x3x128 .f32 :=
  broadcastInDim S4096x3x128 ![0, 1, 2] bcast_S4096x1x128_S4096x3x128_0_1_2
    (broadcastInDim S4096x1x128 ![0, 2] bcast_S4096x128_S4096x1x128_0_2
      (pad S4096x128 ![0, 0] ![0, 112] ![0, 0] x (sitofp .f32 (constantI S_ 32 0#32)) pads_S4096x16_S4096x128_000_01120 h_S_))

/-- The incoming gradient repeated for the three groups. -/
def repeated (x : FVec Ideal S4096x1024 .f32) : FVec Ideal S4096x3x1024 .f32 :=
  broadcastInDim S4096x3x1024 ![0, 1, 2] bcast_S4096x1x1024_S4096x3x1024_0_1_2
    (broadcastInDim S4096x1x1024 ![0, 2] bcast_S4096x1024_S4096x1x1024_0_2 x)

/-- A divisor, replaced by one if it is zero. -/
def divisor (n : BitVec 32) : S_.Idx → BitVec 32 :=
  select (cmpi .eq (id (constantI S_ 32 n)) (constantI S_ 32 0#32)) (constantI S_ 32 1#32) (id (constantI S_ 32 n))

/-- The remainder of an array by a number. -/
def rem {s : Shape} (b : S_.BroadcastsInDim s ![]) (n : BitVec 32) (x : s.Idx → BitVec 32) : s.Idx → BitVec 32 :=
  select (andi (cmpi .ne (cmpi .slt (Host.remsi x (broadcastInDim s ![] b (divisor n))) (broadcastInDim s ![] b (constantI S_ 32 0#32)))
        (broadcastInDim s ![] b (cmpi .slt (divisor n) (constantI S_ 32 0#32))))
      (cmpi .ne (Host.remsi x (broadcastInDim s ![] b (divisor n))) (broadcastInDim s ![] b (constantI S_ 32 0#32))))
    (addi (Host.remsi x (broadcastInDim s ![] b (divisor n))) (broadcastInDim s ![] b (divisor n)))
    (Host.remsi x (broadcastInDim s ![] b (divisor n)))

/-- The quotient of the row numbers by a number, rounded down. -/
def quo (n : BitVec 32) (x : S4096.Idx → BitVec 32) : S4096.Idx → BitVec 32 :=
  select (andi (cmpi .ne (signi x) (broadcastInDim S4096 ![] bcast_S_S4096 (signi (id (constantI S_ 32 n)))))
      (cmpi .ne (Host.remsi x (broadcastInDim S4096 ![] bcast_S_S4096 (id (constantI S_ 32 n))))
        (broadcastInDim S4096 ![] bcast_S_S4096 (constantI S_ 32 0#32))))
    (subi (Host.divsi x (broadcastInDim S4096 ![] bcast_S_S4096 (id (constantI S_ 32 n)))) (broadcastInDim S4096 ![] bcast_S_S4096 (constantI S_ 32 1#32)))
    (Host.divsi x (broadcastInDim S4096 ![] bcast_S_S4096 (id (constantI S_ 32 n))))

/-- The rotary frequencies, once for each quarter of 128 columns. -/
def freqs : FVec Ideal S128 .f32 :=
  shapeCast S128 (broadcastInDim S4x32 ![0, 1] bcast_S1x32_S4x32_0_1 (shapeCast S1x32
    (Host.powf (broadcastInDim S32 ![] bcast_S_S32 (constant S_ .f32 0x461C4000#32))
      (mulf (Host.negf (sitofp .f32 (iotaInDim S32 32 0))) (broadcastInDim S32 ![] bcast_S_S32 (constant S_ .f32 0x3D000000#32))))
    shapeCasts_S32_S1x32)) shapeCasts_S4x32_S128

/-- The rotary angles of the positions `n`. -/
def angles (n : S12288.Idx → BitVec 32) (w : FVec Ideal S128 .f32) : FVec Ideal S12288x128 .f32 :=
  mulf (broadcastInDim S12288x128 ![0, 1] bcast_S12288x1_S12288x128_0_1 (broadcastInDim S12288x1 ![0] bcast_S12288_S12288x1_0 (sitofp .f32 n)))
    (broadcastInDim S12288x128 ![0, 1] bcast_S1x128_S12288x128_0_1 (broadcastInDim S1x128 ![1] bcast_S128_S1x128_1 w))

variable (U : Valuation τ sig (Elt Ideal))

theorem at_v123 : (StableHlo.after ops U (Proc.devRef .tc main_v123) : FVec Ideal S1x16x4096 .f32)
    = extractStridedSlice S1x16x4096 ![0, 0, 0] (StableHlo.after ops U (Proc.devRef .tc main_v122)) slices_S3x16x4096_S1x16x4096_0_0_0 := by
  rw [un U 206 205 rfl rfl rfl]

theorem at_v124 : (StableHlo.after ops U (Proc.devRef .tc main_v124) : FVec Ideal S1x16x4096 .f32)
    = extractStridedSlice S1x16x4096 ![1, 0, 0] (StableHlo.after ops U (Proc.devRef .tc main_v122)) slices_S3x16x4096_S1x16x4096_1_0_0 := by
  rw [un U 207 205 rfl rfl rfl]

theorem at_v125 : (StableHlo.after ops U (Proc.devRef .tc main_v125) : FVec Ideal S1x16x4096 .f32)
    = extractStridedSlice S1x16x4096 ![2, 0, 0] (StableHlo.after ops U (Proc.devRef .tc main_v122)) slices_S3x16x4096_S1x16x4096_2_0_0 := by
  rw [un U 208 205 rfl rfl rfl]

theorem at_v137 : (StableHlo.after ops U (Proc.devRef .tc main_v137) : FVec Ideal S1x16x4096 .f32)
    = lse (StableHlo.after ops U (Proc.devRef .tc main_v123)) (StableHlo.after ops U (Proc.devRef .tc main_v124)) (StableHlo.after ops U (Proc.devRef .tc main_v125)) := by
  rw [bi U 220 210 219 rfl rfl rfl rfl, un U 219 218 rfl rfl rfl, bi U 218 215 217 rfl rfl rfl rfl, un U 217 216 rfl rfl rfl,
    bi U 216 208 210 rfl rfl rfl rfl, bi U 215 212 214 rfl rfl rfl rfl, un U 214 213 rfl rfl rfl, bi U 213 207 210 rfl rfl rfl rfl,
    un U 212 211 rfl rfl rfl, bi U 211 206 210 rfl rfl rfl rfl, bi U 210 209 208 rfl rfl rfl rfl, bi U 209 206 207 rfl rfl rfl rfl]
  rfl

theorem at_v157 : (StableHlo.after ops U (Proc.devRef .tc main_v157) : FVec Ideal S1x16x4096x64 .f32)
    = mixed (StableHlo.after ops U (Proc.devRef .tc main_v123)) (StableHlo.after ops U (Proc.devRef .tc main_v124)) (StableHlo.after ops U (Proc.devRef .tc main_v125)) (StableHlo.after ops U (Proc.devRef .tc main_v137)) (StableHlo.after ops U (Proc.devRef .tc main_v119)) := by
  rw [bi U 240 236 239 rfl rfl rfl rfl, bi U 239 238 237 rfl rfl rfl rfl, un U 238 229 rfl rfl rfl, un U 237 202 rfl rfl rfl,
    bi U 236 232 235 rfl rfl rfl rfl, bi U 235 234 233 rfl rfl rfl rfl, un U 234 226 rfl rfl rfl, un U 233 202 rfl rfl rfl,
    bi U 232 231 230 rfl rfl rfl rfl, un U 231 223 rfl rfl rfl, un U 230 202 rfl rfl rfl, un U 229 228 rfl rfl rfl,
    un U 228 227 rfl rfl rfl, bi U 227 208 220 rfl rfl rfl rfl, un U 226 225 rfl rfl rfl, un U 225 224 rfl rfl rfl,
    bi U 224 207 220 rfl rfl rfl rfl, un U 223 222 rfl rfl rfl, un U 222 221 rfl rfl rfl, bi U 221 206 220 rfl rfl rfl rfl]
  rfl

theorem at_v162 : (StableHlo.after ops U (Proc.devRef .tc main_v162) : FVec Ideal S1x16x4096 .f32)
    = against (U (Proc.devRef .tc main_arg1)) (StableHlo.after ops U (Proc.devRef .tc main_v157)) := by
  rw [bi U 246 244 245 rfl rfl rfl rfl, nu U 245 rfl rfl, bi U 244 243 240 rfl rfl rfl rfl, un U 243 242 rfl rfl rfl,
    un U 242 241 rfl rfl rfl, rs_arg U 241 rfl rfl main_arg1_unwritten]
  rfl

theorem at_v164 : (StableHlo.after ops U (Proc.devRef .tc main_v164) : FVec Ideal S4096x16 .f32)
    = cols (StableHlo.after ops U (Proc.devRef .tc main_v137)) := by
  rw [un U 248 247 rfl rfl rfl, rs U 247 220 rfl rfl rfl]
  rfl

theorem at_v166 : (StableHlo.after ops U (Proc.devRef .tc main_v166) : FVec Ideal S4096x16 .f32)
    = cols (StableHlo.after ops U (Proc.devRef .tc main_v162)) := by
  rw [un U 250 249 rfl rfl rfl, rs U 249 246 rfl rfl rfl]
  rfl

theorem at_v171 : (StableHlo.after ops U (Proc.devRef .tc main_v171) : FVec Ideal S4096x3x3072 .f32)
    = Ref.stack (StableHlo.after ops U (Proc.devRef .tc main_v36)) (StableHlo.after ops U (Proc.devRef .tc main_v66)) (StableHlo.after ops U (Proc.devRef .tc main_v6)) := by
  rw [rs U 255 254 rfl rfl rfl, na3 U 254 251 252 253 rfl rfl rfl rfl rfl, un U 253 6 rfl rfl rfl, un U 252 70 rfl rfl rfl,
    un U 251 38 rfl rfl rfl]
  rfl

theorem at_v188 : (StableHlo.after ops U (Proc.devRef .tc main_v188) : FVec Ideal S12288x3072 .bf16)
    = truncf .bf16 (classes3072 (StableHlo.after ops U (Proc.devRef .tc main_v171))) bitsLt_bf16_f32 := by
  rw [un U 272 271 rfl rfl rfl, na3 U 271 260 265 270 rfl rfl rfl rfl rfl, rs U 270 269 rfl rfl rfl, un U 269 268 rfl rfl rfl,
    rs U 268 267 rfl rfl rfl, rs U 267 266 rfl rfl rfl, un U 266 255 rfl rfl rfl, rs U 265 264 rfl rfl rfl, un U 264 263 rfl rfl rfl,
    rs U 263 262 rfl rfl rfl, rs U 262 261 rfl rfl rfl, un U 261 255 rfl rfl rfl, rs U 260 259 rfl rfl rfl, un U 259 258 rfl rfl rfl,
    rs U 258 257 rfl rfl rfl, rs U 257 256 rfl rfl rfl, un U 256 255 rfl rfl rfl]
  rfl

theorem at_v250 : (StableHlo.after ops U (Proc.devRef .tc main_v250) : FVec Ideal S12288x1024 .bf16)
    = truncf .bf16 (classes1024 (repeated (U (Proc.devRef .tc main_arg1)))) bitsLt_bf16_f32 := by
  rw [un U 476 475 rfl rfl rfl, na3 U 475 464 469 474 rfl rfl rfl rfl rfl, rs U 474 473 rfl rfl rfl, un U 473 472 rfl rfl rfl,
    rs U 472 471 rfl rfl rfl, rs U 471 470 rfl rfl rfl, un U 470 459 rfl rfl rfl, rs U 469 468 rfl rfl rfl, un U 468 467 rfl rfl rfl,
    rs U 467 466 rfl rfl rfl, rs U 466 465 rfl rfl rfl, un U 465 459 rfl rfl rfl, rs U 464 463 rfl rfl rfl, un U 463 462 rfl rfl rfl,
    rs U 462 461 rfl rfl rfl, rs U 461 460 rfl rfl rfl, un U 460 459 rfl rfl rfl, un U 459 458 rfl rfl rfl,
    un_arg U 458 rfl rfl main_arg1_unwritten]
  rfl

theorem at_v253 : (StableHlo.after ops U (Proc.devRef .tc main_v253) : FVec Ideal S4096x3x128 .f32)
    = padded (StableHlo.after ops U (Proc.devRef .tc main_v164)) := by
  rw [un U 481 480 rfl rfl rfl, un U 480 479 rfl rfl rfl,
    bi (a := main_v164) (b := main_call12_v0) (y := main_v251) U 479 248 478 rfl rfl rfl rfl,
    un (x := main_c_32) (y := main_call12_v0) U 478 477 rfl rfl rfl, nu U 477 rfl rfl]
  rfl

theorem at_v269 : (StableHlo.after ops U (Proc.devRef .tc main_v269) : FVec Ideal S12288x128 .f32)
    = classes128 (StableHlo.after ops U (Proc.devRef .tc main_v253)) := by
  rw [na3 U 497 486 491 496 rfl rfl rfl rfl rfl, rs U 496 495 rfl rfl rfl, un U 495 494 rfl rfl rfl, rs U 494 493 rfl rfl rfl,
    rs U 493 492 rfl rfl rfl, un U 492 481 rfl rfl rfl, rs U 491 490 rfl rfl rfl, un U 490 489 rfl rfl rfl, rs U 489 488 rfl rfl rfl,
    rs U 488 487 rfl rfl rfl, un U 487 481 rfl rfl rfl, rs U 486 485 rfl rfl rfl, un U 485 484 rfl rfl rfl, rs U 484 483 rfl rfl rfl,
    rs U 483 482 rfl rfl rfl, un U 482 481 rfl rfl rfl]
  rfl

theorem at_v272 : (StableHlo.after ops U (Proc.devRef .tc main_v272) : FVec Ideal S4096x3x128 .f32)
    = padded (StableHlo.after ops U (Proc.devRef .tc main_v166)) := by
  rw [un U 502 501 rfl rfl rfl, un U 501 500 rfl rfl rfl,
    bi (a := main_v166) (b := main_call13_v0) (y := main_v270) U 500 250 499 rfl rfl rfl rfl,
    un (x := main_c_33) (y := main_call13_v0) U 499 498 rfl rfl rfl, nu U 498 rfl rfl]
  rfl

theorem at_v288 : (StableHlo.after ops U (Proc.devRef .tc main_v288) : FVec Ideal S12288x128 .f32)
    = classes128 (StableHlo.after ops U (Proc.devRef .tc main_v272)) := by
  rw [na3 U 518 507 512 517 rfl rfl rfl rfl rfl, rs U 517 516 rfl rfl rfl, un U 516 515 rfl rfl rfl, rs U 515 514 rfl rfl rfl,
    rs U 514 513 rfl rfl rfl, un U 513 502 rfl rfl rfl, rs U 512 511 rfl rfl rfl, un U 511 510 rfl rfl rfl, rs U 510 509 rfl rfl rfl,
    rs U 509 508 rfl rfl rfl, un U 508 502 rfl rfl rfl, rs U 507 506 rfl rfl rfl, un U 506 505 rfl rfl rfl, rs U 505 504 rfl rfl rfl,
    rs U 504 503 rfl rfl rfl, un U 503 502 rfl rfl rfl]
  rfl

theorem at_v199 : (StableHlo.after ops U (Proc.devRef .tc main_v199) : S4096.Idx → BitVec 32)
    = rem bcast_S_S4096 4096#32 (iotaInDim S4096 32 0) := by
  rw [te (a := main_call4_v12) (b := main_call4_v14) (c := main_call4_v4) (y := main_v199) U 306 303 305 292 rfl rfl rfl rfl rfl,
    bi (a := main_call4_v4) (b := main_call4_v13) (y := main_call4_v14) U 305 292 304 rfl rfl rfl rfl,
    un (x := main_call4_v2) (y := main_call4_v13) U 304 290 rfl rfl rfl,
    bi (a := main_call4_v11) (b := main_call4_v6) (y := main_call4_v12) U 303 302 295 rfl rfl rfl rfl,
    bi (a := main_call4_v8) (b := main_call4_v10) (y := main_call4_v11) U 302 298 301 rfl rfl rfl rfl,
    un (x := main_call4_v9) (y := main_call4_v10) U 301 300 rfl rfl rfl,
    bi (a := main_call4_v2) (b := main_call4_c_3) (y := main_call4_v9) U 300 290 299 rfl rfl rfl rfl, nu U 299 rfl rfl,
    bi (a := main_call4_v4) (b := main_call4_v7) (y := main_call4_v8) U 298 292 297 rfl rfl rfl rfl,
    un (x := main_call4_c_2) (y := main_call4_v7) U 297 296 rfl rfl rfl, nu U 296 rfl rfl,
    bi (a := main_call4_v4) (b := main_call4_v5) (y := main_call4_v6) U 295 292 294 rfl rfl rfl rfl,
    un (x := main_call4_c_1) (y := main_call4_v5) U 294 293 rfl rfl rfl, nu U 293 rfl rfl,
    bi (a := main_v198) (b := main_call4_v3) (y := main_call4_v4) U 292 284 291 rfl rfl rfl rfl,
    un (x := main_call4_v2) (y := main_call4_v3) U 291 290 rfl rfl rfl,
    te (a := main_call4_v1) (b := main_call4_c_0) (c := main_call4_v0) (y := main_call4_v2) U 290 288 289 286 rfl rfl rfl rfl rfl,
    nu U 289 rfl rfl, bi (a := main_call4_v0) (b := main_call4_c) (y := main_call4_v1) U 288 286 287 rfl rfl rfl rfl, nu U 287 rfl rfl,
    un (x := main_c_21) (y := main_call4_v0) U 286 285 rfl rfl rfl, nu U 285 rfl rfl, nu U 284 rfl rfl]
  rfl

theorem at_v202 : (StableHlo.after ops U (Proc.devRef .tc main_v202) : S4096.Idx → BitVec 32)
    = quo 4096#32 (iotaInDim S4096 32 0) := by
  rw [te (a := main_call5_v11) (b := main_call5_v13) (c := main_call5_v2) (y := main_v202) U 327 323 326 313 rfl rfl rfl rfl rfl,
    bi (a := main_call5_v2) (b := main_call5_v12) (y := main_call5_v13) U 326 313 325 rfl rfl rfl rfl,
    un (x := main_call5_c_0) (y := main_call5_v12) U 325 324 rfl rfl rfl, nu U 324 rfl rfl,
    bi (a := main_call5_v6) (b := main_call5_v10) (y := main_call5_v11) U 323 317 322 rfl rfl rfl rfl,
    bi (a := main_call5_v8) (b := main_call5_v9) (y := main_call5_v10) U 322 319 321 rfl rfl rfl rfl,
    un (x := main_call5_c) (y := main_call5_v9) U 321 320 rfl rfl rfl, nu U 320 rfl rfl,
    bi (a := main_v198) (b := main_call5_v7) (y := main_call5_v8) U 319 284 318 rfl rfl rfl rfl,
    un (x := main_call5_v0) (y := main_call5_v7) U 318 311 rfl rfl rfl,
    bi (a := main_call5_v3) (b := main_call5_v5) (y := main_call5_v6) U 317 314 316 rfl rfl rfl rfl,
    un (x := main_call5_v4) (y := main_call5_v5) U 316 315 rfl rfl rfl, un (x := main_call5_v0) (y := main_call5_v4) U 315 311 rfl rfl rfl,
    un (x := main_v198) (y := main_call5_v3) U 314 284 rfl rfl rfl,
    bi (a := main_v198) (b := main_call5_v1) (y := main_call5_v2) U 313 284 312 rfl rfl rfl rfl,
    un (x := main_call5_v0) (y := main_call5_v1) U 312 311 rfl rfl rfl, un (x := main_c_23) (y := main_call5_v0) U 311 310 rfl rfl rfl,
    nu U 310 rfl rfl, nu U 284 rfl rfl]
  rfl

theorem at_v203 : (StableHlo.after ops U (Proc.devRef .tc main_v203) : S4096.Idx → BitVec 32)
    = addi (muli (StableHlo.after ops U (Proc.devRef .tc main_v199)) (broadcastInDim S4096 ![] bcast_S_S4096 (constantI S_ 32 1#32))) (StableHlo.after ops U (Proc.devRef .tc main_v202)) := by
  rw [bi U 328 309 327 rfl rfl rfl rfl, bi U 309 306 308 rfl rfl rfl rfl, un U 308 307 rfl rfl rfl, nu U 307 rfl rfl]

theorem at_v205 : (StableHlo.after ops U (Proc.devRef .tc main_v205) : S4096.Idx → BitVec 32)
    = rem bcast_S_S4096 1024#32 (iotaInDim S4096 32 0) := by
  rw [te (a := main_call6_v12) (b := main_call6_v14) (c := main_call6_v4) (y := main_v205) U 351 348 350 337 rfl rfl rfl rfl rfl,
    bi (a := main_call6_v4) (b := main_call6_v13) (y := main_call6_v14) U 350 337 349 rfl rfl rfl rfl,
    un (x := main_call6_v2) (y := main_call6_v13) U 349 335 rfl rfl rfl,
    bi (a := main_call6_v11) (b := main_call6_v6) (y := main_call6_v12) U 348 347 340 rfl rfl rfl rfl,
    bi (a := main_call6_v8) (b := main_call6_v10) (y := main_call6_v11) U 347 343 346 rfl rfl rfl rfl,
    un (x := main_call6_v9) (y := main_call6_v10) U 346 345 rfl rfl rfl,
    bi (a := main_call6_v2) (b := main_call6_c_3) (y := main_call6_v9) U 345 335 344 rfl rfl rfl rfl, nu U 344 rfl rfl,
    bi (a := main_call6_v4) (b := main_call6_v7) (y := main_call6_v8) U 343 337 342 rfl rfl rfl rfl,
    un (x := main_call6_c_2) (y := main_call6_v7) U 342 341 rfl rfl rfl, nu U 341 rfl rfl,
    bi (a := main_call6_v4) (b := main_call6_v5) (y := main_call6_v6) U 340 337 339 rfl rfl rfl rfl,
    un (x := main_call6_c_1) (y := main_call6_v5) U 339 338 rfl rfl rfl, nu U 338 rfl rfl,
    bi (a := main_v204) (b := main_call6_v3) (y := main_call6_v4) U 337 329 336 rfl rfl rfl rfl,
    un (x := main_call6_v2) (y := main_call6_v3) U 336 335 rfl rfl rfl,
    te (a := main_call6_v1) (b := main_call6_c_0) (c := main_call6_v0) (y := main_call6_v2) U 335 333 334 331 rfl rfl rfl rfl rfl,
    nu U 334 rfl rfl, bi (a := main_call6_v0) (b := main_call6_c) (y := main_call6_v1) U 333 331 332 rfl rfl rfl rfl, nu U 332 rfl rfl,
    un (x := main_c_24) (y := main_call6_v0) U 331 330 rfl rfl rfl, nu U 330 rfl rfl, nu U 329 rfl rfl]
  rfl

theorem at_v208 : (StableHlo.after ops U (Proc.devRef .tc main_v208) : S4096.Idx → BitVec 32)
    = quo 1024#32 (iotaInDim S4096 32 0) := by
  rw [te (a := main_call7_v11) (b := main_call7_v13) (c := main_call7_v2) (y := main_v208) U 372 368 371 358 rfl rfl rfl rfl rfl,
    bi (a := main_call7_v2) (b := main_call7_v12) (y := main_call7_v13) U 371 358 370 rfl rfl rfl rfl,
    un (x := main_call7_c_0) (y := main_call7_v12) U 370 369 rfl rfl rfl, nu U 369 rfl rfl,
    bi (a := main_call7_v6) (b := main_call7_v10) (y := main_call7_v11) U 368 362 367 rfl rfl rfl rfl,
    bi (a := main_call7_v8) (b := main_call7_v9) (y := main_call7_v10) U 367 364 366 rfl rfl rfl rfl,
    un (x := main_call7_c) (y := main_call7_v9) U 366 365 rfl rfl rfl, nu U 365 rfl rfl,
    bi (a := main_v204) (b := main_call7_v7) (y := main_call7_v8) U 364 329 363 rfl rfl rfl rfl,
    un (x := main_call7_v0) (y := main_call7_v7) U 363 356 rfl rfl rfl,
    bi (a := main_call7_v3) (b := main_call7_v5) (y := main_call7_v6) U 362 359 361 rfl rfl rfl rfl,
    un (x := main_call7_v4) (y := main_call7_v5) U 361 360 rfl rfl rfl, un (x := main_call7_v0) (y := main_call7_v4) U 360 356 rfl rfl rfl,
    un (x := main_v204) (y := main_call7_v3) U 359 329 rfl rfl rfl,
    bi (a := main_v204) (b := main_call7_v1) (y := main_call7_v2) U 358 329 357 rfl rfl rfl rfl,
    un (x := main_call7_v0) (y := main_call7_v1) U 357 356 rfl rfl rfl, un (x := main_c_26) (y := main_call7_v0) U 356 355 rfl rfl rfl,
    nu U 355 rfl rfl, nu U 329 rfl rfl]
  rfl

theorem at_v209 : (StableHlo.after ops U (Proc.devRef .tc main_v209) : S4096.Idx → BitVec 32)
    = addi (muli (StableHlo.after ops U (Proc.devRef .tc main_v205)) (broadcastInDim S4096 ![] bcast_S_S4096 (constantI S_ 32 4#32))) (StableHlo.after ops U (Proc.devRef .tc main_v208)) := by
  rw [bi U 373 354 372 rfl rfl rfl rfl, bi U 354 351 353 rfl rfl rfl rfl, un U 353 352 rfl rfl rfl, nu U 352 rfl rfl]

theorem at_v211 : (StableHlo.after ops U (Proc.devRef .tc main_v211) : S4096.Idx → BitVec 32)
    = rem bcast_S_S4096 256#32 (iotaInDim S4096 32 0) := by
  rw [te (a := main_call8_v12) (b := main_call8_v14) (c := main_call8_v4) (y := main_v211) U 396 393 395 382 rfl rfl rfl rfl rfl,
    bi (a := main_call8_v4) (b := main_call8_v13) (y := main_call8_v14) U 395 382 394 rfl rfl rfl rfl,
    un (x := main_call8_v2) (y := main_call8_v13) U 394 380 rfl rfl rfl,
    bi (a := main_call8_v11) (b := main_call8_v6) (y := main_call8_v12) U 393 392 385 rfl rfl rfl rfl,
    bi (a := main_call8_v8) (b := main_call8_v10) (y := main_call8_v11) U 392 388 391 rfl rfl rfl rfl,
    un (x := main_call8_v9) (y := main_call8_v10) U 391 390 rfl rfl rfl,
    bi (a := main_call8_v2) (b := main_call8_c_3) (y := main_call8_v9) U 390 380 389 rfl rfl rfl rfl, nu U 389 rfl rfl,
    bi (a := main_call8_v4) (b := main_call8_v7) (y := main_call8_v8) U 388 382 387 rfl rfl rfl rfl,
    un (x := main_call8_c_2) (y := main_call8_v7) U 387 386 rfl rfl rfl, nu U 386 rfl rfl,
    bi (a := main_call8_v4) (b := main_call8_v5) (y := main_call8_v6) U 385 382 384 rfl rfl rfl rfl,
    un (x := main_call8_c_1) (y := main_call8_v5) U 384 383 rfl rfl rfl, nu U 383 rfl rfl,
    bi (a := main_v210) (b := main_call8_v3) (y := main_call8_v4) U 382 374 381 rfl rfl rfl rfl,
    un (x := main_call8_v2) (y := main_call8_v3) U 381 380 rfl rfl rfl,
    te (a := main_call8_v1) (b := main_call8_c_0) (c := main_call8_v0) (y := main_call8_v2) U 380 378 379 376 rfl rfl rfl rfl rfl,
    nu U 379 rfl rfl, bi (a := main_call8_v0) (b := main_call8_c) (y := main_call8_v1) U 378 376 377 rfl rfl rfl rfl, nu U 377 rfl rfl,
    un (x := main_c_27) (y := main_call8_v0) U 376 375 rfl rfl rfl, nu U 375 rfl rfl, nu U 374 rfl rfl]
  rfl

theorem at_v214 : (StableHlo.after ops U (Proc.devRef .tc main_v214) : S4096.Idx → BitVec 32)
    = quo 256#32 (iotaInDim S4096 32 0) := by
  rw [te (a := main_call9_v11) (b := main_call9_v13) (c := main_call9_v2) (y := main_v214) U 417 413 416 403 rfl rfl rfl rfl rfl,
    bi (a := main_call9_v2) (b := main_call9_v12) (y := main_call9_v13) U 416 403 415 rfl rfl rfl rfl,
    un (x := main_call9_c_0) (y := main_call9_v12) U 415 414 rfl rfl rfl, nu U 414 rfl rfl,
    bi (a := main_call9_v6) (b := main_call9_v10) (y := main_call9_v11) U 413 407 412 rfl rfl rfl rfl,
    bi (a := main_call9_v8) (b := main_call9_v9) (y := main_call9_v10) U 412 409 411 rfl rfl rfl rfl,
    un (x := main_call9_c) (y := main_call9_v9) U 411 410 rfl rfl rfl, nu U 410 rfl rfl,
    bi (a := main_v210) (b := main_call9_v7) (y := main_call9_v8) U 409 374 408 rfl rfl rfl rfl,
    un (x := main_call9_v0) (y := main_call9_v7) U 408 401 rfl rfl rfl,
    bi (a := main_call9_v3) (b := main_call9_v5) (y := main_call9_v6) U 407 404 406 rfl rfl rfl rfl,
    un (x := main_call9_v4) (y := main_call9_v5) U 406 405 rfl rfl rfl, un (x := main_call9_v0) (y := main_call9_v4) U 405 401 rfl rfl rfl,
    un (x := main_v210) (y := main_call9_v3) U 404 374 rfl rfl rfl,
    bi (a := main_v210) (b := main_call9_v1) (y := main_call9_v2) U 403 374 402 rfl rfl rfl rfl,
    un (x := main_call9_v0) (y := main_call9_v1) U 402 401 rfl rfl rfl, un (x := main_c_29) (y := main_call9_v0) U 401 400 rfl rfl rfl,
    nu U 400 rfl rfl, nu U 374 rfl rfl]
  rfl

theorem at_v215 : (StableHlo.after ops U (Proc.devRef .tc main_v215) : S4096.Idx → BitVec 32)
    = addi (muli (StableHlo.after ops U (Proc.devRef .tc main_v211)) (broadcastInDim S4096 ![] bcast_S_S4096 (constantI S_ 32 16#32))) (StableHlo.after ops U (Proc.devRef .tc main_v214)) := by
  rw [bi U 418 399 417 rfl rfl rfl rfl, bi U 399 396 398 rfl rfl rfl rfl, un U 398 397 rfl rfl rfl, nu U 397 rfl rfl]

theorem at_v216 : (StableHlo.after ops U (Proc.devRef .tc main_v216) : S12288.Idx → BitVec 32)
    = concatenate S12288 0 [⟨S4096, (StableHlo.after ops U (Proc.devRef .tc main_v203))⟩, ⟨S4096, (StableHlo.after ops U (Proc.devRef .tc main_v209))⟩, ⟨S4096, (StableHlo.after ops U (Proc.devRef .tc main_v215))⟩] concatenates_S4096_S4096_S4096_S12288_d0 := by
  rw [na3 U 419 328 373 418 rfl rfl rfl rfl rfl]
  rfl

theorem at_v197 : (StableHlo.after ops U (Proc.devRef .tc main_v197) : FVec Ideal S128 .f32)
    = freqs := by
  rw [rs U 283 282 rfl rfl rfl, un U 282 281 rfl rfl rfl, rs U 281 280 rfl rfl rfl, bi U 280 279 277 rfl rfl rfl rfl,
    un U 279 278 rfl rfl rfl, nu U 278 rfl rfl, bi U 277 274 276 rfl rfl rfl rfl, un U 276 275 rfl rfl rfl, nu U 275 rfl rfl,
    un U 274 273 rfl rfl rfl, nu U 273 rfl rfl]
  rfl

theorem at_v222 : (StableHlo.after ops U (Proc.devRef .tc main_v222) : FVec Ideal S12288x128 .f32)
    = angles (StableHlo.after ops U (Proc.devRef .tc main_v216)) (StableHlo.after ops U (Proc.devRef .tc main_v197)) := by
  rw [bi U 425 423 424 rfl rfl rfl rfl, un U 424 422 rfl rfl rfl, un U 423 421 rfl rfl rfl, un U 422 283 rfl rfl rfl,
    un U 421 420 rfl rfl rfl, un U 420 419 rfl rfl rfl]
  rfl

theorem at_v224 : (StableHlo.after ops U (Proc.devRef .tc main_v224) : S128.Idx → BitVec 32)
    = rem bcast_S_S128 64#32 (iotaInDim S128 32 0) := by
  rw [te (a := main_call10_v12) (b := main_call10_v14) (c := main_call10_v4) (y := main_v224) U 448 445 447 434 rfl rfl rfl rfl rfl,
    bi (a := main_call10_v4) (b := main_call10_v13) (y := main_call10_v14) U 447 434 446 rfl rfl rfl rfl,
    un (x := main_call10_v2) (y := main_call10_v13) U 446 432 rfl rfl rfl,
    bi (a := main_call10_v11) (b := main_call10_v6) (y := main_call10_v12) U 445 444 437 rfl rfl rfl rfl,
    bi (a := main_call10_v8) (b := main_call10_v10) (y := main_call10_v11) U 444 440 443 rfl rfl rfl rfl,
    un (x := main_call10_v9) (y := main_call10_v10) U 443 442 rfl rfl rfl,
    bi (a := main_call10_v2) (b := main_call10_c_3) (y := main_call10_v9) U 442 432 441 rfl rfl rfl rfl, nu U 441 rfl rfl,
    bi (a := main_call10_v4) (b := main_call10_v7) (y := main_call10_v8) U 440 434 439 rfl rfl rfl rfl,
    un (x := main_call10_c_2) (y := main_call10_v7) U 439 438 rfl rfl rfl, nu U 438 rfl rfl,
    bi (a := main_call10_v4) (b := main_call10_v5) (y := main_call10_v6) U 437 434 436 rfl rfl rfl rfl,
    un (x := main_call10_c_1) (y := main_call10_v5) U 436 435 rfl rfl rfl, nu U 435 rfl rfl,
    bi (a := main_v223) (b := main_call10_v3) (y := main_call10_v4) U 434 426 433 rfl rfl rfl rfl,
    un (x := main_call10_v2) (y := main_call10_v3) U 433 432 rfl rfl rfl,
    te (a := main_call10_v1) (b := main_call10_c_0) (c := main_call10_v0) (y := main_call10_v2) U 432 430 431 428 rfl rfl rfl rfl rfl,
    nu U 431 rfl rfl, bi (a := main_call10_v0) (b := main_call10_c) (y := main_call10_v1) U 430 428 429 rfl rfl rfl rfl, nu U 429 rfl rfl,
    un (x := main_c_30) (y := main_call10_v0) U 428 427 rfl rfl rfl, nu U 427 rfl rfl, nu U 426 rfl rfl]
  rfl

theorem at_v228 : (StableHlo.after ops U (Proc.devRef .tc main_v228) : FVec Ideal S12288x128 .f32)
    = (Host.cos (StableHlo.after ops U (Proc.devRef .tc main_v222)) : FVec Ideal S12288x128 .f32) := by
  rw [un U 453 425 rfl rfl rfl]

theorem at_v227 : (StableHlo.after ops U (Proc.devRef .tc main_v227) : FVec Ideal S12288x128 .f32)
    = (Host.sin (StableHlo.after ops U (Proc.devRef .tc main_v222)) : FVec Ideal S12288x128 .f32) := by
  rw [un U 452 425 rfl rfl rfl]

theorem at_v230 : (StableHlo.after ops U (Proc.devRef .tc main_v230) : FVec Ideal S12288x128 .f32)
    = (Host.negf (StableHlo.after ops U (Proc.devRef .tc main_v227)) : FVec Ideal S12288x128 .f32) := by
  rw [un U 455 452 rfl rfl rfl]

theorem at_call11_v0 : (StableHlo.after ops U (Proc.devRef .tc main_call11_v0) : S12288x128.Idx → BitVec 1)
    = broadcastInDim S12288x128 ![0, 1] bcast_S1x128_S12288x128_0_1 (broadcastInDim S1x128 ![1] bcast_S128_S1x128_1 (cmpi .slt (StableHlo.after ops U (Proc.devRef .tc main_v224)) (broadcastInDim S128 ![] bcast_S_S128 (constantI S_ 32 32#32)))) := by
  rw [un (x := main_v229) (y := main_call11_v0) U 456 454 rfl rfl rfl, un U 454 451 rfl rfl rfl, bi U 451 448 450 rfl rfl rfl rfl,
    un U 450 449 rfl rfl rfl, nu U 449 rfl rfl]
  generalize StableHlo.after ops U (Proc.devRef .tc main_v224) = x
  rfl

theorem at_v231 : (StableHlo.after ops U (Proc.devRef .tc main_v231) : FVec Ideal S12288x128 .f32)
    = select ((StableHlo.after ops U (Proc.devRef .tc main_call11_v0)) : S12288x128.Idx → BitVec 1) ((StableHlo.after ops U (Proc.devRef .tc main_v230)) : FVec Ideal S12288x128 .f32) ((StableHlo.after ops U (Proc.devRef .tc main_v227)) : FVec Ideal S12288x128 .f32) := by
  rw [te (a := main_call11_v0) (b := main_v230) (c := main_v227) (y := main_v231) U 457 456 455 452 rfl rfl rfl rfl rfl]
  generalize StableHlo.after ops U (Proc.devRef .tc main_call11_v0) = x
  generalize StableHlo.after ops U (Proc.devRef .tc main_v230) = y
  generalize StableHlo.after ops U (Proc.devRef .tc main_v227) = z
  rfl

end Cert.Host

end
-- ==== Proof.HostSame.lean ====
/- The host stages that both programs compute alike: the rotated queries and keys. -/
module

public import proofs.«01_k».proof.Proof.HostStep
public import proofs.«01_k».proof.Proof.RefDefs

@[expose] public section

set_option maxRecDepth 16384

noncomputable section

namespace Cert.Host

open Cert.KernelIdeal Cert.KernelIdeal.Gen Idealize.ShloMosaic Idealize.ShloMosaic.TcCoe

variable (U : Valuation τ sig (Elt Ideal)) (V0 : Valuation ReferenceIdeal.τ ReferenceIdeal.sig (Elt Ideal))

variable (H : Same U V0)
include H

theorem same_v0 : (StableHlo.after ops U (Proc.devRef .tc main_v0) : FVec Ideal S4096x3x3x16x64 .f32) = Ref.v0 V0 := by
  rw [rs_arg U 0 rfl rfl main_arg0_unwritten, H.a0]
  exact (Ref.v0_eq V0).symm

theorem same_v2 : (StableHlo.after ops U (Proc.devRef .tc main_v2) : FVec Ideal S4096x3x16x64 .f32) = Ref.v2 V0 := by
  rw [rs U 2 1 rfl rfl rfl, un U 1 0 rfl rfl rfl, same_v0 U V0 H]
  exact (Ref.v2_eq V0).symm

theorem same_v4 : (StableHlo.after ops U (Proc.devRef .tc main_v4) : FVec Ideal S4096x3x16x64 .f32) = Ref.v4 V0 := by
  rw [rs U 4 3 rfl rfl rfl, un U 3 0 rfl rfl rfl, same_v0 U V0 H]
  exact (Ref.v4_eq V0).symm

theorem same_v6 : (StableHlo.after ops U (Proc.devRef .tc main_v6) : FVec Ideal S4096x3x16x64 .f32) = Ref.v6 V0 := by
  rw [rs U 6 5 rfl rfl rfl, un U 5 0 rfl rfl rfl, same_v0 U V0 H]
  exact (Ref.v6_eq V0).symm

theorem same_v19 : (StableHlo.after ops U (Proc.devRef .tc main_v19) : FVec Ideal S4096x32 .f32) = Ref.v19 V0 := by
  rw [bi U 21 19 20 rfl rfl rfl rfl, un U 20 18 rfl rfl rfl, un U 19 17 rfl rfl rfl, un U 18 14 rfl rfl rfl, un U 17 16 rfl rfl rfl,
    un U 16 15 rfl rfl rfl, nu U 15 rfl rfl, bi U 14 13 11 rfl rfl rfl rfl, un U 13 12 rfl rfl rfl, nu U 12 rfl rfl,
    bi U 11 8 10 rfl rfl rfl rfl, un U 10 9 rfl rfl rfl, nu U 9 rfl rfl, un U 8 7 rfl rfl rfl, nu U 7 rfl rfl]
  exact (Ref.v19_eq V0).symm

theorem same_v21 : (StableHlo.after ops U (Proc.devRef .tc main_v21) : FVec Ideal S4096x1x1x32 .f32) = Ref.v21 V0 := by
  rw [un U 23 22 rfl rfl rfl, un U 22 21 rfl rfl rfl, same_v19 U V0 H]
  exact (Ref.v21_eq V0).symm

theorem same_v23 : (StableHlo.after ops U (Proc.devRef .tc main_v23) : FVec Ideal S4096x1x1x32 .f32) = Ref.v23 V0 := by
  rw [un U 25 24 rfl rfl rfl, un U 24 21 rfl rfl rfl, same_v19 U V0 H]
  exact (Ref.v23_eq V0).symm

theorem same_v24 : (StableHlo.after ops U (Proc.devRef .tc main_v24) : FVec Ideal S4096x3x16x32 .f32) = Ref.v24 V0 := by
  rw [un U 26 2 rfl rfl rfl, same_v2 U V0 H]
  exact (Ref.v24_eq V0).symm

theorem same_v25 : (StableHlo.after ops U (Proc.devRef .tc main_v25) : FVec Ideal S4096x3x16x32 .f32) = Ref.v25 V0 := by
  rw [un U 27 2 rfl rfl rfl, same_v2 U V0 H]
  exact (Ref.v25_eq V0).symm

theorem same_v36 : (StableHlo.after ops U (Proc.devRef .tc main_v36) : FVec Ideal S4096x3x16x64 .f32) = Ref.v36 V0 := by
  rw [bi U 38 32 37 rfl rfl rfl rfl, bi U 37 34 36 rfl rfl rfl rfl, bi U 36 26 35 rfl rfl rfl rfl, un U 35 25 rfl rfl rfl,
    bi U 34 27 33 rfl rfl rfl rfl, un U 33 23 rfl rfl rfl, bi U 32 29 31 rfl rfl rfl rfl, bi U 31 27 30 rfl rfl rfl rfl,
    un U 30 25 rfl rfl rfl, bi U 29 26 28 rfl rfl rfl rfl, un U 28 23 rfl rfl rfl, same_v23 U V0 H, same_v24 U V0 H, same_v21 U V0 H,
    same_v25 U V0 H]
  exact (Ref.v36_eq V0).symm

theorem same_v49 : (StableHlo.after ops U (Proc.devRef .tc main_v49) : FVec Ideal S4096x32 .f32) = Ref.v49 V0 := by
  rw [bi U 53 51 52 rfl rfl rfl rfl, un U 52 50 rfl rfl rfl, un U 51 49 rfl rfl rfl, un U 50 46 rfl rfl rfl, un U 49 48 rfl rfl rfl,
    un U 48 47 rfl rfl rfl, nu U 47 rfl rfl, bi U 46 45 43 rfl rfl rfl rfl, un U 45 44 rfl rfl rfl, nu U 44 rfl rfl,
    bi U 43 40 42 rfl rfl rfl rfl, un U 42 41 rfl rfl rfl, nu U 41 rfl rfl, un U 40 39 rfl rfl rfl, nu U 39 rfl rfl]
  exact (Ref.v49_eq V0).symm

theorem same_v51 : (StableHlo.after ops U (Proc.devRef .tc main_v51) : FVec Ideal S4096x1x1x32 .f32) = Ref.v51 V0 := by
  rw [un U 55 54 rfl rfl rfl, un U 54 53 rfl rfl rfl, same_v49 U V0 H]
  exact (Ref.v51_eq V0).symm

theorem same_v53 : (StableHlo.after ops U (Proc.devRef .tc main_v53) : FVec Ideal S4096x1x1x32 .f32) = Ref.v53 V0 := by
  rw [un U 57 56 rfl rfl rfl, un U 56 53 rfl rfl rfl, same_v49 U V0 H]
  exact (Ref.v53_eq V0).symm

theorem same_v54 : (StableHlo.after ops U (Proc.devRef .tc main_v54) : FVec Ideal S4096x3x16x32 .f32) = Ref.v54 V0 := by
  rw [un U 58 4 rfl rfl rfl, same_v4 U V0 H]
  exact (Ref.v54_eq V0).symm

theorem same_v55 : (StableHlo.after ops U (Proc.devRef .tc main_v55) : FVec Ideal S4096x3x16x32 .f32) = Ref.v55 V0 := by
  rw [un U 59 4 rfl rfl rfl, same_v4 U V0 H]
  exact (Ref.v55_eq V0).symm

theorem same_v66 : (StableHlo.after ops U (Proc.devRef .tc main_v66) : FVec Ideal S4096x3x16x64 .f32) = Ref.v66 V0 := by
  rw [bi U 70 64 69 rfl rfl rfl rfl, bi U 69 66 68 rfl rfl rfl rfl, bi U 68 58 67 rfl rfl rfl rfl, un U 67 57 rfl rfl rfl,
    bi U 66 59 65 rfl rfl rfl rfl, un U 65 55 rfl rfl rfl, bi U 64 61 63 rfl rfl rfl rfl, bi U 63 59 62 rfl rfl rfl rfl,
    un U 62 57 rfl rfl rfl, bi U 61 58 60 rfl rfl rfl rfl, un U 60 55 rfl rfl rfl, same_v53 U V0 H, same_v54 U V0 H, same_v51 U V0 H,
    same_v55 U V0 H]
  exact (Ref.v66_eq V0).symm

theorem same_v73 : (StableHlo.after ops U (Proc.devRef .tc main_v73) : S4096x4096.Idx → BitVec 32) = Ref.v73 V0 := by
  rw [bi U 77 75 76 rfl rfl rfl rfl, un U 76 74 rfl rfl rfl, un U 75 72 rfl rfl rfl, un U 74 73 rfl rfl rfl, nu U 73 rfl rfl,
    un U 72 71 rfl rfl rfl, nu U 71 rfl rfl]
  exact (Ref.v73_eq V0).symm

end Cert.Host

end
-- ==== Proof.HostSoft.lean ====
/- The host stages that both programs compute alike: the mask, the scores and their softmax. -/
module

public import proofs.«01_k».proof.Proof.HostSame

@[expose] public section

set_option maxRecDepth 16384

noncomputable section

namespace Cert.Host

open Cert.KernelIdeal Cert.KernelIdeal.Gen Idealize.ShloMosaic Idealize.ShloMosaic.TcCoe

/-- One group's mask: from the distances, the window, and the remainders of the distances. -/
def band (w : BitVec 32) (x : S4096x4096.Idx → BitVec 32) (n : S_.Idx → BitVec 32) (y : S4096x4096.Idx → BitVec 32) : S4096x4096.Idx → BitVec 1 :=
  andi (andi (cmpi .sge x (broadcastInDim S4096x4096 ![] bcast_S_S4096x4096 (constantI S_ 32 0#32)))
      (cmpi .sle x (broadcastInDim S4096x4096 ![] bcast_S_S4096x4096 (constantI S_ 32 w))))
    (cmpi .eq (select (andi (cmpi .ne (cmpi .slt y (broadcastInDim S4096x4096 ![] bcast_S_S4096x4096 (constantI S_ 32 0#32)))
        (broadcastInDim S4096x4096 ![] bcast_S_S4096x4096 (cmpi .slt n (constantI S_ 32 0#32))))
        (cmpi .ne y (broadcastInDim S4096x4096 ![] bcast_S_S4096x4096 (constantI S_ 32 0#32))))
      (addi y (broadcastInDim S4096x4096 ![] bcast_S_S4096x4096 n)) y) (broadcastInDim S4096x4096 ![] bcast_S_S4096x4096 (constantI S_ 32 0#32)))

variable (U : Valuation τ sig (Elt Ideal)) (V0 : Valuation ReferenceIdeal.τ ReferenceIdeal.sig (Elt Ideal))

variable (H : Same U V0)
include H

theorem same_call0_v0 : (StableHlo.after ops U (Proc.devRef .tc main_call0_v0) : S_.Idx → BitVec 32) = Ref.call0_v0 V0 := by
  rw [un (x := main_c_4) (y := main_call0_v0) U 86 85 rfl rfl rfl, nu U 85 rfl rfl]
  exact (Ref.call0_v0_eq V0).symm

theorem same_call0_v2 : (StableHlo.after ops U (Proc.devRef .tc main_call0_v2) : S_.Idx → BitVec 32) = Ref.call0_v2 V0 := by
  rw [te (a := main_call0_v1) (b := main_call0_c_0) (c := main_call0_v0) (y := main_call0_v2) U 90 88 89 86 rfl rfl rfl rfl rfl,
    nu U 89 rfl rfl, bi (a := main_call0_v0) (b := main_call0_c) (y := main_call0_v1) U 88 86 87 rfl rfl rfl rfl, nu U 87 rfl rfl,
    same_call0_v0 U V0 H]
  exact (Ref.call0_v2_eq V0).symm

theorem same_call0_v4 : (StableHlo.after ops U (Proc.devRef .tc main_call0_v4) : S4096x4096.Idx → BitVec 32) = Ref.call0_v4 V0 := by
  rw [bi (a := main_v73) (b := main_call0_v3) (y := main_call0_v4) U 92 77 91 rfl rfl rfl rfl,
    un (x := main_call0_v2) (y := main_call0_v3) U 91 90 rfl rfl rfl, same_call0_v2 U V0 H, same_v73 U V0 H]
  exact (Ref.call0_v4_eq V0).symm

theorem same_call1_v0 : (StableHlo.after ops U (Proc.devRef .tc main_call1_v0) : S_.Idx → BitVec 32) = Ref.call1_v0 V0 := by
  rw [un (x := main_c_8) (y := main_call1_v0) U 119 118 rfl rfl rfl, nu U 118 rfl rfl]
  exact (Ref.call1_v0_eq V0).symm

theorem same_call1_v2 : (StableHlo.after ops U (Proc.devRef .tc main_call1_v2) : S_.Idx → BitVec 32) = Ref.call1_v2 V0 := by
  rw [te (a := main_call1_v1) (b := main_call1_c_0) (c := main_call1_v0) (y := main_call1_v2) U 123 121 122 119 rfl rfl rfl rfl rfl,
    nu U 122 rfl rfl, bi (a := main_call1_v0) (b := main_call1_c) (y := main_call1_v1) U 121 119 120 rfl rfl rfl rfl, nu U 120 rfl rfl,
    same_call1_v0 U V0 H]
  exact (Ref.call1_v2_eq V0).symm

theorem same_call1_v4 : (StableHlo.after ops U (Proc.devRef .tc main_call1_v4) : S4096x4096.Idx → BitVec 32) = Ref.call1_v4 V0 := by
  rw [bi (a := main_v73) (b := main_call1_v3) (y := main_call1_v4) U 125 77 124 rfl rfl rfl rfl,
    un (x := main_call1_v2) (y := main_call1_v3) U 124 123 rfl rfl rfl, same_call1_v2 U V0 H, same_v73 U V0 H]
  exact (Ref.call1_v4_eq V0).symm

theorem same_call2_v0 : (StableHlo.after ops U (Proc.devRef .tc main_call2_v0) : S_.Idx → BitVec 32) = Ref.call2_v0 V0 := by
  rw [un (x := main_c_12) (y := main_call2_v0) U 152 151 rfl rfl rfl, nu U 151 rfl rfl]
  exact (Ref.call2_v0_eq V0).symm

theorem same_call2_v2 : (StableHlo.after ops U (Proc.devRef .tc main_call2_v2) : S_.Idx → BitVec 32) = Ref.call2_v2 V0 := by
  rw [te (a := main_call2_v1) (b := main_call2_c_0) (c := main_call2_v0) (y := main_call2_v2) U 156 154 155 152 rfl rfl rfl rfl rfl,
    nu U 155 rfl rfl, bi (a := main_call2_v0) (b := main_call2_c) (y := main_call2_v1) U 154 152 153 rfl rfl rfl rfl, nu U 153 rfl rfl,
    same_call2_v0 U V0 H]
  exact (Ref.call2_v2_eq V0).symm

theorem same_call2_v4 : (StableHlo.after ops U (Proc.devRef .tc main_call2_v4) : S4096x4096.Idx → BitVec 32) = Ref.call2_v4 V0 := by
  rw [bi (a := main_v73) (b := main_call2_v3) (y := main_call2_v4) U 158 77 157 rfl rfl rfl rfl,
    un (x := main_call2_v2) (y := main_call2_v3) U 157 156 rfl rfl rfl, same_call2_v2 U V0 H, same_v73 U V0 H]
  exact (Ref.call2_v4_eq V0).symm

theorem same_v82 : (StableHlo.after ops U (Proc.devRef .tc main_v82) : S4096x4096.Idx → BitVec 1)
    = band 128#32 (Ref.v73 V0) (Ref.call0_v2 V0) (Ref.call0_v4 V0) := by
  rw [bi U 110 84 109 rfl rfl rfl rfl, bi U 109 106 108 rfl rfl rfl rfl, un U 108 107 rfl rfl rfl, nu U 107 rfl rfl,
    te (a := main_call0_v12) (b := main_call0_v14) (c := main_call0_v4) (y := main_v79) U 106 103 105 92 rfl rfl rfl rfl rfl,
    bi (a := main_call0_v4) (b := main_call0_v13) (y := main_call0_v14) U 105 92 104 rfl rfl rfl rfl,
    un (x := main_call0_v2) (y := main_call0_v13) U 104 90 rfl rfl rfl,
    bi (a := main_call0_v11) (b := main_call0_v6) (y := main_call0_v12) U 103 102 95 rfl rfl rfl rfl,
    bi (a := main_call0_v8) (b := main_call0_v10) (y := main_call0_v11) U 102 98 101 rfl rfl rfl rfl,
    un (x := main_call0_v9) (y := main_call0_v10) U 101 100 rfl rfl rfl,
    bi (a := main_call0_v2) (b := main_call0_c_3) (y := main_call0_v9) U 100 90 99 rfl rfl rfl rfl, nu U 99 rfl rfl,
    bi (a := main_call0_v4) (b := main_call0_v7) (y := main_call0_v8) U 98 92 97 rfl rfl rfl rfl,
    un (x := main_call0_c_2) (y := main_call0_v7) U 97 96 rfl rfl rfl, nu U 96 rfl rfl,
    bi (a := main_call0_v4) (b := main_call0_v5) (y := main_call0_v6) U 95 92 94 rfl rfl rfl rfl,
    un (x := main_call0_c_1) (y := main_call0_v5) U 94 93 rfl rfl rfl, nu U 93 rfl rfl, bi U 84 80 83 rfl rfl rfl rfl,
    bi U 83 77 82 rfl rfl rfl rfl, un U 82 81 rfl rfl rfl, nu U 81 rfl rfl, bi U 80 77 79 rfl rfl rfl rfl, un U 79 78 rfl rfl rfl,
    nu U 78 rfl rfl, same_call0_v4 U V0 H, same_call0_v2 U V0 H, same_v73 U V0 H]
  rfl

theorem same_v91 : (StableHlo.after ops U (Proc.devRef .tc main_v91) : S4096x4096.Idx → BitVec 1)
    = band 512#32 (Ref.v73 V0) (Ref.call1_v2 V0) (Ref.call1_v4 V0) := by
  rw [bi U 143 117 142 rfl rfl rfl rfl, bi U 142 139 141 rfl rfl rfl rfl, un U 141 140 rfl rfl rfl, nu U 140 rfl rfl,
    te (a := main_call1_v12) (b := main_call1_v14) (c := main_call1_v4) (y := main_v88) U 139 136 138 125 rfl rfl rfl rfl rfl,
    bi (a := main_call1_v4) (b := main_call1_v13) (y := main_call1_v14) U 138 125 137 rfl rfl rfl rfl,
    un (x := main_call1_v2) (y := main_call1_v13) U 137 123 rfl rfl rfl,
    bi (a := main_call1_v11) (b := main_call1_v6) (y := main_call1_v12) U 136 135 128 rfl rfl rfl rfl,
    bi (a := main_call1_v8) (b := main_call1_v10) (y := main_call1_v11) U 135 131 134 rfl rfl rfl rfl,
    un (x := main_call1_v9) (y := main_call1_v10) U 134 133 rfl rfl rfl,
    bi (a := main_call1_v2) (b := main_call1_c_3) (y := main_call1_v9) U 133 123 132 rfl rfl rfl rfl, nu U 132 rfl rfl,
    bi (a := main_call1_v4) (b := main_call1_v7) (y := main_call1_v8) U 131 125 130 rfl rfl rfl rfl,
    un (x := main_call1_c_2) (y := main_call1_v7) U 130 129 rfl rfl rfl, nu U 129 rfl rfl,
    bi (a := main_call1_v4) (b := main_call1_v5) (y := main_call1_v6) U 128 125 127 rfl rfl rfl rfl,
    un (x := main_call1_c_1) (y := main_call1_v5) U 127 126 rfl rfl rfl, nu U 126 rfl rfl, bi U 117 113 116 rfl rfl rfl rfl,
    bi U 116 77 115 rfl rfl rfl rfl, un U 115 114 rfl rfl rfl, nu U 114 rfl rfl, bi U 113 77 112 rfl rfl rfl rfl, un U 112 111 rfl rfl rfl,
    nu U 111 rfl rfl, same_call1_v4 U V0 H, same_call1_v2 U V0 H, same_v73 U V0 H]
  rfl

theorem same_v100 : (StableHlo.after ops U (Proc.devRef .tc main_v100) : S4096x4096.Idx → BitVec 1)
    = band 2048#32 (Ref.v73 V0) (Ref.call2_v2 V0) (Ref.call2_v4 V0) := by
  rw [bi U 176 150 175 rfl rfl rfl rfl, bi U 175 172 174 rfl rfl rfl rfl, un U 174 173 rfl rfl rfl, nu U 173 rfl rfl,
    te (a := main_call2_v12) (b := main_call2_v14) (c := main_call2_v4) (y := main_v97) U 172 169 171 158 rfl rfl rfl rfl rfl,
    bi (a := main_call2_v4) (b := main_call2_v13) (y := main_call2_v14) U 171 158 170 rfl rfl rfl rfl,
    un (x := main_call2_v2) (y := main_call2_v13) U 170 156 rfl rfl rfl,
    bi (a := main_call2_v11) (b := main_call2_v6) (y := main_call2_v12) U 169 168 161 rfl rfl rfl rfl,
    bi (a := main_call2_v8) (b := main_call2_v10) (y := main_call2_v11) U 168 164 167 rfl rfl rfl rfl,
    un (x := main_call2_v9) (y := main_call2_v10) U 167 166 rfl rfl rfl,
    bi (a := main_call2_v2) (b := main_call2_c_3) (y := main_call2_v9) U 166 156 165 rfl rfl rfl rfl, nu U 165 rfl rfl,
    bi (a := main_call2_v4) (b := main_call2_v7) (y := main_call2_v8) U 164 158 163 rfl rfl rfl rfl,
    un (x := main_call2_c_2) (y := main_call2_v7) U 163 162 rfl rfl rfl, nu U 162 rfl rfl,
    bi (a := main_call2_v4) (b := main_call2_v5) (y := main_call2_v6) U 161 158 160 rfl rfl rfl rfl,
    un (x := main_call2_c_1) (y := main_call2_v5) U 160 159 rfl rfl rfl, nu U 159 rfl rfl, bi U 150 146 149 rfl rfl rfl rfl,
    bi U 149 77 148 rfl rfl rfl rfl, un U 148 147 rfl rfl rfl, nu U 147 rfl rfl, bi U 146 77 145 rfl rfl rfl rfl, un U 145 144 rfl rfl rfl,
    nu U 144 rfl rfl, same_call2_v4 U V0 H, same_call2_v2 U V0 H, same_v73 U V0 H]
  rfl

theorem same_call3_v1 : (StableHlo.after ops U (Proc.devRef .tc main_call3_v1) : S3x16x4096x4096.Idx → BitVec 1) = Ref.v109_1 V0 := by
  rw [un (x := main_v108) (y := main_call3_v1) U 188 185 rfl rfl rfl, un U 185 180 rfl rfl rfl, na3 U 180 177 178 179 rfl rfl rfl rfl rfl,
    un U 179 176 rfl rfl rfl, un U 178 143 rfl rfl rfl, un U 177 110 rfl rfl rfl, same_v100 U V0 H, same_v91 U V0 H, same_v82 U V0 H]
  exact (Ref.v109_1_eq V0).symm

theorem same_v109 : (StableHlo.after ops U (Proc.devRef .tc main_v109) : FVec Ideal S3x16x4096x4096 .f32) = Ref.v109_0 V0 := by
  rw [te (a := main_call3_v1) (b := main_v107) (c := main_call3_v2) (y := main_v109) U 190 188 184 189 rfl rfl rfl rfl rfl,
    un (x := main_call3_v0) (y := main_call3_v2) U 189 187 rfl rfl rfl, un (x := main_cst_15) (y := main_call3_v0) U 187 186 rfl rfl rfl,
    nu U 186 rfl rfl, bi U 184 181 183 rfl rfl rfl rfl, un U 183 182 rfl rfl rfl, nu U 182 rfl rfl, bi U 181 38 70 rfl rfl rfl rfl,
    same_v66 U V0 H, same_v36 U V0 H, same_call3_v1 U V0 H]
  exact (Ref.v109_0_eq V0).symm

theorem same_v110 : (StableHlo.after ops U (Proc.devRef .tc main_v110) : FVec Ideal S3x16x4096 .f32) = Ref.v110 V0 := by
  rw [bi U 192 190 191 rfl rfl rfl rfl, nu U 191 rfl rfl, same_v109 U V0 H]
  exact (Ref.v110_eq V0).symm

theorem same_v111 : (StableHlo.after ops U (Proc.devRef .tc main_v111) : FVec Ideal S3x16x4096x1 .f32) = Ref.v116 V0 := by
  rw [un U 193 192 rfl rfl rfl, same_v110 U V0 H]
  exact (Ref.v116_eq V0).symm

theorem same_v114 : (StableHlo.after ops U (Proc.devRef .tc main_v114) : FVec Ideal S3x16x4096x4096 .f32) = Ref.v119 V0 := by
  rw [un U 196 195 rfl rfl rfl, bi U 195 190 194 rfl rfl rfl rfl, un U 194 193 rfl rfl rfl, same_v111 U V0 H, same_v109 U V0 H]
  exact (Ref.v119_eq V0).symm

theorem same_v116 : (StableHlo.after ops U (Proc.devRef .tc main_v116) : FVec Ideal S3x16x4096x1 .f32) = Ref.v121 V0 := by
  rw [un U 199 198 rfl rfl rfl, bi U 198 196 197 rfl rfl rfl rfl, nu U 197 rfl rfl, same_v114 U V0 H]
  exact (Ref.v121_eq V0).symm

theorem same_v118 : (StableHlo.after ops U (Proc.devRef .tc main_v118) : FVec Ideal S3x16x4096x4096 .f32) = Ref.v123 V0 := by
  rw [bi U 201 196 200 rfl rfl rfl rfl, un U 200 199 rfl rfl rfl, same_v116 U V0 H, same_v114 U V0 H]
  exact (Ref.v123_eq V0).symm

theorem same_v119 : (StableHlo.after ops U (Proc.devRef .tc main_v119) : FVec Ideal S3x16x4096x64 .f32) = Ref.v127 V0 := by
  rw [bi U 202 201 6 rfl rfl rfl rfl, same_v6 U V0 H, same_v118 U V0 H]
  exact (Ref.v127_eq V0).symm

theorem same_v122 : (StableHlo.after ops U (Proc.devRef .tc main_v122) : FVec Ideal S3x16x4096 .f32) = Ref.v130 V0 := by
  rw [rs U 205 204 rfl rfl rfl, bi U 204 193 203 rfl rfl rfl rfl, un U 203 199 rfl rfl rfl, same_v116 U V0 H, same_v111 U V0 H]
  exact (Ref.v130_eq V0).symm

end Cert.Host

end
-- ==== Proof.HostVal.lean ====
/- What the launch reads, as real numbers. -/
module

public import proofs.«01_k».proof.Proof.HostMix
public import proofs.«01_k».proof.Proof.HostSoft
public import proofs.«01_k».proof.Proof.RefSoft

@[expose] public section

set_option maxRecDepth 16384

noncomputable section

namespace Cert.Host

open Cert.KernelIdeal Cert.KernelIdeal.Gen Idealize.ShloMosaic Idealize.ShloMosaic.TcCoe Cert.Model Cert.Real Cert.Ref

/-! ## The stages at an index -/

theorem slices_at (x : FVec Ideal S3x16x4096 .f32) (h : Fin 16) (p : Fin 4096) :
    ((extractStridedSlice S1x16x4096 ![0, 0, 0] x slices_S3x16x4096_S1x16x4096_0_0_0) (ix3 0 h p) = x (ix3 0 h p))
    ∧ ((extractStridedSlice S1x16x4096 ![1, 0, 0] x slices_S3x16x4096_S1x16x4096_1_0_0) (ix3 0 h p) = x (ix3 1 h p))
    ∧ ((extractStridedSlice S1x16x4096 ![2, 0, 0] x slices_S3x16x4096_S1x16x4096_2_0_0) (ix3 0 h p) = x (ix3 2 h p)) := by
  refine ⟨?_, ?_, ?_⟩
  all_goals pointwise
  all_goals rfl

theorem lse_at (a b c : FVec Ideal S1x16x4096 .f32) (h : Fin 16) (p : Fin 4096) :
    lse a b c (ix3 0 h p) = (max (max (a (ix3 0 h p)) (b (ix3 0 h p))) (c (ix3 0 h p))
      + Ideal.log (Ideal.exp (a (ix3 0 h p) - max (max (a (ix3 0 h p)) (b (ix3 0 h p))) (c (ix3 0 h p)))
        + Ideal.exp (b (ix3 0 h p) - max (max (a (ix3 0 h p)) (b (ix3 0 h p))) (c (ix3 0 h p)))
        + Ideal.exp (c (ix3 0 h p) - max (max (a (ix3 0 h p)) (b (ix3 0 h p))) (c (ix3 0 h p)))) : EReal) := by
  pointwise [lse]

theorem weight_at (a l : FVec Ideal S1x16x4096 .f32) (h : Fin 16) (p : Fin 4096) (e : Fin 64) :
    weight a l (ix4 0 h p e) = (Ideal.exp (a (ix3 0 h p) - l (ix3 0 h p)) : EReal) := by
  pointwise [weight]

theorem mixed_at (a b c l : FVec Ideal S1x16x4096 .f32) (o : FVec Ideal S3x16x4096x64 .f32) (h : Fin 16) (p : Fin 4096) (e : Fin 64) :
    mixed a b c l o (ix4 0 h p e) = (weight a l (ix4 0 h p e) * o (ix4 0 h p e) + weight b l (ix4 0 h p e) * o (ix4 1 h p e)
      + weight c l (ix4 0 h p e) * o (ix4 2 h p e) : EReal) := by
  generalize ha : weight a l = wa
  generalize hb : weight b l = wb
  generalize hc : weight c l = wc
  pointwise [mixed, ha, hb, hc]

theorem against_at (y : FVec Ideal S4096x1024 .f32) (o : FVec Ideal S1x16x4096x64 .f32) (h : Fin 16) (p : Fin 4096) :
    against y o (ix3 0 h p) = (∑ e : Fin 64, y (ix2 p ⟨h * 64 + e, by omega⟩) * o (ix4 0 h p e) : EReal) := by
  pointwise [against]

theorem cols_at (x : FVec Ideal S1x16x4096 .f32) (p : Fin 4096) (h : Fin 16) : cols x (ix2 p h) = (x (ix3 0 h p) : EReal) := by
  pointwise [cols]

theorem padded_at (x : FVec Ideal S4096x16 .f32) (p : Fin 4096) (g : Fin 3) (h : Fin 16) :
    padded x (ix3 p g ⟨h, by omega⟩) = (x (ix2 p h) : EReal) := by
  pointwise [padded]

theorem repeated_at (x : FVec Ideal S4096x1024 .f32) (p : Fin 4096) (g : Fin 3) (u : Fin 1024) :
    repeated x (ix3 p g u) = (x (ix2 p u) : EReal) := by
  pointwise [repeated]

theorem freqs_at (l : Fin 128) :
    freqs (ix1 l) = (Ideal.pow (Ideal.ofBits .f32 0x461C4000#32)
      (-FloatOps.sitofp (F := Ideal) .f32 (BitVec.ofNat 32 (l % 32)) * Ideal.ofBits .f32 0x3D000000#32) : EReal) := by
  pointwise [freqs]

theorem angles_at (n : S12288.Idx → BitVec 32) (w : FVec Ideal S128 .f32) (R : Fin 12288) (l : Fin 128) :
    angles n w (ix2 R l) = (FloatOps.sitofp (F := Ideal) .f32 (n (ix1 R)) * w (ix1 l) : EReal) := by
  pointwise [angles]

/-- The remainder, in words. -/
def remWord (n x : BitVec 32) : BitVec 32 :=
  Scalar.select (IntOp.andi (IntOp.cmpi .ne (IntOp.cmpi .slt (IntOp.remsi .host x n) 0#32) (IntOp.cmpi .slt n 0#32))
    (IntOp.cmpi .ne (IntOp.remsi .host x n) 0#32)) (IntOp.addi (IntOp.remsi .host x n) n) (IntOp.remsi .host x n)

theorem read_rem (b : S_.BroadcastsInDim S4096 ![]) (n : S_.Idx → BitVec 32) (x : S4096.Idx → BitVec 32) (p : Fin 4096) :
    (select (andi (cmpi .ne (cmpi .slt (Host.remsi x (broadcastInDim S4096 ![] b n)) (broadcastInDim S4096 ![] b (constantI S_ 32 0#32)))
        (broadcastInDim S4096 ![] b (cmpi .slt n (constantI S_ 32 0#32))))
      (cmpi .ne (Host.remsi x (broadcastInDim S4096 ![] b n)) (broadcastInDim S4096 ![] b (constantI S_ 32 0#32))))
    (addi (Host.remsi x (broadcastInDim S4096 ![] b n)) (broadcastInDim S4096 ![] b n))
    (Host.remsi x (broadcastInDim S4096 ![] b n)) : S4096.Idx → BitVec 32) (ix1 p) = remWord (n ix0) (x (ix1 p)) := by
  pointwise [remWord]

theorem read_rem128 (b : S_.BroadcastsInDim S128 ![]) (n : S_.Idx → BitVec 32) (x : S128.Idx → BitVec 32) (l : Fin 128) :
    (select (andi (cmpi .ne (cmpi .slt (Host.remsi x (broadcastInDim S128 ![] b n)) (broadcastInDim S128 ![] b (constantI S_ 32 0#32)))
        (broadcastInDim S128 ![] b (cmpi .slt n (constantI S_ 32 0#32))))
      (cmpi .ne (Host.remsi x (broadcastInDim S128 ![] b n)) (broadcastInDim S128 ![] b (constantI S_ 32 0#32))))
    (addi (Host.remsi x (broadcastInDim S128 ![] b n)) (broadcastInDim S128 ![] b n))
    (Host.remsi x (broadcastInDim S128 ![] b n)) : S128.Idx → BitVec 32) (ix1 l) = remWord (n ix0) (x (ix1 l)) := by
  pointwise [remWord]

/-- The sign of a word. -/
def signWord (x : BitVec 32) : BitVec 32 := if x = 0 then 0 else if x.msb = true then -1 else 1

/-- The quotient, in words. -/
def quoWord (n x : BitVec 32) : BitVec 32 :=
  Scalar.select (IntOp.andi (IntOp.cmpi .ne (signWord x) (signWord n)) (IntOp.cmpi .ne (IntOp.remsi .host x n) 0#32))
    (IntOp.subi (IntOp.divsi .host x n) 1#32) (IntOp.divsi .host x n)

theorem read_quo (n : BitVec 32) (x : S4096.Idx → BitVec 32) (p : Fin 4096) : quo n x (ix1 p) = quoWord n (x (ix1 p)) := by
  pointwise [quo, quoWord, signWord]
  rfl

theorem read_row (d : BitVec 32) (x y : S4096.Idx → BitVec 32) (p : Fin 4096) :
    addi (muli x (broadcastInDim S4096 ![] bcast_S_S4096 (constantI S_ 32 d))) y (ix1 p) = IntOp.addi (IntOp.muli (x (ix1 p)) d) (y (ix1 p)) := by
  pointwise

theorem read_iota (p : Fin 4096) : (iotaInDim S4096 32 0 : S4096.Idx → BitVec 32) (ix1 p) = BitVec.ofNat 32 p := by
  pointwise
theorem read_iota128 (p : Fin 128) : (iotaInDim S128 32 0 : S128.Idx → BitVec 32) (ix1 p) = BitVec.ofNat 32 p := by
  pointwise

theorem word_0 : ∀ r : Fin 4096, IntOp.addi (IntOp.muli (remWord 4096#32 (BitVec.ofNat 32 r)) 1#32) (quoWord 4096#32 (BitVec.ofNat 32 r))
    = BitVec.ofNat 32 (r % 4096 * 1 + r / 4096) := by decide +kernel
theorem word_1 : ∀ r : Fin 4096, IntOp.addi (IntOp.muli (remWord 1024#32 (BitVec.ofNat 32 r)) 4#32) (quoWord 1024#32 (BitVec.ofNat 32 r))
    = BitVec.ofNat 32 (r % 1024 * 4 + r / 1024) := by decide +kernel
theorem word_2 : ∀ r : Fin 4096, IntOp.addi (IntOp.muli (remWord 256#32 (BitVec.ofNat 32 r)) 16#32) (quoWord 256#32 (BitVec.ofNat 32 r))
    = BitVec.ofNat 32 (r % 256 * 16 + r / 256) := by decide +kernel
theorem word_lane : ∀ l : Fin 128, IntOp.cmpi .slt (remWord 64#32 (BitVec.ofNat 32 l)) 32#32 = BitVec.ofBool (decide ((l : ℕ) % 64 < 32)) := by decide +kernel

set_option maxRecDepth 100000 in
theorem read_classes (x y z : S4096.Idx → BitVec 32) (g : Fin 3) (r : Fin 4096) :
    concatenate S12288 0 [⟨S4096, x⟩, ⟨S4096, y⟩, ⟨S4096, z⟩] concatenates_S4096_S4096_S4096_S12288_d0 (ix1 ⟨4096 * g + r, by omega⟩)
      = if g = 0 then x (ix1 r) else if g = 1 then y (ix1 r) else z (ix1 r) := by
  obtain ⟨R, hR⟩ : ∃ R : Fin 12288, R.val = 4096 * g + r := ⟨⟨4096 * g + r, by omega⟩, rfl⟩
  have e : (⟨4096 * g + r, by omega⟩ : Fin 12288) = R := Fin.ext hR.symm
  rw [e]
  pointwise
  fin_cases g
  · have hR' : R.val = r.val := by simpa using hR
    rw [dif_pos (by omega)]
    exact congrArg (fun t => x (ix1 t)) (Fin.ext hR')
  · have hR' : R.val = 4096 + r.val := by simpa using hR
    rw [dif_neg (by omega), dif_pos (by omega)]
    exact congrArg (fun t => y (ix1 t)) (Fin.ext (by simp only; omega))
  · have hR' : R.val = 8192 + r.val := by simpa using hR
    rw [dif_neg (by omega), dif_neg (by omega)]
    exact congrArg (fun t => z (ix1 t)) (Fin.ext (by simp only; omega))

theorem read_sines (k : S128.Idx → BitVec 32) (x y : FVec Ideal S12288x128 .f32) (R : Fin 12288) (l : Fin 128) :
    select (broadcastInDim S12288x128 ![0, 1] bcast_S1x128_S12288x128_0_1 (broadcastInDim S1x128 ![1] bcast_S128_S1x128_1
      (cmpi .slt k (broadcastInDim S128 ![] bcast_S_S128 (constantI S_ 32 32#32))))) x y (ix2 R l)
    = (Scalar.select (IntOp.cmpi .slt (k (ix1 l)) 32#32) (x (ix2 R l)) (y (ix2 R l)) : EReal) := by
  pointwise

end Cert.Host

end
-- ==== Proof.HostNum.lean ====
/- What the launch reads, as real numbers. -/
module

public import proofs.«01_k».proof.Proof.HostVal

@[expose] public section

set_option maxRecDepth 16384

noncomputable section

namespace Cert.Host

open Cert.KernelIdeal Cert.KernelIdeal.Gen Idealize.ShloMosaic Idealize.ShloMosaic.TcCoe Cert.Model Cert.Real Cert.Ref

variable (U : Valuation τ sig (Elt Ideal)) (V0 : Valuation ReferenceIdeal.τ ReferenceIdeal.sig (Elt Ideal))

/-! ## The combined softmax statistics -/

section
variable {V0} (N : Num V0) (H : Same U V0) (h : Fin 16) (p : Fin 4096) (e : Fin 64)

include N H

theorem val_123' : (StableHlo.after ops U (Proc.devRef .tc main_v123) : FVec Ideal S1x16x4096 .f32) (ix3 0 h p) = (Real.log (Z (inp V0) 0 h p) : EReal) := by
  rw [at_v123, same_v122 U V0 H, (slices_at _ h p).1, val_130 N]

theorem val_124' : (StableHlo.after ops U (Proc.devRef .tc main_v124) : FVec Ideal S1x16x4096 .f32) (ix3 0 h p) = (Real.log (Z (inp V0) 1 h p) : EReal) := by
  rw [at_v124, same_v122 U V0 H, (slices_at _ h p).2.1, val_130 N]

theorem val_125' : (StableHlo.after ops U (Proc.devRef .tc main_v125) : FVec Ideal S1x16x4096 .f32) (ix3 0 h p) = (Real.log (Z (inp V0) 2 h p) : EReal) := by
  rw [at_v125, same_v122 U V0 H, (slices_at _ h p).2.2, val_130 N]

omit N H in
/-- The logarithm of a sum of three exponentials, taken around any number. -/
theorem log_sum3 (a b c : ℝ) (ha : 0 < a) (hb : 0 < b) (hc : 0 < c) (M : ℝ) :
    M + Real.log (Real.exp (Real.log a - M) + Real.exp (Real.log b - M) + Real.exp (Real.log c - M)) = Real.log (a + b + c) := by
  have e : Real.exp (Real.log a - M) + Real.exp (Real.log b - M) + Real.exp (Real.log c - M) = (a + b + c) * Real.exp (-M) := by
    rw [sub_eq_add_neg, sub_eq_add_neg, sub_eq_add_neg, Real.exp_add, Real.exp_add, Real.exp_add, Real.exp_log ha, Real.exp_log hb, Real.exp_log hc]
    ring
  rw [e, Real.log_mul (by positivity) (Real.exp_pos _).ne', Real.log_exp]
  ring

theorem val_137' : (StableHlo.after ops U (Proc.devRef .tc main_v137) : FVec Ideal S1x16x4096 .f32) (ix3 0 h p) = (Real.log (Model.T (inp V0) h p) : EReal) := by
  have h0 := Z_pos (inp V0) 0 h p
  have h1 := Z_pos (inp V0) 1 h p
  have h2 := Z_pos (inp V0) 2 h p
  rw [at_v137, lse_at, val_123' U N H, val_124' U N H, val_125' U N H]
  have mx (a b : ℝ) : max (a : EReal) b = ((max a b : ℝ) : EReal) := (EReal.coe_strictMono.monotone.map_max).symm
  simp only [mx, ← EReal.coe_sub, exp_coe, ← EReal.coe_add]
  rw [log_coe (by positivity), ← EReal.coe_add]
  refine congrArg Real.toEReal ?_
  rw [log_sum3 _ _ _ h0 h1 h2, Model.T, Fin.sum_univ_three]

theorem val_157' : (StableHlo.after ops U (Proc.devRef .tc main_v157) : FVec Ideal S1x16x4096x64 .f32) (ix4 0 h p e)
    = ((∑ g, Z (inp V0) g h p / Model.T (inp V0) h p * og (inp V0) g h p e : ℝ) : EReal) := by
  have hT := T_pos (inp V0) h p
  have w (g : Fin 3) : Real.exp (Real.log (Z (inp V0) g h p) - Real.log (Model.T (inp V0) h p)) = Z (inp V0) g h p / Model.T (inp V0) h p := by
    rw [Real.exp_sub, Real.exp_log (Z_pos _ _ _ _), Real.exp_log hT]
  rw [at_v157, mixed_at, weight_at, weight_at, weight_at, val_123' U N H, val_124' U N H, val_125' U N H, val_137' U N H, same_v119 U V0 H,
    val_127 N, val_127 N, val_127 N]
  simp only [← EReal.coe_sub, exp_coe, w, ← EReal.coe_mul, ← EReal.coe_add]
  refine congrArg Real.toEReal ?_
  rw [Fin.sum_univ_three]

omit H in
theorem val_arg1 : Ref.arg1 V0 (ix2 p ⟨h * 64 + e, by omega⟩) = ((inp V0).ct p h e : EReal) := IsR.eq (N.a1 _ _)

theorem val_162' : (StableHlo.after ops U (Proc.devRef .tc main_v162) : FVec Ideal S1x16x4096 .f32) (ix3 0 h p) = (delta (inp V0) h p : EReal) := by
  rw [at_v162, against_at, H.a1]
  simp only [val_157' U N H, val_arg1 N, ← EReal.coe_mul, coe_sum]
  rfl

/-! ## The rows of the launch's arrays -/

variable (g : Fin 3) (r : Fin 4096)

theorem val_188q (u : Fin 3072) (hu : (u : ℕ) / 1024 = 0) :
    (StableHlo.after ops U (Proc.devRef .tc main_v188) : FVec Ideal S12288x3072 .bf16) (ix2 ⟨4096 * g + r, by omega⟩ u)
      = ((inp V0).q g ⟨pos g r, pos_lt g r r.isLt⟩ ⟨u / 64 % 16, by omega⟩ ⟨u % 64, by omega⟩ : EReal) := by
  rw [at_v188, at_v171, same_v36 U V0 H, same_v66 U V0 H, same_v6 U V0 H]
  refine (classes3072_at _ g r u).trans ?_
  rw [stack_0 _ _ _ _ g u hu]
  exact val_36 N _ _ _ _

theorem val_188k (u : Fin 3072) (hu : (u : ℕ) / 1024 = 1) :
    (StableHlo.after ops U (Proc.devRef .tc main_v188) : FVec Ideal S12288x3072 .bf16) (ix2 ⟨4096 * g + r, by omega⟩ u)
      = ((inp V0).k g ⟨pos g r, pos_lt g r r.isLt⟩ ⟨u / 64 % 16, by omega⟩ ⟨u % 64, by omega⟩ : EReal) := by
  rw [at_v188, at_v171, same_v36 U V0 H, same_v66 U V0 H, same_v6 U V0 H]
  refine (classes3072_at _ g r u).trans ?_
  rw [stack_1 _ _ _ _ g u hu]
  exact val_66 N _ _ _ _

theorem val_188v (u : Fin 3072) (hu : (u : ℕ) / 1024 = 2) :
    (StableHlo.after ops U (Proc.devRef .tc main_v188) : FVec Ideal S12288x3072 .bf16) (ix2 ⟨4096 * g + r, by omega⟩ u)
      = ((inp V0).v g ⟨pos g r, pos_lt g r r.isLt⟩ ⟨u / 64 % 16, by omega⟩ ⟨u % 64, by omega⟩ : EReal) := by
  rw [at_v188, at_v171, same_v36 U V0 H, same_v66 U V0 H, same_v6 U V0 H]
  refine (classes3072_at _ g r u).trans ?_
  rw [stack_2 _ _ _ _ g u hu]
  exact val_6 N _ _ _ _

theorem val_250' (u : Fin 1024) :
    (StableHlo.after ops U (Proc.devRef .tc main_v250) : FVec Ideal S12288x1024 .bf16) (ix2 ⟨4096 * g + r, by omega⟩ u)
      = ((inp V0).ct ⟨pos g r, pos_lt g r r.isLt⟩ ⟨u / 64, by omega⟩ ⟨u % 64, by omega⟩ : EReal) := by
  rw [at_v250, H.a1]
  refine (classes1024_at _ g r u).trans ?_
  rw [repeated_at, ← val_arg1 N]
  exact congrArg (fun t => Ref.arg1 V0 (ix2 _ t)) (Fin.ext (by simp only; omega))

theorem val_269' (h : Fin 16) :
    (StableHlo.after ops U (Proc.devRef .tc main_v269) : FVec Ideal S12288x128 .f32) (ix2 ⟨4096 * g + r, by omega⟩ ⟨h, by omega⟩)
      = (Real.log (Model.T (inp V0) h ⟨pos g r, pos_lt g r r.isLt⟩) : EReal) := by
  rw [at_v269]
  refine (classes128_at _ g r _).trans ?_
  rw [at_v253, padded_at, at_v164, cols_at, val_137' U N H]

theorem val_288' (h : Fin 16) :
    (StableHlo.after ops U (Proc.devRef .tc main_v288) : FVec Ideal S12288x128 .f32) (ix2 ⟨4096 * g + r, by omega⟩ ⟨h, by omega⟩)
      = (delta (inp V0) h ⟨pos g r, pos_lt g r r.isLt⟩ : EReal) := by
  rw [at_v288]
  refine (classes128_at _ g r _).trans ?_
  rw [at_v272, padded_at, at_v166, cols_at, val_162' U N H]

end

/-! ## The rotary tables -/

variable (g : Fin 3) (r : Fin 4096)

theorem row_word : (StableHlo.after ops U (Proc.devRef .tc main_v216) : S12288.Idx → BitVec 32) (ix1 ⟨4096 * g + r, by omega⟩)
    = BitVec.ofNat 32 (pos g r) := by
  rw [at_v216, read_classes, at_v203, at_v209, at_v215, read_row, read_row, read_row, at_v199, at_v205, at_v211, at_v202, at_v208, at_v214,
    read_quo, read_quo, read_quo, read_iota]
  have e (n : BitVec 32) : rem bcast_S_S4096 n (iotaInDim S4096 32 0) (ix1 r) = remWord (divisor n ix0) (BitVec.ofNat 32 r) :=
    (read_rem bcast_S_S4096 (divisor n) _ r).trans (by rw [read_iota])
  rw [e, e, e]
  fin_cases g
  · exact word_0 r
  · exact word_1 r
  · exact word_2 r

theorem cos_at (x : FVec Ideal S12288x128 .f32) (R : Fin 12288) (l : Fin 128) :
    (Host.cos x : FVec Ideal S12288x128 .f32) (ix2 R l) = (Ideal.cos (x (ix2 R l)) : EReal) := rfl
theorem sin_at (x : FVec Ideal S12288x128 .f32) (R : Fin 12288) (l : Fin 128) :
    (Host.sin x : FVec Ideal S12288x128 .f32) (ix2 R l) = (Ideal.sin (x (ix2 R l)) : EReal) := rfl
theorem neg_at (x : FVec Ideal S12288x128 .f32) (R : Fin 12288) (l : Fin 128) :
    (Host.negf x : FVec Ideal S12288x128 .f32) (ix2 R l) = (-(x (ix2 R l) : EReal) : EReal) := rfl

theorem val_222' (l : Fin 128) : (StableHlo.after ops U (Proc.devRef .tc main_v222) : FVec Ideal S12288x128 .f32) (ix2 ⟨4096 * g + r, by omega⟩ l)
    = Ref.v19 V0 (ix2 ⟨pos g r, pos_lt g r r.isLt⟩ ⟨l % 32, by omega⟩) := by
  rw [at_v222, angles_at, row_word, at_v197, freqs_at, at_19]

theorem val_228' (l : Fin 128) : (StableHlo.after ops U (Proc.devRef .tc main_v228) : FVec Ideal S12288x128 .f32) (ix2 ⟨4096 * g + r, by omega⟩ l)
    = ((inp V0).c ⟨pos g r, pos_lt g r r.isLt⟩ ⟨l % 32, by omega⟩ : EReal) := by
  rw [at_v228]
  rw [cos_at, val_222' U V0, ← val_21, at_21]

theorem val_227' (l : Fin 128) : (StableHlo.after ops U (Proc.devRef .tc main_v227) : FVec Ideal S12288x128 .f32) (ix2 ⟨4096 * g + r, by omega⟩ l)
    = ((inp V0).s ⟨pos g r, pos_lt g r r.isLt⟩ ⟨l % 32, by omega⟩ : EReal) := by
  rw [at_v227]
  rw [sin_at, val_222' U V0, ← val_23, at_23]

theorem val_231' (l : Fin 128) : (StableHlo.after ops U (Proc.devRef .tc main_v231) : FVec Ideal S12288x128 .f32) (ix2 ⟨4096 * g + r, by omega⟩ l)
    = ((if (l : ℕ) % 64 < 32 then -(inp V0).s ⟨pos g r, pos_lt g r r.isLt⟩ ⟨l % 32, by omega⟩
        else (inp V0).s ⟨pos g r, pos_lt g r r.isLt⟩ ⟨l % 32, by omega⟩ : ℝ) : EReal) := by
  have e : (StableHlo.after ops U (Proc.devRef .tc main_v224) : S128.Idx → BitVec 32) (ix1 l) = remWord 64#32 (BitVec.ofNat 32 l) := by
    rw [at_v224]
    exact (read_rem128 bcast_S_S128 (divisor 64#32) _ l).trans (by rw [read_iota128]; rfl)
  rw [at_v231, at_call11_v0, read_sines, e, word_lane, select_ofBool, at_v230]
  rw [neg_at, val_227' U V0]
  split <;> rfl

end Cert.Host

end
-- ==== Proof.RefClasses.lean ====
/- The permutation into residue classes, read at a row: the reference's result. -/
module

public import proofs.«01_k».proof.Proof.Model
public import proofs.«01_k».proof.Proof.Gen.ReferenceIdeal

@[expose] public section

set_option maxRecDepth 16384

noncomputable section

namespace Cert.Ref

open Cert.ReferenceIdeal Cert.ReferenceIdeal.Gen Idealize.ShloMosaic Idealize.ShloMosaic.TcCoe

/-- The rows of width 3072, one residue class after the other. -/
def classes3072 (x : FVec Ideal S4096x3x3072 .f32) : FVec Ideal S12288x3072 .f32 :=
  concatenate S12288x3072 0
    [⟨S4096x3072, shapeCast S4096x3072 (transpose S1x4096x3072 [1, 0, 2] (shapeCast S4096x1x3072 (shapeCast S4096x3072
        (extractStridedSlice S4096x1x3072 ![0, 0, 0] x slices_S4096x3x3072_S4096x1x3072_0_0_0) shapeCasts_S4096x1x3072_S4096x3072)
        shapeCasts_S4096x3072_S4096x1x3072) transposes_S4096x1x3072_S1x4096x3072_1_0_2) shapeCasts_S1x4096x3072_S4096x3072⟩,
      ⟨S4096x3072, shapeCast S4096x3072 (transpose S4x1024x3072 [1, 0, 2] (shapeCast S1024x4x3072 (shapeCast S4096x3072
        (extractStridedSlice S4096x1x3072 ![0, 1, 0] x slices_S4096x3x3072_S4096x1x3072_0_1_0) shapeCasts_S4096x1x3072_S4096x3072)
        shapeCasts_S4096x3072_S1024x4x3072) transposes_S1024x4x3072_S4x1024x3072_1_0_2) shapeCasts_S4x1024x3072_S4096x3072⟩,
      ⟨S4096x3072, shapeCast S4096x3072 (transpose S16x256x3072 [1, 0, 2] (shapeCast S256x16x3072 (shapeCast S4096x3072
        (extractStridedSlice S4096x1x3072 ![0, 2, 0] x slices_S4096x3x3072_S4096x1x3072_0_2_0) shapeCasts_S4096x1x3072_S4096x3072)
        shapeCasts_S4096x3072_S256x16x3072) transposes_S256x16x3072_S16x256x3072_1_0_2) shapeCasts_S16x256x3072_S4096x3072⟩]
    concatenates_S4096x3072_S4096x3072_S4096x3072_S12288x3072_d0

set_option maxRecDepth 100000 in
theorem classes3072_at (x : FVec Ideal S4096x3x3072 .f32) (g : Fin 3) (r : Fin 4096) (u : Fin 3072) :
    classes3072 x (ix2 ⟨4096 * g + r, by omega⟩ u) = (x (ix3 ⟨Model.pos g r, Model.pos_lt g r r.isLt⟩ g u) : EReal) := by
  fin_cases g
  · pointwise [classes3072]
    refine congrArg (fun t => x (ix3 t _ u)) (Fin.ext ?_)
    change (r : ℕ) = r % 4096 * 1 + r / 4096
    omega
  · pointwise [classes3072]
    refine congrArg (fun t => x (ix3 t _ u)) (Fin.ext ?_)
    rfl
  · obtain ⟨R, hR⟩ : ∃ R : Fin 12288, R.val = 8192 + r.val := ⟨⟨8192 + r, by omega⟩, rfl⟩
    have e : (⟨4096 * 2 + r, by omega⟩ : Fin 12288) = R := Fin.ext (by rw [hR])
    refine (congrArg (fun t => classes3072 x (ix2 t u)) e).trans ?_
    pointwise [classes3072]
    rw [dif_neg (by omega), dif_neg (by omega)]
    refine congrArg (fun t => x (ix3 t _ u)) (Fin.ext ?_)
    change (R.val - 4096 - 4096) % 256 * 16 + (R.val - 4096 - 4096) / 256 = r % 256 * 16 + r / 256
    omega

end Cert.Ref

end
-- ==== Proof.RefGrad.lean ====
/- The reference's result as the model's gradient. -/
module

public import proofs.«01_k».proof.Proof.RefSoft
public import proofs.«01_k».proof.Proof.RefClasses

@[expose] public section

set_option maxRecDepth 16384

noncomputable section

namespace Cert.Ref

open Cert.ReferenceIdeal Cert.ReferenceIdeal.Gen Idealize.ShloMosaic Idealize.ShloMosaic.TcCoe Cert.Model Cert.Real

variable {V0 : Valuation τ sig (Elt Ideal)} (N : Num V0)

/-- The rotation's transpose of an array of numbers. -/
theorem unrot_val (x : FVec Ideal S4096x3x16x64 .f32) (X : Fin 64 → ℝ) (p : Fin 4096) (g : Fin 3) (h : Fin 16) (e : Fin 64)
    (hx : ∀ e, x (ix4 p g h e) = (X e : EReal)) :
    unrot x (v21 V0) (v23 V0) (ix4 p g h e) = (unrope (inp V0) p X e : EReal) := by
  rw [unrot_at]
  unfold unrope
  split
  · rename_i he
    rw [hx, hx, val_21, val_23, ← EReal.coe_mul, ← EReal.coe_mul, ← EReal.coe_add]
    refine congrArg Real.toEReal ?_
    have : (⟨32 + (e : ℕ), by omega⟩ : Fin 64) = ⟨e + 32, by omega⟩ := Fin.ext (by simp only; omega)
    rw [this]
    ring
  · rename_i he
    rw [hx, hx, val_21, val_23, ← EReal.coe_neg, ← EReal.coe_mul, ← EReal.coe_mul, ← EReal.coe_add]
    refine congrArg Real.toEReal ?_
    have : (⟨32 + ((e : ℕ) - 32), by omega⟩ : Fin 64) = e := Fin.ext (by simp only; omega)
    rw [this]
    ring

/-- What the result holds at row `r` of group `g`'s classes and column `u`. -/
def result (I : Inputs) (g : Fin 3) (r : Fin 4096) (u : Fin 3072) : ℝ :=
  grad I g ⟨u / 64 % 16, by omega⟩ ⟨u / 1024, by omega⟩ ⟨pos g r, pos_lt g r r.isLt⟩ ⟨u % 64, by omega⟩

include N in
theorem val_255 (p : Fin 4096) (g : Fin 3) (u : Fin 3072) :
    v255 V0 (ix3 p g u) = (grad (inp V0) g ⟨u / 64 % 16, by omega⟩ ⟨u / 1024, by omega⟩ p ⟨u % 64, by omega⟩ : EReal) := by
  rw [v255_parts]
  have h3 : (u : ℕ) / 1024 = 0 ∨ (u : ℕ) / 1024 = 1 ∨ (u : ℕ) / 1024 = 2 := by omega
  rcases h3 with hu | hu | hu
  · rw [stack_0 _ _ _ p g u hu, unrot_val _ _ p g _ _ fun e => val_218 N g _ p e]
    simp only [grad, hu, Fin.zero_eta, Fin.isValue, if_true]
  · rw [stack_1 _ _ _ p g u hu, v51_same, v53_same, unrot_val _ _ p g _ _ fun e => val_216 N g _ p e]
    simp only [grad, hu, Fin.mk_one, Fin.isValue, one_ne_zero, if_false, if_true]
  · rw [stack_2 _ _ _ p g u hu, dvs_at]
    simp only [val_168 N, val_123 N, ← EReal.coe_mul, coe_sum]
    refine congrArg Real.toEReal ?_
    have h0 : (⟨(u : ℕ) / 1024, by omega⟩ : Fin 3) = 2 := Fin.ext hu
    simp only [grad, h0, show (2 : Fin 3) ≠ 0 by decide, show (2 : Fin 3) ≠ 1 by decide, if_false]
    refine Finset.sum_congr rfl fun x _ => ?_
    rw [prob]
    have hz := Z_pos (inp V0) g ⟨(u : ℕ) / 64 % 16, by omega⟩ x
    have ht := T_pos (inp V0) ⟨(u : ℕ) / 64 % 16, by omega⟩ x
    field_simp

include N in
theorem val_result (g : Fin 3) (r : Fin 4096) (u : Fin 3072) :
    classes3072 (v255 V0) (ix2 ⟨4096 * g + r, by omega⟩ u) = (result (inp V0) g r u : EReal) := by
  rw [classes3072_at]
  exact val_255 N _ g u

end Cert.Ref

end
-- ==== Proof.KHolds.lean ====
/- What a grid point reads and stores, as numbers. -/
module

public import proofs.«01_k».proof.Proof.KPieces
public import proofs.«01_k».proof.Proof.KNums
public import proofs.«01_k».proof.Proof.HostNum
public import proofs.«01_k».proof.Proof.RefGrad

@[expose] public section

set_option maxRecDepth 16384

noncomputable section

namespace Cert.Body

open Cert.KernelIdeal Cert.KernelIdeal.Gen Idealize.ShloMosaic Idealize.ShloMosaic.TcCoe Cert.Model Cert.Real Cert.Ref Cert.Host

/-! ## Slices -/

theorem cut3072_at (x : FVec Ideal S128x3072 .bf16) (o : ℕ) (h : o + 128 ≤ 3072) (i l : Fin 128) :
    cut3072 x o h (ix2 i l) = x (ix2 i ⟨o + l, by omega⟩) :=
  congrArg x (funext fun a => Fin.ext (by fin_cases a <;> simp [cut3072, Rect.unit, LoadRect.idx]))
theorem cut1024_at (x : FVec Ideal S128x1024 .bf16) (o : ℕ) (h : o + 128 ≤ 1024) (i l : Fin 128) :
    cut1024 x o h (ix2 i l) = x (ix2 i ⟨o + l, by omega⟩) :=
  congrArg x (funext fun a => Fin.ext (by fin_cases a <;> simp [cut1024, Rect.unit, LoadRect.idx]))
theorem cutCol_at (x : A128) (o : ℕ) (h : o + 1 ≤ 128) (i : Fin 128) : cutCol x o h (ix2 i 0) = x (ix2 i ⟨o, by omega⟩) := by
  pointwise [cutCol]

/-- The two columns of a pair. -/
theorem cols_at (x : A128) (j : Fin 8) (d : Fin 2) (i : Fin 128) (h0 : 2 * (j : ℕ) + 1 ≤ 128) (h1 : 2 * (j : ℕ) + 1 + 1 ≤ 128) :
    (if d = 0 then cutCol x (2 * j) h0 else cutCol x (2 * j + 1) h1) (ix2 i 0) = x (ix2 i ⟨2 * j + d, by omega⟩) := by
  fin_cases d
  · exact cutCol_at x _ h0 i
  · exact cutCol_at x _ h1 i

/-! ## What the arrays hold -/

variable (m : (ℓ : Loc nD τ sig) → Buf (Elt Ideal) ℓ) (c : Dev nD) (t : Fin cfg0.N)

/-- A grid point as a number below 96. -/
abbrev pt : Fin 96 := ⟨t, t_lt t⟩

theorem row_eq (R : Fin 96) (i : Fin 128) : (⟨128 * R + i, by omega⟩ : Fin 12288) = ⟨4096 * (gr R) + line R i, by omega⟩ :=
  Fin.ext (by simp only; omega)

variable {V0 : Valuation ReferenceIdeal.τ ReferenceIdeal.sig (Elt Ideal)} (N : Num V0) (H : Same (fun b => m (c, b)) V0)
  (R : Fin 96) (i : Fin 128) (j : Fin 8) (l : Fin 128)

theorem read_c (u : Fin 128) : (V m c main_v228 : FVec Ideal S12288x128 .f32) (ix2 ⟨128 * R + i, by omega⟩ u)
    = ((inp V0).c (place R i) ⟨u % 32, by omega⟩ : EReal) := by
  rw [row_eq, Host.eq_after]; exact val_228' _ V0 (gr R) (line R i) u
theorem read_s (u : Fin 128) : (V m c main_v231 : FVec Ideal S12288x128 .f32) (ix2 ⟨128 * R + i, by omega⟩ u)
    = ((if (u : ℕ) % 64 < 32 then -(inp V0).s (place R i) ⟨u % 32, by omega⟩ else (inp V0).s (place R i) ⟨u % 32, by omega⟩ : ℝ) : EReal) := by
  rw [row_eq, Host.eq_after]; exact val_231' _ V0 (gr R) (line R i) u

include N H

theorem read_q (u : Fin 3072) (hu : (u : ℕ) = 128 * j + l) :
    (V m c main_v188 : FVec Ideal S12288x3072 .bf16) (ix2 ⟨128 * R + i, by omega⟩ u)
      = ((inp V0).q (gr R) (place R i) (head j (Nums.hd l)) (lane l) : EReal) := by
  rw [row_eq, Host.eq_after]
  refine (val_188q _ N H (gr R) (line R i) u (by omega)).trans ?_
  rw [show (⟨u / 64 % 16, by omega⟩ : Fin 16) = head j (Nums.hd l) from Fin.ext (by simp only; omega),
    show (⟨u % 64, by omega⟩ : Fin 64) = lane l from Fin.ext (by simp only; omega)]
theorem read_k (u : Fin 3072) (hu : (u : ℕ) = 1024 + (128 * j + l)) :
    (V m c main_v188 : FVec Ideal S12288x3072 .bf16) (ix2 ⟨128 * R + i, by omega⟩ u)
      = ((inp V0).k (gr R) (place R i) (head j (Nums.hd l)) (lane l) : EReal) := by
  rw [row_eq, Host.eq_after]
  refine (val_188k _ N H (gr R) (line R i) u (by omega)).trans ?_
  rw [show (⟨u / 64 % 16, by omega⟩ : Fin 16) = head j (Nums.hd l) from Fin.ext (by simp only; omega),
    show (⟨u % 64, by omega⟩ : Fin 64) = lane l from Fin.ext (by simp only; omega)]
theorem read_v (u : Fin 3072) (hu : (u : ℕ) = 2048 + (128 * j + l)) :
    (V m c main_v188 : FVec Ideal S12288x3072 .bf16) (ix2 ⟨128 * R + i, by omega⟩ u)
      = ((inp V0).v (gr R) (place R i) (head j (Nums.hd l)) (lane l) : EReal) := by
  rw [row_eq, Host.eq_after]
  refine (val_188v _ N H (gr R) (line R i) u (by omega)).trans ?_
  rw [show (⟨u / 64 % 16, by omega⟩ : Fin 16) = head j (Nums.hd l) from Fin.ext (by simp only; omega),
    show (⟨u % 64, by omega⟩ : Fin 64) = lane l from Fin.ext (by simp only; omega)]
theorem read_o (u : Fin 1024) (hu : (u : ℕ) = 128 * j + l) :
    (V m c main_v250 : FVec Ideal S12288x1024 .bf16) (ix2 ⟨128 * R + i, by omega⟩ u)
      = ((inp V0).ct (place R i) (head j (Nums.hd l)) (lane l) : EReal) := by
  rw [row_eq, Host.eq_after]
  refine (val_250' _ N H (gr R) (line R i) u).trans ?_
  rw [show (⟨u / 64, by omega⟩ : Fin 16) = head j (Nums.hd l) from Fin.ext (by simp only; omega),
    show (⟨u % 64, by omega⟩ : Fin 64) = lane l from Fin.ext (by simp only; omega)]
theorem read_l (d : Fin 2) (u : Fin 128) (hu : (u : ℕ) = 2 * j + d) :
    (V m c main_v269 : FVec Ideal S12288x128 .f32) (ix2 ⟨128 * R + i, by omega⟩ u)
      = (Real.log (Model.T (inp V0) (head j d) (place R i)) : EReal) := by
  rw [row_eq, Host.eq_after, show u = ⟨head j d, by omega⟩ from Fin.ext hu]
  exact val_269' _ N H (gr R) (line R i) (head j d)
theorem read_d (d : Fin 2) (u : Fin 128) (hu : (u : ℕ) = 2 * j + d) :
    (V m c main_v288 : FVec Ideal S12288x128 .f32) (ix2 ⟨128 * R + i, by omega⟩ u)
      = (delta (inp V0) (head j d) (place R i) : EReal) := by
  rw [row_eq, Host.eq_after, show u = ⟨head j d, by omega⟩ from Fin.ext hu]
  exact val_288' _ N H (gr R) (line R i) (head j d)

omit N H in
open Classical in
/-- A pair's arrays hold numbers when the windows do. -/
theorem holds_arr {w0 : FVec Ideal S128x3072 .bf16} {w1 w2 w3 w4 w5 : FVec Ideal S128x1024 .bf16} {w6 w7 w8 w9 : A128}
    {M : FVec Ideal S256x256 .f32} {M' : FVec Ideal S256x128 .f32} {R : Nums}
    (hq : ∀ i l : Fin 128, w0 (ix2 i ⟨128 * j + l, by omega⟩) = (R.q i l : EReal))
    (hk : ∀ i l : Fin 128, w0 (ix2 i ⟨1024 + 128 * j + l, by omega⟩) = (R.k i l : EReal))
    (hv : ∀ i l : Fin 128, w0 (ix2 i ⟨2048 + 128 * j + l, by omega⟩) = (R.v i l : EReal))
    (hkp : ∀ i l : Fin 128, w1 (ix2 i ⟨128 * j + l, by omega⟩) = (R.kp i l : EReal))
    (hvp : ∀ i l : Fin 128, w2 (ix2 i ⟨128 * j + l, by omega⟩) = (R.vp i l : EReal))
    (hqn : ∀ i l : Fin 128, w3 (ix2 i ⟨128 * j + l, by omega⟩) = (R.qn i l : EReal))
    (ho : ∀ i l : Fin 128, w4 (ix2 i ⟨128 * j + l, by omega⟩) = (R.o i l : EReal))
    (hon : ∀ i l : Fin 128, w5 (ix2 i ⟨128 * j + l, by omega⟩) = (R.on i l : EReal))
    (hl : ∀ (d : Fin 2) (i : Fin 128), w6 (ix2 i ⟨2 * j + d, by omega⟩) = (R.l d i : EReal))
    (hn : ∀ (d : Fin 2) (i : Fin 128), w7 (ix2 i ⟨2 * j + d, by omega⟩) = (R.n d i : EReal))
    (hd : ∀ (d : Fin 2) (i : Fin 128), w8 (ix2 i ⟨2 * j + d, by omega⟩) = (R.d d i : EReal))
    (he : ∀ (d : Fin 2) (i : Fin 128), w9 (ix2 i ⟨2 * j + d, by omega⟩) = (R.e d i : EReal))
    (hM : ∀ d i t, M (ix2 (row d i) t) = (if R.sees i t then 0 else ⊥ : EReal))
    (hM' : ∀ d i t, M' (ix2 (row d i) t) = (if R.sees' i t then 0 else ⊥ : EReal)) :
    Holds (arr w0 w1 w2 w3 w4 w5 w6 w7 w8 w9 M M' j) R where
  q i l := (cut3072_at w0 (128 * j) (by omega) i l).trans (hq i l)
  k i l := (cut3072_at w0 (1024 + 128 * j) (by omega) i l).trans (hk i l)
  v i l := (cut3072_at w0 (2048 + 128 * j) (by omega) i l).trans (hv i l)
  kp i l := (cut1024_at w1 (128 * j) (by omega) i l).trans (hkp i l)
  vp i l := (cut1024_at w2 (128 * j) (by omega) i l).trans (hvp i l)
  qn i l := (cut1024_at w3 (128 * j) (by omega) i l).trans (hqn i l)
  o i l := (cut1024_at w4 (128 * j) (by omega) i l).trans (ho i l)
  on i l := (cut1024_at w5 (128 * j) (by omega) i l).trans (hon i l)
  l d i := (cols_at w6 j d i (by omega) (by omega)).trans (hl d i)
  n d i := (cols_at w7 j d i (by omega) (by omega)).trans (hn d i)
  d d i := (cols_at w8 j d i (by omega) (by omega)).trans (hd d i)
  e d i := (cols_at w9 j d i (by omega) (by omega)).trans (he d i)
  m := hM
  mn := hM'

open Classical in
/-- What a pair reads are the model's numbers. -/
theorem holds (M : FVec Ideal S256x256 .f32) (M' : FVec Ideal S256x128 .f32) (hM : mask (BitVec.ofNat 32 (grid0.coords t 0)) = M)
    (hM' : maskNext (BitVec.ofNat 32 (grid0.coords t 0)) = M') : Holds (pairArr m c t M M' j) (nums (inp V0) (pt t) j) := by
  refine holds_arr j ?_ ?_ ?_ ?_ ?_ ?_ ?_ ?_ ?_ ?_ ?_ ?_ ?_ ?_
  · exact fun i l => (blk0 m c t i _).trans (read_q m c N H (pt t) i j l _ rfl)
  · exact fun i l => (blk0 m c t i _).trans (read_k m c N H (pt t) i j l _ (Nat.add_assoc _ _ _))
  · exact fun i l => (blk0 m c t i _).trans (read_v m c N H (pt t) i j l _ (Nat.add_assoc _ _ _))
  · exact fun i l => (blk1 m c t i _).trans (read_k m c N H (prev (pt t)) i j l _ rfl)
  · exact fun i l => (blk2 m c t i _).trans (read_v m c N H (prev (pt t)) i j l _ rfl)
  · exact fun i l => (blk3 m c t i _).trans (read_q m c N H (next (pt t)) i j l _ rfl)
  · exact fun i l => (blk4 m c t i _).trans (read_o m c N H (pt t) i j l _ rfl)
  · exact fun i l => (blk5 m c t i _).trans (read_o m c N H (next (pt t)) i j l _ rfl)
  · exact fun d i => (blk6 m c t i _).trans (read_l m c N H (pt t) i j d _ rfl)
  · exact fun d i => (blk7 m c t i _).trans (read_l m c N H (next (pt t)) i j d _ rfl)
  · exact fun d i => (blk8 m c t i _).trans (read_d m c N H (pt t) i j d _ rfl)
  · exact fun d i => (blk9 m c t i _).trans (read_d m c N H (next (pt t)) i j d _ rfl)
  · intro d i x
    rw [← hM, coords_val]
    exact (mask_at (pt t) d i x).trans (if_congr Iff.rfl rfl rfl)
  · intro d i x
    rw [← hM', coords_val]
    exact (maskNext_at (pt t) d i x).trans (if_congr Iff.rfl rfl rfl)

/-! ## What it stores -/

omit N H in
theorem pay6_at (x : A128) (i l : Fin 128) : k0_pay6 (F := Ideal) x (ix2 i l) = x (ix2 i l) := by
  pointwise [k0_pay6]
omit N H in
theorem pay7_at (x : A128) (i l : Fin 128) : k0_pay7 (F := Ideal) x (ix2 i l) = (0 - x (ix2 i l) : EReal) := by
  pointwise [k0_pay7]

omit N H in
/-- The rotation of rows that hold the model's numbers. -/
theorem turned (X : A128) (x : Fin 128 → Fin 128 → ℝ) (hx : ∀ i l, X (ix2 i l) = (x i l : EReal)) (Y : Fin 16 → Fin 4096 → Fin 64 → ℝ)
    (hY : ∀ i l, x i l = Y (head j (Nums.hd l)) (place (pt t) i) (lane l)) :
    turn X (k0_pay6 (iblk m c 10 t)) (k0_pay7 (iblk m c 11 t)) (ix2 i l)
      = (unrope (inp V0) (place (pt t) i) (Y (head j (Nums.hd l)) (place (pt t) i)) (lane l) : EReal) := by
  rw [turn_at, pay6_at, pay7_at, blk10, blk11, hx i l, hx, hx, read_c m c (V0 := V0) (pt t) i l, read_s m c (V0 := V0) (pt t) i l,
    ← turn_eq (inp V0) (x i) (Y (head j (Nums.hd l)) (place (pt t) i)) (place (pt t) i) l (fun m hm => by rw [hY, hm]),
    ← EReal.coe_zero, ← EReal.coe_sub, EReal.coe_add, EReal.coe_mul, EReal.coe_mul]
  refine congrArg₂ (· + ·) rfl (congrArg₂ (· * ·) ?_ rfl)
  split <;> rfl

omit N H in
theorem result_at (I : Inputs) (a : Fin 3) (u : Fin 3072) (hu : (u : ℕ) = 1024 * a + (128 * j + l)) :
    result I (gr R) (line R i) u = grad I (gr R) (head j (Nums.hd l)) a (place R i) (lane l) := by
  unfold result
  rw [show (⟨u / 64 % 16, by omega⟩ : Fin 16) = head j (Nums.hd l) from Fin.ext (by simp only; omega),
    show (⟨u / 1024, by omega⟩ : Fin 3) = a from Fin.ext (by simp only; omega),
    show (⟨u % 64, by omega⟩ : Fin 64) = lane l from Fin.ext (by simp only; omega)]

omit N H in
theorem mem_ix2 (x : S128x128.Idx) : ∃ i l : Fin 128, x = ix2 i l := ⟨x 0, x 1, funext fun a => by fin_cases a <;> rfl⟩

/-- A grid point stores the model's gradient. -/
theorem outs (y : S128x3072.Idx) : outsAt0 m c t y = (result (inp V0) (gr (pt t)) (line (pt t) (y 0)) (y 1) : EReal) := by
  refine outs_eq m c t (fun y => (result (inp V0) (gr (pt t)) (line (pt t) (y 0)) (y 1) : EReal)) ?_ ?_ ?_ y
  · intro j M hM x y h0 h1
    obtain ⟨i, l, rfl⟩ := mem_ix2 x
    have e : (y 0 : Fin 128) = i := Fin.ext h0
    refine (turned m c t (V0 := V0) i j l _ _ (val_dq (holds m c t N H j M _ hM rfl)) (fun h p e => Model.dq (inp V0) (gr (pt t)) h p e)
      (fun i l => dq_eq (inp V0) (pt t) j i l)).trans ?_
    refine congrArg Real.toEReal ?_
    refine Eq.trans ?_ (result_at (pt t) i j l (inp V0) 0 (y 1) (by simpa using h1)).symm |>.trans ?_
    · rfl
    · exact congrArg (fun z : Fin 128 => result (inp V0) (gr (pt t)) (line (pt t) z) (y 1)) e.symm
  · intro j M M' hM hM' x y h0 h1
    obtain ⟨i, l, rfl⟩ := mem_ix2 x
    have e : (y 0 : Fin 128) = i := Fin.ext h0
    refine (turned m c t (V0 := V0) i j l _ _ (val_dk (holds m c t N H j M M' hM hM')) (fun h p e => Model.dk (inp V0) (gr (pt t)) h p e)
      (fun i l => dk_eq (inp V0) (pt t) j i l)).trans ?_
    refine congrArg Real.toEReal ?_
    refine Eq.trans ?_ (result_at (pt t) i j l (inp V0) 1 (y 1) (h1.trans (Nat.add_assoc _ _ _))).symm |>.trans ?_
    · rfl
    · exact congrArg (fun z : Fin 128 => result (inp V0) (gr (pt t)) (line (pt t) z) (y 1)) e.symm
  · intro j M M' hM hM' x y h0 h1
    obtain ⟨i, l, rfl⟩ := mem_ix2 x
    have e : (y 0 : Fin 128) = i := Fin.ext h0
    refine (val_dv (holds m c t N H j M M' hM hM') i l).trans ?_
    refine congrArg Real.toEReal ((dv_eq (inp V0) (pt t) j i l).trans ?_)
    refine Eq.trans ?_ (result_at (pt t) i j l (inp V0) 2 (y 1) (h1.trans (Nat.add_assoc _ _ _))).symm |>.trans ?_
    · rfl
    · exact congrArg (fun z : Fin 128 => result (inp V0) (gr (pt t)) (line (pt t) z) (y 1)) e.symm

end Cert.Body

end
-- ==== Proof.Final.lean ====
/- The array the kernel leaves. -/
module

public import proofs.«01_k».proof.Proof.KHolds

@[expose] public section

set_option maxRecDepth 16384

noncomputable section

namespace Cert.Body

open Cert.KernelIdeal Cert.KernelIdeal.Gen Idealize.ShloMosaic Idealize.ShloMosaic.TcCoe Cert.Model Cert.Real Cert.Ref Cert.Host

/-- The gradients of the model, class after class. -/
def G (I : Inputs) : FVec Ideal S12288x3072 .bf16 :=
  fun x => (result I ⟨(x 0 : ℕ) / 4096, Nat.div_lt_of_lt_mul (x 0).isLt⟩ ⟨(x 0 : ℕ) % 4096, Nat.mod_lt _ (by decide)⟩ (x 1) : EReal)

theorem G_at (I : Inputs) (g : Fin 3) (r : Fin 4096) (u : Fin 3072) (R : Fin 12288) (h : (R : ℕ) = 4096 * g + r) :
    G I (ix2 R u) = (result I g r u : EReal) := by
  have hg : (⟨(R : ℕ) / 4096, Nat.div_lt_of_lt_mul R.isLt⟩ : Fin 3) = g := Fin.ext (by simp only; omega)
  have hr : (⟨(R : ℕ) % 4096, Nat.mod_lt _ (by decide)⟩ : Fin 4096) = r := Fin.ext (by simp only; omega)
  rw [← hg, ← hr]
  rfl

variable (m : (ℓ : Loc nD τ sig) → Buf (Elt Ideal) ℓ) (c : Dev nD)
variable {V0 : Valuation ReferenceIdeal.τ ReferenceIdeal.sig (Elt Ideal)} (N : Num V0) (H : Same (fun b => m (c, b)) V0)

include N H

/-- After the run the kernel's array holds the model's gradients. -/
theorem final : (dats m 0 c).arrAt 12 cfg0.N = G (inp V0) := by
  refine (dats m 0 c).arrAt_eq_of_covers 12 (G (inp V0)) (by decide +kernel) fun t _ y => ?_
  blk_simp
  rw [after0_12]
  refine (outs m c t N H y).trans ?_
  refine (G_at (inp V0) (gr (pt t)) (line (pt t) (y 0)) (y 1) ⟨128 * t + (y 0 : Fin 128), by have := t_lt t; have h : (@Fin.val 128 (y 0)) < 128 := Fin.isLt _; omega⟩ ?_).symm.trans ?_
  · simp only
    omega
  · refine congrArg (G (inp V0)) ?_
    blk_ext [idx t]

end Cert.Body

end
-- ==== Proof.RefRun.lean ====
/- What the reference's run leaves. -/
module

public import proofs.«01_k».proof.Proof.RefGrad
public import proofs.«01_k».proof.Proof.Final

@[expose] public section

set_option maxRecDepth 16384

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo Cert.Model

/-- The array in which the reference leaves its result. -/
def out (V0 : Valuation τ sig (Elt Ideal)) : FVec Ideal S12288x3072 .bf16 := truncf .bf16 (classes3072 (v255 V0)) bitsLt_bf16_f32

theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v272) = out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by unfold out classes3072 v255; exact (h c).1, (h c).2.1, (h c).2.2⟩) (Value.run (F := Ideal) m ρ)

/-- It is the model's gradients. -/
theorem out_eq {V0 : Valuation τ sig (Elt Ideal)} (N : Num V0) : out V0 = Body.G (inp V0) := by
  funext x
  obtain ⟨R, u, rfl⟩ : ∃ (R : Fin 12288) (u : Fin 3072), x = ix2 R u := ⟨x 0, x 1, funext fun a => by fin_cases a <;> rfl⟩
  obtain ⟨g, r, hR⟩ : ∃ (g : Fin 3) (r : Fin 4096), (R : ℕ) = 4096 * g + r :=
    ⟨⟨R / 4096, by omega⟩, ⟨R % 4096, by omega⟩, by simp only; omega⟩
  refine Eq.trans ?_ (Body.G_at (inp V0) g r u R hR).symm
  have e : R = ⟨4096 * g + r, by omega⟩ := Fin.ext hR
  refine Eq.trans ?_ (val_result N g r u)
  rw [e]
  rfl

end Cert.Ref

end
-- ==== Proof.MlpHiddenRef.lean ====
module
public import proofs.«01_k».proof.Proof.Gen.HiddenReferenceIdeal.Run
public import Idealize.ShloMosaic.Lib.Pointwise
/-!
The result of the reference program `Hidden`, as a function of its four arguments.
-/
@[expose] public section
set_option maxRecDepth 16384

noncomputable section

namespace Cert.HiddenReferenceIdeal
open Cert.HiddenReferenceIdeal Cert.HiddenReferenceIdeal.Gen Idealize.ShloMosaic Idealize.ShloMosaic.TcCoe Idealize.SL.Sem Idealize.ShloMosaic.StableHlo

/-- The reference's result, as a function of the four arguments. -/
def fn (a0 : FVec Ideal S4096x1024 .f32) (a1 : FVec Ideal S1024x4096 .f32) (a2 a3 : FVec Ideal S4096x1024 .f32) : FVec Ideal S4096x4096 .bf16 :=
  truncf .bf16 (select (cmpf .ogt (Host.dotGeneral dot_S4096x1024_S1024x4096_S4096x4096_1_0_0_1_n_n none a0 a1) (broadcastInDim S4096x4096 ![] bcast_S_S4096x4096 (constant S_ .f32 0x00000000#32))) (mulf (Host.dotGeneral dot_S4096x1024_S4096x1024_S4096x4096_1_1_0_0_n_n none a3 a2) (mulf (broadcastInDim S4096x4096 ![] bcast_S_S4096x4096 (constant S_ .f32 0x40000000#32)) (maximumf (Host.dotGeneral dot_S4096x1024_S1024x4096_S4096x4096_1_0_0_1_n_n none a0 a1) (broadcastInDim S4096x4096 ![] bcast_S_S4096x4096 (constant S_ .f32 0x00000000#32))))) (broadcastInDim S4096x4096 ![] bcast_S_S4096x4096 (constant S_ .f32 0x00000000#32))) bitsLt_bf16_f32

end Cert.HiddenReferenceIdeal
end
-- ==== Proof.MlpHidden.lean ====
/- The gradient of the hidden layer: the array the kernel leaves is the reference's. -/
module

public import proofs.«01_k».proof.Proof.Gen.HiddenIdeal.Value
public import proofs.«01_k».proof.Proof.MlpHiddenRef
public import Idealize.ShloMosaic.Lib.Pointwise
public import Idealize.ShloMosaic.Lib.Claim
public import Idealize.ShloMosaic.Lib.Pipeline.ValueKit

@[expose] public section

set_option maxRecDepth 16384

noncomputable section

namespace Cert.HiddenIdeal

open Cert.HiddenIdeal Cert.HiddenIdeal.Gen Idealize.ShloMosaic Idealize.ShloMosaic.TcCoe

variable (m : (ℓ : Loc nD τ sig) → Buf (Elt Ideal) ℓ) (c : Dev nD)

/-- The hidden layer before its activation. -/
def hid (x : FVec Ideal S4096x1024 .f32) (w : FVec Ideal S1024x4096 .f32) (r i : Fin 4096) : EReal :=
  ∑ k : Fin 1024, (x (ix2 r k) : EReal) * w (ix2 k i)

/-- The gradient of the hidden layer. -/
def grad (x : FVec Ideal S4096x1024 .f32) (w : FVec Ideal S1024x4096 .f32) (v y : FVec Ideal S4096x1024 .f32) (r i : Fin 4096) : EReal :=
  if 0 < hid x w r i then (∑ k : Fin 1024, (y (ix2 r k) : EReal) * v (ix2 i k)) * (Ideal.ofBits .f32 0x40000000#32 * max (hid x w r i) 0) else 0

theorem fn_at (a0 : FVec Ideal S4096x1024 .f32) (a1 : FVec Ideal S1024x4096 .f32) (a2 a3 : FVec Ideal S4096x1024 .f32) (i j : Fin 4096) :
    HiddenReferenceIdeal.fn a0 a1 a2 a3 (ix2 i j) = grad a0 a1 a2 a3 i j := by
  pointwise [HiddenReferenceIdeal.fn]
  rfl

/-- The kernel takes the hidden layer's positive part from the root of its square: that is the gradient of the squared positive part. -/
theorem root (h s u : EReal) : s * (u * Ideal.sqrt (max h 0 * max h 0)) = if 0 < h then s * (u * max h 0) else 0 := by
  have sq : ∀ r : ℝ, 0 ≤ r → Ideal.sqrt ((r : EReal) * r) = r := fun r hr => by
    rw [← EReal.coe_mul]
    show (if r * r < 0 then (⊥ : EReal) else (Real.sqrt (r * r) : EReal)) = r
    rw [if_neg (not_lt.2 (mul_nonneg hr hr)), Real.sqrt_mul_self hr]
  by_cases hh : 0 < h
  · rw [if_pos hh]
    refine congrArg (fun z => s * (u * z)) ?_
    rw [max_eq_left hh.le]
    induction h using EReal.rec with
    | bot => simp at hh
    | top => exact congrArg Ideal.sqrt EReal.top_mul_top
    | coe r => exact sq r (by exact_mod_cast hh.le)
  · rw [if_neg hh, max_eq_right (not_lt.1 hh)]
    have e : Ideal.sqrt ((0 : EReal) * 0) = 0 := sq 0 le_rfl
    rw [e, mul_zero, mul_zero]

theorem dy_at (r : Fin 4096) (k : Fin 1024) : V m c main_v4 (ix2 r k) = (m ((c : Thread nD τ).loc main_arg3) (ix2 r k) : EReal) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise

theorem wd_at (r : Fin 4096) (k : Fin 1024) : V m c main_v5 (ix2 r k) = (m ((c : Thread nD τ).loc main_arg2) (ix2 r k) : EReal) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise

theorem act_at (r i : Fin 4096) : V m c main_v3 (ix2 r i) =
    (max (hid (m ((c : Thread nD τ).loc main_arg0)) (m ((c : Thread nD τ).loc main_arg1)) r i) 0 * max (hid (m ((c : Thread nD τ).loc main_arg0)) (m ((c : Thread nD τ).loc main_arg1)) r i) 0 : EReal) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise
  rfl

theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

theorem lt (t : Fin cfg0.N) : t.val < 8 := (by decide +kernel : ∀ t : Fin cfg0.N, t.val < 8) t

theorem win0_at (t : Fin cfg0.N) (i : Fin 2048) (k : Fin 1024) (R : Fin 4096) (h : (R : ℕ) = 2048 * (t / 4) + i) :
    iblk m c 0 t (ix2 i k) = V m c main_v4 (ix2 R k) := by
  blk_point [iblk, V, idx t]

theorem win1_at (t : Fin cfg0.N) (j : Fin 1024) (k : Fin 1024) (R : Fin 4096) (h : (R : ℕ) = 1024 * (t % 4) + j) :
    iblk m c 1 t (ix2 j k) = V m c main_v5 (ix2 R k) := by
  blk_point [iblk, V, idx t]

theorem win2_at (t : Fin cfg0.N) (i : Fin 2048) (j : Fin 1024) (R C : Fin 4096) (h : (R : ℕ) = 2048 * (t / 4) + i) (h' : (C : ℕ) = 1024 * (t % 4) + j) :
    iblk m c 2 t (ix2 i j) = V m c main_v3 (ix2 R C) := by
  blk_point [iblk, V, idx t]

theorem low_at (Y : FVec Ideal S2048x1024 .bf16) (W : FVec Ideal S1024x1024 .bf16) (B : FVec Ideal S2048x1024 .bf16) (i : Fin 2048) (q : Fin 512) (j : Fin 1024) (h : (j : ℕ) = q) :
    k0_pay1 (F := Ideal) Y (View.ld W r0_1) (View.ld B r0_2) (ix2 i q)
      = (∑ k : Fin 1024, (Y (ix2 i k) : EReal) * W (ix2 j k)) * (Ideal.ofBits .f32 0x40000000#32 * Ideal.sqrt (B (ix2 i j))) := by
  obtain rfl : j = ⟨q, lt_trans q.isLt (by decide)⟩ := Fin.ext h
  pointwise [k0_pay1]

theorem high_at (Y : FVec Ideal S2048x1024 .bf16) (W : FVec Ideal S1024x1024 .bf16) (B : FVec Ideal S2048x1024 .bf16) (i : Fin 2048) (q : Fin 512) (j : Fin 1024) (h : (j : ℕ) = 512 + q) :
    k0_pay2 (F := Ideal) Y (View.ld W r0_3) (View.ld B r0_4) (ix2 i q)
      = (∑ k : Fin 1024, (Y (ix2 i k) : EReal) * W (ix2 j k)) * (Ideal.ofBits .f32 0x40000000#32 * Ideal.sqrt (B (ix2 i j))) := by
  obtain rfl : j = ⟨512 + q, Nat.add_lt_add_left q.isLt 512⟩ := Fin.ext h
  pointwise [k0_pay2]

theorem out_at (Y : Vec Ideal S2048x1024 .bf16) (W : Vec Ideal S1024x1024 .bf16) (B : Vec Ideal S2048x1024 .bf16) (i : Fin 2048) (j : Fin 1024) :
    out0_3 (F := Ideal) Y W B (ix2 i j)
      = (∑ k : Fin 1024, (Y (ix2 i k) : EReal) * (W (ix2 j k) : EReal)) * (Ideal.ofBits .f32 0x40000000#32 * Ideal.sqrt (B (ix2 i j))) := by
  have top : ∀ (x : S2048x512.Idx), ∃ (p : Fin 2048) (q : Fin 512), x = ix2 p q :=
    fun x => ⟨x 0, x 1, funext fun a => by fin_cases a <;> rfl⟩
  frame_out
  canon_tiles x hx
  case piece0 =>
    obtain ⟨p, q, rfl⟩ := top x
    obtain rfl : i = p := Fin.ext (by assumption)
    exact high_at Y W B i q j (by assumption)
  case piece1 =>
    obtain ⟨p, q, rfl⟩ := top x
    obtain rfl : i = p := Fin.ext (by assumption)
    exact low_at Y W B i q j (by assumption)

theorem final : (dats m 0 c).arrAt 3 cfg0.N = HiddenReferenceIdeal.fn (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  obtain ⟨i, j, rfl⟩ : ∃ (i : Fin 2048) (j : Fin 1024), y = ix2 i j := ⟨y 0, y 1, funext fun a => by fin_cases a <;> rfl⟩
  have ht := lt t
  have hI : 2048 * (t.val / 4) + (i : ℕ) < 4096 := by omega
  have hJ : 1024 * (t.val % 4) + (j : ℕ) < 4096 := by omega
  have he : ((View.whole main_v6).slice (win0_3.rect t)).emb (ix2 i j) = ix2 (⟨2048 * (t.val / 4) + i, hI⟩ : Fin 4096) (⟨1024 * (t.val % 4) + j, hJ⟩ : Fin 4096) := by
    blk_ext [idx t]
  rw [he, fn_at]
  refine (out_at _ _ _ i j).trans ?_
  rw [win2_at m c t i j ⟨2048 * (t.val / 4) + i, hI⟩ ⟨1024 * (t.val % 4) + j, hJ⟩ rfl rfl, act_at, root]
  unfold grad
  have e0 := fun k => (win0_at m c t i k ⟨2048 * (t.val / 4) + i, hI⟩ rfl).trans (dy_at m c _ k)
  have e1 := fun k => (win1_at m c t j k ⟨1024 * (t.val % 4) + j, hJ⟩ rfl).trans (wd_at m c _ k)
  simp only [e0, e1]

end Cert.HiddenIdeal
end
-- ==== Proof.MlpDownRef.lean ====
module
public import proofs.«01_k».proof.Proof.Gen.DownReferenceIdeal.Run
public import Idealize.ShloMosaic.Lib.Pointwise
/-!
The result of the reference program `Down`, as a function of its four arguments.
-/
@[expose] public section
set_option maxRecDepth 16384

noncomputable section

namespace Cert.DownReferenceIdeal
open Cert.DownReferenceIdeal Cert.DownReferenceIdeal.Gen Idealize.ShloMosaic Idealize.ShloMosaic.TcCoe Idealize.SL.Sem Idealize.ShloMosaic.StableHlo

/-- The reference's result, as a function of the four arguments. -/
def fn (a0 : FVec Ideal S4096x1024 .f32) (a1 : FVec Ideal S1024x4096 .f32) (a2 a3 : FVec Ideal S4096x1024 .f32) : FVec Ideal S4096x1024 .bf16 :=
  truncf .bf16 (transpose S4096x1024 [1, 0] (Host.dotGeneral dot_S4096x1024_S4096x4096_S1024x4096_0_0_1_1_n_n none a3 (mulf (maximumf (Host.dotGeneral dot_S4096x1024_S1024x4096_S4096x4096_1_0_0_1_n_n none a0 a1) (broadcastInDim S4096x4096 ![] bcast_S_S4096x4096 (constant S_ .f32 0x00000000#32))) (maximumf (Host.dotGeneral dot_S4096x1024_S1024x4096_S4096x4096_1_0_0_1_n_n none a0 a1) (broadcastInDim S4096x4096 ![] bcast_S_S4096x4096 (constant S_ .f32 0x00000000#32))))) transposes_S1024x4096_S4096x1024_1_0) bitsLt_bf16_f32

end Cert.DownReferenceIdeal
end
-- ==== Proof.MlpDown.lean ====
/- The product for the down weight: the array the kernel leaves is the reference's. -/
module

public import proofs.«01_k».proof.Proof.Gen.DownIdeal.Value
public import proofs.«01_k».proof.Proof.MlpDownRef
public import Idealize.ShloMosaic.Lib.Pointwise
public import Idealize.ShloMosaic.Lib.Claim
public import Idealize.ShloMosaic.Lib.Pipeline.ValueKit

@[expose] public section

set_option maxRecDepth 16384

noncomputable section

namespace Cert.DownIdeal

open Cert.DownIdeal Cert.DownIdeal.Gen Idealize.ShloMosaic Idealize.ShloMosaic.TcCoe

variable (m : (ℓ : Loc nD τ sig) → Buf (Elt Ideal) ℓ) (c : Dev nD)

/-- The hidden layer before its activation. -/
def hid (x : FVec Ideal S4096x1024 .f32) (w : FVec Ideal S1024x4096 .f32) (r i : Fin 4096) : EReal :=
  ∑ k : Fin 1024, (x (ix2 r k) : EReal) * w (ix2 k i)

theorem pay_at (a b : FVec Ideal S4096x1024 .bf16) (i j : Fin 1024) :
    k0_pay1 (F := Ideal) a b (ix2 i j) = ∑ r : Fin 4096, (a (ix2 r i) : EReal) * b (ix2 r j) := by
  pointwise [k0_pay1]

theorem fn_at (a0 : FVec Ideal S4096x1024 .f32) (a1 : FVec Ideal S1024x4096 .f32) (a2 a3 : FVec Ideal S4096x1024 .f32) (i : Fin 4096) (j : Fin 1024) :
    DownReferenceIdeal.fn a0 a1 a2 a3 (ix2 i j) = ∑ r : Fin 4096, (a3 (ix2 r j) : EReal) * (max (hid a0 a1 r i) 0 * max (hid a0 a1 r i) 0) := by
  pointwise [DownReferenceIdeal.fn]
  rfl

theorem left_at (r i : Fin 4096) : V m c main_v3 (ix2 r i) =
    (max (hid (m ((c : Thread nD τ).loc main_arg0)) (m ((c : Thread nD τ).loc main_arg1)) r i) 0 * max (hid (m ((c : Thread nD τ).loc main_arg0)) (m ((c : Thread nD τ).loc main_arg1)) r i) 0 : EReal) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise
  rfl

theorem right_at (r : Fin 4096) (j : Fin 1024) : V m c main_v4 (ix2 r j) = (m ((c : Thread nD τ).loc main_arg3) (ix2 r j) : EReal) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise

theorem idx : ∀ t : Fin cfg0.N, win0_0.index t = ![0, t.val] ∧ win0_1.index t = ![0, 0] ∧ win0_2.index t = ![t.val, 0] :=
  (by decide +kernel : ∀ t : Fin grid0.N, _)

theorem lt (t : Fin cfg0.N) : t.val < 4 := (by decide +kernel : ∀ t : Fin cfg0.N, t.val < 4) t

theorem win0_at (t : Fin cfg0.N) (r : Fin 4096) (i : Fin 1024) (R : Fin 4096) (h : (R : ℕ) = 1024 * t + i) :
    iblk m c 0 t (ix2 r i) = V m c main_v3 (ix2 r R) := by
  blk_point [iblk, V, idx t]

theorem win1_at (t : Fin cfg0.N) (r : Fin 4096) (j : Fin 1024) :
    iblk m c 1 t (ix2 r j) = V m c main_v4 (ix2 r j) := by
  blk_point [iblk, V, idx t]

theorem final : (dats m 0 c).arrAt 2 cfg0.N = DownReferenceIdeal.fn (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  frame_out
  obtain ⟨i, j, rfl⟩ : ∃ (i j : Fin 1024), y = ix2 i j := ⟨y 0, y 1, funext fun a => by fin_cases a <;> rfl⟩
  have ht := lt t
  have hR : 1024 * t.val + (i : ℕ) < 4096 := by omega
  have he : ((View.whole main_v5).slice (win0_2.rect t)).emb (ix2 i j) = ix2 (⟨1024 * t.val + i, hR⟩ : Fin 4096) j := by
    blk_ext [idx t]
  rw [he, fn_at]
  refine (pay_at _ _ i j).trans (Finset.sum_congr rfl fun r _ => ?_)
  rw [win0_at m c t r i ⟨1024 * t.val + i, hR⟩ rfl, win1_at, left_at, right_at, mul_comm]

end Cert.DownIdeal
end
-- ==== Proof.MlpUpRef.lean ====
module
public import proofs.«01_k».proof.Proof.Gen.UpReferenceIdeal.Run
public import Idealize.ShloMosaic.Lib.Pointwise
/-!
The result of the reference program `Up`, as a function of its four arguments.
-/
@[expose] public section
set_option maxRecDepth 16384

noncomputable section

namespace Cert.UpReferenceIdeal
open Cert.UpReferenceIdeal Cert.UpReferenceIdeal.Gen Idealize.ShloMosaic Idealize.ShloMosaic.TcCoe Idealize.SL.Sem Idealize.ShloMosaic.StableHlo

/-- The reference's result, as a function of the four arguments. -/
def fn (a0 : FVec Ideal S4096x1024 .f32) (a1 : FVec Ideal S1024x4096 .f32) (a2 a3 : FVec Ideal S4096x1024 .f32) : FVec Ideal S1024x4096 .bf16 :=
  truncf .bf16 (transpose S1024x4096 [1, 0] (Host.dotGeneral dot_S4096x4096_S4096x1024_S4096x1024_0_0_1_1_n_n none (select (cmpf .ogt (Host.dotGeneral dot_S4096x1024_S1024x4096_S4096x4096_1_0_0_1_n_n none a0 a1) (broadcastInDim S4096x4096 ![] bcast_S_S4096x4096 (constant S_ .f32 0x00000000#32))) (mulf (Host.dotGeneral dot_S4096x1024_S4096x1024_S4096x4096_1_1_0_0_n_n none a3 a2) (mulf (broadcastInDim S4096x4096 ![] bcast_S_S4096x4096 (constant S_ .f32 0x40000000#32)) (maximumf (Host.dotGeneral dot_S4096x1024_S1024x4096_S4096x4096_1_0_0_1_n_n none a0 a1) (broadcastInDim S4096x4096 ![] bcast_S_S4096x4096 (constant S_ .f32 0x00000000#32))))) (broadcastInDim S4096x4096 ![] bcast_S_S4096x4096 (constant S_ .f32 0x00000000#32))) a0) transposes_S4096x1024_S1024x4096_1_0) bitsLt_bf16_f32

end Cert.UpReferenceIdeal
end
-- ==== Proof.MlpUp.lean ====
/- The product for the up weight: the array the kernel leaves is the reference's. -/
module

public import proofs.«01_k».proof.Proof.Gen.UpIdeal.Value
public import proofs.«01_k».proof.Proof.MlpUpRef
public import Idealize.ShloMosaic.Lib.Pointwise
public import Idealize.ShloMosaic.Lib.Claim
public import Idealize.ShloMosaic.Lib.Pipeline.ValueKit

@[expose] public section

set_option maxRecDepth 16384

noncomputable section

namespace Cert.UpIdeal

open Cert.UpIdeal Cert.UpIdeal.Gen Idealize.ShloMosaic Idealize.ShloMosaic.TcCoe

variable (m : (ℓ : Loc nD τ sig) → Buf (Elt Ideal) ℓ) (c : Dev nD)

/-- The hidden layer before its activation. -/
def hid (x : FVec Ideal S4096x1024 .f32) (w : FVec Ideal S1024x4096 .f32) (r i : Fin 4096) : EReal :=
  ∑ k : Fin 1024, (x (ix2 r k) : EReal) * w (ix2 k i)

theorem pay_at (a b : FVec Ideal S4096x1024 .bf16) (i j : Fin 1024) :
    k0_pay1 (F := Ideal) a b (ix2 i j) = ∑ r : Fin 4096, (a (ix2 r i) : EReal) * b (ix2 r j) := by
  pointwise [k0_pay1]

/-- The gradient of the hidden layer. -/
def grad (x : FVec Ideal S4096x1024 .f32) (w : FVec Ideal S1024x4096 .f32) (v y : FVec Ideal S4096x1024 .f32) (r i : Fin 4096) : EReal :=
  if 0 < hid x w r i then (∑ k : Fin 1024, (y (ix2 r k) : EReal) * v (ix2 i k)) * (Ideal.ofBits .f32 0x40000000#32 * max (hid x w r i) 0) else 0

theorem fn_at (a0 : FVec Ideal S4096x1024 .f32) (a1 : FVec Ideal S1024x4096 .f32) (a2 a3 : FVec Ideal S4096x1024 .f32) (i : Fin 1024) (j : Fin 4096) :
    UpReferenceIdeal.fn a0 a1 a2 a3 (ix2 i j) = ∑ r : Fin 4096, grad a0 a1 a2 a3 r j * (a0 (ix2 r i) : EReal) := by
  pointwise [UpReferenceIdeal.fn]
  rfl

theorem left_at (r : Fin 4096) (i : Fin 1024) : V m c main_v13 (ix2 r i) = (m ((c : Thread nD τ).loc main_arg0) (ix2 r i) : EReal) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise

theorem right_at (r j : Fin 4096) : V m c main_v14 (ix2 r j) = grad (m ((c : Thread nD τ).loc main_arg0)) (m ((c : Thread nD τ).loc main_arg1)) (m ((c : Thread nD τ).loc main_arg2)) (m ((c : Thread nD τ).loc main_arg3)) r j := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  entry_read
  pointwise
  rfl

theorem idx : ∀ t : Fin cfg0.N, win0_0.index t = ![0, 0] ∧ win0_1.index t = ![0, t.val] ∧ win0_2.index t = ![0, t.val] :=
  (by decide +kernel : ∀ t : Fin grid0.N, _)

theorem lt (t : Fin cfg0.N) : t.val < 4 := (by decide +kernel : ∀ t : Fin cfg0.N, t.val < 4) t

theorem win0_at (t : Fin cfg0.N) (r : Fin 4096) (i : Fin 1024) :
    iblk m c 0 t (ix2 r i) = V m c main_v13 (ix2 r i) := by
  blk_point [iblk, V, idx t]

theorem win1_at (t : Fin cfg0.N) (r : Fin 4096) (j : Fin 1024) (J : Fin 4096) (h : (J : ℕ) = 1024 * t + j) :
    iblk m c 1 t (ix2 r j) = V m c main_v14 (ix2 r J) := by
  blk_point [iblk, V, idx t]

theorem final : (dats m 0 c).arrAt 2 cfg0.N = UpReferenceIdeal.fn (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  frame_out
  obtain ⟨i, j, rfl⟩ : ∃ (i j : Fin 1024), y = ix2 i j := ⟨y 0, y 1, funext fun a => by fin_cases a <;> rfl⟩
  have ht := lt t
  have hR : 1024 * t.val + (j : ℕ) < 4096 := by omega
  have he : ((View.whole main_v15).slice (win0_2.rect t)).emb (ix2 i j) = ix2 i (⟨1024 * t.val + j, hR⟩ : Fin 4096) := by
    blk_ext [idx t]
  rw [he, fn_at]
  refine (pay_at _ _ i j).trans (Finset.sum_congr rfl fun r _ => ?_)
  rw [win0_at, win1_at m c t r j ⟨1024 * t.val + j, hR⟩ rfl, left_at, right_at, mul_comm]

end Cert.UpIdeal
end
-- ==== Proof.WActRef.lean ====
module
public import proofs.«01_k».proof.Proof.Gen.ActReferenceIdeal.Run
public import Idealize.ShloMosaic.Lib.Pointwise
/-!
The result of the reference program `Act`, as a function of its arguments.
-/
@[expose] public section
set_option maxRecDepth 16384

noncomputable section

namespace Cert.ActReferenceIdeal
open Cert.ActReferenceIdeal Cert.ActReferenceIdeal.Gen Idealize.ShloMosaic Idealize.ShloMosaic.TcCoe Idealize.SL.Sem Idealize.ShloMosaic.StableHlo

/-- The reference's result, as a function of the arguments. -/
def fn (a0 : FVec Ideal S4096x1024 .f32) (a1 : FVec Ideal S1024x4096 .f32) (a2 : FVec Ideal S4096x1024 .f32) (a3 : FVec Ideal S4096x1024 .f32) : FVec Ideal S4096x4096 .bf16 :=
  truncf .bf16 (mulf (maximumf (Host.dotGeneral dot_S4096x1024_S1024x4096_S4096x4096_1_0_0_1_n_n none a0 a1) (broadcastInDim S4096x4096 ![] bcast_S_S4096x4096 (constant S_ .f32 0x00000000#32))) (maximumf (Host.dotGeneral dot_S4096x1024_S1024x4096_S4096x4096_1_0_0_1_n_n none a0 a1) (broadcastInDim S4096x4096 ![] bcast_S_S4096x4096 (constant S_ .f32 0x00000000#32)))) bitsLt_bf16_f32

end Cert.ActReferenceIdeal
end
-- ==== Proof.WAct.lean ====
/- The MLP's activation: the array the kernel leaves is the reference's. -/
module

public import proofs.«01_k».proof.Proof.Gen.ActIdeal.Value
public import proofs.«01_k».proof.Proof.WActRef
public import Idealize.ShloMosaic.Lib.Pointwise
public import Idealize.ShloMosaic.Lib.Claim
public import Idealize.ShloMosaic.Lib.Pipeline.ValueKit

@[expose] public section

set_option maxRecDepth 16384

noncomputable section

namespace Cert.ActIdeal

open Cert.ActIdeal Cert.ActIdeal.Gen Idealize.ShloMosaic Idealize.ShloMosaic.TcCoe

variable (m : (ℓ : Loc nD τ sig) → Buf (Elt Ideal) ℓ) (c : Dev nD)

/-- The hidden layer before its activation. -/
def hid (x : FVec Ideal S4096x1024 .f32) (w : FVec Ideal S1024x4096 .f32) (r i : Fin 4096) : EReal :=
  ∑ k : Fin 1024, (x (ix2 r k) : EReal) * w (ix2 k i)

theorem fn_at (a0 : FVec Ideal S4096x1024 .f32) (a1 : FVec Ideal S1024x4096 .f32) (a2 a3 : FVec Ideal S4096x1024 .f32) (i j : Fin 4096) :
    ActReferenceIdeal.fn a0 a1 a2 a3 (ix2 i j) = max (hid a0 a1 i j) 0 * max (hid a0 a1 i j) 0 := by
  pointwise [ActReferenceIdeal.fn]
  rfl

theorem left_at (r : Fin 4096) (k : Fin 1024) : V m c main_v0 (ix2 r k) = (m ((c : Thread nD τ).loc main_arg0) (ix2 r k) : EReal) := by
  entry_read
  pointwise

theorem right_at (r : Fin 1024) (k : Fin 4096) : V m c main_v1 (ix2 r k) = (m ((c : Thread nD τ).loc main_arg1) (ix2 r k) : EReal) := by
  entry_read
  pointwise

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem lt (t : Fin cfg0.N) : t.val < 8 := (by decide +kernel : ∀ t : Fin cfg0.N, t.val < 8) t

theorem win0_at (t : Fin cfg0.N) (i : Fin 2048) (k : Fin 1024) (R : Fin 4096) (h : (R : ℕ) = 2048 * (t / 4) + i) :
    iblk m c 0 t (ix2 i k) = V m c main_v0 (ix2 R k) := by
  blk_point [iblk, V, idx t]

theorem win1_at (t : Fin cfg0.N) (k : Fin 1024) (j : Fin 1024) (C : Fin 4096) (h : (C : ℕ) = 1024 * (t % 4) + j) :
    iblk m c 1 t (ix2 k j) = V m c main_v1 (ix2 k C) := by
  blk_point [iblk, V, idx t]

theorem low_at (Y : FVec Ideal S2048x1024 .bf16) (W : FVec Ideal S1024x1024 .bf16) (i : Fin 2048) (q : Fin 512) (j : Fin 1024) (h : (j : ℕ) = q) :
    k0_pay1 (F := Ideal) Y (View.ld W r0_1) (ix2 i q)
      = max (∑ k : Fin 1024, (Y (ix2 i k) : EReal) * W (ix2 k j)) 0 * max (∑ k : Fin 1024, (Y (ix2 i k) : EReal) * W (ix2 k j)) 0 := by
  obtain rfl : j = ⟨q, lt_trans q.isLt (by decide)⟩ := Fin.ext h
  pointwise [k0_pay1]

theorem high_at (Y : FVec Ideal S2048x1024 .bf16) (W : FVec Ideal S1024x1024 .bf16) (i : Fin 2048) (q : Fin 512) (j : Fin 1024) (h : (j : ℕ) = 512 + q) :
    k0_pay2 (F := Ideal) Y (View.ld W r0_3) (ix2 i q)
      = max (∑ k : Fin 1024, (Y (ix2 i k) : EReal) * W (ix2 k j)) 0 * max (∑ k : Fin 1024, (Y (ix2 i k) : EReal) * W (ix2 k j)) 0 := by
  obtain rfl : j = ⟨512 + q, Nat.add_lt_add_left q.isLt 512⟩ := Fin.ext h
  pointwise [k0_pay2]

/-- What a grid point stores, from its blocks. -/
theorem out_at (Y : Vec Ideal S2048x1024 .bf16) (W : Vec Ideal S1024x1024 .bf16) (i : Fin 2048) (j : Fin 1024) :
    out0_2 (F := Ideal) Y W (ix2 i j)
      = max (∑ k : Fin 1024, (Y (ix2 i k) : EReal) * (W (ix2 k j) : EReal)) 0 * max (∑ k : Fin 1024, (Y (ix2 i k) : EReal) * (W (ix2 k j) : EReal)) 0 := by
  have top : ∀ (x : S2048x512.Idx), ∃ (p : Fin 2048) (q : Fin 512), x = ix2 p q :=
    fun x => ⟨x 0, x 1, funext fun a => by fin_cases a <;> rfl⟩
  frame_out
  canon_tiles x hx
  case piece0 =>
    obtain ⟨p, q, rfl⟩ := top x
    obtain rfl : i = p := Fin.ext (by assumption)
    exact high_at Y W i q j (by assumption)
  case piece1 =>
    obtain ⟨p, q, rfl⟩ := top x
    obtain rfl : i = p := Fin.ext (by assumption)
    exact low_at Y W i q j (by assumption)

/-- The array the kernel leaves. -/
theorem final : (dats m 0 c).arrAt 2 cfg0.N = ActReferenceIdeal.fn (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  obtain ⟨i, j, rfl⟩ : ∃ (i : Fin 2048) (j : Fin 1024), y = ix2 i j := ⟨y 0, y 1, funext fun a => by fin_cases a <;> rfl⟩
  have ht := lt t
  have hI : 2048 * (t.val / 4) + (i : ℕ) < 4096 := by omega
  have hJ : 1024 * (t.val % 4) + (j : ℕ) < 4096 := by omega
  have he : ((View.whole main_v2).slice (win0_2.rect t)).emb (ix2 i j) = ix2 (⟨2048 * (t.val / 4) + i, hI⟩ : Fin 4096) (⟨1024 * (t.val % 4) + j, hJ⟩ : Fin 4096) := by
    blk_ext [idx t]
  rw [he, fn_at]
  refine (out_at _ _ i j).trans ?_
  have e0 := fun k => (win0_at m c t i k ⟨2048 * (t.val / 4) + i, hI⟩ rfl).trans (left_at m c _ k)
  have e1 := fun k => (win1_at m c t k j ⟨1024 * (t.val % 4) + j, hJ⟩ rfl).trans (right_at m c k _)
  simp only [e0, e1]
  rfl

end Cert.ActIdeal
end
-- ==== Proof.WAttnWeightRef.lean ====
module
public import proofs.«01_k».proof.Proof.Gen.AttnWeightReferenceIdeal.Run
public import Idealize.ShloMosaic.Lib.Pointwise
/-!
The result of the reference program `AttnWeight`, as a function of its arguments.
-/
@[expose] public section
set_option maxRecDepth 16384

noncomputable section

namespace Cert.AttnWeightReferenceIdeal
open Cert.AttnWeightReferenceIdeal Cert.AttnWeightReferenceIdeal.Gen Idealize.ShloMosaic Idealize.ShloMosaic.TcCoe Idealize.SL.Sem Idealize.ShloMosaic.StableHlo

/-- The reference's result, as a function of the arguments. -/
def fn (a0 : FVec Ideal S4096x1024 .f32) (a1 : FVec Ideal S1024x9216 .f32) (a2 : FVec Ideal S4096x9216 .f32) : FVec Ideal S1024x9216 .bf16 :=
  truncf .bf16 (transpose S1024x9216 [1, 0] (Host.dotGeneral dot_S4096x9216_S4096x1024_S9216x1024_0_0_1_1_n_n none a2 a0) transposes_S9216x1024_S1024x9216_1_0) bitsLt_bf16_f32

end Cert.AttnWeightReferenceIdeal
end
-- ==== Proof.WAttnWeight.lean ====
/- The gradient of the attention's w_in: the array the kernel leaves is the reference's. -/
module

public import proofs.«01_k».proof.Proof.Gen.AttnWeightIdeal.Value
public import proofs.«01_k».proof.Proof.WAttnWeightRef
public import proofs.«01_k».proof.Proof.HostClasses
public import Idealize.ShloMosaic.Lib.Pointwise
public import Idealize.ShloMosaic.Lib.Claim
public import Idealize.ShloMosaic.Lib.Pipeline.ValueKit

@[expose] public section

set_option maxRecDepth 16384

noncomputable section

namespace Cert.AttnWeightIdeal

open Cert.AttnWeightIdeal Cert.AttnWeightIdeal.Gen Idealize.ShloMosaic Idealize.ShloMosaic.TcCoe

variable (m : (ℓ : Loc nD τ sig) → Buf (Elt Ideal) ℓ) (c : Dev nD)

/-- The position that a row of group `g` holds. -/
def place (g : Fin 3) (r : Fin 4096) : Fin 4096 := ⟨Model.pos g r, Model.pos_lt g r r.isLt⟩

theorem pos_injective (g : Fin 3) (r s : ℕ) (hr : r < 4096) (hs : s < 4096) (h : Model.pos g r = Model.pos g s) : r = s := by
  fin_cases g
  all_goals simp [Model.pos, Model.dil] at h; omega

theorem place_injective (g : Fin 3) : Function.Injective (place g) := fun r s h =>
  Fin.ext (pos_injective g r s r.isLt s.isLt (congrArg Fin.val h))

/-- A sum over a group's rows in their class order is the sum over all rows. -/
theorem sum_place (g : Fin 3) (f : Fin 4096 → EReal) : ∑ r : Fin 4096, f (place g r) = ∑ s : Fin 4096, f s :=
  (Finite.injective_iff_bijective.mp (place_injective g)).sum_comp f

theorem pay_at (a : FVec Ideal S4096x1024 .bf16) (b : FVec Ideal S4096x768 .bf16) (i : Fin 1024) (j : Fin 768) :
    k0_pay1 (F := Ideal) a b (ix2 i j) = ∑ r : Fin 4096, (a (ix2 r i) : EReal) * b (ix2 r j) := by
  pointwise [k0_pay1]

theorem fn_at (a0 : FVec Ideal S4096x1024 .f32) (a1 : FVec Ideal S1024x9216 .f32) (a2 : FVec Ideal S4096x9216 .f32) (i : Fin 1024) (j : Fin 9216) :
    AttnWeightReferenceIdeal.fn a0 a1 a2 (ix2 i j) = ∑ s : Fin 4096, (a0 (ix2 s i) : EReal) * a2 (ix2 s j) := by
  pointwise [AttnWeightReferenceIdeal.fn]
  exact Finset.sum_congr rfl fun s _ => mul_comm _ _

/-- The input's rows, one copy for each group. -/
def wide (x : FVec Ideal S4096x1024 .f32) : FVec Ideal S4096x3x1024 .f32 :=
  broadcastInDim S4096x3x1024 ![0, 1, 2] bcast_S4096x1x1024_S4096x3x1024_0_1_2
    (broadcastInDim S4096x1x1024 ![0, 2] bcast_S4096x1024_S4096x1x1024_0_2 x)

theorem wide_at (x : FVec Ideal S4096x1024 .f32) (i : Fin 4096) (g : Fin 3) (k : Fin 1024) :
    wide x (ix3 i g k) = (x (ix2 i k) : EReal) := by
  pointwise [wide]

/-- The gradient's rows, split into the groups. -/
def split (x : FVec Ideal S4096x9216 .f32) : FVec Ideal S4096x3x3072 .f32 := shapeCast _ x shapeCasts_S4096x9216_S4096x3x3072

theorem split_at (x : FVec Ideal S4096x9216 .f32) (i : Fin 4096) (g : Fin 3) (k : Fin 3072) :
    split x (ix3 i g k) = (x (ix2 i ⟨3072 * g + k, by omega⟩) : EReal) := by
  pointwise [split]
  exact congrArg _ (congrArg (ix2 _) (Fin.ext (by simp; try omega)))

theorem left : V m c main_v18 = (truncf .bf16 (Cert.Host.classes1024 (wide (m ((c : Thread nD τ).loc main_arg0)))) bitsLt_bf16_f32 : FVec Ideal S12288x1024 .bf16) := by
  simp only [V, hostOps0]
  after_results_simp <;> (try dsimp only [Matrix.cons_val]) <;> (try after_results_simp) <;> (try dsimp only [Matrix.cons_val]) <;> (try after_results_simp) <;> rfl

theorem right : V m c main_v36 = (truncf .bf16 (Cert.Host.classes3072 (split (m ((c : Thread nD τ).loc main_arg2)))) bitsLt_bf16_f32 : FVec Ideal S12288x3072 .bf16) := by
  simp only [V, hostOps0]
  after_results_simp <;> (try dsimp only [Matrix.cons_val]) <;> (try after_results_simp) <;> (try dsimp only [Matrix.cons_val]) <;> (try after_results_simp) <;> rfl

theorem left_at (g : Fin 3) (r : Fin 4096) (k : Fin 1024) :
    V m c main_v18 (ix2 ⟨4096 * g + r, by omega⟩ k) = (m ((c : Thread nD τ).loc main_arg0) (ix2 (place g r) k) : EReal) := by
  refine (congrFun (left m c) _).trans ?_
  exact (Cert.Host.classes1024_at _ g r k).trans (wide_at _ _ g k)

theorem right_at (g : Fin 3) (r : Fin 4096) (k : Fin 3072) :
    V m c main_v36 (ix2 ⟨4096 * g + r, by omega⟩ k) = (m ((c : Thread nD τ).loc main_arg2) (ix2 (place g r) ⟨3072 * g + k, by omega⟩) : EReal) := by
  refine (congrFun (right m c) _).trans ?_
  exact (Cert.Host.classes3072_at _ g r k).trans (split_at _ _ g k)

theorem idx : ∀ t : Fin cfg0.N, win0_0.index t = ![t.val / 4, 0] ∧ win0_1.index t = ![t.val / 4, t.val % 4] ∧ win0_2.index t = ![0, t.val] :=
  (by decide +kernel : ∀ t : Fin grid0.N, _)

theorem lt (t : Fin cfg0.N) : t.val < 12 := (by decide +kernel : ∀ t : Fin cfg0.N, t.val < 12) t

theorem win0_at (t : Fin cfg0.N) (r : Fin 4096) (i : Fin 1024) (R : Fin 12288) (h : (R : ℕ) = 4096 * (t / 4) + r) :
    iblk m c 0 t (ix2 r i) = V m c main_v18 (ix2 R i) := by
  blk_point [iblk, V, idx t]

theorem win1_at (t : Fin cfg0.N) (r : Fin 4096) (j : Fin 768) (R : Fin 12288) (J : Fin 3072) (h : (R : ℕ) = 4096 * (t / 4) + r) (h' : (J : ℕ) = 768 * (t % 4) + j) :
    iblk m c 1 t (ix2 r j) = V m c main_v36 (ix2 R J) := by
  blk_point [iblk, V, idx t]

/-- The array the kernel leaves. -/
theorem final : (dats m 0 c).arrAt 2 cfg0.N = AttnWeightReferenceIdeal.fn (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  obtain ⟨i, j, rfl⟩ : ∃ (i : Fin 1024) (j : Fin 768), y = ix2 i j := ⟨y 0, y 1, funext fun a => by fin_cases a <;> rfl⟩
  have ht := lt t
  obtain ⟨g, hg⟩ : ∃ g : Fin 3, (g : ℕ) = t.val / 4 := ⟨⟨t.val / 4, by omega⟩, rfl⟩
  obtain ⟨u, hu⟩ : ∃ u : Fin 3072, (u : ℕ) = 768 * (t.val % 4) + j := ⟨⟨768 * (t.val % 4) + j, by omega⟩, rfl⟩
  have hJ : 3072 * (g : ℕ) + (u : ℕ) < 9216 := by omega
  have he : ((View.whole main_v37).slice (win0_2.rect t)).emb (ix2 i j) = ix2 i (⟨3072 * g + u, hJ⟩ : Fin 9216) := by
    blk_ext [idx t]
  rw [he, fn_at, ← sum_place g]
  have e0 := fun r : Fin 4096 => (win0_at m c t r i ⟨4096 * g + r, by omega⟩ (by show 4096 * (g : ℕ) + r = _; omega)).trans (left_at m c g r i)
  have e1 := fun r : Fin 4096 => (win1_at m c t r j ⟨4096 * g + r, by omega⟩ u (by show 4096 * (g : ℕ) + r = _; omega) hu).trans (right_at m c g r u)
  refine (pay_at _ _ i j).trans (Finset.sum_congr rfl fun r _ => ?_)
  rw [e0, e1]

end Cert.AttnWeightIdeal
end
-- ==== Proof.WAttnInputRef.lean ====
/- The attention's input through its projection: the result of the reference as a function of its arguments. -/
module

public import proofs.«01_k».proof.Proof.Gen.AttnInputReferenceIdeal.Run
public import proofs.«01_k».proof.Proof.HostClasses
public import Idealize.ShloMosaic.Lib.Pointwise

@[expose] public section

set_option maxRecDepth 16384

noncomputable section

namespace Cert.AttnInputReferenceIdeal

open Cert.AttnInputReferenceIdeal Cert.AttnInputReferenceIdeal.Gen Idealize.ShloMosaic Idealize.ShloMosaic.TcCoe

/-- The gradient of the input through the projection of group 0. -/
def group0 (a1 : FVec Ideal S1024x9216 .f32) (a2 : FVec Ideal S4096x9216 .f32) : FVec Ideal S4096x1024 .f32 :=
  Host.dotGeneral (F := Ideal) (φ₁ := .f32) (φ₂ := .f32) dot_S4096x3072_S1024x3072_S4096x1024_1_1_0_0_n_n none
    (shapeCast _ (extractStridedSlice S1x4096x3072 ![0, 0, 0] (transpose S3x4096x3072 [1, 0, 2]
      (shapeCast _ a2 shapeCasts_S4096x9216_S4096x3x3072) transposes_S4096x3x3072_S3x4096x3072_1_0_2)
      slices_S3x4096x3072_S1x4096x3072_0_0_0) shapeCasts_S1x4096x3072_S4096x3072)
    (shapeCast _ (extractStridedSlice S1x1024x3072 ![0, 0, 0] (transpose S3x1024x3072 [1, 0, 2]
      (shapeCast _ a1 shapeCasts_S1024x9216_S1024x3x3072) transposes_S1024x3x3072_S3x1024x3072_1_0_2)
      slices_S3x1024x3072_S1x1024x3072_0_0_0) shapeCasts_S1x1024x3072_S1024x3072)

theorem group0_at (a1 : FVec Ideal S1024x9216 .f32) (a2 : FVec Ideal S4096x9216 .f32) (i : Fin 4096) (j : Fin 1024) :
    group0 a1 a2 (ix2 i j) = ∑ r : Fin 3072, (a2 (ix2 i ⟨3072 * 0 + r, by omega⟩) : EReal) * a1 (ix2 j ⟨3072 * 0 + r, by omega⟩) := by
  pointwise [group0]

/-- The gradient of the input through the projection of group 1. -/
def group1 (a1 : FVec Ideal S1024x9216 .f32) (a2 : FVec Ideal S4096x9216 .f32) : FVec Ideal S4096x1024 .f32 :=
  Host.dotGeneral (F := Ideal) (φ₁ := .f32) (φ₂ := .f32) dot_S4096x3072_S1024x3072_S4096x1024_1_1_0_0_n_n none
    (shapeCast _ (extractStridedSlice S1x4096x3072 ![1, 0, 0] (transpose S3x4096x3072 [1, 0, 2]
      (shapeCast _ a2 shapeCasts_S4096x9216_S4096x3x3072) transposes_S4096x3x3072_S3x4096x3072_1_0_2)
      slices_S3x4096x3072_S1x4096x3072_1_0_0) shapeCasts_S1x4096x3072_S4096x3072)
    (shapeCast _ (extractStridedSlice S1x1024x3072 ![1, 0, 0] (transpose S3x1024x3072 [1, 0, 2]
      (shapeCast _ a1 shapeCasts_S1024x9216_S1024x3x3072) transposes_S1024x3x3072_S3x1024x3072_1_0_2)
      slices_S3x1024x3072_S1x1024x3072_1_0_0) shapeCasts_S1x1024x3072_S1024x3072)

theorem group1_at (a1 : FVec Ideal S1024x9216 .f32) (a2 : FVec Ideal S4096x9216 .f32) (i : Fin 4096) (j : Fin 1024) :
    group1 a1 a2 (ix2 i j) = ∑ r : Fin 3072, (a2 (ix2 i ⟨3072 * 1 + r, by omega⟩) : EReal) * a1 (ix2 j ⟨3072 * 1 + r, by omega⟩) := by
  pointwise [group1]

/-- The gradient of the input through the projection of group 2. -/
def group2 (a1 : FVec Ideal S1024x9216 .f32) (a2 : FVec Ideal S4096x9216 .f32) : FVec Ideal S4096x1024 .f32 :=
  Host.dotGeneral (F := Ideal) (φ₁ := .f32) (φ₂ := .f32) dot_S4096x3072_S1024x3072_S4096x1024_1_1_0_0_n_n none
    (shapeCast _ (extractStridedSlice S1x4096x3072 ![2, 0, 0] (transpose S3x4096x3072 [1, 0, 2]
      (shapeCast _ a2 shapeCasts_S4096x9216_S4096x3x3072) transposes_S4096x3x3072_S3x4096x3072_1_0_2)
      slices_S3x4096x3072_S1x4096x3072_2_0_0) shapeCasts_S1x4096x3072_S4096x3072)
    (shapeCast _ (extractStridedSlice S1x1024x3072 ![2, 0, 0] (transpose S3x1024x3072 [1, 0, 2]
      (shapeCast _ a1 shapeCasts_S1024x9216_S1024x3x3072) transposes_S1024x3x3072_S3x1024x3072_1_0_2)
      slices_S3x1024x3072_S1x1024x3072_2_0_0) shapeCasts_S1x1024x3072_S1024x3072)

theorem group2_at (a1 : FVec Ideal S1024x9216 .f32) (a2 : FVec Ideal S4096x9216 .f32) (i : Fin 4096) (j : Fin 1024) :
    group2 a1 a2 (ix2 i j) = ∑ r : Fin 3072, (a2 (ix2 i ⟨3072 * 2 + r, by omega⟩) : EReal) * a1 (ix2 j ⟨3072 * 2 + r, by omega⟩) := by
  pointwise [group2]

/-- The three groups' gradients, side by side. -/
def stacked (a1 : FVec Ideal S1024x9216 .f32) (a2 : FVec Ideal S4096x9216 .f32) : FVec Ideal S4096x3x1024 .f32 :=
  concatenate S4096x3x1024 1
    [⟨S4096x1x1024, broadcastInDim S4096x1x1024 ![0, 2] bcast_S4096x1024_S4096x1x1024_0_2 (group0 a1 a2)⟩,
      ⟨S4096x1x1024, broadcastInDim S4096x1x1024 ![0, 2] bcast_S4096x1024_S4096x1x1024_0_2 (group1 a1 a2)⟩,
      ⟨S4096x1x1024, broadcastInDim S4096x1x1024 ![0, 2] bcast_S4096x1024_S4096x1x1024_0_2 (group2 a1 a2)⟩]
    concatenates_S4096x1x1024_S4096x1x1024_S4096x1x1024_S4096x3x1024_d1

theorem stacked_at (a1 : FVec Ideal S1024x9216 .f32) (a2 : FVec Ideal S4096x9216 .f32) (i : Fin 4096) (g : Fin 3) (j : Fin 1024) :
    stacked a1 a2 (ix3 i g j)
      = ∑ r : Fin 3072, (a2 (ix2 i ⟨3072 * g + r, by omega⟩) : EReal) * a1 (ix2 j ⟨3072 * g + r, by omega⟩) := by
  fin_cases g
  · refine Eq.trans ?_ (group0_at a1 a2 i j)
    pointwise [stacked]
  · refine Eq.trans ?_ (group1_at a1 a2 i j)
    pointwise [stacked]
  · refine Eq.trans ?_ (group2_at a1 a2 i j)
    pointwise [stacked]

/-- The reference's result, as a function of the arguments. -/
def fn (a0 : FVec Ideal S4096x1024 .f32) (a1 : FVec Ideal S1024x9216 .f32) (a2 : FVec Ideal S4096x9216 .f32) : FVec Ideal S12288x1024 .f32 :=
  Cert.Host.classes1024 (stacked a1 a2)

theorem fn_at (a0 : FVec Ideal S4096x1024 .f32) (a1 : FVec Ideal S1024x9216 .f32) (a2 : FVec Ideal S4096x9216 .f32) (g : Fin 3) (r : Fin 4096) (j : Fin 1024) :
    fn a0 a1 a2 (ix2 ⟨4096 * g + r, by omega⟩ j)
      = ∑ k : Fin 3072, (a2 (ix2 ⟨Model.pos g r, Model.pos_lt g r r.isLt⟩ ⟨3072 * g + k, by omega⟩) : EReal) * a1 (ix2 j ⟨3072 * g + k, by omega⟩) :=
  (Cert.Host.classes1024_at (stacked a1 a2) g r j).trans (stacked_at a1 a2 _ g j)

theorem fn_res (m : (ℓ : Loc nD τ sig) → Buf (Elt Ideal) ℓ) (c : Dev nD) :
    Value.res_main_v41 m c = fn (m ((c : Thread nD τ).loc main_arg0)) (m ((c : Thread nD τ).loc main_arg1)) (m ((c : Thread nD τ).loc main_arg2)) := by
  unfold Value.res_main_v41
  rfl

end Cert.AttnInputReferenceIdeal
end
-- ==== Proof.WAttnInput.lean ====
/- The attention's input through its projection: the array the kernel leaves is the reference's gradient. -/
module

public import proofs.«01_k».proof.Proof.Gen.AttnInputIdeal.Value
public import proofs.«01_k».proof.Proof.WAttnInputRef
public import Idealize.ShloMosaic.Lib.Pointwise
public import Idealize.ShloMosaic.Lib.Claim
public import Idealize.ShloMosaic.Lib.Pipeline.ValueKit

@[expose] public section

set_option maxRecDepth 16384

noncomputable section

namespace Cert.AttnInputIdeal

open Cert.AttnInputIdeal Cert.AttnInputIdeal.Gen Idealize.ShloMosaic Idealize.ShloMosaic.TcCoe

variable (m : (ℓ : Loc nD τ sig) → Buf (Elt Ideal) ℓ) (c : Dev nD)

theorem pay_at (a b : FVec Ideal S1024x3072 .bf16) (i j : Fin 1024) :
    k0_pay1 (F := Ideal) a b (ix2 i j) = ∑ r : Fin 3072, (a (ix2 i r) : EReal) * b (ix2 j r) := by
  pointwise [k0_pay1]

/-- The gradient's rows, split into the groups. -/
def split (x : FVec Ideal S4096x9216 .f32) : FVec Ideal S4096x3x3072 .f32 := shapeCast _ x shapeCasts_S4096x9216_S4096x3x3072

theorem split_at (x : FVec Ideal S4096x9216 .f32) (i : Fin 4096) (g : Fin 3) (k : Fin 3072) :
    split x (ix3 i g k) = (x (ix2 i ⟨3072 * g + k, by omega⟩) : EReal) := by
  pointwise [split]
  exact congrArg _ (congrArg (ix2 _) (Fin.ext (by simp; try omega)))

theorem left : V m c main_v17 = (truncf .bf16 (Cert.Host.classes3072 (split (m ((c : Thread nD τ).loc main_arg2)))) bitsLt_bf16_f32 : FVec Ideal S12288x3072 .bf16) := by
  simp only [V, hostOps0]
  after_results_simp <;> (try dsimp only [Matrix.cons_val]) <;> (try after_results_simp) <;> (try dsimp only [Matrix.cons_val]) <;> (try after_results_simp) <;> rfl

theorem left_at (g : Fin 3) (r : Fin 4096) (k : Fin 3072) :
    V m c main_v17 (ix2 ⟨4096 * g + r, by omega⟩ k) = (m ((c : Thread nD τ).loc main_arg2) (ix2 ⟨Model.pos g r, Model.pos_lt g r r.isLt⟩ ⟨3072 * g + k, by omega⟩) : EReal) := by
  refine (congrFun (left m c) _).trans ?_
  exact (Cert.Host.classes3072_at _ g r k).trans (split_at _ _ g k)

theorem right_at (r : Fin 1024) (k : Fin 9216) : V m c main_v18 (ix2 r k) = (m ((c : Thread nD τ).loc main_arg1) (ix2 r k) : EReal) := by
  entry_read
  pointwise

theorem idx : ∀ t : Fin cfg0.N, win0_0.index t = ![t.val, 0] ∧ win0_1.index t = ![0, t.val / 4] ∧ win0_2.index t = ![t.val, 0] :=
  (by decide +kernel : ∀ t : Fin grid0.N, _)

theorem lt (t : Fin cfg0.N) : t.val < 12 := (by decide +kernel : ∀ t : Fin cfg0.N, t.val < 12) t

theorem win0_at (t : Fin cfg0.N) (i : Fin 1024) (r : Fin 3072) (I : Fin 12288) (h : (I : ℕ) = 1024 * t + i) :
    iblk m c 0 t (ix2 i r) = V m c main_v17 (ix2 I r) := by
  blk_point [iblk, V, idx t]

theorem win1_at (t : Fin cfg0.N) (j : Fin 1024) (r : Fin 3072) (R : Fin 9216) (h : (R : ℕ) = 3072 * (t / 4) + r) :
    iblk m c 1 t (ix2 j r) = V m c main_v18 (ix2 j R) := by
  blk_point [iblk, V, idx t]

/-- The array the kernel leaves. -/
theorem final : (dats m 0 c).arrAt 2 cfg0.N = AttnInputReferenceIdeal.fn (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  obtain ⟨i, j, rfl⟩ : ∃ (i j : Fin 1024), y = ix2 i j := ⟨y 0, y 1, funext fun a => by fin_cases a <;> rfl⟩
  have ht := lt t
  obtain ⟨g, hg⟩ : ∃ g : Fin 3, (g : ℕ) = t.val / 4 := ⟨⟨t.val / 4, by omega⟩, rfl⟩
  obtain ⟨r, hr⟩ : ∃ r : Fin 4096, (r : ℕ) = 1024 * (t.val % 4) + i := ⟨⟨1024 * (t.val % 4) + i, by omega⟩, rfl⟩
  have hI : 4096 * (g : ℕ) + (r : ℕ) < 12288 := by omega
  have he : ((View.whole main_v19).slice (win0_2.rect t)).emb (ix2 i j) = ix2 (⟨4096 * g + r, hI⟩ : Fin 12288) j := by
    blk_ext [idx t]
  rw [he, AttnInputReferenceIdeal.fn_at]
  have e0 := fun k => (win0_at m c t i k ⟨4096 * g + r, hI⟩ (by show 4096 * (g : ℕ) + r = _; omega)).trans (left_at m c g r k)
  have e1 := fun k : Fin 3072 => (win1_at m c t j k ⟨3072 * g + k, by omega⟩ (by show 3072 * (g : ℕ) + k = _; omega)).trans (right_at m c j _)
  refine (pay_at _ _ i j).trans (Finset.sum_congr rfl fun k _ => ?_)
  rw [e0, e1]

end Cert.AttnInputIdeal
end
-- ==== Proof.WScanWeightRef.lean ====
module
public import proofs.«01_k».proof.Proof.Gen.ScanWeightReferenceIdeal.Run
public import Idealize.ShloMosaic.Lib.Pointwise
/-!
The result of the reference program `ScanWeight`, as a function of its arguments.
-/
@[expose] public section
set_option maxRecDepth 16384

noncomputable section

namespace Cert.ScanWeightReferenceIdeal
open Cert.ScanWeightReferenceIdeal Cert.ScanWeightReferenceIdeal.Gen Idealize.ShloMosaic Idealize.ShloMosaic.TcCoe Idealize.SL.Sem Idealize.ShloMosaic.StableHlo

/-- The reference's result, as a function of the arguments. -/
def fn (a0 : FVec Ideal S4096x1024 .f32) (a1 : FVec Ideal S1024x3072 .f32) (a2 : FVec Ideal S4096x3072 .f32) : FVec Ideal S1024x3072 .bf16 :=
  truncf .bf16 (transpose S1024x3072 [1, 0] (Host.dotGeneral dot_S4096x3072_S4096x1024_S3072x1024_0_0_1_1_n_n none a2 a0) transposes_S3072x1024_S1024x3072_1_0) bitsLt_bf16_f32

end Cert.ScanWeightReferenceIdeal
end
-- ==== Proof.WScanWeight.lean ====
/- The recurrence's w_in: the array the kernel leaves is the reference's gradient. -/
module

public import proofs.«01_k».proof.Proof.Gen.ScanWeightIdeal.Value
public import proofs.«01_k».proof.Proof.WScanWeightRef
public import Idealize.ShloMosaic.Lib.Pointwise
public import Idealize.ShloMosaic.Lib.Claim
public import Idealize.ShloMosaic.Lib.Pipeline.ValueKit

@[expose] public section

set_option maxRecDepth 16384

noncomputable section

namespace Cert.ScanWeightIdeal

open Cert.ScanWeightIdeal Cert.ScanWeightIdeal.Gen Idealize.ShloMosaic Idealize.ShloMosaic.TcCoe

variable (m : (ℓ : Loc nD τ sig) → Buf (Elt Ideal) ℓ) (c : Dev nD)

theorem pay_at (a b : FVec Ideal S4096x1024 .bf16) (i j : Fin 1024) :
    k0_pay1 (F := Ideal) a b (ix2 i j) = ∑ r : Fin 4096, (a (ix2 r i) : EReal) * b (ix2 r j) := by
  pointwise [k0_pay1]

theorem fn_at (a0 : FVec Ideal S4096x1024 .f32) (a1 : FVec Ideal S1024x3072 .f32) (a2 : FVec Ideal S4096x3072 .f32) (i : Fin 1024) (j : Fin 3072) :
    ScanWeightReferenceIdeal.fn a0 a1 a2 (ix2 i j) = ∑ r : Fin 4096, (a2 (ix2 r j) : EReal) * a0 (ix2 r i) := by
  pointwise [ScanWeightReferenceIdeal.fn]

theorem left_at (r : Fin 4096) (k : Fin 1024) : V m c main_v0 (ix2 r k) = (m ((c : Thread nD τ).loc main_arg0) (ix2 r k) : EReal) := by
  entry_read
  pointwise

theorem right_at (r : Fin 4096) (k : Fin 3072) : V m c main_v1 (ix2 r k) = (m ((c : Thread nD τ).loc main_arg2) (ix2 r k) : EReal) := by
  entry_read
  pointwise

theorem idx : ∀ t : Fin cfg0.N, win0_0.index t = ![0, 0] ∧ win0_1.index t = ![0, t.val] ∧ win0_2.index t = ![0, t.val] :=
  (by decide +kernel : ∀ t : Fin grid0.N, _)

theorem lt (t : Fin cfg0.N) : t.val < 3 := (by decide +kernel : ∀ t : Fin cfg0.N, t.val < 3) t

theorem win0_at (t : Fin cfg0.N) (r : Fin 4096) (i : Fin 1024) :
    iblk m c 0 t (ix2 r i) = V m c main_v0 (ix2 r i) := by
  blk_point [iblk, V, idx t]

theorem win1_at (t : Fin cfg0.N) (r : Fin 4096) (j : Fin 1024) (J : Fin 3072) (h : (J : ℕ) = 1024 * t + j) :
    iblk m c 1 t (ix2 r j) = V m c main_v1 (ix2 r J) := by
  blk_point [iblk, V, idx t]

/-- The array the kernel leaves. -/
theorem final : (dats m 0 c).arrAt 2 cfg0.N = ScanWeightReferenceIdeal.fn (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  obtain ⟨i, j, rfl⟩ : ∃ (i j : Fin 1024), y = ix2 i j := ⟨y 0, y 1, funext fun a => by fin_cases a <;> rfl⟩
  have ht := lt t
  have hR : 1024 * t.val + (j : ℕ) < 3072 := by omega
  have he : ((View.whole main_v2).slice (win0_2.rect t)).emb (ix2 i j) = ix2 i (⟨1024 * t.val + j, hR⟩ : Fin 3072) := by
    blk_ext [idx t]
  rw [he, fn_at]
  refine (pay_at _ _ i j).trans (Finset.sum_congr rfl fun r _ => ?_)
  rw [win0_at, win1_at m c t r j ⟨1024 * t.val + j, hR⟩ rfl, left_at, right_at, mul_comm]

end Cert.ScanWeightIdeal
end
-- ==== Proof.WScanOutRef.lean ====
module
public import proofs.«01_k».proof.Proof.Gen.ScanOutReferenceIdeal.Run
public import Idealize.ShloMosaic.Lib.Pointwise
/-!
The result of the reference program `ScanOut`, as a function of its arguments.
-/
@[expose] public section
set_option maxRecDepth 16384

noncomputable section

namespace Cert.ScanOutReferenceIdeal
open Cert.ScanOutReferenceIdeal Cert.ScanOutReferenceIdeal.Gen Idealize.ShloMosaic Idealize.ShloMosaic.TcCoe Idealize.SL.Sem Idealize.ShloMosaic.StableHlo

/-- The reference's result, as a function of the arguments. -/
def fn (a0 : FVec Ideal S4096x1024 .f32) (a1 : FVec Ideal S1024x1024 .f32) (a2 : FVec Ideal S4096x1024 .f32) : FVec Ideal S4096x1024 .f32 :=
  Host.dotGeneral dot_S4096x1024_S1024x1024_S4096x1024_1_1_0_0_n_n none a2 a1

end Cert.ScanOutReferenceIdeal
end
-- ==== Proof.WScanOut.lean ====
/- The recurrence's normalised output: the array the kernel leaves is the reference's gradient. -/
module

public import proofs.«01_k».proof.Proof.Gen.ScanOutIdeal.Value
public import proofs.«01_k».proof.Proof.WScanOutRef
public import Idealize.ShloMosaic.Lib.Pointwise
public import Idealize.ShloMosaic.Lib.Claim
public import Idealize.ShloMosaic.Lib.Pipeline.ValueKit

@[expose] public section

set_option maxRecDepth 16384

noncomputable section

namespace Cert.ScanOutIdeal

open Cert.ScanOutIdeal Cert.ScanOutIdeal.Gen Idealize.ShloMosaic Idealize.ShloMosaic.TcCoe

variable (m : (ℓ : Loc nD τ sig) → Buf (Elt Ideal) ℓ) (c : Dev nD)

theorem pay_at (a b : FVec Ideal S1024x1024 .bf16) (i j : Fin 1024) :
    k0_pay1 (F := Ideal) a b (ix2 i j) = ∑ r : Fin 1024, (a (ix2 i r) : EReal) * b (ix2 j r) := by
  pointwise [k0_pay1]

theorem fn_at (a0 : FVec Ideal S4096x1024 .f32) (a1 : FVec Ideal S1024x1024 .f32) (a2 : FVec Ideal S4096x1024 .f32) (i : Fin 4096) (j : Fin 1024) :
    ScanOutReferenceIdeal.fn a0 a1 a2 (ix2 i j) = ∑ r : Fin 1024, (a2 (ix2 i r) : EReal) * a1 (ix2 j r) := by
  pointwise [ScanOutReferenceIdeal.fn]

theorem left_at (r : Fin 4096) (k : Fin 1024) : V m c main_v0 (ix2 r k) = (m ((c : Thread nD τ).loc main_arg2) (ix2 r k) : EReal) := by
  entry_read
  pointwise

theorem right_at (r : Fin 1024) (k : Fin 1024) : V m c main_v1 (ix2 r k) = (m ((c : Thread nD τ).loc main_arg1) (ix2 r k) : EReal) := by
  entry_read
  pointwise

theorem idx : ∀ t : Fin cfg0.N, win0_0.index t = ![t.val, 0] ∧ win0_1.index t = ![0, 0] ∧ win0_2.index t = ![t.val, 0] :=
  (by decide +kernel : ∀ t : Fin grid0.N, _)

theorem lt (t : Fin cfg0.N) : t.val < 4 := (by decide +kernel : ∀ t : Fin cfg0.N, t.val < 4) t

theorem win0_at (t : Fin cfg0.N) (i r : Fin 1024) (I : Fin 4096) (h : (I : ℕ) = 1024 * t + i) :
    iblk m c 0 t (ix2 i r) = V m c main_v0 (ix2 I r) := by
  blk_point [iblk, V, idx t]

theorem win1_at (t : Fin cfg0.N) (j r : Fin 1024) :
    iblk m c 1 t (ix2 j r) = V m c main_v1 (ix2 j r) := by
  blk_point [iblk, V, idx t]

/-- The array the kernel leaves. -/
theorem final : (dats m 0 c).arrAt 2 cfg0.N = ScanOutReferenceIdeal.fn (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  obtain ⟨i, j, rfl⟩ : ∃ (i j : Fin 1024), y = ix2 i j := ⟨y 0, y 1, funext fun a => by fin_cases a <;> rfl⟩
  have ht := lt t
  have hR : 1024 * t.val + (i : ℕ) < 4096 := by omega
  have he : ((View.whole main_v2).slice (win0_2.rect t)).emb (ix2 i j) = ix2 (⟨1024 * t.val + i, hR⟩ : Fin 4096) j := by
    blk_ext [idx t]
  rw [he, fn_at]
  refine (pay_at _ _ i j).trans (Finset.sum_congr rfl fun r _ => ?_)
  rw [win0_at m c t i r ⟨1024 * t.val + i, hR⟩ rfl, win1_at, left_at, right_at]

end Cert.ScanOutIdeal
end
-- ==== Proof.WScanProjRef.lean ====
module
public import proofs.«01_k».proof.Proof.Gen.ScanProjReferenceIdeal.Run
public import Idealize.ShloMosaic.Lib.Pointwise
/-!
The result of the reference program `ScanProj`, as a function of its arguments.
-/
@[expose] public section
set_option maxRecDepth 16384

noncomputable section

namespace Cert.ScanProjReferenceIdeal
open Cert.ScanProjReferenceIdeal Cert.ScanProjReferenceIdeal.Gen Idealize.ShloMosaic Idealize.ShloMosaic.TcCoe Idealize.SL.Sem Idealize.ShloMosaic.StableHlo

/-- The reference's result, as a function of the arguments. -/
def fn (a0 : FVec Ideal S4096x1024 .f32) (a1 : FVec Ideal S1024x3072 .f32) (a2 : FVec Ideal S4096x3072 .f32) : FVec Ideal S4096x3072 .f32 :=
  Host.dotGeneral dot_S4096x1024_S1024x3072_S4096x3072_1_0_0_1_n_n none a0 a1

end Cert.ScanProjReferenceIdeal
end
-- ==== Proof.WScanProj.lean ====
/- The recurrence's projection: the array the kernel leaves is the reference's. -/
module

public import proofs.«01_k».proof.Proof.Gen.ScanProjIdeal.Value
public import proofs.«01_k».proof.Proof.WScanProjRef
public import Idealize.ShloMosaic.Lib.Pointwise
public import Idealize.ShloMosaic.Lib.Claim
public import Idealize.ShloMosaic.Lib.Pipeline.ValueKit

@[expose] public section

set_option maxRecDepth 16384

noncomputable section

namespace Cert.ScanProjIdeal

open Cert.ScanProjIdeal Cert.ScanProjIdeal.Gen Idealize.ShloMosaic Idealize.ShloMosaic.TcCoe

variable (m : (ℓ : Loc nD τ sig) → Buf (Elt Ideal) ℓ) (c : Dev nD)

theorem pay_at (a b : FVec Ideal S1024x1024 .bf16) (i j : Fin 1024) :
    k0_pay1 (F := Ideal) a b (ix2 i j) = ∑ r : Fin 1024, (a (ix2 i r) : EReal) * b (ix2 r j) := by
  pointwise [k0_pay1]

theorem fn_at (a0 : FVec Ideal S4096x1024 .f32) (a1 : FVec Ideal S1024x3072 .f32) (a2 : FVec Ideal S4096x3072 .f32) (i : Fin 4096) (j : Fin 3072) :
    ScanProjReferenceIdeal.fn a0 a1 a2 (ix2 i j) = ∑ r : Fin 1024, (a0 (ix2 i r) : EReal) * a1 (ix2 r j) := by
  pointwise [ScanProjReferenceIdeal.fn]

theorem left_at (r : Fin 4096) (k : Fin 1024) : V m c main_v0 (ix2 r k) = (m ((c : Thread nD τ).loc main_arg0) (ix2 r k) : EReal) := by
  entry_read
  pointwise

theorem right_at (r : Fin 1024) (k : Fin 3072) : V m c main_v1 (ix2 r k) = (m ((c : Thread nD τ).loc main_arg1) (ix2 r k) : EReal) := by
  entry_read
  pointwise

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

theorem lt (t : Fin cfg0.N) : t.val < 12 := (by decide +kernel : ∀ t : Fin cfg0.N, t.val < 12) t

theorem win0_at (t : Fin cfg0.N) (i r : Fin 1024) (I : Fin 4096) (h : (I : ℕ) = 1024 * (t / 3) + i) :
    iblk m c 0 t (ix2 i r) = V m c main_v0 (ix2 I r) := by
  blk_point [iblk, V, idx t]

theorem win1_at (t : Fin cfg0.N) (r j : Fin 1024) (J : Fin 3072) (h : (J : ℕ) = 1024 * (t % 3) + j) :
    iblk m c 1 t (ix2 r j) = V m c main_v1 (ix2 r J) := by
  blk_point [iblk, V, idx t]

/-- The array the kernel leaves. -/
theorem final : (dats m 0 c).arrAt 2 cfg0.N = ScanProjReferenceIdeal.fn (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  obtain ⟨i, j, rfl⟩ : ∃ (i j : Fin 1024), y = ix2 i j := ⟨y 0, y 1, funext fun a => by fin_cases a <;> rfl⟩
  have ht := lt t
  have hI : 1024 * (t.val / 3) + (i : ℕ) < 4096 := by omega
  have hJ : 1024 * (t.val % 3) + (j : ℕ) < 3072 := by omega
  have he : ((View.whole main_v2).slice (win0_2.rect t)).emb (ix2 i j) = ix2 (⟨1024 * (t.val / 3) + i, hI⟩ : Fin 4096) (⟨1024 * (t.val % 3) + j, hJ⟩ : Fin 3072) := by
    blk_ext [idx t]
  rw [he, fn_at]
  refine (pay_at _ _ i j).trans (Finset.sum_congr rfl fun r _ => ?_)
  rw [win0_at m c t i r ⟨1024 * (t.val / 3) + i, hI⟩ rfl, win1_at m c t r j ⟨1024 * (t.val % 3) + j, hJ⟩ rfl, left_at, right_at]

end Cert.ScanProjIdeal
end
-- ==== Proof.WOutWeightRef.lean ====
module
public import proofs.«01_k».proof.Proof.Gen.OutWeightReferenceIdeal.Run
public import Idealize.ShloMosaic.Lib.Pointwise
/-!
The result of the reference program `OutWeight`, as a function of its arguments.
-/
@[expose] public section
set_option maxRecDepth 16384

noncomputable section

namespace Cert.OutWeightReferenceIdeal
open Cert.OutWeightReferenceIdeal Cert.OutWeightReferenceIdeal.Gen Idealize.ShloMosaic Idealize.ShloMosaic.TcCoe Idealize.SL.Sem Idealize.ShloMosaic.StableHlo

/-- The reference's result, as a function of the arguments. -/
def fn (a0 : FVec Ideal S4096x1024 .f32) (a1 : FVec Ideal S1024x1024 .f32) (a2 : FVec Ideal S4096x1024 .f32) : FVec Ideal S1024x1024 .bf16 :=
  truncf .bf16 (transpose S1024x1024 [1, 0] (Host.dotGeneral dot_S4096x1024_S4096x1024_S1024x1024_0_0_1_1_n_n none a2 a0) transposes_S1024x1024_S1024x1024_1_0) bitsLt_bf16_f32

end Cert.OutWeightReferenceIdeal
end
-- ==== Proof.WOutWeight.lean ====
/- The gradient of the attention's or the recurrence's w_out: the array the kernel leaves is the reference's. -/
module

public import proofs.«01_k».proof.Proof.Gen.OutWeightIdeal.Value
public import proofs.«01_k».proof.Proof.WOutWeightRef
public import Idealize.ShloMosaic.Lib.Pointwise
public import Idealize.ShloMosaic.Lib.Claim
public import Idealize.ShloMosaic.Lib.Pipeline.ValueKit

@[expose] public section

set_option maxRecDepth 16384

noncomputable section

namespace Cert.OutWeightIdeal

open Cert.OutWeightIdeal Cert.OutWeightIdeal.Gen Idealize.ShloMosaic Idealize.ShloMosaic.TcCoe

variable (m : (ℓ : Loc nD τ sig) → Buf (Elt Ideal) ℓ) (c : Dev nD)

theorem pay_at (a b : FVec Ideal S1024x1024 .bf16) (i j : Fin 1024) :
    k0_pay1 (F := Ideal) a b (ix2 i j) = ∑ r : Fin 1024, (a (ix2 r i) : EReal) * b (ix2 r j) := by
  pointwise [k0_pay1]

theorem first_at (a b : FVec Ideal S1024x1024 .bf16) (i j : Fin 1024) :
    k0_pay2 (F := Ideal) a b (ix2 i j) = ∑ r : Fin 1024, (a (ix2 r i) : EReal) * b (ix2 r j) := by
  pointwise [k0_pay2, k0_pay1]

theorem next_at (a b : FVec Ideal S1024x1024 .bf16) (x : FVec Ideal S1024x1024 .f32) (i j : Fin 1024) :
    k0_pay3 (F := Ideal) a b x (ix2 i j) = (x (ix2 i j) : EReal) + ∑ r : Fin 1024, (a (ix2 r i) : EReal) * b (ix2 r j) := by
  pointwise [k0_pay3, k0_pay1]

theorem last_at (x : FVec Ideal S1024x1024 .f32) (i j : Fin 1024) : k0_pay4 (F := Ideal) x (ix2 i j) = (x (ix2 i j) : EReal) := by
  pointwise [k0_pay4]

theorem fn_at (a0 : FVec Ideal S4096x1024 .f32) (a1 : FVec Ideal S1024x1024 .f32) (a2 : FVec Ideal S4096x1024 .f32) (i j : Fin 1024) :
    OutWeightReferenceIdeal.fn a0 a1 a2 (ix2 i j) = ∑ s : Fin 4096, (a0 (ix2 s i) : EReal) * a2 (ix2 s j) := by
  pointwise [OutWeightReferenceIdeal.fn]
  exact Finset.sum_congr rfl fun s _ => mul_comm _ _

theorem left_at (r : Fin 4096) (k : Fin 1024) : V m c main_v0 (ix2 r k) = (m ((c : Thread nD τ).loc main_arg0) (ix2 r k) : EReal) := by
  entry_read
  pointwise

theorem right_at (r : Fin 4096) (k : Fin 1024) : V m c main_v1 (ix2 r k) = (m ((c : Thread nD τ).loc main_arg2) (ix2 r k) : EReal) := by
  entry_read
  pointwise

theorem idx : ∀ t : Fin cfg0.N, win0_0.index t = ![t.val, 0] ∧ win0_1.index t = ![t.val, 0] ∧ win0_2.index t = ![0, 0] :=
  (by decide +kernel : ∀ t : Fin grid0.N, _)

theorem win0_at (t : Fin cfg0.N) (r i : Fin 1024) (R : Fin 4096) (h : (R : ℕ) = 1024 * t + r) :
    iblk m c 0 t (ix2 r i) = V m c main_v0 (ix2 R i) := by
  blk_point [iblk, V, idx t]

theorem win1_at (t : Fin cfg0.N) (r j : Fin 1024) (R : Fin 4096) (h : (R : ℕ) = 1024 * t + r) :
    iblk m c 1 t (ix2 r j) = V m c main_v1 (ix2 R j) := by
  blk_point [iblk, V, idx t]

/-- The share of one quarter of the rows. -/
def part (x : FVec Ideal S4096x1024 .f32) (y : FVec Ideal S4096x1024 .f32) (k : Fin 4) (i j : Fin 1024) : EReal :=
  ∑ r : Fin 1024, (x (ix2 ⟨1024 * k + r, by omega⟩ i) : EReal) * y (ix2 ⟨1024 * k + r, by omega⟩ j)

theorem sum_parts (x : FVec Ideal S4096x1024 .f32) (y : FVec Ideal S4096x1024 .f32) (i j : Fin 1024) :
    ∑ s : Fin 4096, (x (ix2 s i) : EReal) * y (ix2 s j) = part x y 0 i j + part x y 1 i j + part x y 2 i j + part x y 3 i j := by
  rw [← Fin.sum_univ_four (fun k => part x y k i j)]
  unfold part
  rw [← (finProdFinEquiv (m := 4) (n := 1024)).sum_comp, Fintype.sum_prod_type]
  refine Finset.sum_congr rfl fun k _ => Finset.sum_congr rfl fun r _ => ?_
  have e : (finProdFinEquiv (m := 4) (n := 1024) (k, r) : Fin 4096) = ⟨1024 * k + r, by omega⟩ := Fin.ext (Nat.add_comm _ _)
  rw [e]

/-- What a point's two blocks contribute is its quarter's share. -/
theorem part_at (t : Fin cfg0.N) (k : Fin 4) (h : (k : ℕ) = t.val) (i j : Fin 1024) :
    k0_pay1 (F := Ideal) (iblk m c 0 t) (iblk m c 1 t) (ix2 i j) = part (m ((c : Thread nD τ).loc main_arg0)) (m ((c : Thread nD τ).loc main_arg2)) k i j := by
  have e0 := fun r : Fin 1024 => (win0_at m c t r i ⟨1024 * k + r, by omega⟩ (by show 1024 * (k : ℕ) + r = _; omega)).trans (left_at m c _ i)
  have e1 := fun r : Fin 1024 => (win1_at m c t r j ⟨1024 * k + r, by omega⟩ (by show 1024 * (k : ℕ) + r = _; omega)).trans (right_at m c _ j)
  refine (pay_at _ _ i j).trans (Finset.sum_congr rfl fun r _ => ?_)
  rw [e0, e1]

/-- The scratch read back is what the point before left in it. -/
theorem kept_read (h : (Memref.whole cc0_scratch0).IsWhole) (x : cc0_scratch0.ty.shape.Idx → Elt Ideal cc0_scratch0.ty.elt) :
    View.read (Elt Ideal) (View.whole cc0_scratch0) (h.unread x) = x :=
  h.read_unread x

theorem scratch_first (t : Fin cfg0.N) (ht : t.val = 0) (i j : Fin 1024) :
    (outsAt0 m c t.val t.isLt).2 (ix2 i j) = part (m ((c : Thread nD τ).loc main_arg0)) (m ((c : Thread nD τ).loc main_arg2)) 0 i j := by
  rw [outsAt0_A m c t (by omega) (by omega) (by omega)]
  dsimp only
  frame_out
  exact (first_at _ _ i j).trans ((pay_at _ _ i j).symm.trans (part_at m c t 0 ht.symm i j))

theorem scratch_next (t : Fin cfg0.N) (k : Fin 4) (hk : (k : ℕ) = t.val) (h1 : 1 ≤ t.val) (h2 : t.val < 3) (i j : Fin 1024) :
    (outsAt0 m c t.val t.isLt).2 (ix2 i j)
      = (outsAt0 m c (t.val - 1) (Nat.lt_of_le_of_lt (Nat.sub_le _ _) t.isLt)).2 (ix2 i j) + part (m ((c : Thread nD τ).loc main_arg0)) (m ((c : Thread nD τ).loc main_arg2)) k i j := by
  rw [outsAt0_B m c t (by omega) h1 (by omega)]
  dsimp only
  frame_out
  rw [kept_read]
  refine (next_at _ _ _ i j).trans ?_
  exact congrArg _ ((pay_at _ _ i j).symm.trans (part_at m c t k hk i j))

theorem out_last (t : Fin cfg0.N) (ht : t.val = 3) (i j : Fin 1024) :
    (outsAt0 m c t.val t.isLt).1 (ix2 i j)
      = (outsAt0 m c (t.val - 1) (Nat.lt_of_le_of_lt (Nat.sub_le _ _) t.isLt)).2 (ix2 i j) + part (m ((c : Thread nD τ).loc main_arg0)) (m ((c : Thread nD τ).loc main_arg2)) 3 i j := by
  rw [outsAt0_C m c t (by omega) (by omega) (by omega)]
  dsimp only
  frame_out
  rw [kept_read]
  refine (last_at _ i j).trans ((next_at _ _ _ i j).trans ?_)
  exact congrArg _ ((pay_at _ _ i j).symm.trans (part_at m c t 3 ht.symm i j))

theorem scratch_succ (n p : ℕ) (hp : n = p + 1) (h : n < cfg0.N) (hn : n < 3) (k : Fin 4) (hk : (k : ℕ) = n) (i j : Fin 1024) :
    (outsAt0 m c n h).2 (ix2 i j) = (outsAt0 m c p (by omega)).2 (ix2 i j) + part (m ((c : Thread nD τ).loc main_arg0)) (m ((c : Thread nD τ).loc main_arg2)) k i j := by
  subst hp
  exact scratch_next m c ⟨p + 1, h⟩ k hk (Nat.le_add_left _ _) hn i j

theorem out_succ (n p : ℕ) (hp : n = p + 1) (h : n < cfg0.N) (hn : n = 3) (i j : Fin 1024) :
    (outsAt0 m c n h).1 (ix2 i j) = (outsAt0 m c p (by omega)).2 (ix2 i j) + part (m ((c : Thread nD τ).loc main_arg0)) (m ((c : Thread nD τ).loc main_arg2)) 3 i j := by
  subst hp
  exact out_last m c ⟨p + 1, h⟩ hn i j

/-- The last point's output: the sum of the four quarters' shares. -/
theorem out_at (h : 3 < cfg0.N) (i j : Fin 1024) :
    (outsAt0 m c 3 h).1 (ix2 i j) = part (m ((c : Thread nD τ).loc main_arg0)) (m ((c : Thread nD τ).loc main_arg2)) 0 i j + part (m ((c : Thread nD τ).loc main_arg0)) (m ((c : Thread nD τ).loc main_arg2)) 1 i j + part (m ((c : Thread nD τ).loc main_arg0)) (m ((c : Thread nD τ).loc main_arg2)) 2 i j + part (m ((c : Thread nD τ).loc main_arg0)) (m ((c : Thread nD τ).loc main_arg2)) 3 i j := by
  have h2 : 2 < cfg0.N := lt_trans (by decide) h
  have h1 : 1 < cfg0.N := lt_trans (by decide) h
  have h0 : 0 < cfg0.N := lt_trans (by decide) h
  have e0 : (outsAt0 m c 0 h0).2 (ix2 i j) = part (m ((c : Thread nD τ).loc main_arg0)) (m ((c : Thread nD τ).loc main_arg2)) 0 i j := scratch_first m c ⟨0, h0⟩ rfl i j
  have e1 := scratch_succ m c 1 0 rfl h1 (by decide) 1 rfl i j
  have e2 := scratch_succ m c 2 1 rfl h2 (by decide) 2 rfl i j
  have e3 := out_succ m c 3 2 rfl h rfl i j
  rw [e3, e2, e1, e0]

/-- The array the kernel leaves. -/
theorem final : (dats m 0 c).arrAt 2 cfg0.N = OutWeightReferenceIdeal.fn (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, funext fun a => by fin_cases a <;> rfl⟩
  have he : ((View.whole main_v2).slice (win0_2.rect t)).emb (ix2 i j) = ix2 i j := by
    blk_ext [idx t]
  have ht : t = ⟨3, by decide⟩ := (by decide +kernel : ∀ t : Fin cfg0.N, (cfg0.win 2).flush t = true → t = ⟨3, by decide⟩) t hf
  subst ht
  rw [he, fn_at, sum_parts]
  exact out_at m c _ i j

end Cert.OutWeightIdeal
end
-- ==== Proof.lean ====
/- The gradient of the attention: the kernel, its idealized reading and the reference run and leave their arguments
   alone, the mask's constant is named, and on finite arguments the idealized kernel and the reference leave the same
   array. The gradients of the MLP's hidden layer and of its two weights, of the attention's input and w_in, of the
   recurrence's w_in and normalised output, and of either's w_out, and the MLP's activation and the recurrence's projection in the forward
   pass: the same, on every argument. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Hidden.Frame
public import proofs.«01_k».proof.Proof.Gen.HiddenIdeal.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Act.Frame
public import proofs.«01_k».proof.Proof.Gen.ActIdeal.Frame
public import proofs.«01_k».proof.Proof.Gen.ActIdeal.Value
public import proofs.«01_k».proof.Proof.Gen.ActReferenceIdeal
public import proofs.«01_k».proof.Proof.Gen.ActReferenceIdeal.Run
public import proofs.«01_k».proof.Proof.Gen.AttnWeight.Frame
public import proofs.«01_k».proof.Proof.Gen.AttnWeightIdeal.Frame
public import proofs.«01_k».proof.Proof.Gen.AttnWeightIdeal.Value
public import proofs.«01_k».proof.Proof.Gen.AttnWeightReferenceIdeal
public import proofs.«01_k».proof.Proof.Gen.AttnWeightReferenceIdeal.Run
public import proofs.«01_k».proof.Proof.Gen.AttnInput.Frame
public import proofs.«01_k».proof.Proof.Gen.AttnInputIdeal.Frame
public import proofs.«01_k».proof.Proof.Gen.AttnInputIdeal.Value
public import proofs.«01_k».proof.Proof.Gen.AttnInputReferenceIdeal
public import proofs.«01_k».proof.Proof.Gen.AttnInputReferenceIdeal.Run
public import proofs.«01_k».proof.Proof.Gen.ScanWeight.Frame
public import proofs.«01_k».proof.Proof.Gen.ScanWeightIdeal.Frame
public import proofs.«01_k».proof.Proof.Gen.ScanWeightIdeal.Value
public import proofs.«01_k».proof.Proof.Gen.ScanWeightReferenceIdeal
public import proofs.«01_k».proof.Proof.Gen.ScanWeightReferenceIdeal.Run
public import proofs.«01_k».proof.Proof.Gen.ScanOut.Frame
public import proofs.«01_k».proof.Proof.Gen.ScanOutIdeal.Frame
public import proofs.«01_k».proof.Proof.Gen.ScanOutIdeal.Value
public import proofs.«01_k».proof.Proof.Gen.ScanOutReferenceIdeal
public import proofs.«01_k».proof.Proof.Gen.ScanOutReferenceIdeal.Run
public import proofs.«01_k».proof.Proof.Gen.ScanProj.Frame
public import proofs.«01_k».proof.Proof.Gen.ScanProjIdeal.Frame
public import proofs.«01_k».proof.Proof.Gen.ScanProjIdeal.Value
public import proofs.«01_k».proof.Proof.Gen.ScanProjReferenceIdeal
public import proofs.«01_k».proof.Proof.Gen.ScanProjReferenceIdeal.Run
public import proofs.«01_k».proof.Proof.Gen.OutWeight.Frame
public import proofs.«01_k».proof.Proof.Gen.OutWeightIdeal.Frame
public import proofs.«01_k».proof.Proof.Gen.OutWeightIdeal.Value
public import proofs.«01_k».proof.Proof.Gen.OutWeightReferenceIdeal
public import proofs.«01_k».proof.Proof.Gen.OutWeightReferenceIdeal.Run
public import proofs.«01_k».proof.Proof.Finite
public import proofs.«01_k».proof.Proof.Final
public import proofs.«01_k».proof.Proof.RefRun
public import proofs.«01_k».proof.Proof.MlpHidden
public import proofs.«01_k».proof.Proof.MlpDown
public import proofs.«01_k».proof.Proof.MlpUp
public import proofs.«01_k».proof.Proof.WAct
public import proofs.«01_k».proof.Proof.WAttnWeight
public import proofs.«01_k».proof.Proof.WAttnInput
public import proofs.«01_k».proof.Proof.WScanWeight
public import proofs.«01_k».proof.Proof.WScanOut
public import proofs.«01_k».proof.Proof.WScanProj
public import proofs.«01_k».proof.Proof.WOutWeight
public import Idealize.ShloMosaic.Adequacy
public import Idealize.ShloMosaic.Init

@[expose] public section

noncomputable section

namespace Cert.Proof

open Idealize.ShloMosaic Idealize.SL.Sem Idealize.ShloMosaic.StableHlo

/-- The reference's run leaves its arguments alone; it declares no semaphore. -/
theorem frame_reference : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- The mask's constant is named, and the name stands for minus infinity. -/
theorem preserves_mask : Cert.preserves_Kernel_KernelIdeal :=
  IdealRules.named_const.statement Cert.KernelIdeal.κ "mask" .f32 0xF149F2CA#32 ⊥ rfl

/-- On finite arguments the idealized kernel and the reference leave the same array. -/
theorem algebraic : Cert.algebraic_KernelIdeal_ReferenceIdeal_pre_finite (hPre_finite := Finite.facts) := fun m ρ m' ρ' hpre hag => by
  have key : ∀ c : Dev Cert.KernelIdeal.nD,
      (Cert.KernelIdeal.Gen.dats m 0 c).arrAt 12 Cert.KernelIdeal.cfg0.N = Ref.out (launchContents m' c) := fun c => by
    have N : Ref.Num (launchContents m' c) := Finite.num _ _ _ (hag c).1 (hag c).2 (hpre c)
    have H : Host.Same (fun b => m (c, b)) (launchContents m' c) := ⟨(hag c).1.symm, (hag c).2.symm⟩
    exact (Body.final m c N H).trans (Ref.out_eq N).symm
  refine ⟨fun c => Ref.out (launchContents m' c), ?_, ?_⟩
  · exact (θ_run Cert.KernelIdeal.defs _ _).mono (fun _ h c => ⟨(h c).1.trans (key c), (h c).2.1, (h c).2.2⟩)
      (Cert.KernelIdeal.Value.run_blocks m ρ)
  · exact Ref.run_out m' ρ'

/-- The reference of the hidden layer's gradient leaves its arguments alone. -/
theorem frame_hidden : Cert.quiescent_HiddenReferenceIdeal := fun m ρ _ =>
  (θ_run Cert.HiddenReferenceIdeal.defs _ _).mono
    (fun r h => ⟨fun c => (h c).2, Idealize.ShloMosaic.sem_eq_zero_of_no_sems (by decide) r.2⟩)
    (Cert.HiddenReferenceIdeal.Value.run (F := Ideal) m ρ)

/-- The idealized kernel of the hidden layer's gradient and its reference leave the same array. -/
theorem algebraic_hidden : Cert.algebraic_HiddenIdeal_HiddenReferenceIdeal := fun m ρ m' ρ' _ hag => by
  refine ⟨fun c => Cert.HiddenReferenceIdeal.fn (m' ((c.tc : Thread Cert.HiddenReferenceIdeal.nD Cert.HiddenReferenceIdeal.τ).loc Cert.HiddenReferenceIdeal.main_arg0))
      (m' ((c.tc : Thread Cert.HiddenReferenceIdeal.nD Cert.HiddenReferenceIdeal.τ).loc Cert.HiddenReferenceIdeal.main_arg1))
      (m' ((c.tc : Thread Cert.HiddenReferenceIdeal.nD Cert.HiddenReferenceIdeal.τ).loc Cert.HiddenReferenceIdeal.main_arg2))
      (m' ((c.tc : Thread Cert.HiddenReferenceIdeal.nD Cert.HiddenReferenceIdeal.τ).loc Cert.HiddenReferenceIdeal.main_arg3)), ?_, Cert.HiddenReferenceIdeal.Value.run (F := Ideal) m' ρ'⟩
  refine (θ_run Cert.HiddenIdeal.defs _ _).mono (fun _ h c => ⟨(h c).1.trans ((Cert.HiddenIdeal.final m c).trans ?_), (h c).2⟩)
    (Cert.HiddenIdeal.Value.run_blocks m ρ)
  beta_reduce
  rw [(hag c).1, (hag c).2.1, (hag c).2.2.1, (hag c).2.2.2]

/-- The reference of the down weight's gradient leaves its arguments alone. -/
theorem frame_down : Cert.quiescent_DownReferenceIdeal := fun m ρ _ =>
  (θ_run Cert.DownReferenceIdeal.defs _ _).mono
    (fun r h => ⟨fun c => (h c).2, Idealize.ShloMosaic.sem_eq_zero_of_no_sems (by decide) r.2⟩)
    (Cert.DownReferenceIdeal.Value.run (F := Ideal) m ρ)

/-- The idealized kernel of the down weight's gradient and its reference leave the same array. -/
theorem algebraic_down : Cert.algebraic_DownIdeal_DownReferenceIdeal := fun m ρ m' ρ' _ hag => by
  refine ⟨fun c => Cert.DownReferenceIdeal.fn (m' ((c.tc : Thread Cert.DownReferenceIdeal.nD Cert.DownReferenceIdeal.τ).loc Cert.DownReferenceIdeal.main_arg0))
      (m' ((c.tc : Thread Cert.DownReferenceIdeal.nD Cert.DownReferenceIdeal.τ).loc Cert.DownReferenceIdeal.main_arg1))
      (m' ((c.tc : Thread Cert.DownReferenceIdeal.nD Cert.DownReferenceIdeal.τ).loc Cert.DownReferenceIdeal.main_arg2))
      (m' ((c.tc : Thread Cert.DownReferenceIdeal.nD Cert.DownReferenceIdeal.τ).loc Cert.DownReferenceIdeal.main_arg3)), ?_, Cert.DownReferenceIdeal.Value.run (F := Ideal) m' ρ'⟩
  refine (θ_run Cert.DownIdeal.defs _ _).mono (fun _ h c => ⟨(h c).1.trans ((Cert.DownIdeal.final m c).trans ?_), (h c).2⟩)
    (Cert.DownIdeal.Value.run_blocks m ρ)
  beta_reduce
  rw [(hag c).1, (hag c).2.1, (hag c).2.2.1, (hag c).2.2.2]

/-- The reference of the up weight's gradient leaves its arguments alone. -/
theorem frame_up : Cert.quiescent_UpReferenceIdeal := fun m ρ _ =>
  (θ_run Cert.UpReferenceIdeal.defs _ _).mono
    (fun r h => ⟨fun c => (h c).2, Idealize.ShloMosaic.sem_eq_zero_of_no_sems (by decide) r.2⟩)
    (Cert.UpReferenceIdeal.Value.run (F := Ideal) m ρ)

/-- The idealized kernel of the up weight's gradient and its reference leave the same array. -/
theorem algebraic_up : Cert.algebraic_UpIdeal_UpReferenceIdeal := fun m ρ m' ρ' _ hag => by
  refine ⟨fun c => Cert.UpReferenceIdeal.fn (m' ((c.tc : Thread Cert.UpReferenceIdeal.nD Cert.UpReferenceIdeal.τ).loc Cert.UpReferenceIdeal.main_arg0))
      (m' ((c.tc : Thread Cert.UpReferenceIdeal.nD Cert.UpReferenceIdeal.τ).loc Cert.UpReferenceIdeal.main_arg1))
      (m' ((c.tc : Thread Cert.UpReferenceIdeal.nD Cert.UpReferenceIdeal.τ).loc Cert.UpReferenceIdeal.main_arg2))
      (m' ((c.tc : Thread Cert.UpReferenceIdeal.nD Cert.UpReferenceIdeal.τ).loc Cert.UpReferenceIdeal.main_arg3)), ?_, Cert.UpReferenceIdeal.Value.run (F := Ideal) m' ρ'⟩
  refine (θ_run Cert.UpIdeal.defs _ _).mono (fun _ h c => ⟨(h c).1.trans ((Cert.UpIdeal.final m c).trans ?_), (h c).2⟩)
    (Cert.UpIdeal.Value.run_blocks m ρ)
  beta_reduce
  rw [(hag c).1, (hag c).2.1, (hag c).2.2.1, (hag c).2.2.2]

/-- The reference of the MLP's activation leaves its arguments alone. -/
theorem frame_act : Cert.quiescent_ActReferenceIdeal := fun m ρ _ =>
  (θ_run Cert.ActReferenceIdeal.defs _ _).mono
    (fun r h => ⟨fun c => (h c).2, Idealize.ShloMosaic.sem_eq_zero_of_no_sems (by decide) r.2⟩)
    (Cert.ActReferenceIdeal.Value.run (F := Ideal) m ρ)

/-- The idealized kernel of the MLP's activation and its reference leave the same array. -/
theorem algebraic_act : Cert.algebraic_ActIdeal_ActReferenceIdeal := fun m ρ m' ρ' _ hag => by
  refine ⟨fun c => Cert.ActReferenceIdeal.fn (m' ((c.tc : Thread Cert.ActReferenceIdeal.nD Cert.ActReferenceIdeal.τ).loc Cert.ActReferenceIdeal.main_arg0))
      (m' ((c.tc : Thread Cert.ActReferenceIdeal.nD Cert.ActReferenceIdeal.τ).loc Cert.ActReferenceIdeal.main_arg1))
      (m' ((c.tc : Thread Cert.ActReferenceIdeal.nD Cert.ActReferenceIdeal.τ).loc Cert.ActReferenceIdeal.main_arg2))
      (m' ((c.tc : Thread Cert.ActReferenceIdeal.nD Cert.ActReferenceIdeal.τ).loc Cert.ActReferenceIdeal.main_arg3)), ?_, Cert.ActReferenceIdeal.Value.run (F := Ideal) m' ρ'⟩
  refine (θ_run Cert.ActIdeal.defs _ _).mono (fun _ h c => ⟨(h c).1.trans ((Cert.ActIdeal.final m c).trans ?_), (h c).2⟩)
    (Cert.ActIdeal.Value.run_blocks m ρ)
  beta_reduce
  rw [(hag c).1, (hag c).2.1, (hag c).2.2.1, (hag c).2.2.2]

/-- The reference of the attention's w_in gradient leaves its arguments alone. -/
theorem frame_attn_weight : Cert.quiescent_AttnWeightReferenceIdeal := fun m ρ _ =>
  (θ_run Cert.AttnWeightReferenceIdeal.defs _ _).mono
    (fun r h => ⟨fun c => (h c).2, Idealize.ShloMosaic.sem_eq_zero_of_no_sems (by decide) r.2⟩)
    (Cert.AttnWeightReferenceIdeal.Value.run (F := Ideal) m ρ)

/-- The idealized kernel of the attention's w_in gradient and its reference leave the same array. -/
theorem algebraic_attn_weight : Cert.algebraic_AttnWeightIdeal_AttnWeightReferenceIdeal := fun m ρ m' ρ' _ hag => by
  refine ⟨fun c => Cert.AttnWeightReferenceIdeal.fn (m' ((c.tc : Thread Cert.AttnWeightReferenceIdeal.nD Cert.AttnWeightReferenceIdeal.τ).loc Cert.AttnWeightReferenceIdeal.main_arg0))
      (m' ((c.tc : Thread Cert.AttnWeightReferenceIdeal.nD Cert.AttnWeightReferenceIdeal.τ).loc Cert.AttnWeightReferenceIdeal.main_arg1))
      (m' ((c.tc : Thread Cert.AttnWeightReferenceIdeal.nD Cert.AttnWeightReferenceIdeal.τ).loc Cert.AttnWeightReferenceIdeal.main_arg2)), ?_, Cert.AttnWeightReferenceIdeal.Value.run (F := Ideal) m' ρ'⟩
  refine (θ_run Cert.AttnWeightIdeal.defs _ _).mono (fun _ h c => ⟨(h c).1.trans ((Cert.AttnWeightIdeal.final m c).trans ?_), (h c).2⟩)
    (Cert.AttnWeightIdeal.Value.run_blocks m ρ)
  beta_reduce
  rw [(hag c).1, (hag c).2.1, (hag c).2.2]

/-- The reference of the attention's input's gradient leaves its arguments alone. -/
theorem frame_attn_input : Cert.quiescent_AttnInputReferenceIdeal := fun m ρ _ =>
  (θ_run Cert.AttnInputReferenceIdeal.defs _ _).mono
    (fun r h => ⟨fun c => (h c).2, Idealize.ShloMosaic.sem_eq_zero_of_no_sems (by decide) r.2⟩)
    (Cert.AttnInputReferenceIdeal.Value.run (F := Ideal) m ρ)

/-- The idealized kernel of the attention's input's gradient and its reference leave the same array. -/
theorem algebraic_attn_input : Cert.algebraic_AttnInputIdeal_AttnInputReferenceIdeal := fun m ρ m' ρ' _ hag => by
  refine ⟨fun c => Cert.AttnInputReferenceIdeal.fn (m' ((c.tc : Thread Cert.AttnInputReferenceIdeal.nD Cert.AttnInputReferenceIdeal.τ).loc Cert.AttnInputReferenceIdeal.main_arg0))
      (m' ((c.tc : Thread Cert.AttnInputReferenceIdeal.nD Cert.AttnInputReferenceIdeal.τ).loc Cert.AttnInputReferenceIdeal.main_arg1))
      (m' ((c.tc : Thread Cert.AttnInputReferenceIdeal.nD Cert.AttnInputReferenceIdeal.τ).loc Cert.AttnInputReferenceIdeal.main_arg2)), ?_, (θ_run Cert.AttnInputReferenceIdeal.defs _ _).mono (fun _ h c => ⟨(h c).1.trans (Cert.AttnInputReferenceIdeal.fn_res m' c), (h c).2⟩)
    (Cert.AttnInputReferenceIdeal.Value.run (F := Ideal) m' ρ')⟩
  refine (θ_run Cert.AttnInputIdeal.defs _ _).mono (fun _ h c => ⟨(h c).1.trans ((Cert.AttnInputIdeal.final m c).trans ?_), (h c).2⟩)
    (Cert.AttnInputIdeal.Value.run_blocks m ρ)
  beta_reduce
  rw [(hag c).1, (hag c).2.1, (hag c).2.2]

/-- The reference of the recurrence's w_in gradient leaves its arguments alone. -/
theorem frame_scan_weight : Cert.quiescent_ScanWeightReferenceIdeal := fun m ρ _ =>
  (θ_run Cert.ScanWeightReferenceIdeal.defs _ _).mono
    (fun r h => ⟨fun c => (h c).2, Idealize.ShloMosaic.sem_eq_zero_of_no_sems (by decide) r.2⟩)
    (Cert.ScanWeightReferenceIdeal.Value.run (F := Ideal) m ρ)

/-- The idealized kernel of the recurrence's w_in gradient and its reference leave the same array. -/
theorem algebraic_scan_weight : Cert.algebraic_ScanWeightIdeal_ScanWeightReferenceIdeal := fun m ρ m' ρ' _ hag => by
  refine ⟨fun c => Cert.ScanWeightReferenceIdeal.fn (m' ((c.tc : Thread Cert.ScanWeightReferenceIdeal.nD Cert.ScanWeightReferenceIdeal.τ).loc Cert.ScanWeightReferenceIdeal.main_arg0))
      (m' ((c.tc : Thread Cert.ScanWeightReferenceIdeal.nD Cert.ScanWeightReferenceIdeal.τ).loc Cert.ScanWeightReferenceIdeal.main_arg1))
      (m' ((c.tc : Thread Cert.ScanWeightReferenceIdeal.nD Cert.ScanWeightReferenceIdeal.τ).loc Cert.ScanWeightReferenceIdeal.main_arg2)), ?_, Cert.ScanWeightReferenceIdeal.Value.run (F := Ideal) m' ρ'⟩
  refine (θ_run Cert.ScanWeightIdeal.defs _ _).mono (fun _ h c => ⟨(h c).1.trans ((Cert.ScanWeightIdeal.final m c).trans ?_), (h c).2⟩)
    (Cert.ScanWeightIdeal.Value.run_blocks m ρ)
  beta_reduce
  rw [(hag c).1, (hag c).2.1, (hag c).2.2]

/-- The reference of the recurrence's normalised output's gradient leaves its arguments alone. -/
theorem frame_scan_out : Cert.quiescent_ScanOutReferenceIdeal := fun m ρ _ =>
  (θ_run Cert.ScanOutReferenceIdeal.defs _ _).mono
    (fun r h => ⟨fun c => (h c).2, Idealize.ShloMosaic.sem_eq_zero_of_no_sems (by decide) r.2⟩)
    (Cert.ScanOutReferenceIdeal.Value.run (F := Ideal) m ρ)

/-- The idealized kernel of the recurrence's normalised output's gradient and its reference leave the same array. -/
theorem algebraic_scan_out : Cert.algebraic_ScanOutIdeal_ScanOutReferenceIdeal := fun m ρ m' ρ' _ hag => by
  refine ⟨fun c => Cert.ScanOutReferenceIdeal.fn (m' ((c.tc : Thread Cert.ScanOutReferenceIdeal.nD Cert.ScanOutReferenceIdeal.τ).loc Cert.ScanOutReferenceIdeal.main_arg0))
      (m' ((c.tc : Thread Cert.ScanOutReferenceIdeal.nD Cert.ScanOutReferenceIdeal.τ).loc Cert.ScanOutReferenceIdeal.main_arg1))
      (m' ((c.tc : Thread Cert.ScanOutReferenceIdeal.nD Cert.ScanOutReferenceIdeal.τ).loc Cert.ScanOutReferenceIdeal.main_arg2)), ?_, Cert.ScanOutReferenceIdeal.Value.run (F := Ideal) m' ρ'⟩
  refine (θ_run Cert.ScanOutIdeal.defs _ _).mono (fun _ h c => ⟨(h c).1.trans ((Cert.ScanOutIdeal.final m c).trans ?_), (h c).2⟩)
    (Cert.ScanOutIdeal.Value.run_blocks m ρ)
  beta_reduce
  rw [(hag c).1, (hag c).2.1, (hag c).2.2]

/-- The reference of the recurrence's projection leaves its arguments alone. -/
theorem frame_scan_proj : Cert.quiescent_ScanProjReferenceIdeal := fun m ρ _ =>
  (θ_run Cert.ScanProjReferenceIdeal.defs _ _).mono
    (fun r h => ⟨fun c => (h c).2, Idealize.ShloMosaic.sem_eq_zero_of_no_sems (by decide) r.2⟩)
    (Cert.ScanProjReferenceIdeal.Value.run (F := Ideal) m ρ)

/-- The idealized kernel of the recurrence's projection and its reference leave the same array. -/
theorem algebraic_scan_proj : Cert.algebraic_ScanProjIdeal_ScanProjReferenceIdeal := fun m ρ m' ρ' _ hag => by
  refine ⟨fun c => Cert.ScanProjReferenceIdeal.fn (m' ((c.tc : Thread Cert.ScanProjReferenceIdeal.nD Cert.ScanProjReferenceIdeal.τ).loc Cert.ScanProjReferenceIdeal.main_arg0))
      (m' ((c.tc : Thread Cert.ScanProjReferenceIdeal.nD Cert.ScanProjReferenceIdeal.τ).loc Cert.ScanProjReferenceIdeal.main_arg1))
      (m' ((c.tc : Thread Cert.ScanProjReferenceIdeal.nD Cert.ScanProjReferenceIdeal.τ).loc Cert.ScanProjReferenceIdeal.main_arg2)), ?_, Cert.ScanProjReferenceIdeal.Value.run (F := Ideal) m' ρ'⟩
  refine (θ_run Cert.ScanProjIdeal.defs _ _).mono (fun _ h c => ⟨(h c).1.trans ((Cert.ScanProjIdeal.final m c).trans ?_), (h c).2⟩)
    (Cert.ScanProjIdeal.Value.run_blocks m ρ)
  beta_reduce
  rw [(hag c).1, (hag c).2.1, (hag c).2.2]

/-- The reference of w_out's gradient leaves its arguments alone. -/
theorem frame_out_weight : Cert.quiescent_OutWeightReferenceIdeal := fun m ρ _ =>
  (θ_run Cert.OutWeightReferenceIdeal.defs _ _).mono
    (fun r h => ⟨fun c => (h c).2, Idealize.ShloMosaic.sem_eq_zero_of_no_sems (by decide) r.2⟩)
    (Cert.OutWeightReferenceIdeal.Value.run (F := Ideal) m ρ)

/-- The idealized kernel of w_out's gradient and its reference leave the same array. -/
theorem algebraic_out_weight : Cert.algebraic_OutWeightIdeal_OutWeightReferenceIdeal := fun m ρ m' ρ' _ hag => by
  refine ⟨fun c => Cert.OutWeightReferenceIdeal.fn (m' ((c.tc : Thread Cert.OutWeightReferenceIdeal.nD Cert.OutWeightReferenceIdeal.τ).loc Cert.OutWeightReferenceIdeal.main_arg0))
      (m' ((c.tc : Thread Cert.OutWeightReferenceIdeal.nD Cert.OutWeightReferenceIdeal.τ).loc Cert.OutWeightReferenceIdeal.main_arg1))
      (m' ((c.tc : Thread Cert.OutWeightReferenceIdeal.nD Cert.OutWeightReferenceIdeal.τ).loc Cert.OutWeightReferenceIdeal.main_arg2)), ?_, Cert.OutWeightReferenceIdeal.Value.run (F := Ideal) m' ρ'⟩
  refine (θ_run Cert.OutWeightIdeal.defs _ _).mono (fun _ h c => ⟨(h c).1.trans ((Cert.OutWeightIdeal.final m c).trans ?_), (h c).2⟩)
    (Cert.OutWeightIdeal.Value.run_blocks m ρ)
  beta_reduce
  rw [(hag c).1, (hag c).2.1, (hag c).2.2]

/-- Everything claimed. -/
theorem claim : Cert.Claim := ⟨Cert.Kernel.Gen.facts, Cert.KernelIdeal.Gen.facts, Cert.ReferenceIdeal.Gen.facts,
  Cert.Hidden.Gen.facts, Cert.HiddenIdeal.Gen.facts, Cert.HiddenReferenceIdeal.Gen.facts,
  Cert.Down.Gen.facts, Cert.DownIdeal.Gen.facts, Cert.DownReferenceIdeal.Gen.facts,
  Cert.Up.Gen.facts, Cert.UpIdeal.Gen.facts, Cert.UpReferenceIdeal.Gen.facts,
  Cert.Act.Gen.facts, Cert.ActIdeal.Gen.facts, Cert.ActReferenceIdeal.Gen.facts,
  Cert.AttnWeight.Gen.facts, Cert.AttnWeightIdeal.Gen.facts, Cert.AttnWeightReferenceIdeal.Gen.facts,
  Cert.AttnInput.Gen.facts, Cert.AttnInputIdeal.Gen.facts, Cert.AttnInputReferenceIdeal.Gen.facts,
  Cert.ScanWeight.Gen.facts, Cert.ScanWeightIdeal.Gen.facts, Cert.ScanWeightReferenceIdeal.Gen.facts,
  Cert.ScanOut.Gen.facts, Cert.ScanOutIdeal.Gen.facts, Cert.ScanOutReferenceIdeal.Gen.facts,
  Cert.ScanProj.Gen.facts, Cert.ScanProjIdeal.Gen.facts, Cert.ScanProjReferenceIdeal.Gen.facts,
  Cert.OutWeight.Gen.facts, Cert.OutWeightIdeal.Gen.facts, Cert.OutWeightReferenceIdeal.Gen.facts,
  Finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Hidden.Gen.frame m ρ, fun m ρ _ => Cert.HiddenIdeal.Gen.frame m ρ, frame_hidden,
  fun m ρ _ => Cert.Down.Gen.frame m ρ, fun m ρ _ => Cert.DownIdeal.Gen.frame m ρ, frame_down,
  fun m ρ _ => Cert.Up.Gen.frame m ρ, fun m ρ _ => Cert.UpIdeal.Gen.frame m ρ, frame_up,
  fun m ρ _ => Cert.Act.Gen.frame m ρ, fun m ρ _ => Cert.ActIdeal.Gen.frame m ρ, frame_act,
  fun m ρ _ => Cert.AttnWeight.Gen.frame m ρ, fun m ρ _ => Cert.AttnWeightIdeal.Gen.frame m ρ, frame_attn_weight,
  fun m ρ _ => Cert.AttnInput.Gen.frame m ρ, fun m ρ _ => Cert.AttnInputIdeal.Gen.frame m ρ, frame_attn_input,
  fun m ρ _ => Cert.ScanWeight.Gen.frame m ρ, fun m ρ _ => Cert.ScanWeightIdeal.Gen.frame m ρ, frame_scan_weight,
  fun m ρ _ => Cert.ScanOut.Gen.frame m ρ, fun m ρ _ => Cert.ScanOutIdeal.Gen.frame m ρ, frame_scan_out,
  fun m ρ _ => Cert.ScanProj.Gen.frame m ρ, fun m ρ _ => Cert.ScanProjIdeal.Gen.frame m ρ, frame_scan_proj,
  fun m ρ _ => Cert.OutWeight.Gen.frame m ρ, fun m ρ _ => Cert.OutWeightIdeal.Gen.frame m ρ, frame_out_weight,
  preserves_mask, algebraic,
  trivial, algebraic_hidden, trivial, algebraic_down, trivial, algebraic_up,
  trivial, algebraic_act, trivial, algebraic_attn_weight, trivial, algebraic_attn_input,
  trivial, algebraic_scan_weight, trivial, algebraic_scan_out, trivial, algebraic_scan_proj,
  trivial, algebraic_out_weight⟩

end Cert.Proof

end
